-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "exp_scale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x32x64 : Shape := ⟨4, ![2, 1, 32, 64]⟩
abbrev S2x1x4x64 : Shape := ⟨4, ![2, 1, 4, 64]⟩
abbrev S131072x4x64 : Shape := ⟨3, ![131072, 4, 64]⟩
abbrev S4x64 : Shape := ⟨2, ![4, 64]⟩
abbrev S131072x4 : Shape := ⟨2, ![131072, 4]⟩
abbrev S2x1024x4x64 : Shape := ⟨4, ![2, 1024, 4, 64]⟩
abbrev S2x1024x4 : Shape := ⟨3, ![2, 1024, 4]⟩
abbrev S2 : Shape := ⟨1, ![2]⟩
abbrev S64x64 : Shape := ⟨2, ![64, 64]⟩
abbrev S2x4x64 : Shape := ⟨3, ![2, 4, 64]⟩
abbrev S4x64x131072 : Shape := ⟨3, ![4, 64, 131072]⟩
abbrev S256x131072 : Shape := ⟨2, ![256, 131072]⟩
abbrev S4x131072 : Shape := ⟨2, ![4, 131072]⟩
abbrev S2x4x64x1024 : Shape := ⟨4, ![2, 4, 64, 1024]⟩
abbrev S2x256x1024 : Shape := ⟨3, ![2, 256, 1024]⟩
abbrev S2x4x1024 : Shape := ⟨3, ![2, 4, 1024]⟩
abbrev S2x2048 : Shape := ⟨2, ![2, 2048]⟩
abbrev S4x256x4096 : Shape := ⟨3, ![4, 256, 4096]⟩
abbrev S4x4x4096 : Shape := ⟨3, ![4, 4, 4096]⟩
abbrev S64x4096 : Shape := ⟨2, ![64, 4096]⟩
abbrev S64x256 : Shape := ⟨2, ![64, 256]⟩
abbrev S64x128 : Shape := ⟨2, ![64, 128]⟩
abbrev S9 : Shape := ⟨1, ![9]⟩
abbrev S4 : Shape := ⟨1, ![4]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x4x4096 : Shape := ⟨3, ![1, 4, 4096]⟩
abbrev S4x4096 : Shape := ⟨2, ![4, 4096]⟩
abbrev S1x64 : Shape := ⟨2, ![1, 64]⟩
abbrev S1x256 : Shape := ⟨2, ![1, 256]⟩
abbrev S1x4x64 : Shape := ⟨3, ![1, 4, 64]⟩
abbrev S32x256 : Shape := ⟨2, ![32, 256]⟩
abbrev S64 : Shape := ⟨1, ![64]⟩
abbrev S64x1 : Shape := ⟨2, ![64, 1]⟩
abbrev S1x256x1024 : Shape := ⟨3, ![1, 256, 1024]⟩
abbrev S256x1024 : Shape := ⟨2, ![256, 1024]⟩
abbrev S32x1024 : Shape := ⟨2, ![32, 1024]⟩
abbrev S1x4x1024 : Shape := ⟨3, ![1, 4, 1024]⟩
abbrev S4x1024 : Shape := ⟨2, ![4, 1024]⟩
abbrev S1x1024 : Shape := ⟨2, ![1, 1024]⟩
abbrev S8x1024 : Shape := ⟨2, ![8, 1024]⟩
abbrev S32x128 : Shape := ⟨2, ![32, 128]⟩
abbrev S32 : Shape := ⟨1, ![32]⟩
abbrev S32x1 : Shape := ⟨2, ![32, 1]⟩
abbrev S1x256x256 : Shape := ⟨3, ![1, 256, 256]⟩
abbrev S256x256 : Shape := ⟨2, ![256, 256]⟩
abbrev S1x4x256 : Shape := ⟨3, ![1, 4, 256]⟩
abbrev S4x256 : Shape := ⟨2, ![4, 256]⟩
abbrev S8x256 : Shape := ⟨2, ![8, 256]⟩
abbrev S1x2048 : Shape := ⟨2, ![1, 2048]⟩

abbrev nBuf : Space → Nat
  | .hbm => 27
  | .vmem => 19
  | .smem => 1
  | _ => 0

abbrev bufTy : (tb : Table) → Fin (tcTables nBuf tb) → BufTy
  | .hbm, ⟨0, _⟩ => ⟨S2x1x32x64, .bf16⟩
  | .hbm, ⟨1, _⟩ => ⟨S2x1x4x64, .bf16⟩
  | .hbm, ⟨2, _⟩ => ⟨S2x1x4x64, .bf16⟩
  | .hbm, ⟨3, _⟩ => ⟨S131072x4x64, .fp8e4m3⟩
  | .hbm, ⟨4, _⟩ => ⟨S4x64, .f32⟩
  | .hbm, ⟨5, _⟩ => ⟨S131072x4x64, .fp8e4m3⟩
  | .hbm, ⟨6, _⟩ => ⟨S131072x4, .f32⟩
  | .hbm, ⟨7, _⟩ => ⟨S2x1024x4x64, .fp8e4m3⟩
  | .hbm, ⟨8, _⟩ => ⟨S2x1024x4, .f32⟩
  | .hbm, ⟨9, _⟩ => ⟨S2x1024x4x64, .fp8e4m3⟩
  | .hbm, ⟨10, _⟩ => ⟨S2x1024x4, .f32⟩
  | .hbm, ⟨11, _⟩ => ⟨S2, .i32⟩
  | .hbm, ⟨12, _⟩ => ⟨S64x64, .bf16⟩
  | .hbm, ⟨13, _⟩ => ⟨S2x4x64, .bf16⟩
  | .hbm, ⟨14, _⟩ => ⟨S2x4x64, .bf16⟩
  | .hbm, ⟨15, _⟩ => ⟨S4x64x131072, .fp8e4m3⟩
  | .hbm, ⟨16, _⟩ => ⟨S256x131072, .fp8e4m3⟩
  | .hbm, ⟨17, _⟩ => ⟨S4x64x131072, .fp8e4m3⟩
  | .hbm, ⟨18, _⟩ => ⟨S256x131072, .fp8e4m3⟩
  | .hbm, ⟨19, _⟩ => ⟨S4x131072, .f32⟩
  | .hbm, ⟨20, _⟩ => ⟨S2x4x64x1024, .fp8e4m3⟩
  | .hbm, ⟨21, _⟩ => ⟨S2x256x1024, .fp8e4m3⟩
  | .hbm, ⟨22, _⟩ => ⟨S2x4x1024, .f32⟩
  | .hbm, ⟨23, _⟩ => ⟨S2x4x64x1024, .fp8e4m3⟩
  | .hbm, ⟨24, _⟩ => ⟨S2x256x1024, .fp8e4m3⟩
  | .hbm, ⟨25, _⟩ => ⟨S2x4x1024, .f32⟩
  | .hbm, ⟨26, _⟩ => ⟨S2x2048, .bf16⟩
  | .local _ .vmem, ⟨0, _⟩ => ⟨S2x2048, .bf16⟩
  | .local _ .vmem, ⟨1, _⟩ => ⟨S64x64, .bf16⟩
  | .local _ .vmem, ⟨2, _⟩ => ⟨S2x4x64, .bf16⟩
  | .local _ .vmem, ⟨3, _⟩ => ⟨S2x4x64, .bf16⟩
  | .local _ .vmem, ⟨4, _⟩ => ⟨S4x64, .f32⟩
  | .local _ .vmem, ⟨5, _⟩ => ⟨S2x256x1024, .fp8e4m3⟩
  | .local _ .vmem, ⟨6, _⟩ => ⟨S2x4x1024, .f32⟩
  | .local _ .vmem, ⟨7, _⟩ => ⟨S2x256x1024, .fp8e4m3⟩
  | .local _ .vmem, ⟨8, _⟩ => ⟨S2x4x1024, .f32⟩
  | .local _ .vmem, ⟨9, _⟩ => ⟨S4x256x4096, .fp8e4m3⟩
  | .local _ .vmem, ⟨10, _⟩ => ⟨S4x256x4096, .fp8e4m3⟩
  | .local _ .vmem, ⟨11, _⟩ => ⟨S4x4x4096, .f32⟩
  | .local _ .vmem, ⟨12, _⟩ => ⟨S64x4096, .f32⟩
  | .local _ .vmem, ⟨13, _⟩ => ⟨S64x4096, .f32⟩
  | .local _ .vmem, ⟨14, _⟩ => ⟨S64x256, .bf16⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S64x256, .f32⟩
  | .local _ .smem, ⟨0, _⟩ => ⟨S2, .i32⟩
  | _, _ => ⟨S2x1x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch8 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

def k0_off1 (c0_i32_0 : BitVec 32) : Fin 1 → Nat :=
  let c4_i32_1 : BitVec 32 := 4#32
  let v18 : BitVec 32 := Scalar.remsi c0_i32_0 c4_i32_1
  ![v18.toNat]
def k0_off1_at (r : Fin 7) : BitVec 32 :=
  if r.val < 3 then
    if r.val < 1 then
      0#32
    else
      if r.val < 2 then
        1#32
      else
        2#32
  else
    if r.val < 5 then
      if r.val < 4 then
        3#32
      else
        4#32
    else
      if r.val < 6 then
        30#32
      else
        31#32
def k0_off2 (c0_i32_0 : BitVec 32) : Fin 3 → Nat :=
  let c4_i32_1 : BitVec 32 := 4#32
  let v18 : BitVec 32 := Scalar.remsi c0_i32_0 c4_i32_1
  let c0_i32_2 : BitVec 32 := 0#32
  let c0_i32_3 : BitVec 32 := 0#32
  ![v18.toNat, 0, 0]
def k0_off2_at (r : Fin 7) : BitVec 32 :=
  if r.val < 3 then
    if r.val < 1 then
      0#32
    else
      if r.val < 2 then
        1#32
      else
        2#32
  else
    if r.val < 5 then
      if r.val < 4 then
        3#32
      else
        4#32
    else
      if r.val < 6 then
        30#32
      else
        31#32
def k0_off3 (c0_i32_12 : BitVec 32) : Fin 3 → Nat :=
  let c4_i32_13 : BitVec 32 := 4#32
  let v30 : BitVec 32 := Scalar.remsi c0_i32_12 c4_i32_13
  let c0_i32_14 : BitVec 32 := 0#32
  let c0_i32_15 : BitVec 32 := 0#32
  ![v30.toNat, 0, 0]
def k0_off3_at (r : Fin 6) : BitVec 32 :=
  if r.val < 3 then
    if r.val < 1 then
      0#32
    else
      if r.val < 2 then
        1#32
      else
        2#32
  else
    if r.val < 4 then
      3#32
    else
      if r.val < 5 then
        30#32
      else
        31#32
def k0_off4 (c0_i32_169 : BitVec 32) : Fin 3 → Nat :=
  let c4_i32_170 : BitVec 32 := 4#32
  let v462 : BitVec 32 := Scalar.remsi c0_i32_169 c4_i32_170
  let v464 : Index := Scalar.indexCast v462
  let c0_173 : Index := 0#32
  let c0_174 : Index := 0#32
  ![v464.toNat, 0, 0]
def k0_off4_at (r : Fin 3) : BitVec 32 :=
  if r.val < 1 then
    0#32
  else
    if r.val < 2 then
      31#32
    else
      30#32
def k0_off5 (c0_i32_169 : BitVec 32) : Fin 3 → Nat :=
  let c4_i32_170 : BitVec 32 := 4#32
  let v462 : BitVec 32 := Scalar.remsi c0_i32_169 c4_i32_170
  let v474 : Index := Scalar.indexCast v462
  let c0_178 : Index := 0#32
  let c256 : Index := 256#32
  ![v474.toNat, 0, 256]
def k0_off5_at (r : Fin 3) : BitVec 32 :=
  if r.val < 1 then
    0#32
  else
    if r.val < 2 then
      31#32
    else
      30#32
def k0_off6 (c0_i32_169 : BitVec 32) : Fin 3 → Nat :=
  let c4_i32_170 : BitVec 32 := 4#32
  let v462 : BitVec 32 := Scalar.remsi c0_i32_169 c4_i32_170
  let v485 : Index := Scalar.indexCast v462
  let c0_182 : Index := 0#32
  let c512 : Index := 512#32
  ![v485.toNat, 0, 512]
def k0_off6_at (r : Fin 3) : BitVec 32 :=
  if r.val < 1 then
    0#32
  else
    if r.val < 2 then
      31#32
    else
      30#32
def k0_off7 (c0_i32_169 : BitVec 32) : Fin 3 → Nat :=
  let c4_i32_170 : BitVec 32 := 4#32
  let v462 : BitVec 32 := Scalar.remsi c0_i32_169 c4_i32_170
  let v496 : Index := Scalar.indexCast v462
  let c0_186 : Index := 0#32
  let c768 : Index := 768#32
  ![v496.toNat, 0, 768]
def k0_off7_at (r : Fin 3) : BitVec 32 :=
  if r.val < 1 then
    0#32
  else
    if r.val < 2 then
      31#32
    else
      30#32
def k0_off8 (c0_i32_169 : BitVec 32) : Fin 3 → Nat :=
  let c4_i32_170 : BitVec 32 := 4#32
  let v462 : BitVec 32 := Scalar.remsi c0_i32_169 c4_i32_170
  let v507 : Index := Scalar.indexCast v462
  let c0_190 : Index := 0#32
  let c1024 : Index := 1024#32
  ![v507.toNat, 0, 1024]
def k0_off8_at (r : Fin 3) : BitVec 32 :=
  if r.val < 1 then
    0#32
  else
    if r.val < 2 then
      31#32
    else
      30#32
def k0_off9 (c0_i32_169 : BitVec 32) : Fin 3 → Nat :=
  let c4_i32_170 : BitVec 32 := 4#32
  let v462 : BitVec 32 := Scalar.remsi c0_i32_169 c4_i32_170
  let v518 : Index := Scalar.indexCast v462
  let c0_194 : Index := 0#32
  let c1280 : Index := 1280#32
  ![v518.toNat, 0, 1280]
def k0_off9_at (r : Fin 3) : BitVec 32 :=
  if r.val < 1 then
    0#32
  else
    if r.val < 2 then
      31#32
    else
      30#32
def k0_off10 (c0_i32_169 : BitVec 32) : Fin 3 → Nat :=
  let c4_i32_170 : BitVec 32 := 4#32
  let v462 : BitVec 32 := Scalar.remsi c0_i32_169 c4_i32_170
  let v529 : Index := Scalar.indexCast v462
  let c0_198 : Index := 0#32
  let c1536 : Index := 1536#32
  ![v529.toNat, 0, 1536]
def k0_off10_at (r : Fin 3) : BitVec 32 :=
  if r.val < 1 then
    0#32
  else
    if r.val < 2 then
      31#32
    else
      30#32
def k0_off11 (c0_i32_169 : BitVec 32) : Fin 3 → Nat :=
  let c4_i32_170 : BitVec 32 := 4#32
  let v462 : BitVec 32 := Scalar.remsi c0_i32_169 c4_i32_170
  let v540 : Index := Scalar.indexCast v462
  let c0_202 : Index := 0#32
  let c1792 : Index := 1792#32
  ![v540.toNat, 0, 1792]
def k0_off11_at (r : Fin 3) : BitVec 32 :=
  if r.val < 1 then
    0#32
  else
    if r.val < 2 then
      31#32
    else
      30#32
def k0_off12 (c0_i32_169 : BitVec 32) : Fin 3 → Nat :=
  let c4_i32_170 : BitVec 32 := 4#32
  let v462 : BitVec 32 := Scalar.remsi c0_i32_169 c4_i32_170
  let v551 : Index := Scalar.indexCast v462
  let c0_206 : Index := 0#32
  let c2048 : Index := 2048#32
  ![v551.toNat, 0, 2048]
def k0_off12_at (r : Fin 3) : BitVec 32 :=
  if r.val < 1 then
    0#32
  else
    if r.val < 2 then
      31#32
    else
      30#32
def k0_off13 (c0_i32_169 : BitVec 32) : Fin 3 → Nat :=
  let c4_i32_170 : BitVec 32 := 4#32
  let v462 : BitVec 32 := Scalar.remsi c0_i32_169 c4_i32_170
  let v562 : Index := Scalar.indexCast v462
  let c0_210 : Index := 0#32
  let c2304 : Index := 2304#32
  ![v562.toNat, 0, 2304]
def k0_off13_at (r : Fin 3) : BitVec 32 :=
  if r.val < 1 then
    0#32
  else
    if r.val < 2 then
      31#32
    else
      30#32
def k0_off14 (c0_i32_169 : BitVec 32) : Fin 3 → Nat :=
  let c4_i32_170 : BitVec 32 := 4#32
  let v462 : BitVec 32 := Scalar.remsi c0_i32_169 c4_i32_170
  let v573 : Index := Scalar.indexCast v462
  let c0_214 : Index := 0#32
  let c2560 : Index := 2560#32
  ![v573.toNat, 0, 2560]
def k0_off14_at (r : Fin 3) : BitVec 32 :=
  if r.val < 1 then
    0#32
  else
    if r.val < 2 then
      31#32
    else
      30#32
def k0_off15 (c0_i32_169 : BitVec 32) : Fin 3 → Nat :=
  let c4_i32_170 : BitVec 32 := 4#32
  let v462 : BitVec 32 := Scalar.remsi c0_i32_169 c4_i32_170
  let v584 : Index := Scalar.indexCast v462
  let c0_218 : Index := 0#32
  let c2816 : Index := 2816#32
  ![v584.toNat, 0, 2816]
def k0_off15_at (r : Fin 3) : BitVec 32 :=
  if r.val < 1 then
    0#32
  else
    if r.val < 2 then
      31#32
    else
      30#32
def k0_off16 (c0_i32_169 : BitVec 32) : Fin 3 → Nat :=
  let c4_i32_170 : BitVec 32 := 4#32
  let v462 : BitVec 32 := Scalar.remsi c0_i32_169 c4_i32_170
  let v595 : Index := Scalar.indexCast v462
  let c0_222 : Index := 0#32
  let c3072 : Index := 3072#32
  ![v595.toNat, 0, 3072]
def k0_off16_at (r : Fin 3) : BitVec 32 :=
  if r.val < 1 then
    0#32
  else
    if r.val < 2 then
      31#32
    else
      30#32
def k0_off17 (c0_i32_169 : BitVec 32) : Fin 3 → Nat :=
  let c4_i32_170 : BitVec 32 := 4#32
  let v462 : BitVec 32 := Scalar.remsi c0_i32_169 c4_i32_170
  let v606 : Index := Scalar.indexCast v462
  let c0_226 : Index := 0#32
  let c3328 : Index := 3328#32
  ![v606.toNat, 0, 3328]
def k0_off17_at (r : Fin 3) : BitVec 32 :=
  if r.val < 1 then
    0#32
  else
    if r.val < 2 then
      31#32
    else
      30#32
def k0_off18 (c0_i32_169 : BitVec 32) : Fin 3 → Nat :=
  let c4_i32_170 : BitVec 32 := 4#32
  let v462 : BitVec 32 := Scalar.remsi c0_i32_169 c4_i32_170
  let v617 : Index := Scalar.indexCast v462
  let c0_230 : Index := 0#32
  let c3584 : Index := 3584#32
  ![v617.toNat, 0, 3584]
def k0_off18_at (r : Fin 3) : BitVec 32 :=
  if r.val < 1 then
    0#32
  else
    if r.val < 2 then
      31#32
    else
      30#32
def k0_off19 (c0_i32_169 : BitVec 32) : Fin 3 → Nat :=
  let c4_i32_170 : BitVec 32 := 4#32
  let v462 : BitVec 32 := Scalar.remsi c0_i32_169 c4_i32_170
  let v628 : Index := Scalar.indexCast v462
  let c0_234 : Index := 0#32
  let c3840 : Index := 3840#32
  ![v628.toNat, 0, 3840]
def k0_off19_at (r : Fin 3) : BitVec 32 :=
  if r.val < 1 then
    0#32
  else
    if r.val < 2 then
      31#32
    else
      30#32
@[reducible] def k0_t1_loop : Scf.Loop 32 :=
  let c0_i32_251 : BitVec 32 := 0#32
  let c15_i32 : BitVec 32 := 15#32
  let v661 : BitVec 32 := Scalar.addi c0_i32_251 c15_i32
  let c1_i32_252 : BitVec 32 := 1#32
  ⟨c0_i32_251, v661, c1_i32_252⟩
def k0_off20 (k0_t1 : Fin k0_t1_loop.trips) : Fin 1 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_670 : BitVec 32 := 4#32
  let v2029 : BitVec 32 := Scalar.remsi v2028 c4_i32_670
  ![v2029.toNat]
def k0_off21 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_670 : BitVec 32 := 4#32
  let v2029 : BitVec 32 := Scalar.remsi v2028 c4_i32_670
  let c0_i32_672 : BitVec 32 := 0#32
  let c0_i32_673 : BitVec 32 := 0#32
  ![v2029.toNat, 0, 0]
def k0_off22 (k0_t1 : Fin k0_t1_loop.trips) : Fin 2 → Nat :=
  let c0_i32_674 : BitVec 32 := 0#32
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4096_i32_671 : BitVec 32 := 4096#32
  let v2030 : BitVec 32 := Scalar.muli v2028 c4096_i32_671
  ![0, v2030.toNat]
def k0_off23 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_675 : BitVec 32 := 4#32
  let v2036 : BitVec 32 := Scalar.remsi v2028 c4_i32_675
  let c0_i32_677 : BitVec 32 := 0#32
  let c0_i32_678 : BitVec 32 := 0#32
  ![v2036.toNat, 0, 0]
def k0_off24 (k0_t1 : Fin k0_t1_loop.trips) : Fin 2 → Nat :=
  let c0_i32_679 : BitVec 32 := 0#32
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4096_i32_676 : BitVec 32 := 4096#32
  let v2037 : BitVec 32 := Scalar.muli v2028 c4096_i32_676
  ![0, v2037.toNat]
def k0_off25 (k0_t1 : Fin k0_t1_loop.trips) : Fin 1 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_680 : BitVec 32 := 1#32
  let v2043 : BitVec 32 := Scalar.addi v2028 c1_i32_680
  let c4_i32_681 : BitVec 32 := 4#32
  let v2044 : BitVec 32 := Scalar.remsi v2043 c4_i32_681
  ![v2044.toNat]
def k0_off26 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_680 : BitVec 32 := 1#32
  let v2043 : BitVec 32 := Scalar.addi v2028 c1_i32_680
  let c4_i32_681 : BitVec 32 := 4#32
  let v2044 : BitVec 32 := Scalar.remsi v2043 c4_i32_681
  let c0_i32_683 : BitVec 32 := 0#32
  let c0_i32_684 : BitVec 32 := 0#32
  ![v2044.toNat, 0, 0]
def k0_off27 (k0_t1 : Fin k0_t1_loop.trips) : Fin 2 → Nat :=
  let c0_i32_685 : BitVec 32 := 0#32
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_680 : BitVec 32 := 1#32
  let v2043 : BitVec 32 := Scalar.addi v2028 c1_i32_680
  let c4096_i32_682 : BitVec 32 := 4096#32
  let v2045 : BitVec 32 := Scalar.muli v2043 c4096_i32_682
  ![0, v2045.toNat]
def k0_off28 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2056 : Index := Scalar.indexCast v2054
  let c0_694 : Index := 0#32
  let c0_695 : Index := 0#32
  ![v2056.toNat, 0, 0]
def k0_off29 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2066 : Index := Scalar.indexCast v2054
  let c0_699 : Index := 0#32
  let c256_700 : Index := 256#32
  ![v2066.toNat, 0, 256]
def k0_off30 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2077 : Index := Scalar.indexCast v2054
  let c0_704 : Index := 0#32
  let c512_705 : Index := 512#32
  ![v2077.toNat, 0, 512]
def k0_off31 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2088 : Index := Scalar.indexCast v2054
  let c0_709 : Index := 0#32
  let c768_710 : Index := 768#32
  ![v2088.toNat, 0, 768]
def k0_off32 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2099 : Index := Scalar.indexCast v2054
  let c0_714 : Index := 0#32
  let c1024_715 : Index := 1024#32
  ![v2099.toNat, 0, 1024]
def k0_off33 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2110 : Index := Scalar.indexCast v2054
  let c0_719 : Index := 0#32
  let c1280_720 : Index := 1280#32
  ![v2110.toNat, 0, 1280]
def k0_off34 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2121 : Index := Scalar.indexCast v2054
  let c0_724 : Index := 0#32
  let c1536_725 : Index := 1536#32
  ![v2121.toNat, 0, 1536]
def k0_off35 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2132 : Index := Scalar.indexCast v2054
  let c0_729 : Index := 0#32
  let c1792_730 : Index := 1792#32
  ![v2132.toNat, 0, 1792]
def k0_off36 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2143 : Index := Scalar.indexCast v2054
  let c0_734 : Index := 0#32
  let c2048_735 : Index := 2048#32
  ![v2143.toNat, 0, 2048]
def k0_off37 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2154 : Index := Scalar.indexCast v2054
  let c0_739 : Index := 0#32
  let c2304_740 : Index := 2304#32
  ![v2154.toNat, 0, 2304]
def k0_off38 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2165 : Index := Scalar.indexCast v2054
  let c0_744 : Index := 0#32
  let c2560_745 : Index := 2560#32
  ![v2165.toNat, 0, 2560]
def k0_off39 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2176 : Index := Scalar.indexCast v2054
  let c0_749 : Index := 0#32
  let c2816_750 : Index := 2816#32
  ![v2176.toNat, 0, 2816]
def k0_off40 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2187 : Index := Scalar.indexCast v2054
  let c0_754 : Index := 0#32
  let c3072_755 : Index := 3072#32
  ![v2187.toNat, 0, 3072]
def k0_off41 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2198 : Index := Scalar.indexCast v2054
  let c0_759 : Index := 0#32
  let c3328_760 : Index := 3328#32
  ![v2198.toNat, 0, 3328]
def k0_off42 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2209 : Index := Scalar.indexCast v2054
  let c0_764 : Index := 0#32
  let c3584_765 : Index := 3584#32
  ![v2209.toNat, 0, 3584]
def k0_off43 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_690 : BitVec 32 := 1#32
  let v2053 : BitVec 32 := Scalar.addi v2028 c1_i32_690
  let c4_i32_691 : BitVec 32 := 4#32
  let v2054 : BitVec 32 := Scalar.remsi v2053 c4_i32_691
  let v2220 : Index := Scalar.indexCast v2054
  let c0_769 : Index := 0#32
  let c3840_770 : Index := 3840#32
  ![v2220.toNat, 0, 3840]
def k0_off44 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2254 : Index := Scalar.indexCast v2241
  let c0_784 : Index := 0#32
  let c0_785 : Index := 0#32
  ![v2254.toNat, 0, 0]
def k0_off45 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2272 : Index := Scalar.indexCast v2241
  let c0_786 : Index := 0#32
  let c0_787 : Index := 0#32
  ![v2272.toNat, 0, 0]
def k0_off46 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2285 : Index := Scalar.indexCast v2241
  let c0_792 : Index := 0#32
  let c256_793 : Index := 256#32
  ![v2285.toNat, 0, 256]
def k0_off47 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2303 : Index := Scalar.indexCast v2241
  let c0_794 : Index := 0#32
  let c256_795 : Index := 256#32
  ![v2303.toNat, 0, 256]
def k0_off48 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2316 : Index := Scalar.indexCast v2241
  let c0_800 : Index := 0#32
  let c512_801 : Index := 512#32
  ![v2316.toNat, 0, 512]
def k0_off49 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2334 : Index := Scalar.indexCast v2241
  let c0_802 : Index := 0#32
  let c512_803 : Index := 512#32
  ![v2334.toNat, 0, 512]
def k0_off50 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2348 : Index := Scalar.indexCast v2241
  let c0_808 : Index := 0#32
  let c768_809 : Index := 768#32
  ![v2348.toNat, 0, 768]
def k0_off51 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2366 : Index := Scalar.indexCast v2241
  let c0_810 : Index := 0#32
  let c768_811 : Index := 768#32
  ![v2366.toNat, 0, 768]
def k0_off52 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2380 : Index := Scalar.indexCast v2241
  let c0_816 : Index := 0#32
  let c1024_817 : Index := 1024#32
  ![v2380.toNat, 0, 1024]
def k0_off53 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2398 : Index := Scalar.indexCast v2241
  let c0_818 : Index := 0#32
  let c1024_819 : Index := 1024#32
  ![v2398.toNat, 0, 1024]
def k0_off54 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2412 : Index := Scalar.indexCast v2241
  let c0_824 : Index := 0#32
  let c1280_825 : Index := 1280#32
  ![v2412.toNat, 0, 1280]
def k0_off55 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2430 : Index := Scalar.indexCast v2241
  let c0_826 : Index := 0#32
  let c1280_827 : Index := 1280#32
  ![v2430.toNat, 0, 1280]
def k0_off56 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2444 : Index := Scalar.indexCast v2241
  let c0_832 : Index := 0#32
  let c1536_833 : Index := 1536#32
  ![v2444.toNat, 0, 1536]
def k0_off57 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2462 : Index := Scalar.indexCast v2241
  let c0_834 : Index := 0#32
  let c1536_835 : Index := 1536#32
  ![v2462.toNat, 0, 1536]
def k0_off58 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2476 : Index := Scalar.indexCast v2241
  let c0_840 : Index := 0#32
  let c1792_841 : Index := 1792#32
  ![v2476.toNat, 0, 1792]
def k0_off59 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2494 : Index := Scalar.indexCast v2241
  let c0_842 : Index := 0#32
  let c1792_843 : Index := 1792#32
  ![v2494.toNat, 0, 1792]
def k0_off60 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2508 : Index := Scalar.indexCast v2241
  let c0_848 : Index := 0#32
  let c2048_849 : Index := 2048#32
  ![v2508.toNat, 0, 2048]
def k0_off61 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2526 : Index := Scalar.indexCast v2241
  let c0_850 : Index := 0#32
  let c2048_851 : Index := 2048#32
  ![v2526.toNat, 0, 2048]
def k0_off62 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2540 : Index := Scalar.indexCast v2241
  let c0_856 : Index := 0#32
  let c2304_857 : Index := 2304#32
  ![v2540.toNat, 0, 2304]
def k0_off63 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2558 : Index := Scalar.indexCast v2241
  let c0_858 : Index := 0#32
  let c2304_859 : Index := 2304#32
  ![v2558.toNat, 0, 2304]
def k0_off64 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2572 : Index := Scalar.indexCast v2241
  let c0_864 : Index := 0#32
  let c2560_865 : Index := 2560#32
  ![v2572.toNat, 0, 2560]
def k0_off65 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2590 : Index := Scalar.indexCast v2241
  let c0_866 : Index := 0#32
  let c2560_867 : Index := 2560#32
  ![v2590.toNat, 0, 2560]
def k0_off66 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2604 : Index := Scalar.indexCast v2241
  let c0_872 : Index := 0#32
  let c2816_873 : Index := 2816#32
  ![v2604.toNat, 0, 2816]
def k0_off67 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2622 : Index := Scalar.indexCast v2241
  let c0_874 : Index := 0#32
  let c2816_875 : Index := 2816#32
  ![v2622.toNat, 0, 2816]
def k0_off68 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2636 : Index := Scalar.indexCast v2241
  let c0_880 : Index := 0#32
  let c3072_881 : Index := 3072#32
  ![v2636.toNat, 0, 3072]
def k0_off69 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2654 : Index := Scalar.indexCast v2241
  let c0_882 : Index := 0#32
  let c3072_883 : Index := 3072#32
  ![v2654.toNat, 0, 3072]
def k0_off70 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2668 : Index := Scalar.indexCast v2241
  let c0_888 : Index := 0#32
  let c3328_889 : Index := 3328#32
  ![v2668.toNat, 0, 3328]
def k0_off71 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2686 : Index := Scalar.indexCast v2241
  let c0_890 : Index := 0#32
  let c3328_891 : Index := 3328#32
  ![v2686.toNat, 0, 3328]
def k0_off72 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2700 : Index := Scalar.indexCast v2241
  let c0_896 : Index := 0#32
  let c3584_897 : Index := 3584#32
  ![v2700.toNat, 0, 3584]
def k0_off73 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2718 : Index := Scalar.indexCast v2241
  let c0_898 : Index := 0#32
  let c3584_899 : Index := 3584#32
  ![v2718.toNat, 0, 3584]
def k0_off74 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2732 : Index := Scalar.indexCast v2241
  let c0_904 : Index := 0#32
  let c3840_905 : Index := 3840#32
  ![v2732.toNat, 0, 3840]
def k0_off75 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_778 : BitVec 32 := 4#32
  let v2241 : BitVec 32 := Scalar.remsi v2028 c4_i32_778
  let v2750 : Index := Scalar.indexCast v2241
  let c0_906 : Index := 0#32
  let c3840_907 : Index := 3840#32
  ![v2750.toNat, 0, 3840]
def k0_cond1 (k0_t1 : Fin k0_t1_loop.trips) : BitVec 1 :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_919 : BitVec 32 := 1#32
  let v2772 : BitVec 32 := Scalar.addi v2028 c1_i32_919
  let c4_i32_920 : BitVec 32 := 4#32
  let v2773 : BitVec 32 := Scalar.addi v2772 c4_i32_920
  let c32_i32 : BitVec 32 := 32#32
  let v2774 : BitVec 1 := Scalar.cmpi .slt v2773 c32_i32
  let v2775 : BitVec 32 := Scalar.extui v2774
  let c0_i32_921 : BitVec 32 := 0#32
  let v2776 : BitVec 1 := Scalar.cmpi .ne v2775 c0_i32_921
  v2776

def k0_off76 (k0_t1 : Fin k0_t1_loop.trips) : Fin 1 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_1183 : BitVec 32 := 1#32
  let v3535 : BitVec 32 := Scalar.addi v2028 c1_i32_1183
  let c4_i32_1184 : BitVec 32 := 4#32
  let v3536 : BitVec 32 := Scalar.addi v3535 c4_i32_1184
  let c4_i32_1185 : BitVec 32 := 4#32
  let v3537 : BitVec 32 := Scalar.remsi v3536 c4_i32_1185
  ![v3537.toNat]
def k0_off77 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_1183 : BitVec 32 := 1#32
  let v3535 : BitVec 32 := Scalar.addi v2028 c1_i32_1183
  let c4_i32_1184 : BitVec 32 := 4#32
  let v3536 : BitVec 32 := Scalar.addi v3535 c4_i32_1184
  let c4_i32_1185 : BitVec 32 := 4#32
  let v3537 : BitVec 32 := Scalar.remsi v3536 c4_i32_1185
  let c0_i32_1187 : BitVec 32 := 0#32
  let c0_i32_1188 : BitVec 32 := 0#32
  ![v3537.toNat, 0, 0]
def k0_off78 (k0_t1 : Fin k0_t1_loop.trips) : Fin 2 → Nat :=
  let c0_i32_1189 : BitVec 32 := 0#32
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c1_i32_1183 : BitVec 32 := 1#32
  let v3535 : BitVec 32 := Scalar.addi v2028 c1_i32_1183
  let c4_i32_1184 : BitVec 32 := 4#32
  let v3536 : BitVec 32 := Scalar.addi v3535 c4_i32_1184
  let c4096_i32_1186 : BitVec 32 := 4096#32
  let v3538 : BitVec 32 := Scalar.muli v3536 c4096_i32_1186
  ![0, v3538.toNat]
def k0_cond2 (k0_t1 : Fin k0_t1_loop.trips) : BitVec 1 :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_922 : BitVec 32 := 4#32
  let v2777 : BitVec 32 := Scalar.addi v2028 c4_i32_922
  let c32_i32_923 : BitVec 32 := 32#32
  let v2778 : BitVec 1 := Scalar.cmpi .slt v2777 c32_i32_923
  let v2779 : BitVec 32 := Scalar.extui v2778
  let c0_i32_924 : BitVec 32 := 0#32
  let v2780 : BitVec 1 := Scalar.cmpi .ne v2779 c0_i32_924
  v2780

def k0_off79 (k0_t1 : Fin k0_t1_loop.trips) : Fin 1 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_1183 : BitVec 32 := 4#32
  let v3535 : BitVec 32 := Scalar.addi v2028 c4_i32_1183
  let c4_i32_1184 : BitVec 32 := 4#32
  let v3536 : BitVec 32 := Scalar.remsi v3535 c4_i32_1184
  ![v3536.toNat]
def k0_off80 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_1183 : BitVec 32 := 4#32
  let v3535 : BitVec 32 := Scalar.addi v2028 c4_i32_1183
  let c4_i32_1184 : BitVec 32 := 4#32
  let v3536 : BitVec 32 := Scalar.remsi v3535 c4_i32_1184
  let c0_i32_1186 : BitVec 32 := 0#32
  let c0_i32_1187 : BitVec 32 := 0#32
  ![v3536.toNat, 0, 0]
def k0_off81 (k0_t1 : Fin k0_t1_loop.trips) : Fin 2 → Nat :=
  let c0_i32_1188 : BitVec 32 := 0#32
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_1183 : BitVec 32 := 4#32
  let v3535 : BitVec 32 := Scalar.addi v2028 c4_i32_1183
  let c4096_i32_1185 : BitVec 32 := 4096#32
  let v3537 : BitVec 32 := Scalar.muli v3535 c4096_i32_1185
  ![0, v3537.toNat]
def k0_off82 (k0_t1 : Fin k0_t1_loop.trips) : Fin 3 → Nat :=
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_1189 : BitVec 32 := 4#32
  let v3543 : BitVec 32 := Scalar.addi v2028 c4_i32_1189
  let c4_i32_1190 : BitVec 32 := 4#32
  let v3544 : BitVec 32 := Scalar.remsi v3543 c4_i32_1190
  let c0_i32_1192 : BitVec 32 := 0#32
  let c0_i32_1193 : BitVec 32 := 0#32
  ![v3544.toNat, 0, 0]
def k0_off83 (k0_t1 : Fin k0_t1_loop.trips) : Fin 2 → Nat :=
  let c0_i32_1194 : BitVec 32 := 0#32
  let c2_i32_669 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2028 : BitVec 32 := Scalar.muli c2_i32_669 v2027
  let c4_i32_1189 : BitVec 32 := 4#32
  let v3543 : BitVec 32 := Scalar.addi v2028 c4_i32_1189
  let c4096_i32_1191 : BitVec 32 := 4096#32
  let v3545 : BitVec 32 := Scalar.muli v3543 c4096_i32_1191
  ![0, v3545.toNat]
def k0_off84 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_932 : BitVec 32 := 4#32
  let v2790 : BitVec 32 := Scalar.remsi v2782 c4_i32_932
  let c0_i32_934 : BitVec 32 := 0#32
  let c0_i32_935 : BitVec 32 := 0#32
  ![v2790.toNat, 0, 0]
def k0_off85 (k0_t1 : Fin k0_t1_loop.trips) : Fin 2 → Nat :=
  let c0_i32_936 : BitVec 32 := 0#32
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4096_i32_933 : BitVec 32 := 4096#32
  let v2791 : BitVec 32 := Scalar.muli v2782 c4096_i32_933
  ![0, v2791.toNat]
def k0_off86 (k0_t1 : Fin k0_t1_loop.trips) : Fin 1 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_937 : BitVec 32 := 1#32
  let v2797 : BitVec 32 := Scalar.addi v2782 c1_i32_937
  let c4_i32_938 : BitVec 32 := 4#32
  let v2798 : BitVec 32 := Scalar.remsi v2797 c4_i32_938
  ![v2798.toNat]
def k0_off87 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_937 : BitVec 32 := 1#32
  let v2797 : BitVec 32 := Scalar.addi v2782 c1_i32_937
  let c4_i32_938 : BitVec 32 := 4#32
  let v2798 : BitVec 32 := Scalar.remsi v2797 c4_i32_938
  let c0_i32_940 : BitVec 32 := 0#32
  let c0_i32_941 : BitVec 32 := 0#32
  ![v2798.toNat, 0, 0]
def k0_off88 (k0_t1 : Fin k0_t1_loop.trips) : Fin 2 → Nat :=
  let c0_i32_942 : BitVec 32 := 0#32
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_937 : BitVec 32 := 1#32
  let v2797 : BitVec 32 := Scalar.addi v2782 c1_i32_937
  let c4096_i32_939 : BitVec 32 := 4096#32
  let v2799 : BitVec 32 := Scalar.muli v2797 c4096_i32_939
  ![0, v2799.toNat]
def k0_off89 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2810 : Index := Scalar.indexCast v2808
  let c0_951 : Index := 0#32
  let c0_952 : Index := 0#32
  ![v2810.toNat, 0, 0]
def k0_off90 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2820 : Index := Scalar.indexCast v2808
  let c0_956 : Index := 0#32
  let c256_957 : Index := 256#32
  ![v2820.toNat, 0, 256]
def k0_off91 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2831 : Index := Scalar.indexCast v2808
  let c0_961 : Index := 0#32
  let c512_962 : Index := 512#32
  ![v2831.toNat, 0, 512]
def k0_off92 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2842 : Index := Scalar.indexCast v2808
  let c0_966 : Index := 0#32
  let c768_967 : Index := 768#32
  ![v2842.toNat, 0, 768]
def k0_off93 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2853 : Index := Scalar.indexCast v2808
  let c0_971 : Index := 0#32
  let c1024_972 : Index := 1024#32
  ![v2853.toNat, 0, 1024]
def k0_off94 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2864 : Index := Scalar.indexCast v2808
  let c0_976 : Index := 0#32
  let c1280_977 : Index := 1280#32
  ![v2864.toNat, 0, 1280]
def k0_off95 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2875 : Index := Scalar.indexCast v2808
  let c0_981 : Index := 0#32
  let c1536_982 : Index := 1536#32
  ![v2875.toNat, 0, 1536]
def k0_off96 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2886 : Index := Scalar.indexCast v2808
  let c0_986 : Index := 0#32
  let c1792_987 : Index := 1792#32
  ![v2886.toNat, 0, 1792]
def k0_off97 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2897 : Index := Scalar.indexCast v2808
  let c0_991 : Index := 0#32
  let c2048_992 : Index := 2048#32
  ![v2897.toNat, 0, 2048]
def k0_off98 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2908 : Index := Scalar.indexCast v2808
  let c0_996 : Index := 0#32
  let c2304_997 : Index := 2304#32
  ![v2908.toNat, 0, 2304]
def k0_off99 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2919 : Index := Scalar.indexCast v2808
  let c0_1001 : Index := 0#32
  let c2560_1002 : Index := 2560#32
  ![v2919.toNat, 0, 2560]
def k0_off100 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2930 : Index := Scalar.indexCast v2808
  let c0_1006 : Index := 0#32
  let c2816_1007 : Index := 2816#32
  ![v2930.toNat, 0, 2816]
def k0_off101 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2941 : Index := Scalar.indexCast v2808
  let c0_1011 : Index := 0#32
  let c3072_1012 : Index := 3072#32
  ![v2941.toNat, 0, 3072]
def k0_off102 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2952 : Index := Scalar.indexCast v2808
  let c0_1016 : Index := 0#32
  let c3328_1017 : Index := 3328#32
  ![v2952.toNat, 0, 3328]
def k0_off103 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2963 : Index := Scalar.indexCast v2808
  let c0_1021 : Index := 0#32
  let c3584_1022 : Index := 3584#32
  ![v2963.toNat, 0, 3584]
def k0_off104 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_947 : BitVec 32 := 1#32
  let v2807 : BitVec 32 := Scalar.addi v2782 c1_i32_947
  let c4_i32_948 : BitVec 32 := 4#32
  let v2808 : BitVec 32 := Scalar.remsi v2807 c4_i32_948
  let v2974 : Index := Scalar.indexCast v2808
  let c0_1026 : Index := 0#32
  let c3840_1027 : Index := 3840#32
  ![v2974.toNat, 0, 3840]
def k0_off105 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3008 : Index := Scalar.indexCast v2995
  let c0_1041 : Index := 0#32
  let c0_1042 : Index := 0#32
  ![v3008.toNat, 0, 0]
def k0_off106 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3039 : Index := Scalar.indexCast v2995
  let c0_1049 : Index := 0#32
  let c256_1050 : Index := 256#32
  ![v3039.toNat, 0, 256]
def k0_off107 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3070 : Index := Scalar.indexCast v2995
  let c0_1057 : Index := 0#32
  let c512_1058 : Index := 512#32
  ![v3070.toNat, 0, 512]
def k0_off108 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3102 : Index := Scalar.indexCast v2995
  let c0_1065 : Index := 0#32
  let c768_1066 : Index := 768#32
  ![v3102.toNat, 0, 768]
def k0_off109 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3134 : Index := Scalar.indexCast v2995
  let c0_1073 : Index := 0#32
  let c1024_1074 : Index := 1024#32
  ![v3134.toNat, 0, 1024]
def k0_off110 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3166 : Index := Scalar.indexCast v2995
  let c0_1081 : Index := 0#32
  let c1280_1082 : Index := 1280#32
  ![v3166.toNat, 0, 1280]
def k0_off111 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3198 : Index := Scalar.indexCast v2995
  let c0_1089 : Index := 0#32
  let c1536_1090 : Index := 1536#32
  ![v3198.toNat, 0, 1536]
def k0_off112 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3230 : Index := Scalar.indexCast v2995
  let c0_1097 : Index := 0#32
  let c1792_1098 : Index := 1792#32
  ![v3230.toNat, 0, 1792]
def k0_off113 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3262 : Index := Scalar.indexCast v2995
  let c0_1105 : Index := 0#32
  let c2048_1106 : Index := 2048#32
  ![v3262.toNat, 0, 2048]
def k0_off114 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3294 : Index := Scalar.indexCast v2995
  let c0_1113 : Index := 0#32
  let c2304_1114 : Index := 2304#32
  ![v3294.toNat, 0, 2304]
def k0_off115 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3326 : Index := Scalar.indexCast v2995
  let c0_1121 : Index := 0#32
  let c2560_1122 : Index := 2560#32
  ![v3326.toNat, 0, 2560]
def k0_off116 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3358 : Index := Scalar.indexCast v2995
  let c0_1129 : Index := 0#32
  let c2816_1130 : Index := 2816#32
  ![v3358.toNat, 0, 2816]
def k0_off117 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3390 : Index := Scalar.indexCast v2995
  let c0_1137 : Index := 0#32
  let c3072_1138 : Index := 3072#32
  ![v3390.toNat, 0, 3072]
def k0_off118 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3422 : Index := Scalar.indexCast v2995
  let c0_1145 : Index := 0#32
  let c3328_1146 : Index := 3328#32
  ![v3422.toNat, 0, 3328]
def k0_off119 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3454 : Index := Scalar.indexCast v2995
  let c0_1153 : Index := 0#32
  let c3584_1154 : Index := 3584#32
  ![v3454.toNat, 0, 3584]
def k0_off120 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1035 : BitVec 32 := 4#32
  let v2995 : BitVec 32 := Scalar.remsi v2782 c4_i32_1035
  let v3486 : Index := Scalar.indexCast v2995
  let c0_1161 : Index := 0#32
  let c3840_1162 : Index := 3840#32
  ![v3486.toNat, 0, 3840]
def k0_cond3 (k0_t1 : Fin k0_t1_loop.trips) : BitVec 1 :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_1176 : BitVec 32 := 1#32
  let v3526 : BitVec 32 := Scalar.addi v2782 c1_i32_1176
  let c4_i32_1177 : BitVec 32 := 4#32
  let v3527 : BitVec 32 := Scalar.addi v3526 c4_i32_1177
  let c32_i32_1178 : BitVec 32 := 32#32
  let v3528 : BitVec 1 := Scalar.cmpi .slt v3527 c32_i32_1178
  let v3529 : BitVec 32 := Scalar.extui v3528
  let c0_i32_1179 : BitVec 32 := 0#32
  let v3530 : BitVec 1 := Scalar.cmpi .ne v3529 c0_i32_1179
  v3530

def k0_off121 (k0_t1 : Fin k0_t1_loop.trips) : Fin 1 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_1183 : BitVec 32 := 1#32
  let v3535 : BitVec 32 := Scalar.addi v2782 c1_i32_1183
  let c4_i32_1184 : BitVec 32 := 4#32
  let v3536 : BitVec 32 := Scalar.addi v3535 c4_i32_1184
  let c4_i32_1185 : BitVec 32 := 4#32
  let v3537 : BitVec 32 := Scalar.remsi v3536 c4_i32_1185
  ![v3537.toNat]
def k0_off122 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_1183 : BitVec 32 := 1#32
  let v3535 : BitVec 32 := Scalar.addi v2782 c1_i32_1183
  let c4_i32_1184 : BitVec 32 := 4#32
  let v3536 : BitVec 32 := Scalar.addi v3535 c4_i32_1184
  let c4_i32_1185 : BitVec 32 := 4#32
  let v3537 : BitVec 32 := Scalar.remsi v3536 c4_i32_1185
  let c0_i32_1187 : BitVec 32 := 0#32
  let c0_i32_1188 : BitVec 32 := 0#32
  ![v3537.toNat, 0, 0]
def k0_off123 (k0_t1 : Fin k0_t1_loop.trips) : Fin 2 → Nat :=
  let c0_i32_1189 : BitVec 32 := 0#32
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c1_i32_1183 : BitVec 32 := 1#32
  let v3535 : BitVec 32 := Scalar.addi v2782 c1_i32_1183
  let c4_i32_1184 : BitVec 32 := 4#32
  let v3536 : BitVec 32 := Scalar.addi v3535 c4_i32_1184
  let c4096_i32_1186 : BitVec 32 := 4096#32
  let v3538 : BitVec 32 := Scalar.muli v3536 c4096_i32_1186
  ![0, v3538.toNat]
def k0_cond4 (k0_t1 : Fin k0_t1_loop.trips) : BitVec 1 :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1180 : BitVec 32 := 4#32
  let v3531 : BitVec 32 := Scalar.addi v2782 c4_i32_1180
  let c32_i32_1181 : BitVec 32 := 32#32
  let v3532 : BitVec 1 := Scalar.cmpi .slt v3531 c32_i32_1181
  let v3533 : BitVec 32 := Scalar.extui v3532
  let c0_i32_1182 : BitVec 32 := 0#32
  let v3534 : BitVec 1 := Scalar.cmpi .ne v3533 c0_i32_1182
  v3534

def k0_off124 (k0_t1 : Fin k0_t1_loop.trips) : Fin 1 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1183 : BitVec 32 := 4#32
  let v3535 : BitVec 32 := Scalar.addi v2782 c4_i32_1183
  let c4_i32_1184 : BitVec 32 := 4#32
  let v3536 : BitVec 32 := Scalar.remsi v3535 c4_i32_1184
  ![v3536.toNat]
def k0_off125 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1183 : BitVec 32 := 4#32
  let v3535 : BitVec 32 := Scalar.addi v2782 c4_i32_1183
  let c4_i32_1184 : BitVec 32 := 4#32
  let v3536 : BitVec 32 := Scalar.remsi v3535 c4_i32_1184
  let c0_i32_1186 : BitVec 32 := 0#32
  let c0_i32_1187 : BitVec 32 := 0#32
  ![v3536.toNat, 0, 0]
def k0_off126 (k0_t1 : Fin k0_t1_loop.trips) : Fin 2 → Nat :=
  let c0_i32_1188 : BitVec 32 := 0#32
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1183 : BitVec 32 := 4#32
  let v3535 : BitVec 32 := Scalar.addi v2782 c4_i32_1183
  let c4096_i32_1185 : BitVec 32 := 4096#32
  let v3537 : BitVec 32 := Scalar.muli v3535 c4096_i32_1185
  ![0, v3537.toNat]
def k0_off127 (k0_t1 : Fin k0_t1_loop.trips) : Fin 3 → Nat :=
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1189 : BitVec 32 := 4#32
  let v3543 : BitVec 32 := Scalar.addi v2782 c4_i32_1189
  let c4_i32_1190 : BitVec 32 := 4#32
  let v3544 : BitVec 32 := Scalar.remsi v3543 c4_i32_1190
  let c0_i32_1192 : BitVec 32 := 0#32
  let c0_i32_1193 : BitVec 32 := 0#32
  ![v3544.toNat, 0, 0]
def k0_off128 (k0_t1 : Fin k0_t1_loop.trips) : Fin 2 → Nat :=
  let c0_i32_1194 : BitVec 32 := 0#32
  let c2_i32_925 : BitVec 32 := 2#32
  let c0_i32_668 : BitVec 32 := 0#32
  let c0_i32_251 : BitVec 32 := 0#32
  let c1_i32_252 : BitVec 32 := 1#32
  let arg36 : BitVec 32 := Scf.iv c0_i32_251 c1_i32_252 k0_t1
  let c1_i32_667 : BitVec 32 := 1#32
  let v2026 : BitVec 32 := Scalar.muli arg36 c1_i32_667
  let v2027 : BitVec 32 := Scalar.addi c0_i32_668 v2026
  let v2781 : BitVec 32 := Scalar.muli c2_i32_925 v2027
  let c1_i32_926 : BitVec 32 := 1#32
  let v2782 : BitVec 32 := Scalar.addi v2781 c1_i32_926
  let c4_i32_1189 : BitVec 32 := 4#32
  let v3543 : BitVec 32 := Scalar.addi v2782 c4_i32_1189
  let c4096_i32_1191 : BitVec 32 := 4096#32
  let v3545 : BitVec 32 := Scalar.muli v3543 c4096_i32_1191
  ![0, v3545.toNat]
def k0_off129 (c30_i32_360 : BitVec 32) : Fin 3 → Nat :=
  let c4_i32_361 : BitVec 32 := 4#32
  let v869 : BitVec 32 := Scalar.remsi c30_i32_360 c4_i32_361
  let v882 : Index := Scalar.indexCast v869
  let c0_367 : Index := 0#32
  let c0_368 : Index := 0#32
  ![v882.toNat, 0, 0]
def k0_off130 (c30_i32_360 : BitVec 32) : Fin 3 → Nat :=
  let c4_i32_361 : BitVec 32 := 4#32
  let v869 : BitVec 32 := Scalar.remsi c30_i32_360 c4_i32_361
  let v913 : Index := Scalar.indexCast v869
  let c0_375 : Index := 0#32
  let c256_376 : Index := 256#32
  ![v913.toNat, 0, 256]
def k0_off131 (c30_i32_360 : BitVec 32) : Fin 3 → Nat :=
  let c4_i32_361 : BitVec 32 := 4#32
  let v869 : BitVec 32 := Scalar.remsi c30_i32_360 c4_i32_361
  let v944 : Index := Scalar.indexCast v869
  let c0_383 : Index := 0#32
  let c512_384 : Index := 512#32
  ![v944.toNat, 0, 512]
def k0_off132 (c30_i32_360 : BitVec 32) : Fin 3 → Nat :=
  let c4_i32_361 : BitVec 32 := 4#32
  let v869 : BitVec 32 := Scalar.remsi c30_i32_360 c4_i32_361
  let v976 : Index := Scalar.indexCast v869
  let c0_391 : Index := 0#32
  let c768_392 : Index := 768#32
  ![v976.toNat, 0, 768]
def k0_off133 (c30_i32_360 : BitVec 32) : Fin 3 → Nat :=
  let c4_i32_361 : BitVec 32 := 4#32
  let v869 : BitVec 32 := Scalar.remsi c30_i32_360 c4_i32_361
  let v1008 : Index := Scalar.indexCast v869
  let c0_399 : Index := 0#32
  let c1024_400 : Index := 1024#32
  ![v1008.toNat, 0, 1024]
def k0_off134 (c30_i32_360 : BitVec 32) : Fin 3 → Nat :=
  let c4_i32_361 : BitVec 32 := 4#32
  let v869 : BitVec 32 := Scalar.remsi c30_i32_360 c4_i32_361
  let v1040 : Index := Scalar.indexCast v869
  let c0_407 : Index := 0#32
  let c1280_408 : Index := 1280#32
  ![v1040.toNat, 0, 1280]
def k0_off135 (c30_i32_360 : BitVec 32) : Fin 3 → Nat :=
  let c4_i32_361 : BitVec 32 := 4#32
  let v869 : BitVec 32 := Scalar.remsi c30_i32_360 c4_i32_361
  let v1072 : Index := Scalar.indexCast v869
  let c0_415 : Index := 0#32
  let c1536_416 : Index := 1536#32
  ![v1072.toNat, 0, 1536]
def k0_off136 (c30_i32_360 : BitVec 32) : Fin 3 → Nat :=
  let c4_i32_361 : BitVec 32 := 4#32
  let v869 : BitVec 32 := Scalar.remsi c30_i32_360 c4_i32_361
  let v1104 : Index := Scalar.indexCast v869
  let c0_423 : Index := 0#32
  let c1792_424 : Index := 1792#32
  ![v1104.toNat, 0, 1792]
def k0_off137 (c30_i32_360 : BitVec 32) : Fin 3 → Nat :=
  let c4_i32_361 : BitVec 32 := 4#32
  let v869 : BitVec 32 := Scalar.remsi c30_i32_360 c4_i32_361
  let v1136 : Index := Scalar.indexCast v869
  let c0_431 : Index := 0#32
  let c2048_432 : Index := 2048#32
  ![v1136.toNat, 0, 2048]
def k0_off138 (c30_i32_360 : BitVec 32) : Fin 3 → Nat :=
  let c4_i32_361 : BitVec 32 := 4#32
  let v869 : BitVec 32 := Scalar.remsi c30_i32_360 c4_i32_361
  let v1168 : Index := Scalar.indexCast v869
  let c0_439 : Index := 0#32
  let c2304_440 : Index := 2304#32
  ![v1168.toNat, 0, 2304]
def k0_off139 (c30_i32_360 : BitVec 32) : Fin 3 → Nat :=
  let c4_i32_361 : BitVec 32 := 4#32
  let v869 : BitVec 32 := Scalar.remsi c30_i32_360 c4_i32_361
  let v1200 : Index := Scalar.indexCast v869
  let c0_447 : Index := 0#32
  let c2560_448 : Index := 2560#32
  ![v1200.toNat, 0, 2560]
def k0_off140 (c30_i32_360 : BitVec 32) : Fin 3 → Nat :=
  let c4_i32_361 : BitVec 32 := 4#32
  let v869 : BitVec 32 := Scalar.remsi c30_i32_360 c4_i32_361
  let v1232 : Index := Scalar.indexCast v869
  let c0_455 : Index := 0#32
  let c2816_456 : Index := 2816#32
  ![v1232.toNat, 0, 2816]
def k0_off141 (c30_i32_360 : BitVec 32) : Fin 3 → Nat :=
  let c4_i32_361 : BitVec 32 := 4#32
  let v869 : BitVec 32 := Scalar.remsi c30_i32_360 c4_i32_361
  let v1264 : Index := Scalar.indexCast v869
  let c0_463 : Index := 0#32
  let c3072_464 : Index := 3072#32
  ![v1264.toNat, 0, 3072]
def k0_off142 (c30_i32_360 : BitVec 32) : Fin 3 → Nat :=
  let c4_i32_361 : BitVec 32 := 4#32
  let v869 : BitVec 32 := Scalar.remsi c30_i32_360 c4_i32_361
  let v1296 : Index := Scalar.indexCast v869
  let c0_471 : Index := 0#32
  let c3328_472 : Index := 3328#32
  ![v1296.toNat, 0, 3328]
def k0_off143 (c30_i32_360 : BitVec 32) : Fin 3 → Nat :=
  let c4_i32_361 : BitVec 32 := 4#32
  let v869 : BitVec 32 := Scalar.remsi c30_i32_360 c4_i32_361
  let v1328 : Index := Scalar.indexCast v869
  let c0_479 : Index := 0#32
  let c3584_480 : Index := 3584#32
  ![v1328.toNat, 0, 3584]
def k0_off144 (c30_i32_360 : BitVec 32) : Fin 3 → Nat :=
  let c4_i32_361 : BitVec 32 := 4#32
  let v869 : BitVec 32 := Scalar.remsi c30_i32_360 c4_i32_361
  let v1360 : Index := Scalar.indexCast v869
  let c0_487 : Index := 0#32
  let c3840_488 : Index := 3840#32
  ![v1360.toNat, 0, 3840]
abbrev stage0_0 : Fin 1 → Memref sig .tc .vmem S2x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "exp_scale" => some (((1 / 8) * (Real.log 2)⁻¹ : ℝ) : EReal)
  | _ => none
-- ==== ReferenceIdeal.lean ====
abbrev S2x1x32x64 : Shape := ⟨4, ![2, 1, 32, 64]⟩
abbrev S2x1x4x64 : Shape := ⟨4, ![2, 1, 4, 64]⟩
abbrev S131072x4x64 : Shape := ⟨3, ![131072, 4, 64]⟩
abbrev S4x64 : Shape := ⟨2, ![4, 64]⟩
abbrev S131072x4 : Shape := ⟨2, ![131072, 4]⟩
abbrev S2x1024x4x64 : Shape := ⟨4, ![2, 1024, 4, 64]⟩
abbrev S2x1024x4 : Shape := ⟨3, ![2, 1024, 4]⟩
abbrev S2 : Shape := ⟨1, ![2]⟩
abbrev S2x1x4x8x64 : Shape := ⟨5, ![2, 1, 4, 8, 64]⟩
abbrev S4x2x1x8x64 : Shape := ⟨5, ![4, 2, 1, 8, 64]⟩
abbrev S4x16x64 : Shape := ⟨3, ![4, 16, 64]⟩
abbrev S4x1x64 : Shape := ⟨3, ![4, 1, 64]⟩
abbrev S4x16x131072 : Shape := ⟨3, ![4, 16, 131072]⟩
abbrev S_ : Shape := ⟨0, ![]⟩
abbrev S4x2x1024 : Shape := ⟨3, ![4, 2, 1024]⟩
abbrev S4x2x1x1x1024 : Shape := ⟨5, ![4, 2, 1, 1, 1024]⟩
abbrev S4x2x1x8x1024 : Shape := ⟨5, ![4, 2, 1, 8, 1024]⟩
abbrev S1024 : Shape := ⟨1, ![1024]⟩
abbrev S1x1024 : Shape := ⟨2, ![1, 1024]⟩
abbrev S2x1 : Shape := ⟨2, ![2, 1]⟩
abbrev S2x1024 : Shape := ⟨2, ![2, 1024]⟩
abbrev S1x2x1x1x1024 : Shape := ⟨5, ![1, 2, 1, 1, 1024]⟩
abbrev S4x16x1024 : Shape := ⟨3, ![4, 16, 1024]⟩
abbrev S4x2x1x8x1 : Shape := ⟨5, ![4, 2, 1, 8, 1]⟩
abbrev S1 : Shape := ⟨1, ![1]⟩
abbrev S1x1 : Shape := ⟨2, ![1, 1]⟩
abbrev S1x1x1x1x1 : Shape := ⟨5, ![1, 1, 1, 1, 1]⟩
abbrev S4x16x1 : Shape := ⟨3, ![4, 16, 1]⟩
abbrev S4x16 : Shape := ⟨2, ![4, 16]⟩
abbrev S4x131072 : Shape := ⟨2, ![4, 131072]⟩
abbrev S4x1x131072 : Shape := ⟨3, ![4, 1, 131072]⟩
abbrev S2x2048 : Shape := ⟨2, ![2, 2048]⟩

abbrev nBuf : Space → Nat
  | .hbm => 119
  | .vmem => 8
  | .smem => 0
  | _ => 0

abbrev bufTy : (tb : Table) → Fin (tcTables nBuf tb) → BufTy
  | .hbm, ⟨0, _⟩ => ⟨S2x1x32x64, .bf16⟩
  | .hbm, ⟨1, _⟩ => ⟨S2x1x4x64, .bf16⟩
  | .hbm, ⟨2, _⟩ => ⟨S2x1x4x64, .bf16⟩
  | .hbm, ⟨3, _⟩ => ⟨S131072x4x64, .fp8e4m3⟩
  | .hbm, ⟨4, _⟩ => ⟨S4x64, .f32⟩
  | .hbm, ⟨5, _⟩ => ⟨S131072x4x64, .fp8e4m3⟩
  | .hbm, ⟨6, _⟩ => ⟨S131072x4, .f32⟩
  | .hbm, ⟨7, _⟩ => ⟨S2x1024x4x64, .fp8e4m3⟩
  | .hbm, ⟨8, _⟩ => ⟨S2x1024x4, .f32⟩
  | .hbm, ⟨9, _⟩ => ⟨S2x1024x4x64, .fp8e4m3⟩
  | .hbm, ⟨10, _⟩ => ⟨S2x1024x4, .f32⟩
  | .hbm, ⟨11, _⟩ => ⟨S2, .i32⟩
  | .hbm, ⟨12, _⟩ => ⟨S131072x4x64, .bf16⟩
  | .hbm, ⟨13, _⟩ => ⟨S131072x4x64, .bf16⟩
  | .hbm, ⟨14, _⟩ => ⟨S2x1024x4x64, .bf16⟩
  | .hbm, ⟨15, _⟩ => ⟨S2x1024x4x64, .bf16⟩
  | .hbm, ⟨16, _⟩ => ⟨S2x1x4x8x64, .bf16⟩
  | .hbm, ⟨17, _⟩ => ⟨S4x2x1x8x64, .bf16⟩
  | .hbm, ⟨18, _⟩ => ⟨S4x16x64, .bf16⟩
  | .hbm, ⟨19, _⟩ => ⟨S4x64, .bf16⟩
  | .hbm, ⟨20, _⟩ => ⟨S4x1x64, .bf16⟩
  | .hbm, ⟨21, _⟩ => ⟨S4x16x64, .bf16⟩
  | .hbm, ⟨22, _⟩ => ⟨S4x16x64, .bf16⟩
  | .hbm, ⟨23, _⟩ => ⟨S4x16x131072, .f32⟩
  | .hbm, ⟨24, _⟩ => ⟨S_, .f32⟩
  | .hbm, ⟨25, _⟩ => ⟨S4x16x131072, .f32⟩
  | .hbm, ⟨26, _⟩ => ⟨S4x16x131072, .f32⟩
  | .hbm, ⟨27, _⟩ => ⟨S4x2x1024, .f32⟩
  | .hbm, ⟨28, _⟩ => ⟨S4x2x1x1x1024, .f32⟩
  | .hbm, ⟨29, _⟩ => ⟨S4x2x1x8x1024, .f32⟩
  | .hbm, ⟨30, _⟩ => ⟨S4x2x1x8x1024, .f32⟩
  | .hbm, ⟨31, _⟩ => ⟨S4x2x1x8x1024, .f32⟩
  | .hbm, ⟨32, _⟩ => ⟨S_, .f32⟩
  | .hbm, ⟨33, _⟩ => ⟨S4x2x1x8x1024, .f32⟩
  | .hbm, ⟨34, _⟩ => ⟨S4x2x1x8x1024, .f32⟩
  | .hbm, ⟨35, _⟩ => ⟨S1024, .i32⟩
  | .hbm, ⟨36, _⟩ => ⟨S1x1024, .i32⟩
  | .hbm, ⟨37, _⟩ => ⟨S2x1, .i32⟩
  | .hbm, ⟨38, _⟩ => ⟨S2x1024, .i32⟩
  | .hbm, ⟨39, _⟩ => ⟨S2x1024, .i32⟩
  | .hbm, ⟨40, _⟩ => ⟨S2x1024, .i1⟩
  | .hbm, ⟨41, _⟩ => ⟨S1x2x1x1x1024, .i1⟩
  | .hbm, ⟨42, _⟩ => ⟨S_, .f32⟩
  | .hbm, ⟨43, _⟩ => ⟨S_, .f32⟩
  | .hbm, ⟨44, _⟩ => ⟨S4x2x1x8x1024, .i1⟩
  | .hbm, ⟨45, _⟩ => ⟨S4x2x1x8x1024, .f32⟩
  | .hbm, ⟨46, _⟩ => ⟨S4x2x1x8x1024, .f32⟩
  | .hbm, ⟨47, _⟩ => ⟨S4x16x1024, .f32⟩
  | .hbm, ⟨48, _⟩ => ⟨S4x2x1x8x1, .f32⟩
  | .hbm, ⟨49, _⟩ => ⟨S_, .f32⟩
  | .hbm, ⟨50, _⟩ => ⟨S4x2x1x8x1, .f32⟩
  | .hbm, ⟨51, _⟩ => ⟨S4x2x1x8x1, .f32⟩
  | .hbm, ⟨52, _⟩ => ⟨S1, .i32⟩
  | .hbm, ⟨53, _⟩ => ⟨S1x1, .i32⟩
  | .hbm, ⟨54, _⟩ => ⟨S1, .i32⟩
  | .hbm, ⟨55, _⟩ => ⟨S1x1, .i32⟩
  | .hbm, ⟨56, _⟩ => ⟨S1x1, .i1⟩
  | .hbm, ⟨57, _⟩ => ⟨S1x1x1x1x1, .i1⟩
  | .hbm, ⟨58, _⟩ => ⟨S_, .f32⟩
  | .hbm, ⟨59, _⟩ => ⟨S_, .f32⟩
  | .hbm, ⟨60, _⟩ => ⟨S4x2x1x8x1, .i1⟩
  | .hbm, ⟨61, _⟩ => ⟨S4x2x1x8x1, .f32⟩
  | .hbm, ⟨62, _⟩ => ⟨S4x2x1x8x1, .f32⟩
  | .hbm, ⟨63, _⟩ => ⟨S4x16x1, .f32⟩
  | .hbm, ⟨64, _⟩ => ⟨S_, .f32⟩
  | .hbm, ⟨65, _⟩ => ⟨S4x16, .f32⟩
  | .hbm, ⟨66, _⟩ => ⟨S4x16x1, .f32⟩
  | .hbm, ⟨67, _⟩ => ⟨S_, .f32⟩
  | .hbm, ⟨68, _⟩ => ⟨S4x16, .f32⟩
  | .hbm, ⟨69, _⟩ => ⟨S4x16x1, .f32⟩
  | .hbm, ⟨70, _⟩ => ⟨S4x16x1, .f32⟩
  | .hbm, ⟨71, _⟩ => ⟨S_, .f32⟩
  | .hbm, ⟨72, _⟩ => ⟨S4x16, .f32⟩
  | .hbm, ⟨73, _⟩ => ⟨S4x16x1, .f32⟩
  | .hbm, ⟨74, _⟩ => ⟨S4x16x1, .f32⟩
  | .hbm, ⟨75, _⟩ => ⟨S4x16x131072, .f32⟩
  | .hbm, ⟨76, _⟩ => ⟨S4x16x131072, .f32⟩
  | .hbm, ⟨77, _⟩ => ⟨S4x16x131072, .f32⟩
  | .hbm, ⟨78, _⟩ => ⟨S4x16x1024, .f32⟩
  | .hbm, ⟨79, _⟩ => ⟨S4x16x1024, .f32⟩
  | .hbm, ⟨80, _⟩ => ⟨S4x16x1024, .f32⟩
  | .hbm, ⟨81, _⟩ => ⟨S4x16x1, .f32⟩
  | .hbm, ⟨82, _⟩ => ⟨S4x16x1, .f32⟩
  | .hbm, ⟨83, _⟩ => ⟨S_, .f32⟩
  | .hbm, ⟨84, _⟩ => ⟨S4x16, .f32⟩
  | .hbm, ⟨85, _⟩ => ⟨S4x16x1, .f32⟩
  | .hbm, ⟨86, _⟩ => ⟨S_, .f32⟩
  | .hbm, ⟨87, _⟩ => ⟨S4x16, .f32⟩
  | .hbm, ⟨88, _⟩ => ⟨S4x16x1, .f32⟩
  | .hbm, ⟨89, _⟩ => ⟨S4x16x1, .f32⟩
  | .hbm, ⟨90, _⟩ => ⟨S_, .f32⟩
  | .hbm, ⟨91, _⟩ => ⟨S4x16, .f32⟩
  | .hbm, ⟨92, _⟩ => ⟨S4x16x1, .f32⟩
  | .hbm, ⟨93, _⟩ => ⟨S4x16x1, .f32⟩
  | .hbm, ⟨94, _⟩ => ⟨S4x131072, .f32⟩
  | .hbm, ⟨95, _⟩ => ⟨S4x1x131072, .f32⟩
  | .hbm, ⟨96, _⟩ => ⟨S4x16x131072, .f32⟩
  | .hbm, ⟨97, _⟩ => ⟨S4x16x131072, .f32⟩
  | .hbm, ⟨98, _⟩ => ⟨S4x16x131072, .bf16⟩
  | .hbm, ⟨99, _⟩ => ⟨S4x16x64, .f32⟩
  | .hbm, ⟨100, _⟩ => ⟨S4x2x1024, .f32⟩
  | .hbm, ⟨101, _⟩ => ⟨S4x2x1x1x1024, .f32⟩
  | .hbm, ⟨102, _⟩ => ⟨S4x2x1x8x1024, .f32⟩
  | .hbm, ⟨103, _⟩ => ⟨S4x2x1x8x1024, .f32⟩
  | .hbm, ⟨104, _⟩ => ⟨S4x2x1x8x1024, .f32⟩
  | .hbm, ⟨105, _⟩ => ⟨S4x2x1x8x1024, .bf16⟩
  | .hbm, ⟨106, _⟩ => ⟨S4x2x1x8x64, .f32⟩
  | .hbm, ⟨107, _⟩ => ⟨S4x2x1x8x1, .f32⟩
  | .hbm, ⟨108, _⟩ => ⟨S4x2x1x8x1, .bf16⟩
  | .hbm, ⟨109, _⟩ => ⟨S4x2x1x8x64, .f32⟩
  | .hbm, ⟨110, _⟩ => ⟨S4x2x1x8x64, .f32⟩
  | .hbm, ⟨111, _⟩ => ⟨S4x2x1x8x64, .f32⟩
  | .hbm, ⟨112, _⟩ => ⟨S4x2x1x8x64, .f32⟩
  | .hbm, ⟨113, _⟩ => ⟨S4x2x1x8x1, .f32⟩
  | .hbm, ⟨114, _⟩ => ⟨S4x2x1x8x64, .f32⟩
  | .hbm, ⟨115, _⟩ => ⟨S4x2x1x8x64, .f32⟩
  | .hbm, ⟨116, _⟩ => ⟨S2x1x4x8x64, .f32⟩
  | .hbm, ⟨117, _⟩ => ⟨S2x2048, .f32⟩
  | .hbm, ⟨118, _⟩ => ⟨S2x2048, .bf16⟩
  | .local _ .vmem, ⟨0, _⟩ => ⟨S131072x4x64, .fp8e4m3⟩
  | .local _ .vmem, ⟨1, _⟩ => ⟨S131072x4x64, .fp8e4m3⟩
  | .local _ .vmem, ⟨2, _⟩ => ⟨S2x1024x4x64, .fp8e4m3⟩
  | .local _ .vmem, ⟨3, _⟩ => ⟨S2x1024x4x64, .fp8e4m3⟩
  | .local _ .vmem, ⟨4, _⟩ => ⟨S131072x4x64, .bf16⟩
  | .local _ .vmem, ⟨5, _⟩ => ⟨S131072x4x64, .bf16⟩
  | .local _ .vmem, ⟨6, _⟩ => ⟨S2x1024x4x64, .bf16⟩
  | .local _ .vmem, ⟨7, _⟩ => ⟨S2x1024x4x64, .bf16⟩
  | _, _ => ⟨S2x1x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S131072x4x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S131072x4x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x4x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x4x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S131072x4x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S131072x4x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x4x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x4x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Pieces.lean ====
/-
  The kernel's body as a composition of a few named steps.

  The printed body is one long straight-line program with one loop. Here its repeating parts are given names,
  each over the chunk number as the word the program computes: starting and awaiting the copy of one chunk of
  keys, values or value scales, computing the scores of a chunk, adding a chunk's weighted values, and the step
  made of these. `body_eq` and `loop_eq` say that the printed program is the composition.
-/
module

public import proofs.«01_k».proof.Proof.Gen.Kernel.Skeleton
public import Idealize.ShloMosaic.Lib.Tactic
public import Idealize.ShloMosaic.Lib.Affine

@[expose] public section

noncomputable section

namespace Cert.Kernel.Steps

open Idealize.ShloMosaic Idealize.SL.Sem
open Facts₀ Facts

variable {F : FTy → Type} [FloatOps F]

/-- The scale inside every exponential. -/
def expScale : F .f32 := Scalar.ofBits .f32 0x3E38AA3B#32

/-- A program of the kernel. -/
abbrev KProg (F : FTy → Type) [FloatOps F] (α : Type) := Prog (TpuEff nD τ sig (Elt F) Λ₀ .tc) α

/-! ## Slots and blocks of a chunk -/

theorem word_eq {w : BitVec 32} : w = BitVec.ofNat 32 w.toNat := by simp

theorem remsi_fin : ∀ n : Fin 32, (Scalar.remsi (BitVec.ofNat 32 n.val) 4#32).toNat = n.val % 4 := by decide
theorem muli_fin : ∀ n : Fin 32, (Scalar.muli (BitVec.ofNat 32 n.val) 4096#32).toNat = n.val * 4096 := by decide

theorem remsi_toNat {w : BitVec 32} (hw : w.toNat < 32) : (Scalar.remsi w 4#32).toNat = w.toNat % 4 := by
  conv_lhs => rw [word_eq (w := w)]
  exact remsi_fin ⟨w.toNat, hw⟩
theorem muli_toNat {w : BitVec 32} (hw : w.toNat < 32) : (Scalar.muli w 4096#32).toNat = w.toNat * 4096 := by
  conv_lhs => rw [word_eq (w := w)]
  exact muli_fin ⟨w.toNat, hw⟩

/-- The semaphore of the slot, the slot, the block of the chunk, and the tiles of the slot. -/
def semOff (w : BitVec 32) : Fin 1 → Nat := ![(Scalar.remsi w 4#32).toNat]
def slotOff (w : BitVec 32) : Fin 3 → Nat := ![(Scalar.remsi w 4#32).toNat, 0, 0]
def blkOff (w : BitVec 32) : Fin 2 → Nat := ![0, (Scalar.muli w 4096#32).toNat]
def winOff (w : BitVec 32) (c : ℕ) : Fin 3 → Nat := ![(Scalar.remsi w 4#32).toNat, 0, 256 * c]
def tileOff (c : ℕ) : Fin 2 → Nat := ![0, 256 * c]

theorem semOff_inb {w : BitVec 32} (hw : w.toNat < 32) : ∀ a, semOff w a + S1.size a ≤ S4.size a := by
  have h := remsi_toNat hw
  intro a; match a with
  | 0 => show (Scalar.remsi w 4#32).toNat + 1 ≤ 4; omega
theorem slotOff_inb {w : BitVec 32} (hw : w.toNat < 32) : ∀ a, slotOff w a + S1x256x4096.size a ≤ S4x256x4096.size a := by
  have h := remsi_toNat hw
  intro a; match a with
  | 0 => show (Scalar.remsi w 4#32).toNat + 1 ≤ 4; omega
  | 1 => show 0 + 256 ≤ 256; omega
  | 2 => show 0 + 4096 ≤ 4096; omega
theorem slotOff_inb4 {w : BitVec 32} (hw : w.toNat < 32) : ∀ a, slotOff w a + S1x4x4096.size a ≤ S4x4x4096.size a := by
  have h := remsi_toNat hw
  intro a; match a with
  | 0 => show (Scalar.remsi w 4#32).toNat + 1 ≤ 4; omega
  | 1 => show 0 + 4 ≤ 4; omega
  | 2 => show 0 + 4096 ≤ 4096; omega
theorem blkOff_inb {w : BitVec 32} (hw : w.toNat < 32) : ∀ a, blkOff w a + S256x4096.size a ≤ S256x131072.size a := by
  have h := muli_toNat hw
  intro a; match a with
  | 0 => show 0 + 256 ≤ 256; omega
  | 1 => show (Scalar.muli w 4096#32).toNat + 4096 ≤ 131072; omega
theorem blkOff_inb4 {w : BitVec 32} (hw : w.toNat < 32) : ∀ a, blkOff w a + S4x4096.size a ≤ S4x131072.size a := by
  have h := muli_toNat hw
  intro a; match a with
  | 0 => show 0 + 4 ≤ 4; omega
  | 1 => show (Scalar.muli w 4096#32).toNat + 4096 ≤ 131072; omega
theorem winOff_inb {w : BitVec 32} (hw : w.toNat < 32) {c : ℕ} (hc : c < 16) :
    ∀ a, winOff w c a + S1x256x256.size a ≤ S4x256x4096.size a := by
  have h := remsi_toNat hw
  intro a; match a with
  | 0 => show (Scalar.remsi w 4#32).toNat + 1 ≤ 4; omega
  | 1 => show 0 + 256 ≤ 256; omega
  | 2 => show 256 * c + 256 ≤ 4096; omega
theorem winOff_inb4 {w : BitVec 32} (hw : w.toNat < 32) {c : ℕ} (hc : c < 16) :
    ∀ a, winOff w c a + S1x4x256.size a ≤ S4x4x4096.size a := by
  have h := remsi_toNat hw
  intro a; match a with
  | 0 => show (Scalar.remsi w 4#32).toNat + 1 ≤ 4; omega
  | 1 => show 0 + 4 ≤ 4; omega
  | 2 => show 256 * c + 256 ≤ 4096; omega
theorem tileOff_inb {c : ℕ} (hc : c < 16) : ∀ a, tileOff c a + S64x256.size a ≤ S64x4096.size a := by
  intro a; match a with
  | 0 => show 0 + 64 ≤ 64; omega
  | 1 => show 256 * c + 256 ≤ 4096; omega

theorem slotOff_words {w : BitVec 32} (hw : w.toNat < 32) :
    (Rect.unit (s := S4x256x4096) (slotOff w) S1x256x4096.size (slotOff_inb hw)).WholeWords (EltTy.packing .fp8e4m3) :=
  Or.inr ⟨by decide, rfl, rfl, rfl⟩
theorem blkOff_words {w : BitVec 32} (hw : w.toNat < 32) :
    (Rect.unit (s := S256x131072) (blkOff w) S256x4096.size (blkOff_inb hw)).WholeWords (EltTy.packing .fp8e4m3) :=
  Or.inr ⟨by decide, rfl, rfl, rfl⟩

/-! ## The buffers -/

abbrev aPK : Memref sig .tc .hbm S256x131072 .fp8e4m3 := Memref.whole main_v4
abbrev aPV : Memref sig .tc .hbm S256x131072 .fp8e4m3 := Memref.whole main_v6
abbrev aPVs : Memref sig .tc .hbm S4x131072 .f32 := Memref.whole main_v7
abbrev bK : Memref sig .tc .vmem S4x256x4096 .fp8e4m3 := Memref.whole cc0_scratch9
abbrev bV : Memref sig .tc .vmem S4x256x4096 .fp8e4m3 := Memref.whole cc0_scratch10
abbrev bVs : Memref sig .tc .vmem S4x4x4096 .f32 := Memref.whole cc0_scratch11
abbrev bA : Memref sig .tc .vmem S64x4096 .f32 := Memref.whole cc0_scratch12
abbrev bB : Memref sig .tc .vmem S64x4096 .f32 := Memref.whole cc0_scratch13
abbrev bQ : Memref sig .tc .vmem S64x256 .bf16 := Memref.whole cc0_scratch14
abbrev bM : Memref sig .tc .vmem S64x128 .f32 := Memref.whole cc0_scratch15
abbrev bAl : Memref sig .tc .vmem S64x128 .f32 := Memref.whole cc0_scratch16
abbrev bL : Memref sig .tc .vmem S64x128 .f32 := Memref.whole cc0_scratch17
abbrev bAcc : Memref sig .tc .vmem S64x256 .f32 := Memref.whole cc0_scratch18
abbrev bX : Memref sig .tc .vmem S64x64 .bf16 := Memref.whole cc0_scratch0
abbrev bKn : Memref sig .tc .vmem S2x4x64 .bf16 := Memref.whole cc0_scratch1
abbrev bVn : Memref sig .tc .vmem S2x4x64 .bf16 := Memref.whole cc0_scratch2
abbrev bPKs : Memref sig .tc .vmem S4x64 .f32 := Memref.whole cc0_scratch3
abbrev bTK : Memref sig .tc .vmem S2x256x1024 .fp8e4m3 := Memref.whole cc0_scratch4
abbrev bTKs : Memref sig .tc .vmem S2x4x1024 .f32 := Memref.whole cc0_scratch5
abbrev bTV : Memref sig .tc .vmem S2x256x1024 .fp8e4m3 := Memref.whole cc0_scratch6
abbrev bTVs : Memref sig .tc .vmem S2x4x1024 .f32 := Memref.whole cc0_scratch7
abbrev bLen : Memref sig .tc .smem S2 .i32 := Memref.whole cc0_scratch8

/-- The slot of a chunk in its ring, its semaphore, and the chunk in the operand. -/
abbrev slotK (w : BitVec 32) (hw : w.toNat < 32) : Memref sig .tc .vmem S256x4096 .fp8e4m3 :=
  (bK.slice (Rect.unit (s := S4x256x4096) (slotOff w) S1x256x4096.size (slotOff_inb hw)) (fun _ => rfl)).squeeze S256x4096 squeezes_S1x256x4096_S256x4096
abbrev slotV (w : BitVec 32) (hw : w.toNat < 32) : Memref sig .tc .vmem S256x4096 .fp8e4m3 :=
  (bV.slice (Rect.unit (s := S4x256x4096) (slotOff w) S1x256x4096.size (slotOff_inb hw)) (fun _ => rfl)).squeeze S256x4096 squeezes_S1x256x4096_S256x4096
abbrev slotVs (w : BitVec 32) (hw : w.toNat < 32) : Memref sig .tc .vmem S4x4096 .f32 :=
  (bVs.slice (Rect.unit (s := S4x4x4096) (slotOff w) S1x4x4096.size (slotOff_inb4 hw)) (fun _ => rfl)).squeeze S4x4096 squeezes_S1x4x4096_S4x4096
abbrev blkK (w : BitVec 32) (hw : w.toNat < 32) : Memref sig .tc .hbm S256x4096 .fp8e4m3 :=
  aPK.slice (Rect.unit (s := S256x131072) (blkOff w) S256x4096.size (blkOff_inb hw)) (fun _ => rfl)
abbrev blkV (w : BitVec 32) (hw : w.toNat < 32) : Memref sig .tc .hbm S256x4096 .fp8e4m3 :=
  aPV.slice (Rect.unit (s := S256x131072) (blkOff w) S256x4096.size (blkOff_inb hw)) (fun _ => rfl)
abbrev blkVs (w : BitVec 32) (hw : w.toNat < 32) : Memref sig .tc .hbm S4x4096 .f32 :=
  aPVs.slice (Rect.unit (s := S4x131072) (blkOff w) S4x4096.size (blkOff_inb4 hw)) (fun _ => rfl)
abbrev semK (w : BitVec 32) (hw : w.toNat < 32) : DmaSems sig S_ :=
  ((cc0_scratch20).slice (Rect.unit (s := S4) (semOff w) S1.size (semOff_inb hw))).squeeze S_ squeezes_S1_S_
abbrev semV (w : BitVec 32) (hw : w.toNat < 32) : DmaSems sig S_ :=
  ((cc0_scratch21).slice (Rect.unit (s := S4) (semOff w) S1.size (semOff_inb hw))).squeeze S_ squeezes_S1_S_
abbrev semVs (w : BitVec 32) (hw : w.toNat < 32) : DmaSems sig S_ :=
  ((cc0_scratch22).slice (Rect.unit (s := S4) (semOff w) S1.size (semOff_inb hw))).squeeze S_ squeezes_S1_S_

/-! ## The copies of a chunk -/

def startK (w : BitVec 32) (hw : w.toNat < 32) : KProg F PUnit :=
  Prog.lift (.enqueueDma (blkK w hw) (.here (slotK w hw)) (.dma (semK w hw).sem)
    ((Memref.isWhole_whole main_v4).wordExact_slice rfl _ (blkOff_words hw))
    (((Memref.isWhole_whole cc0_scratch9).wordExact_slice rfl _ (slotOff_words hw)).reshape _ _) ⟨Or.inl rfl, trivial⟩)
def startV (w : BitVec 32) (hw : w.toNat < 32) : KProg F PUnit :=
  Prog.lift (.enqueueDma (blkV w hw) (.here (slotV w hw)) (.dma (semV w hw).sem)
    ((Memref.isWhole_whole main_v6).wordExact_slice rfl _ (blkOff_words hw))
    (((Memref.isWhole_whole cc0_scratch10).wordExact_slice rfl _ (slotOff_words hw)).reshape _ _) ⟨Or.inl rfl, trivial⟩)
def startVs (w : BitVec 32) (hw : w.toNat < 32) : KProg F PUnit :=
  Prog.lift (.enqueueDma (blkVs w hw) (.here (slotVs w hw)) (.dma (semVs w hw).sem)
    (View.wordExact_bits rfl) ((View.wordExact_bits rfl).reshape _ _) ⟨Or.inl rfl, trivial⟩)

def waitK (w : BitVec 32) (hw : w.toNat < 32) : KProg F PUnit :=
  Prog.lift (.waitDma2 (semK w hw).sem (blkK w hw) (slotK w hw)
    ((Memref.isWhole_whole main_v4).wordExact_slice rfl _ (blkOff_words hw))
    (((Memref.isWhole_whole cc0_scratch9).wordExact_slice rfl _ (slotOff_words hw)).reshape _ _))
def waitV (w : BitVec 32) (hw : w.toNat < 32) : KProg F PUnit :=
  Prog.lift (.waitDma2 (semV w hw).sem (blkV w hw) (slotV w hw)
    ((Memref.isWhole_whole main_v6).wordExact_slice rfl _ (blkOff_words hw))
    (((Memref.isWhole_whole cc0_scratch10).wordExact_slice rfl _ (slotOff_words hw)).reshape _ _))
def waitVs (w : BitVec 32) (hw : w.toNat < 32) : KProg F PUnit :=
  Prog.lift (.waitDma2 (semVs w hw).sem (blkVs w hw) (slotVs w hw)
    (View.wordExact_bits rfl) ((View.wordExact_bits rfl).reshape _ _))

/-! ## Whole buffers and tiles -/

def ld128 (b : Memref sig .tc .vmem S64x128 .f32) : KProg F (Vec F S64x128 .f32) :=
  Prog.lift (.load b (Rect.unit (s := S64x128) ![0, 0] S64x128.size inb_S64x128_S64x128_0_0).toLoadRect (View.loadsAt_vmem h_S64x128))
def st128 (b : Memref sig .tc .vmem S64x128 .f32) (v : FVec F S64x128 .f32) : KProg F PUnit :=
  Prog.lift (.store b (Rect.unit (s := S64x128) ![0, 0] S64x128.size inb_S64x128_S64x128_0_0) v Finset.univ (View.stores_vmem_bits_univ h_S64x128 rfl) (.inl rfl))
def ld256 (b : Memref sig .tc .vmem S64x256 .f32) : KProg F (Vec F S64x256 .f32) :=
  Prog.lift (.load b (Rect.unit (s := S64x256) ![0, 0] S64x256.size inb_S64x256_S64x256_0_0).toLoadRect (View.loadsAt_vmem h_S64x256))
def st256 (b : Memref sig .tc .vmem S64x256 .f32) (v : FVec F S64x256 .f32) : KProg F PUnit :=
  Prog.lift (.store b (Rect.unit (s := S64x256) ![0, 0] S64x256.size inb_S64x256_S64x256_0_0) v Finset.univ (View.stores_vmem_bits_univ h_S64x256 rfl) (.inl rfl))
def ldQ : KProg F (Vec F S64x256 .bf16) :=
  Prog.lift (.load bQ (Rect.unit (s := S64x256) ![0, 0] S64x256.size inb_S64x256_S64x256_0_0).toLoadRect (View.loadsAt_vmem h_S64x256))
def ldS (b : Memref sig .tc .vmem S64x4096 .f32) (c : ℕ) (hc : c < 16) : KProg F (Vec F S64x256 .f32) :=
  Prog.lift (.load b (Rect.unit (s := S64x4096) (tileOff c) S64x256.size (tileOff_inb hc)).toLoadRect (View.loadsAt_vmem h_S64x256))
def stS (b : Memref sig .tc .vmem S64x4096 .f32) (c : ℕ) (hc : c < 16) (v : FVec F S64x256 .f32) : KProg F PUnit :=
  Prog.lift (.store b (Rect.unit (s := S64x4096) (tileOff c) S64x256.size (tileOff_inb hc)) v Finset.univ (View.stores_vmem_bits_univ h_S64x256 rfl) (.inl rfl))
def ldW (b : Memref sig .tc .vmem S4x256x4096 .fp8e4m3) (w : BitVec 32) (hw : w.toNat < 32) (c : ℕ) (hc : c < 16) :
    KProg F (Vec F S1x256x256 .fp8e4m3) :=
  Prog.lift (.load b (Rect.unit (s := S4x256x4096) (winOff w c) S1x256x256.size (winOff_inb hw hc)).toLoadRect (View.loadsAt_vmem h_S1x256x256))
def ldWs (w : BitVec 32) (hw : w.toNat < 32) (c : ℕ) (hc : c < 16) : KProg F (Vec F S1x4x256 .f32) :=
  Prog.lift (.load bVs (Rect.unit (s := S4x4x4096) (winOff w c) S1x4x256.size (winOff_inb4 hw hc)).toLoadRect (View.loadsAt_vmem h_S1x4x256))

/-! ## The values -/

/-- The scores of a tile of keys; a tile's two lane halves folded by the maximum, by the sum; the new maximum of
    the rows; the factor from one maximum to a later one. -/
def vScore (q : Vec F S64x256 .bf16) (k : Vec F S1x256x256 .fp8e4m3) : FVec F S64x256 .f32 :=
  matmul dot_S64x256_S256x256_S64x256_1_0_0_1_n_n none q (shapeCast S256x256 k shapeCasts_S1x256x256_S256x256 : FVec F S256x256 .fp8e4m3) (constant S64x256 .f32 0x00000000#32)
def vFoldMax (d : FVec F S64x256 .f32) : FVec F S64x128 .f32 :=
  maximumf (extractStridedSlice S64x128 ![0, 0] d slices_S64x256_o0_0_S64x128) (extractStridedSlice S64x128 ![0, 128] d slices_S64x256_o0_128_S64x128)
def vFoldAdd (d : FVec F S64x256 .f32) : FVec F S64x128 .f32 :=
  addf (extractStridedSlice S64x128 ![0, 0] d slices_S64x256_o0_0_S64x128) (extractStridedSlice S64x128 ![0, 128] d slices_S64x256_o0_128_S64x128)
def vRowMax (d : FVec F S64x128 .f32) : FVec F S64x128 .f32 :=
  broadcastTo S64x128 (shapeCast S64x1 (shapeCast S64x1 (multiReduction .maximumf [1] S64 d 0xFF800000#32 reduces_S64x128_S64 (.inl rfl) rfl : FVec F S64 .f32) shapeCasts_S64_S64x1 : FVec F S64x1 .f32) shapeCasts_S64x1_S64x1 : FVec F S64x1 .f32) broadcasts_S64x1_S64x128
def vMNew (m cmax : FVec F S64x128 .f32) : FVec F S64x128 .f32 := maximumf m (vRowMax cmax)
def vAl (m m' : FVec F S64x128 .f32) : FVec F S64x128 .f32 :=
  exp2 (mulf (subf m m') (broadcast S64x128 (expScale : F .f32)) : FVec F S64x128 .f32)
def vWide (m : FVec F S64x128 .f32) : FVec F S64x256 .f32 :=
  concatenate S64x256 1 [⟨S64x128, m⟩, ⟨S64x128, m⟩] concatenates_S64x128_S64x128_S64x256_d1
def vE (s mw : FVec F S64x256 .f32) : FVec F S64x256 .f32 :=
  exp2 (mulf (subf s mw) (broadcast S64x256 (expScale : F .f32)) : FVec F S64x256 .f32)
def vHead (n : ℕ) (h : S4x256.Slices ![n, 0] S1x256) (t : FVec F S4x256 .f32) : FVec F S8x256 .f32 :=
  broadcastTo S8x256 (shapeCast S1x256 (extractStridedSlice S1x256 ![n, 0] t h : FVec F S1x256 .f32) shapeCasts_S1x256_S1x256 : FVec F S1x256 .f32) broadcasts_S1x256_S8x256
def vHeads (t : FVec F S4x256 .f32) : FVec F S64x256 .f32 :=
  concatenate S64x256 0 [⟨S8x256, vHead 0 slices_S4x256_o0_0_S1x256 t⟩, ⟨S8x256, vHead 1 slices_S4x256_o1_0_S1x256 t⟩, ⟨S8x256, vHead 2 slices_S4x256_o2_0_S1x256 t⟩, ⟨S8x256, vHead 3 slices_S4x256_o3_0_S1x256 t⟩, ⟨S8x256, vHead 0 slices_S4x256_o0_0_S1x256 t⟩, ⟨S8x256, vHead 1 slices_S4x256_o1_0_S1x256 t⟩, ⟨S8x256, vHead 2 slices_S4x256_o2_0_S1x256 t⟩, ⟨S8x256, vHead 3 slices_S4x256_o3_0_S1x256 t⟩] concatenates_S8x256_S8x256_S8x256_S8x256_S8x256_S8x256_S8x256_S8x256_S64x256_d0
def vPV (e : FVec F S64x256 .f32) (sc : Vec F S1x4x256 .f32) (v : Vec F S1x256x256 .fp8e4m3) : FVec F S64x256 .f32 :=
  matmul dot_S64x256_S256x256_S64x256_1_1_0_0_n_n none
    (truncf .bf16 (mulf e (vHeads (shapeCast S4x256 sc shapeCasts_S1x4x256_S4x256)) : FVec F S64x256 .f32) bitsLt_bf16_f32 : FVec F S64x256 .bf16)
    (shapeCast S256x256 v shapeCasts_S1x256x256_S256x256 : FVec F S256x256 .fp8e4m3) (constant S64x256 .f32 0x00000000#32)
def vAcc (acc al256 o0 o1 : FVec F S64x256 .f32) : FVec F S64x256 .f32 := addf (mulf acc al256) (addf o0 o1)
def vC128 (v : FVec F S64x128 .f32) : FVec F S64x128 .f32 := shapeCast S64x128 v shapeCasts_S64x128_S64x128
def vC256 (v : FVec F S64x256 .f32) : FVec F S64x256 .f32 := shapeCast S64x256 v shapeCasts_S64x256_S64x256

/-! ## Scores of a chunk -/

/-- One tile: its scores, stored. -/
def scoresTile (w : BitVec 32) (hw : w.toNat < 32) (dst : Memref sig .tc .vmem S64x4096 .f32) (q : Vec F S64x256 .bf16)
    (c : ℕ) (hc : c < 16) : KProg F (FVec F S64x256 .f32) := do
  let k ← ldW bK w hw c hc
  let _ ← ldS dst c hc
  stS dst c hc (vC256 (vScore q k))
  pure (vScore q k)

/-- The tiles from `c` on, under the running maximum. -/
def scoresFrom (w : BitVec 32) (hw : w.toNat < 32) (dst : Memref sig .tc .vmem S64x4096 .f32) (q : Vec F S64x256 .bf16) :
    (r c : ℕ) → c + r ≤ 16 → FVec F S64x128 .f32 → KProg F (FVec F S64x128 .f32)
  | 0, _, _, cm => pure cm
  | r + 1, c, h, cm => do
    let d ← scoresTile w hw dst q c (by omega)
    scoresFrom w hw dst q r (c + 1) (by omega) (maximumf cm (vFoldMax d))

/-- The scores of a chunk into `dst`: the new maximum. -/
def scores (w : BitVec 32) (hw : w.toNat < 32) (dst : Memref sig .tc .vmem S64x4096 .f32) : KProg F (FVec F S64x128 .f32 × FVec F S64x128 .f32) := do
  let q ← ldQ
  let d ← scoresTile w hw dst q 0 (by omega)
  let cm ← scoresFrom w hw dst q 15 1 le_rfl (vFoldMax d)
  let m ← ld128 bM
  pure (vMNew m cm, vAl m (vMNew m cm))

/-! ## Weighted values of a chunk -/

/-- One tile: its exponentials and its product with the values. -/
def weightedTile (w : BitVec 32) (hw : w.toNat < 32) (src : Memref sig .tc .vmem S64x4096 .f32) (mw : FVec F S64x256 .f32)
    (c : ℕ) (hc : c < 16) : KProg F (FVec F S64x128 .f32 × FVec F S64x256 .f32) := do
  let s ← ldS src c hc
  let sc ← ldWs w hw c hc
  let v ← ldW bV w hw c hc
  pure (vFoldAdd (vE s mw), vPV (vE s mw) sc v)

/-- The tiles from `c` on, two at a time, under the running sums. -/
def weightedFrom (w : BitVec 32) (hw : w.toNat < 32) (src : Memref sig .tc .vmem S64x4096 .f32) (mw : FVec F S64x256 .f32) :
    (r c : ℕ) → c + 2 * r = 16 → FVec F S64x128 .f32 → FVec F S64x256 .f32 → FVec F S64x256 .f32 →
      KProg F (FVec F S64x128 .f32 × FVec F S64x256 .f32 × FVec F S64x256 .f32)
  | 0, _, _, l, o0, o1 => pure (l, o0, o1)
  | r + 1, c, h, l, o0, o1 => do
    let d0 ← weightedTile w hw src mw c (by omega)
    let d1 ← weightedTile w hw src mw (c + 1) (by omega)
    weightedFrom w hw src mw r (c + 2) (by omega) (addf (addf l d0.1) d1.1) (addf o0 d0.2) (addf o1 d1.2)

/-- The weighted values of a chunk, whose scores are in `src`, added to the sums. -/
def weighted (w : BitVec 32) (hw : w.toNat < 32) (src : Memref sig .tc .vmem S64x4096 .f32) (m al : FVec F S64x128 .f32) : KProg F PUnit := do
  let l ← ld128 bL
  let d0 ← weightedTile w hw src (vWide m) 0 (by omega)
  let d1 ← weightedTile w hw src (vWide m) 1 (by omega)
  let r ← weightedFrom w hw src (vWide m) 7 2 rfl (addf (addf (mulf l al) d0.1) d1.1) d0.2 d1.2
  let _ ← ld128 bL
  st128 bL (vC128 r.1)
  let acc ← ld256 bAcc
  let _ ← ld256 bAcc
  st256 bAcc (vC256 (vAcc acc (vWide al) r.2.1 r.2.2))

/-! ## A step -/

/-- Store the new maximum and the factor to it. -/
def stMAl (r : FVec F S64x128 .f32 × FVec F S64x128 .f32) : KProg F PUnit := do
  let _ ← ld128 bM
  st128 bM (vC128 r.1)
  let _ ← ld128 bAl
  st128 bAl (vC128 r.2)

/-- Step `w` without the copies it starts: the scores of the next chunk, the weighted values of this one. -/
def stepCore (w w' : BitVec 32) (hw : w.toNat < 32) (hw' : w'.toNat < 32) (cur nxt : Memref sig .tc .vmem S64x4096 .f32) : KProg F PUnit := do
  waitV w hw
  waitVs w hw
  waitK w' hw'
  let m ← ld128 bM
  let al ← ld128 bAl
  let r ← scores w' hw' nxt
  weighted w hw cur m al
  stMAl r

/-- The last step: no next chunk. -/
def stepLast (w : BitVec 32) (hw : w.toNat < 32) (cur : Memref sig .tc .vmem S64x4096 .f32) : KProg F PUnit := do
  waitV w hw
  waitVs w hw
  let m ← ld128 bM
  let al ← ld128 bAl
  weighted w hw cur m al

/-- The program's conditions "chunk `w` exists". -/
def condW (w : BitVec 32) : BitVec 1 := Scalar.cmpi .ne (Scalar.extui (Scalar.cmpi .slt w 32#32) : BitVec 32) 0#32

end Cert.Kernel.Steps
-- ==== Proof.Kernel.Body.lean ====
/-
  The printed body of the kernel is the composition of the steps of `Pieces`.
-/
module

public import proofs.«01_k».proof.Proof.Kernel.Pieces
public import Idealize.ShloMosaic.Lib.Pipeline.Regions

@[expose] public section

set_option maxRecDepth 65536

noncomputable section

namespace Cert.Kernel.Steps

open Idealize.ShloMosaic Idealize.SL.Sem
open Facts₀ Facts
open Cert.Kernel.Gen (k0_t1_body k0_pay1 k0_pay2 k0_pay211 k0_pay212 k0_pay213 k0_pay214 k0_pay215 k0_pay216 k0_pay217 k0_pay219 k0_pay220 k0_pay221 k0_pay222 k0_pay224 k0_pay225 k0_pay226 k0_pay227 k0_pay228 k0_pay229 k0_pay230 k0_pay232 k0_pay233 k0_pay234 k0_pay235 k0_pay237 k0_pay238 k0_pay240 k0_pay241 k0_pay242 k0_pay243 k0_pay455 k0_pay456 k0_pay457 k0_pay458 k0_pay459 k0_pay460 k0_pay461 k0_pay462 k0_pay463 k0_pay464 k0_pay465 k0_pay466 k0_pay467 k0_pay468 k0_pay469 k0_pay470 k0_pay471 k0_pay472 k0_pay473 k0_pay474 k0_pay475)

variable {F : FTy → Type} [FloatOps F]

/-! ## Copies under a condition -/

theorem cond_fin : ∀ n : Fin 64, condW (BitVec.ofNat 32 n.val) = 1#1 → n.val < 32 := by decide
theorem cond_fin' : ∀ n : Fin 64, n.val < 32 → condW (BitVec.ofNat 32 n.val) = 1#1 := by decide
theorem cond_lt {w : BitVec 32} (hs : w.toNat < 64) (h : condW w = 1#1) : w.toNat < 32 := by
  rw [word_eq (w := w)] at h
  exact cond_fin ⟨w.toNat, hs⟩ h

/-- A program under a condition, in front of another. -/
def guardC {α : Type} (c : Prop) [Decidable c] (a : c → KProg F PUnit) (k : KProg F α) : KProg F α :=
  if h : c then a h >>= fun _ => k else k
/-- A program under a condition. -/
def guardP (c : Prop) [Decidable c] (a : c → KProg F PUnit) : KProg F PUnit := if h : c then a h else pure ⟨⟩
theorem guardC_eq {α : Type} (c : Prop) [Decidable c] (a : c → KProg F PUnit) (k : KProg F α) :
    guardC c a k = guardP c a >>= fun _ => k := by
  unfold guardC guardP; split <;> rfl

/-- Start the copy of the keys of chunk `w`, and of the values of chunk `w`, if there is one. -/
def tryK (w : BitVec 32) (hs : w.toNat < 64) : KProg F PUnit := guardP (condW w = 1#1) fun h => startK w (cond_lt hs h)
def tryV (w : BitVec 32) (hs : w.toNat < 64) : KProg F PUnit :=
  guardP (condW w = 1#1) fun h => do startV w (cond_lt hs h); startVs w (cond_lt hs h)

/-! ## The loop's words -/

def wA (t : Fin k0_t1_loop.trips) : BitVec 32 :=
  Scalar.muli 2#32 (Scalar.addi 0#32 (Scalar.muli (Scf.iv 0#32 1#32 t.val) 1#32))
def wB (t : Fin k0_t1_loop.trips) : BitVec 32 :=
  Scalar.addi (Scalar.muli 2#32 (Scalar.addi 0#32 (Scalar.muli (Scf.iv 0#32 1#32 t.val) 1#32))) 1#32

theorem trips_eq : k0_t1_loop.trips = 15 := by decide
theorem t_lt (t : Fin k0_t1_loop.trips) : t.val < 15 := lt_of_lt_of_eq t.isLt trips_eq
theorem wA_eq (t : Fin k0_t1_loop.trips) : wA t = BitVec.ofNat 32 (2 * t.val) := by
  revert t; decide
theorem wB_eq (t : Fin k0_t1_loop.trips) : wB t = BitVec.ofNat 32 (2 * t.val + 1) := by
  revert t; decide
theorem wA1_eq (t : Fin k0_t1_loop.trips) : Scalar.addi (wA t) 1#32 = BitVec.ofNat 32 (2 * t.val + 1) := by
  revert t; decide
theorem wB1_eq (t : Fin k0_t1_loop.trips) : Scalar.addi (wB t) 1#32 = BitVec.ofNat 32 (2 * t.val + 2) := by
  revert t; decide
theorem wA4_eq (t : Fin k0_t1_loop.trips) : Scalar.addi (wA t) 4#32 = BitVec.ofNat 32 (2 * t.val + 4) := by
  revert t; decide
theorem wA5_eq (t : Fin k0_t1_loop.trips) : Scalar.addi (Scalar.addi (wA t) 1#32) 4#32 = BitVec.ofNat 32 (2 * t.val + 5) := by
  revert t; decide
theorem wB4_eq (t : Fin k0_t1_loop.trips) : Scalar.addi (wB t) 4#32 = BitVec.ofNat 32 (2 * t.val + 5) := by
  revert t; decide
theorem wB5_eq (t : Fin k0_t1_loop.trips) : Scalar.addi (Scalar.addi (wB t) 1#32) 4#32 = BitVec.ofNat 32 (2 * t.val + 6) := by
  revert t; decide

theorem ofNat_lt {n b : ℕ} (h : n < b) (hb : b ≤ 64) : (BitVec.ofNat 32 n).toNat < b := by
  rw [BitVec.toNat_ofNat, Nat.mod_eq_of_lt (by omega)]; exact h
theorem wA_lt (t : Fin k0_t1_loop.trips) : (wA t).toNat < 32 := by
  have := t_lt t; rw [wA_eq]; exact ofNat_lt (by omega) (by omega)
theorem wB_lt (t : Fin k0_t1_loop.trips) : (wB t).toNat < 32 := by
  have := t_lt t; rw [wB_eq]; exact ofNat_lt (by omega) (by omega)
theorem wA1_lt (t : Fin k0_t1_loop.trips) : (Scalar.addi (wA t) 1#32).toNat < 32 := by
  have := t_lt t; rw [wA1_eq]; exact ofNat_lt (by omega) (by omega)
theorem wB1_lt (t : Fin k0_t1_loop.trips) : (Scalar.addi (wB t) 1#32).toNat < 32 := by
  have := t_lt t; rw [wB1_eq]; exact ofNat_lt (by omega) (by omega)
theorem wA4_lt (t : Fin k0_t1_loop.trips) : (Scalar.addi (wA t) 4#32).toNat < 64 := by
  have := t_lt t; rw [wA4_eq]; exact ofNat_lt (by omega) (by omega)
theorem wA5_lt (t : Fin k0_t1_loop.trips) : (Scalar.addi (Scalar.addi (wA t) 1#32) 4#32).toNat < 64 := by
  have := t_lt t; rw [wA5_eq]; exact ofNat_lt (by omega) (by omega)
theorem wB4_lt (t : Fin k0_t1_loop.trips) : (Scalar.addi (wB t) 4#32).toNat < 64 := by
  have := t_lt t; rw [wB4_eq]; exact ofNat_lt (by omega) (by omega)
theorem wB5_lt (t : Fin k0_t1_loop.trips) : (Scalar.addi (Scalar.addi (wB t) 1#32) 4#32).toNat < 64 := by
  have := t_lt t; rw [wB5_eq]; exact ofNat_lt (by omega) (by omega)

/-! ## The loop's body -/

/-- Step `w` up to its last store: the factor it stores. -/
def stepPre (w w' : BitVec 32) (hw : w.toNat < 32) (hw' : w'.toNat < 32) (cur nxt : Memref sig .tc .vmem S64x4096 .f32) : KProg F (FVec F S64x128 .f32) := do
  waitV w hw
  waitVs w hw
  waitK w' hw'
  let m ← ld128 bM
  let al ← ld128 bAl
  let r ← scores w' hw' nxt
  weighted w hw cur m al
  let _ ← ld128 bM
  st128 bM (vC128 r.1)
  let _ ← ld128 bAl
  pure r.2

theorem stepCore_eq (w w' : BitVec 32) (hw : w.toNat < 32) (hw' : w'.toNat < 32) (cur nxt : Memref sig .tc .vmem S64x4096 .f32) :
    (stepCore w w' hw hw' cur nxt : KProg F PUnit) = stepPre w w' hw hw' cur nxt >>= fun a => st128 bAl (vC128 a) := by
  simp only [stepCore, stepPre, stMAl, bind_assoc, pure_bind]

/-- Two steps: the loop's body. -/
def loopStep (t : Fin k0_t1_loop.trips) : KProg F PUnit := do
  stepCore (wA t) (Scalar.addi (wA t) 1#32) (wA_lt t) (wA1_lt t) bA bB
  tryK (Scalar.addi (Scalar.addi (wA t) 1#32) 4#32) (wA5_lt t)
  tryV (Scalar.addi (wA t) 4#32) (wA4_lt t)
  stepCore (wB t) (Scalar.addi (wB t) 1#32) (wB_lt t) (wB1_lt t) bB bA
  tryK (Scalar.addi (Scalar.addi (wB t) 1#32) 4#32) (wB5_lt t)
  tryV (Scalar.addi (wB t) 4#32) (wB4_lt t)

/-- The second half after its first two waits. -/
def stepPost (w' : BitVec 32) (w : BitVec 32) (hw : w.toNat < 32) (hw' : w'.toNat < 32) (cur nxt : Memref sig .tc .vmem S64x4096 .f32) : KProg F PUnit := do
  waitK w' hw'
  let m ← ld128 bM
  let al ← ld128 bAl
  let r ← scores w' hw' nxt
  weighted w hw cur m al
  stMAl r

theorem stepCore_eq' (w w' : BitVec 32) (hw : w.toNat < 32) (hw' : w'.toNat < 32) (cur nxt : Memref sig .tc .vmem S64x4096 .f32) :
    (stepCore w w' hw hw' cur nxt : KProg F PUnit) = waitV w hw >>= fun _ => waitVs w hw >>= fun _ => stepPost w' w hw hw' cur nxt := by
  simp only [stepCore, stepPost, bind_assoc, pure_bind]

theorem part18_eq (o : Memref sig .tc .vmem S2x2048 .bf16) (ho : o.IsWhole) (t : Fin k0_t1_loop.trips) (al : FVec F S64x128 .f32) :
    (k0_part18 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 t (Scalar.addi 0#32 (Scalar.muli (Scf.iv 0#32 1#32 t.val) 1#32)) (wA t) al : KProg F (BitVec 32)) = (do
      st128 bAl (vC128 al)
      guardC (k0_cond1 t = 1#1) (fun h => startK (Scalar.addi (Scalar.addi (wA t) 1#32) 4#32) (cond_lt (wA5_lt t) h)) (
       guardC (k0_cond2 t = 1#1) (fun h => do startV (Scalar.addi (wA t) 4#32) (cond_lt (wA4_lt t) h); startVs (Scalar.addi (wA t) 4#32) (cond_lt (wA4_lt t) h)) (do
        waitV (wB t) (wB_lt t)
        waitVs (wB t) (wB_lt t)
        pure (wB t)))) := by
  chain_rfl

theorem part35_eq (o : Memref sig .tc .vmem S2x2048 .bf16) (ho : o.IsWhole) (t : Fin k0_t1_loop.trips) :
    (k0_part35 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 0#32 1#32 t : KProg F (Σ' (_ : BitVec 32), BitVec 32)) = (do
      let al ← stepPre (wA t) (Scalar.addi (wA t) 1#32) (wA_lt t) (wA1_lt t) bA bB
      let v ← k0_part18 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 t (Scalar.addi 0#32 (Scalar.muli (Scf.iv 0#32 1#32 t.val) 1#32)) (wA t) al
      stepPost (Scalar.addi (wB t) 1#32) (wB t) (wB_lt t) (wB1_lt t) bB bA
      pure ⟨v, Scalar.extui (Scalar.cmpi .slt (Scalar.addi (Scalar.addi v 1#32) 4#32) 32#32)⟩) := by
  chain_rfl

theorem t1_body_eq (o : Memref sig .tc .vmem S2x2048 .bf16) (ho : o.IsWhole) (x y z : FVec F S64x128 .f32) (t : Fin k0_t1_loop.trips) :
    (k0_t1_body (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z t () : KProg F Unit) = k0_part35 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 0#32 1#32 t >>= fun _ =>
      guardC (k0_cond3 t = 1#1) (fun h => startK (Scalar.addi (Scalar.addi (wB t) 1#32) 4#32) (cond_lt (wB5_lt t) h)) (
       guardC (k0_cond4 t = 1#1) (fun h => do startV (Scalar.addi (wB t) 4#32) (cond_lt (wB4_lt t) h); startVs (Scalar.addi (wB t) 4#32) (cond_lt (wB4_lt t) h)) (
        pure ())) := by
  chain_rfl

theorem loop_eq (o : Memref sig .tc .vmem S2x2048 .bf16) (ho : o.IsWhole) (x y z : FVec F S64x128 .f32) (t : Fin k0_t1_loop.trips) :
    (k0_t1_body (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z t () : KProg F Unit) = loopStep t >>= fun _ => pure () := by
  rw [t1_body_eq, part35_eq]
  simp only [part18_eq, guardC_eq, bind_assoc, pure_bind, loopStep, stepCore_eq (wA t), stepCore_eq' (wB t), tryK, tryV]
  chain_rfl

/-! ## The prologue -/

/-- The whole operands: one copy each, under semaphore `j` of the nine. -/
abbrev sem9 (j : ℕ) (hj : ∀ a, (![j] : Fin 1 → ℕ) a + S1.size a ≤ S9.size a) : DmaSem sig :=
  ((cc0_scratch19.slice (Rect.unit (s := S9) ![j] S1.size hj)).squeeze S_ squeezes_S1_S_).sem
def startW {sp : Space} {s : Shape} {e : EltTy} (src : Memref sig .tc .hbm s e) (dst : Memref sig .tc sp s e) (j : ℕ)
    (hj : ∀ a, (![j] : Fin 1 → ℕ) a + S1.size a ≤ S9.size a) (hs : src.IsWhole) (hd : dst.IsWhole)
    (hl : (DmaTarget.here (nD := nD) (τ := τ) (p := Proc.tc) dst).Typed .hbm (.dma (sem9 j hj))) : KProg F PUnit :=
  Prog.lift (.enqueueDma src (.here dst) (.dma (sem9 j hj)) hs.wordExact hd.wordExact hl)
def waitW {sp : Space} {s : Shape} {e : EltTy} (src : Memref sig .tc .hbm s e) (dst : Memref sig .tc sp s e) (j : ℕ)
    (hj : ∀ a, (![j] : Fin 1 → ℕ) a + S1.size a ≤ S9.size a) (hs : src.IsWhole) (hd : dst.IsWhole) : KProg F PUnit :=
  Prog.lift (.waitDma2 (sem9 j hj) src dst hs.wordExact hd.wordExact)

abbrev aX : Memref sig .tc .hbm S64x64 .bf16 := Memref.whole main_v0
abbrev aKn : Memref sig .tc .hbm S2x4x64 .bf16 := Memref.whole main_v1
abbrev aVn : Memref sig .tc .hbm S2x4x64 .bf16 := Memref.whole main_v2
abbrev aPKs : Memref sig .tc .hbm S4x64 .f32 := Memref.whole main_arg4
abbrev aTK : Memref sig .tc .hbm S2x256x1024 .fp8e4m3 := Memref.whole main_v9
abbrev aTKs : Memref sig .tc .hbm S2x4x1024 .f32 := Memref.whole main_v10
abbrev aTV : Memref sig .tc .hbm S2x256x1024 .fp8e4m3 := Memref.whole main_v12
abbrev aTVs : Memref sig .tc .hbm S2x4x1024 .f32 := Memref.whole main_v13
abbrev aLen : Memref sig .tc .hbm S2 .i32 := Memref.whole main_arg11

def startsW : KProg F PUnit := do
  startW aX bX 0 inb_S9_S1_0 (Memref.isWhole_whole _) (Memref.isWhole_whole _) ⟨Or.inl rfl, trivial⟩
  startW aPKs bPKs 1 inb_S9_S1_1 (Memref.isWhole_whole _) (Memref.isWhole_whole _) ⟨Or.inl rfl, trivial⟩
  startW aKn bKn 2 inb_S9_S1_2 (Memref.isWhole_whole _) (Memref.isWhole_whole _) ⟨Or.inl rfl, trivial⟩
  startW aVn bVn 3 inb_S9_S1_3 (Memref.isWhole_whole _) (Memref.isWhole_whole _) ⟨Or.inl rfl, trivial⟩
  startW aLen bLen 4 inb_S9_S1_4 (Memref.isWhole_whole _) (Memref.isWhole_whole _) ⟨Or.inl rfl, trivial⟩
  startW aTK bTK 5 inb_S9_S1_5 (Memref.isWhole_whole _) (Memref.isWhole_whole _) ⟨Or.inl rfl, trivial⟩
  startW aTKs bTKs 6 inb_S9_S1_6 (Memref.isWhole_whole _) (Memref.isWhole_whole _) ⟨Or.inl rfl, trivial⟩
  startW aTV bTV 7 inb_S9_S1_7 (Memref.isWhole_whole _) (Memref.isWhole_whole _) ⟨Or.inl rfl, trivial⟩
  startW aTVs bTVs 8 inb_S9_S1_8 (Memref.isWhole_whole _) (Memref.isWhole_whole _) ⟨Or.inl rfl, trivial⟩
def waitsW : KProg F PUnit := do
  waitW aX bX 0 inb_S9_S1_0 (Memref.isWhole_whole _) (Memref.isWhole_whole _)
  waitW aPKs bPKs 1 inb_S9_S1_1 (Memref.isWhole_whole _) (Memref.isWhole_whole _)
  waitW aKn bKn 2 inb_S9_S1_2 (Memref.isWhole_whole _) (Memref.isWhole_whole _)
  waitW aVn bVn 3 inb_S9_S1_3 (Memref.isWhole_whole _) (Memref.isWhole_whole _)
  waitW aLen bLen 4 inb_S9_S1_4 (Memref.isWhole_whole _) (Memref.isWhole_whole _)
  waitW aTK bTK 5 inb_S9_S1_5 (Memref.isWhole_whole _) (Memref.isWhole_whole _)
  waitW aTKs bTKs 6 inb_S9_S1_6 (Memref.isWhole_whole _) (Memref.isWhole_whole _)
  waitW aTV bTV 7 inb_S9_S1_7 (Memref.isWhole_whole _) (Memref.isWhole_whole _)
  waitW aTVs bTVs 8 inb_S9_S1_8 (Memref.isWhole_whole _) (Memref.isWhole_whole _)

/-- The three copies of chunk `n`. -/
def start3 (n : ℕ) (hn : (BitVec.ofNat 32 n).toNat < 32) : KProg F PUnit := do
  startK (BitVec.ofNat 32 n) hn
  startV (BitVec.ofNat 32 n) hn
  startVs (BitVec.ofNat 32 n) hn
def starts3 : KProg F PUnit := do
  start3 0 (by decide)
  start3 1 (by decide)
  start3 2 (by decide)
  start3 3 (by decide)

/-- What the prologue loads before its first store of a sum. -/
structure ProIn (F : FTy → Type) where
  x : Vec F S64x64 .bf16
  pks : Vec F S4x64 .f32
  kn0 : Vec F S1x4x64 .bf16
  kn1 : Vec F S1x4x64 .bf16
  tk0 : Vec F S1x256x1024 .fp8e4m3
  tks0 : Vec F S1x4x1024 .f32
  len0 : Elt F .i32
  tk1 : Vec F S1x256x1024 .fp8e4m3
  tks1 : Vec F S1x4x1024 .f32
  len1 : Elt F .i32
  vn0 : Vec F S1x4x64 .bf16
  vn1 : Vec F S1x4x64 .bf16

/-- The mask of the block diagonal, and what the prologue computes. -/
def pMaskArgs {β : Type} (k : IVec S64x256 32 → IVec S64x256 32 → BitVec 32 → IVec S64x256 32 → IVec S64x256 32 → BitVec 32 → BitVec 1 → β) : β :=
  k (iota .tc S64x256 32 [1] iota_S64x256_d1_w32)
    (k0_pay214 (iota .tc S64x256 32 [0] iota_S64x256_d0_w32) 8#32 k0_pay211 k0_pay212 k0_pay213) 64#32
    (k0_pay215 (iota .tc S64x256 32 [1] iota_S64x256_d1_w32)) (k0_pay216 (iota .tc S64x256 32 [1] iota_S64x256_d1_w32))
    (Scalar.extui (Scalar.cmpi .sgt 64#32 0#32)) (Scalar.cmpi .slt 64#32 0#32)
def pMask : IVec S64x256 1 := pMaskArgs fun a b c d e f g => k0_pay217 a b c d e f g
def pQf (I : ProIn F) : FVec F S64x256 .f32 := pMaskArgs fun a b c d e f g => k0_pay219 a b c d e f g I.x
def pQ (x : Vec F S64x64 .bf16) (pks : Vec F S4x64 .f32) : FVec F S64x256 .bf16 := pMaskArgs fun a b c d e f g => k0_pay220 a b c d e f g x pks
def p221 (I : ProIn F) : FVec F S64x128 .f32 := k0_pay222 (pQf I) (k0_pay221 I.kn0) I.kn1
def p248 (I : ProIn F) : FVec F S32x1024 .f32 := k0_pay224 (pQf I) I.tk0 I.tks0 I.len0
def p274 (I : ProIn F) : FVec F S32x1024 .f32 := k0_pay227 (k0_pay225 (pQf I)) (k0_pay226 I.tk1) I.tks1 I.len1
def p304 (I : ProIn F) : FVec F S32x128 .f32 := k0_pay229 (k0_pay225 (pQf I)) (k0_pay226 I.tk1) I.tks1 I.len1
def pM (I : ProIn F) : FVec F S64x128 .f32 := k0_pay230 (p221 I) (p274 I) (k0_pay228 (p248 I)) (p304 I)
def p323 (I : ProIn F) : FVec F S64x128 .f32 := k0_pay232 (p221 I) (p274 I) (k0_pay228 (p248 I)) (p304 I)
def p348 (I : ProIn F) : FVec F S64x256 .f32 := k0_pay233 (p221 I) (p274 I) (k0_pay228 (p248 I)) (p304 I) I.vn0 I.vn1
def p352 (I : ProIn F) : FVec F S32x1024 .f32 := k0_pay234 (p221 I) (p248 I) (p274 I) (k0_pay228 (p248 I)) (p304 I)
def pL0 (I : ProIn F) : FVec F S32x128 .f32 := k0_pay237 (p323 I) (p352 I) k0_pay235
def pL1 (I : ProIn F) : FVec F S32x128 .f32 := k0_pay240 (p274 I) (pM I) (p323 I)
def pA0 (I : ProIn F) (tvs0 : Vec F S1x4x1024 .f32) (tv0 : Vec F S1x256x1024 .fp8e4m3) : FVec F S32x256 .f32 := k0_pay238 (p348 I) (p352 I) k0_pay235 tvs0 tv0
def pA1 (I : ProIn F) (tvs1 : Vec F S1x4x1024 .f32) (tv1 : Vec F S1x256x1024 .fp8e4m3) : FVec F S32x256 .f32 :=
  k0_pay242 (k0_pay241 (p274 I) (pM I) (p348 I) tvs1 tv1)

/-- Loads and stores of the prologue. -/
def ldX : KProg F (Vec F S64x64 .bf16) := Prog.lift (.load bX (Rect.unit (s := S64x64) ![0, 0] S64x64.size inb_S64x64_S64x64_0_0).toLoadRect (View.loadsAt_vmem h_S64x64))
def ldPKs : KProg F (Vec F S4x64 .f32) := Prog.lift (.load bPKs (Rect.unit (s := S4x64) ![0, 0] S4x64.size inb_S4x64_S4x64_0_0).toLoadRect (View.loadsAt_vmem h_S4x64))
def stQ (v : FVec F S64x256 .bf16) : KProg F PUnit :=
  Prog.lift (.store bQ (Rect.unit (s := S64x256) ![0, 0] S64x256.size inb_S64x256_S64x256_0_0) v Finset.univ (View.stores_vmem h_S64x256 ((Memref.isWhole_whole cc0_scratch14).storeExact_slice rfl _ packedbf16_S64x256_S64x256_0_0) (fun _ => rfl)) (.inl rfl))
def ldN (b : Memref sig .tc .vmem S2x4x64 .bf16) (i : ℕ) (hi : ∀ a, (![i, 0, 0] : Fin 3 → ℕ) a + S1x4x64.size a ≤ S2x4x64.size a) : KProg F (Vec F S1x4x64 .bf16) :=
  Prog.lift (.load b (Rect.unit (s := S2x4x64) ![i, 0, 0] S1x4x64.size hi).toLoadRect (View.loadsAt_vmem h_S1x4x64))
def ldT (b : Memref sig .tc .vmem S2x256x1024 .fp8e4m3) (i : ℕ) (hi : ∀ a, (![i, 0, 0] : Fin 3 → ℕ) a + S1x256x1024.size a ≤ S2x256x1024.size a) : KProg F (Vec F S1x256x1024 .fp8e4m3) :=
  Prog.lift (.load b (Rect.unit (s := S2x256x1024) ![i, 0, 0] S1x256x1024.size hi).toLoadRect (View.loadsAt_vmem h_S1x256x1024))
def ldTs (b : Memref sig .tc .vmem S2x4x1024 .f32) (i : ℕ) (hi : ∀ a, (![i, 0, 0] : Fin 3 → ℕ) a + S1x4x1024.size a ≤ S2x4x1024.size a) : KProg F (Vec F S1x4x1024 .f32) :=
  Prog.lift (.load b (Rect.unit (s := S2x4x1024) ![i, 0, 0] S1x4x1024.size hi).toLoadRect (View.loadsAt_vmem h_S1x4x1024))
def ldLen (i : ℕ) (hi : ∀ a, (![i] : Fin 1 → ℕ) a + S1.size a ≤ S2.size a) : KProg F (Elt F .i32) :=
  smemLoad bLen (Rect.unit (s := S2) ![i] S1.size hi) numel1_S1 rfl
def ldL32 (i : ℕ) (hi : ∀ a, (![i, 0] : Fin 2 → ℕ) a + S32x128.size a ≤ S64x128.size a) : KProg F (Vec F S32x128 .f32) :=
  Prog.lift (.load bL (Rect.unit (s := S64x128) ![i, 0] S32x128.size hi).toLoadRect (View.loadsAt_vmem h_S32x128))
def stL32 (i : ℕ) (hi : ∀ a, (![i, 0] : Fin 2 → ℕ) a + S32x128.size a ≤ S64x128.size a) (v : FVec F S32x128 .f32) : KProg F PUnit :=
  Prog.lift (.store bL (Rect.unit (s := S64x128) ![i, 0] S32x128.size hi) v Finset.univ (View.stores_vmem_bits_univ h_S32x128 rfl) (.inl rfl))
def ldA32 (i : ℕ) (hi : ∀ a, (![i, 0] : Fin 2 → ℕ) a + S32x256.size a ≤ S64x256.size a) : KProg F (Vec F S32x256 .f32) :=
  Prog.lift (.load bAcc (Rect.unit (s := S64x256) ![i, 0] S32x256.size hi).toLoadRect (View.loadsAt_vmem h_S32x256))
def stA32 (i : ℕ) (hi : ∀ a, (![i, 0] : Fin 2 → ℕ) a + S32x256.size a ≤ S64x256.size a) (v : FVec F S32x256 .f32) : KProg F PUnit :=
  Prog.lift (.store bAcc (Rect.unit (s := S64x256) ![i, 0] S32x256.size hi) v Finset.univ (View.stores_vmem_bits_univ h_S32x256 rfl) (.inl rfl))

/-- The queries, and the loads of the prologue. -/
def proLoads : KProg F (ProIn F) := do
  let x ← ldX
  let pks ← ldPKs
  let _ ← ldQ
  stQ (pQ x pks)
  let kn0 ← ldN bKn 0 inb_S2x4x64_S1x4x64_0_0_0
  let kn1 ← ldN bKn 1 inb_S2x4x64_S1x4x64_1_0_0
  let tk0 ← ldT bTK 0 inb_S2x256x1024_S1x256x1024_0_0_0
  let tks0 ← ldTs bTKs 0 inb_S2x4x1024_S1x4x1024_0_0_0
  let len0 ← ldLen 0 inb_S2_S1_0
  let tk1 ← ldT bTK 1 inb_S2x256x1024_S1x256x1024_1_0_0
  let tks1 ← ldTs bTKs 1 inb_S2x4x1024_S1x4x1024_1_0_0
  let len1 ← ldLen 1 inb_S2_S1_1
  let vn0 ← ldN bVn 0 inb_S2x4x64_S1x4x64_0_0_0
  let vn1 ← ldN bVn 1 inb_S2x4x64_S1x4x64_1_0_0
  pure ⟨x, pks, kn0, kn1, tk0, tks0, len0, tk1, tks1, len1, vn0, vn1⟩

/-- The first sums and the first maximum, stored. -/
def proStores (I : ProIn F) : KProg F PUnit := do
  let _ ← ldL32 0 inb_S64x128_S32x128_0_0
  stL32 0 inb_S64x128_S32x128_0_0 (pL0 I)
  let tvs0 ← ldTs bTVs 0 inb_S2x4x1024_S1x4x1024_0_0_0
  let tv0 ← ldT bTV 0 inb_S2x256x1024_S1x256x1024_0_0_0
  let _ ← ldA32 0 inb_S64x256_S32x256_0_0
  stA32 0 inb_S64x256_S32x256_0_0 (pA0 I tvs0 tv0)
  let _ ← ldL32 32 inb_S64x128_S32x128_32_0
  stL32 32 inb_S64x128_S32x128_32_0 (pL1 I)
  let tvs1 ← ldTs bTVs 1 inb_S2x4x1024_S1x4x1024_1_0_0
  let tv1 ← ldT bTV 1 inb_S2x256x1024_S1x256x1024_1_0_0
  let _ ← ldA32 32 inb_S64x256_S32x256_32_0
  stA32 32 inb_S64x256_S32x256_32_0 (pA1 I tvs1 tv1)
  let _ ← ld128 bM
  st128 bM (vC128 (pM I))

def prologue : KProg F PUnit := do
  startsW
  starts3
  waitsW
  let I ← proLoads
  proStores I
  waitK 0#32 (by decide)

/-! ## The epilogue -/

/-- The heads' values: the quotient of the sums on the block diagonal, its four blocks added. -/
def eOut (l : Vec F S64x128 .f32) (acc : Vec F S64x256 .f32) : FVec F S64x64 .f32 := k0_pay455 pMask l acc
def eRow0 (l : Vec F S64x128 .f32) (acc : Vec F S64x256 .f32) : FVec F S1x2048 .f32 :=
  k0_pay475 (k0_pay455 pMask l acc) (k0_pay456 pMask l acc) (k0_pay457 pMask l acc) (k0_pay458 pMask l acc) (k0_pay459 pMask l acc) (k0_pay460 pMask l acc) (k0_pay461 pMask l acc) (k0_pay462 pMask l acc) (k0_pay463 pMask l acc) (k0_pay464 pMask l acc) (k0_pay465 pMask l acc) (k0_pay466 pMask l acc) (k0_pay467 pMask l acc) (k0_pay468 pMask l acc) (k0_pay469 pMask l acc) (k0_pay470 pMask l acc) (k0_pay471 pMask l acc) (k0_pay472 pMask l acc) (k0_pay473 pMask l acc) (k0_pay474 pMask l acc)
def ldOut (o : Memref sig .tc .vmem S2x2048 .bf16) (i : ℕ) (hi : ∀ a, (![i, 0] : Fin 2 → ℕ) a + S1x2048.size a ≤ S2x2048.size a) : KProg F (Vec F S1x2048 .bf16) :=
  Prog.lift (.load o (Rect.unit (s := S2x2048) ![i, 0] S1x2048.size hi).toLoadRect (View.loadsAt_vmem h_S1x2048))
def stOut (o : Memref sig .tc .vmem S2x2048 .bf16) (ho : o.IsWhole) (i : ℕ) (hi : S2x2048.Slices ![i, 0] S1x2048) (v : FVec F S1x2048 .bf16) : KProg F PUnit :=
  storeSubelements o (Rect.unit (s := S2x2048) ![0, 0] S2x2048.size inb_S2x2048_S2x2048_0_0) (fun old => updateSlice old v ![i, 0] hi) (View.loadsAt_vmem h_S2x2048) (View.stores_vmem h_S2x2048 (ho.storeExact_slice rfl _ packedbf16_S2x2048_S2x2048_0_0) (fun _ => rfl))
def epilogue (o : Memref sig .tc .vmem S2x2048 .bf16) (ho : o.IsWhole) (l : Vec F S64x128 .f32) (acc : Vec F S64x256 .f32) : KProg F PUnit := do
  let _ ← ldOut o 0 inb_S2x2048_S1x2048_0_0
  stOut o ho 0 slices_S2x2048_S1x2048_0_0 (k0_pay1 (eRow0 l acc))
  let _ ← ldOut o 1 inb_S2x2048_S1x2048_1_0
  stOut o ho 1 slices_S2x2048_S1x2048_1_0 (k0_pay2 (eOut l acc))

/-! ## The whole body -/

/-- What the scores of the first chunk leave to store. -/
theorem part52_eq (o : Memref sig .tc .vmem S2x2048 .bf16) (ho : o.IsWhole) (x y z : FVec F S64x128 .f32) :
    (k0_part52 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z : KProg F PUnit) = (do
      let m ← ld128 bM
      stMAl (vMNew m (maximumf x (maximumf y z)), vAl m (vMNew m (maximumf x (maximumf y z))))
      startK 4#32 (by decide)
      let _ ← Scf.Loop.for k0_t1_loop k0_t1_ok ⟨⟩ (k0_t1_body (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z)
      waitV 30#32 (by decide)
      pure ⟨⟩) := by
  chain_rfl

theorem part82_eq (o : Memref sig .tc .vmem S2x2048 .bf16) (ho : o.IsWhole) :
    (k0_part82 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 : KProg F (Σ' (_ : FVec F S64x64 .f32), FVec F S1x2048 .f32)) = (do
      prologue
      let q ← ldQ
      let d ← scoresTile 0#32 (by decide) bA q 0 (by decide)
      let cm ← scoresFrom 0#32 (by decide) bA q 14 1 (by decide) (vFoldMax d)
      let d' ← scoresTile 0#32 (by decide) bA q 15 (by decide)
      k0_part52 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cm (extractStridedSlice S64x128 ![0, 0] d' slices_S64x256_o0_0_S64x128) (extractStridedSlice S64x128 ![0, 128] d' slices_S64x256_o0_128_S64x128)
      waitVs 30#32 (by decide)
      stepPost 31#32 30#32 (by decide) (by decide) bA bB
      stepLast 31#32 (by decide) bB
      let l ← ld128 bL
      let acc ← ld256 bAcc
      pure ⟨eOut l acc, eRow0 l acc⟩) := by
  chain_rfl

theorem root_eq (o : Memref sig .tc .vmem S2x2048 .bf16) (ho : o.IsWhole) :
    (cc0_cascade_decode (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 : KProg F PUnit) = k0_part82 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 >>= fun p => (do
      let _ ← ldOut o 0 inb_S2x2048_S1x2048_0_0
      stOut o ho 0 slices_S2x2048_S1x2048_0_0 (k0_pay1 p.2)
      let _ ← ldOut o 1 inb_S2x2048_S1x2048_1_0
      stOut o ho 1 slices_S2x2048_S1x2048_1_0 (k0_pay2 p.1)) := by
  chain_rfl

/-- The kernel's body. -/
def kBody (o : Memref sig .tc .vmem S2x2048 .bf16) (ho : o.IsWhole) : KProg F PUnit := do
  prologue
  let r ← scores 0#32 (by decide) bA
  stMAl r
  startK 4#32 (by decide)
  let _ ← Scf.Loop.for k0_t1_loop k0_t1_ok () (fun t _ => loopStep t >>= fun _ => pure ())
  stepCore 30#32 31#32 (by decide) (by decide) bA bB
  stepLast 31#32 (by decide) bB
  let l ← ld128 bL
  let acc ← ld256 bAcc
  epilogue o ho l acc

theorem scoresFrom_add (w : BitVec 32) (hw : w.toNat < 32) (dst : Memref sig .tc .vmem S64x4096 .f32) (q : Vec F S64x256 .bf16) :
    ∀ (r c : ℕ) (h : c + (r + 1) ≤ 16) (cm : FVec F S64x128 .f32),
      (scoresFrom w hw dst q (r + 1) c h cm : KProg F _) = scoresFrom w hw dst q r c (by omega) cm >>= fun cm' =>
        scoresTile w hw dst q (c + r) (by omega) >>= fun d => pure (maximumf cm' (vFoldMax d))
  | 0, c, h, cm => by
    simp only [scoresFrom, pure_bind, Nat.add_zero]
  | r + 1, c, h, cm => by
    rw [scoresFrom, scoresFrom]
    simp only [bind_assoc, scoresFrom_add w hw dst q r (c + 1) (by omega), Nat.add_assoc, Nat.add_comm 1 r]

theorem body_eq (o : Memref sig .tc .vmem S2x2048 .bf16) (ho : o.IsWhole) :
    (cc0_cascade_decode (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 : KProg F PUnit) = kBody o ho := by
  have hl : ∀ x y z, (k0_t1_body (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z : _ → Unit → KProg F Unit) = fun t _ => loopStep t >>= fun _ => pure () := by
    intro x y z; funext t u; exact loop_eq o ho x y z t
  rw [root_eq, part82_eq]
  simp only [part52_eq, hl, kBody, scores, stepCore_eq', bind_assoc, pure_bind, epilogue, scoresFrom_add _ _ _ _ 14 1]
  rfl

end Cert.Kernel.Steps
-- ==== Proof.Kernel.Rules.lean ====
/-
  Rules for the operations of the kernel's body.

  A buffer, or a part of one, is held at the vector its memref reads (`owns`). `W` is the weakest precondition of a
  program on one core. A load hands over the vector at the rectangle's indices; a store leaves a vector with the
  stored values at the rectangle's indices and the old ones elsewhere; a copy in flight (`Fly`) hands over, when
  awaited, its destination holding the source's vector.
-/
module

public import proofs.«01_k».proof.Proof.Kernel.Body
public import proofs.«01_k».proof.Proof.Gen.Kernel.Launch
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Kernel.Steps

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The weakest precondition of a program of the kernel on core `c`. -/
def W (c : Dev nD) {α : Type} (p : KProg F α) (Q : α → sProp 𝕄) : sProp 𝕄 :=
  wp frame (wpE (defs₀ (F := F)) 𝒱₀ (c : Thread nD τ) none) Set.univ p Q

variable (c : Dev nD)

theorem W_bind {α β : Type} (p : KProg F α) (k : α → KProg F β) (Q : β → sProp 𝕄) :
    W c (p >>= k) Q = W c p (fun a => W c (k a) Q) := by
  unfold W; exact wp_bind ..
theorem W_pure {α : Type} (a : α) (Q : α → sProp 𝕄) : Q a ⊢ W c (pure a : KProg F α) Q := by
  unfold W
  rw [show (pure a : KProg F α) = Prog.ret a from rfl, wp_ret]
  iintro H; imodintro; iexact H

/-- A load from a memref held. -/
theorem W_load {cs : CoreSpace} {s : Shape} {e : EltTy} (m : Memref sig .tc cs s e) (r : LoadRect s) (hl : m.view.LoadsAt r)
    (q : PosShare TreeShare) (v : s.Idx → Elt F e) (Q : (r.shape.Idx → Elt F e) → sProp 𝕄) :
    (owns (c : Thread nD τ) m q v : sProp 𝕄)
      ⊢ iprop((owns (c : Thread nD τ) m q v -∗ Q (fun j => v (r.idx j))) -∗ W c (Prog.lift (.load m r hl)) Q) := by
  unfold owns W
  iintro ⟨%f, %hf, H⟩ K
  iapply (wp_load (k := Prog.ret) 𝒱₀ (c : Thread nD τ) none Set.univ (m.view.setOn_subset_set _)) $$ H
  iintro H
  rw [wp_ret]; imodintro
  subst hf
  rw [show m.view.readAt (Elt F) r f = fun j => m.view.read (Elt F) f (r.idx j) from rfl]
  iapply K
  iexists f
  isplitr; · ipureintro; rfl
  iexact H

/-- A store to a memref held. -/
theorem W_store {cs : CoreSpace} {s : Shape} {e : EltTy} (m : Memref sig .tc cs s e) (r : Rect s) (w : r.shape.Idx → Elt F e)
    (hx : (m.access r).Stores Finset.univ) (hm) (v : s.Idx → Elt F e) (Q : PUnit → sProp 𝕄) :
    (owns (c : Thread nD τ) m fullShare v : sProp 𝕄)
      ⊢ iprop((∀ v', ⌜(∀ x, v' (r.emb x) = w x) ∧ ∀ y, y ∉ r.set → v' y = v y⌝ -∗ owns (c : Thread nD τ) m fullShare v' -∗ Q ⟨⟩)
        -∗ W c (Prog.lift (.store m r w Finset.univ hx hm)) Q) := by
  unfold owns W
  iintro ⟨%f, %hf, H⟩ K
  ihave H' := (show ((m.view.loc (c : Thread nD τ) ↦[m.view.set]{fullShare} f) : sProp 𝕄) ⊢ ((m.access r).loc (c : Thread nD τ) ↦[m.view.set]{fullShare} f) from .rfl) $$ H
  iapply (wp_store (m := m) (r := r) (w := w) (Mk := Finset.univ) (hx := hx) (hm := hm) (k := Prog.ret) 𝒱₀ (c : Thread nD τ) none Set.univ (m.view.set_slice_subset r)) $$ H'
  iintro H
  rw [wp_ret]; imodintro
  subst hf
  iapply K
  · ipureintro
    refine ⟨fun x => m.view.read_slice_write_emb r f w (Finset.mem_univ x), fun y hy => ?_⟩
    exact m.view.read_slice_write_of_not_mem r f w Finset.univ (by rw [Rect.map_emb_univ]; exact hy)
  iexists _
  isplitr; · ipureintro; rfl
  iexact H

/-! ## Copies -/

/-- A copy in flight on the cell `sem`, of `src` into `dst`, the rest of the source's buffer kept. -/
def Fly {sp : Space} {s : Shape} {e : EltTy} (src : Memref sig .tc .hbm s e) (dst : Memref sig .tc sp s e) (sem : DmaSem sig)
    (q : PosShare TreeShare) (X : Buf (Elt F) (src.view.loc (c : Thread nD τ))) : sProp 𝕄 :=
  iprop(Transfers.Flight countersEmb (c : Thread nD τ) (.dma sem) () dst.view.dmaCredit
      iprop(owns (c : Thread nD τ) dst fullShare (src.view.read (Elt F) X) ∗ (src.view.loc (c : Thread nD τ) ↦[src.view.set]{q} X))
    ∗ (src.view.loc (c : Thread nD τ) ↦[Finset.univ \ src.view.set]{q} X))

/-- A part of a buffer held at anything. -/
def Any {sp : Space} {s : Shape} {e : EltTy} (m : Memref sig .tc sp s e) : sProp 𝕄 :=
  iprop(∃ f, m.view.loc (c : Thread nD τ) ↦[m.view.set]{fullShare} f)

theorem Any_of_owns {sp : Space} {s : Shape} {e : EltTy} (m : Memref sig .tc sp s e) (v : s.Idx → Elt F e) :
    (owns (c : Thread nD τ) m fullShare v : sProp 𝕄) ⊢ Any c m := by
  unfold owns Any
  iintro ⟨%f, -, H⟩; iexists f; iexact H
theorem owns_of_Any {sp : Space} {s : Shape} {e : EltTy} (m : Memref sig .tc sp s e) :
    (Any c m : sProp 𝕄) ⊢ iprop(∃ v, owns (c : Thread nD τ) m fullShare v) := by
  unfold owns Any
  iintro ⟨%f, H⟩; iexists (m.view.read (Elt F) f); iexists f
  isplitr; · ipureintro; rfl
  iexact H

/-- Nothing is owed, whatever has been awaited. -/
def Owes : sProp 𝕄 := iprop(∃ Wt, owes (c : Thread nD τ) 0 Wt)

theorem landed {sp : Space} {s : Shape} {e : EltTy} (src : Memref sig .tc .hbm s e) (dst : Memref sig .tc sp s e)
    (fd : Buf (Elt F) (dst.view.loc (c : Thread nD τ))) (q : PosShare TreeShare) (X : Buf (Elt F) (src.view.loc (c : Thread nD τ))) :
    (iprop((dst.view.loc (c : Thread nD τ) ↦[dst.view.set]{fullShare} (dst.view.write (Elt F) fd (ReadAs.same.apply (src.view.read (Elt F) X)) Finset.univ))
        ∗ (src.view.loc (c : Thread nD τ) ↦[src.view.set]{q} X)) : sProp 𝕄)
      ⊢ iprop(owns (c : Thread nD τ) dst fullShare (src.view.read (Elt F) X) ∗ (src.view.loc (c : Thread nD τ) ↦[src.view.set]{q} X)) := by
  iintro ⟨H1, H2⟩
  isplitl [H1]
  · unfold owns
    iexists (dst.view.write (Elt F) fd (ReadAs.same.apply (src.view.read (Elt F) X)) Finset.univ)
    isplitr; · ipureintro; exact dst.view.read_write_univ _ _
    iexact H1
  iexact H2

theorem W_start {sp : Space} {s : Shape} {e : EltTy} (src : Memref sig .tc .hbm s e) (dst : Memref sig .tc sp s e) (sem : DmaSem sig)
    (hsrc hdst hsem) (hn : 0 < s.numel) (q : PosShare TreeShare) (X : Buf (Elt F) (src.view.loc (c : Thread nD τ))) (Q : PUnit → sProp 𝕄) :
    iprop((src.view.loc (c : Thread nD τ) ↦[Finset.univ]{q} X) ∗ Any c dst ∗ semVal ((c : Thread nD τ), SemLoc.dma sem) 0)
      ⊢ iprop((Fly c src dst sem q X -∗ Q ⟨⟩) -∗ W c (Prog.lift (.enqueueDma src (.here dst) (.dma sem) hsrc hdst hsem)) Q) := by
  unfold W Any
  iintro ⟨Hs, ⟨%fd, Hd⟩, Hv⟩ K
  ihave Hs2 := (pointsTo_split_subset (Finset.subset_univ src.view.set)).1 $$ Hs
  icases Hs2 with ⟨Hs, Hr⟩
  iapply (Transfers.wp_dmaLocal (k := Prog.ret) countersEmb 𝒱₀ (c : Thread nD τ) none () dst.view.dmaCredit rfl (dst.view.dmaCredit_pos hn)
    (Finset.Subset.refl _)) $$ [Hs Hd Hv]
  · isplitl [Hs]; · iexact Hs
    isplitl [Hd]; · iexact Hd
    iexact Hv
  iintro HF
  rw [wp_ret]; imodintro
  iapply K
  unfold Fly
  isplitl [HF]
  · ihave HF' := (Transfers.Flight_mono countersEmb (c : Thread nD τ) (landed c src dst fd q X)) $$ HF
    iexact HF'
  iexact Hr

theorem W_wait {sp : Space} {s : Shape} {e : EltTy} (src : Memref sig .tc .hbm s e) (dst : Memref sig .tc sp s e) (sem : DmaSem sig)
    (hsrc hdst) (q : PosShare TreeShare) (X : Buf (Elt F) (src.view.loc (c : Thread nD τ))) (Q : PUnit → sProp 𝕄) :
    iprop(Fly c src dst sem q X ∗ Owes c)
      ⊢ iprop((iprop(owns (c : Thread nD τ) dst fullShare (src.view.read (Elt F) X) ∗ semVal ((c : Thread nD τ), SemLoc.dma sem) 0
            ∗ (src.view.loc (c : Thread nD τ) ↦[Finset.univ]{q} X) ∗ Owes c) -∗ Q ⟨⟩)
        -∗ W c (Prog.lift (.waitDma2 sem src dst hsrc hdst)) Q) := by
  unfold W Fly Owes
  iintro ⟨⟨HF, Hr⟩, ⟨%Wt, HO⟩⟩ K
  iapply (Transfers.wp_waitLocal (k := Prog.ret) countersEmb 𝒱₀ (c : Thread nD τ) none () rfl) $$ [HF HO]
  · isplitl [HF]; · iexact HF
    iexact HO
  iintro ⟨⟨Hd, Hs⟩, Hv, HO⟩
  rw [wp_ret]; imodintro
  iapply K
  isplitl [Hd]; · iexact Hd
  isplitl [Hv]; · iexact Hv
  isplitl [Hs Hr]
  · iapply (pointsTo_split_subset (Finset.subset_univ src.view.set)).2
    isplitl [Hs]; · iexact Hs
    iexact Hr
  iexists _; iexact HO

end Cert.Kernel.Steps

end
-- ==== Proof.Kernel.Rings.lean ====
/-
  The three rings of the kernel: chunks of keys, values and value scales.

  Chunk `n` travels through slot `n % 4` of its ring, on the slot's own cell, with one of four read shares of the
  operand. `StK n` is the slot of chunk `n` with the chunk in flight, or, past the last chunk, idle. The rules say
  what starting, awaiting and reading a chunk do.
-/
module

public import proofs.«01_k».proof.Proof.Kernel.Rules
public import Idealize.ShloMosaic.Lib.ValueLayout

@[expose] public section

noncomputable section

namespace Cert.Kernel.Steps

open Facts₀ Facts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)

/-! ## Indices -/

theorem w_lt {n : ℕ} (h : n < 32) : (BitVec.ofNat 32 n).toNat < 32 := by
  rw [BitVec.toNat_ofNat]; omega
theorem w_toNat {n : ℕ} (h : n < 32) : (BitVec.ofNat 32 n).toNat = n := by
  rw [BitVec.toNat_ofNat]; omega

/-- Column `x` of tile `c` of a chunk, of chunk `n` of the operand. -/
def lcol (c x : ℕ) : Fin 4096 := ⟨(256 * c + x) % 4096, Nat.mod_lt _ (by decide)⟩
def pcol (n c x : ℕ) : Fin 131072 := ⟨(4096 * n + 256 * c + x) % 131072, Nat.mod_lt _ (by decide)⟩

/-! ## Reading a slot -/

/-- A load from inside a slice, squeezed, of the memref. -/
theorem W_load_slot {cs : CoreSpace} {s s' : Shape} {e : EltTy} (m : Memref sig .tc cs s e) (R : Rect s) (hR : ∀ a, R.stride a = 1)
    (hq : R.shape.Squeezes s') (r : LoadRect s) (hl : m.view.LoadsAt r) (hsub : r.set ⊆ R.toLoadRect.set)
    (φ : r.shape.Idx → s'.Idx) (hφ : ∀ j, r.idx j = R.emb (Shape.reshapeEquiv hq.numel_eq (φ j)))
    (v : s'.Idx → Elt F e) (Q : (r.shape.Idx → Elt F e) → sProp 𝕄) :
    (owns (c : Thread nD τ) ((m.slice R hR).squeeze s' hq) fullShare v : sProp 𝕄)
      ⊢ iprop((owns (c : Thread nD τ) ((m.slice R hR).squeeze s' hq) fullShare v -∗ Q (fun j => v (φ j))) -∗ W c (Prog.lift (.load m r hl)) Q) := by
  unfold owns W
  iintro ⟨%f, %hf, H⟩ K
  ihave H' := (show ((((m.slice R hR).squeeze s' hq).view.loc (c : Thread nD τ) ↦[((m.slice R hR).squeeze s' hq).view.set]{fullShare} f) : sProp 𝕄)
    ⊢ (m.view.loc (c : Thread nD τ) ↦[((m.slice R hR).squeeze s' hq).view.set]{fullShare} f) from .rfl) $$ H
  iapply (wp_load (m := m) (r := r) (hl := hl) (f := f) (k := Prog.ret) 𝒱₀ (c : Thread nD τ) none Set.univ (by
    refine Finset.Subset.trans (Finset.map_subset_map.mpr hsub) (Finset.Subset.trans (subset_of_eq (View.set_slice m.view R).symm) ?_)
    exact subset_of_eq (View.set_reshape (m.view.slice R) hq.numel_eq).symm)) $$ H'
  iintro H
  rw [wp_ret]; imodintro
  subst hf
  rw [show m.view.readAt (Elt F) r f = fun j => ((m.slice R hR).squeeze s' hq).view.read (Elt F) f (φ j) from by
    funext j
    rw [View.readAt_apply, View.read_apply, hφ j]; rfl]
  iapply K
  iexists f
  isplitr; · ipureintro; rfl
  iexact H

/-- The slot of a chunk in a ring of keys or values; of scales. -/
theorem W_ldW (b : Memref sig .tc .vmem S4x256x4096 .fp8e4m3) (w : BitVec 32) (hw : w.toNat < 32) (t : ℕ) (ht : t < 16)
    (v : S256x4096.Idx → Elt F .fp8e4m3) (Q : Vec F S1x256x256 .fp8e4m3 → sProp 𝕄) :
    (owns (c : Thread nD τ) ((b.slice (Rect.unit (s := S4x256x4096) (slotOff w) S1x256x4096.size (slotOff_inb hw)) (fun _ => rfl)).squeeze S256x4096 squeezes_S1x256x4096_S256x4096) fullShare v : sProp 𝕄)
      ⊢ iprop((owns (c : Thread nD τ) ((b.slice (Rect.unit (s := S4x256x4096) (slotOff w) S1x256x4096.size (slotOff_inb hw)) (fun _ => rfl)).squeeze S256x4096 squeezes_S1x256x4096_S256x4096) fullShare v
          -∗ Q (fun j => v (ix2 (j 1) (lcol t (j 2).val)))) -∗ W c (ldW b w hw t ht) Q) := by
  unfold ldW
  refine W_load_slot (F := F) c b _ _ _ (Rect.unit (s := S4x256x4096) (winOff w t) S1x256x256.size (winOff_inb hw ht)).toLoadRect _ ?_
    (fun j : S1x256x256.Idx => (ix2 (j 1) (lcol t (j 2).val) : S256x4096.Idx)) ?_ v Q
  · intro y hy
    have hy := Rect.mem_set_unit.mp hy
    refine Rect.mem_set_unit.mpr fun a => ?_
    have h0 := hy a
    have hlt := (y a).isLt
    match a with
    | 0 => exact h0
    | 1 => exact ⟨Nat.zero_le _, by show _ < 0 + 256; exact (Nat.zero_add 256).symm ▸ hlt⟩
    | 2 => exact ⟨Nat.zero_le _, by show _ < 0 + 4096; exact (Nat.zero_add 4096).symm ▸ hlt⟩
  · intro j
    have e : Shape.reshapeEquiv (squeezes_S1x256x4096_S256x4096.numel_eq) (ix2 (j 1) (lcol t (j 2).val) : S256x4096.Idx)
        = (ix3 (⟨0, Nat.one_pos⟩ : Fin 1) (j 1) (lcol t (j 2).val) : S1x256x4096.Idx) := reshapeEquiv_ix2_1ab _ _ _
    refine Eq.trans ?_ (congrArg (Rect.emb _) e.symm)
    funext a; apply Fin.ext
    have h0 : (j 0).val < 1 := (j 0).isLt
    have h2 : (j 2).val < 256 := (j 2).isLt
    match a with
    | 0 => show (Scalar.remsi w 4#32).toNat + 1 * (j 0).val = (Scalar.remsi w 4#32).toNat + 1 * 0; omega
    | 1 => show 0 + 1 * (j 1).val = 0 + 1 * (j 1).val; rfl
    | 2 => show 256 * t + 1 * (j 2).val = 0 + 1 * ((256 * t + (j 2).val) % 4096); omega
theorem W_ldWs (w : BitVec 32) (hw : w.toNat < 32) (t : ℕ) (ht : t < 16)
    (v : S4x4096.Idx → Elt F .f32) (Q : Vec F S1x4x256 .f32 → sProp 𝕄) :
    (owns (c : Thread nD τ) (slotVs w hw) fullShare v : sProp 𝕄)
      ⊢ iprop((owns (c : Thread nD τ) (slotVs w hw) fullShare v
          -∗ Q (fun j => v (ix2 (j 1) (lcol t (j 2).val)))) -∗ W c (ldWs w hw t ht) Q) := by
  unfold ldWs
  refine W_load_slot (F := F) c bVs _ _ _ (Rect.unit (s := S4x4x4096) (winOff w t) S1x4x256.size (winOff_inb4 hw ht)).toLoadRect _ ?_
    (fun j : S1x4x256.Idx => (ix2 (j 1) (lcol t (j 2).val) : S4x4096.Idx)) ?_ v Q
  · intro y hy
    have hy := Rect.mem_set_unit.mp hy
    refine Rect.mem_set_unit.mpr fun a => ?_
    have h0 := hy a
    have hlt := (y a).isLt
    match a with
    | 0 => exact h0
    | 1 => exact ⟨Nat.zero_le _, by show _ < 0 + 4; exact (Nat.zero_add 4).symm ▸ hlt⟩
    | 2 => exact ⟨Nat.zero_le _, by show _ < 0 + 4096; exact (Nat.zero_add 4096).symm ▸ hlt⟩
  · intro j
    have e : Shape.reshapeEquiv (squeezes_S1x4x4096_S4x4096.numel_eq) (ix2 (j 1) (lcol t (j 2).val) : S4x4096.Idx)
        = (ix3 (⟨0, Nat.one_pos⟩ : Fin 1) (j 1) (lcol t (j 2).val) : S1x4x4096.Idx) := reshapeEquiv_ix2_1ab _ _ _
    refine Eq.trans ?_ (congrArg (Rect.emb _) e.symm)
    funext a; apply Fin.ext
    have h0 : (j 0).val < 1 := (j 0).isLt
    have h2 : (j 2).val < 256 := (j 2).isLt
    match a with
    | 0 => show (Scalar.remsi w 4#32).toNat + 1 * (j 0).val = (Scalar.remsi w 4#32).toNat + 1 * 0; omega
    | 1 => show 0 + 1 * (j 1).val = 0 + 1 * (j 1).val; rfl
    | 2 => show 256 * t + 1 * (j 2).val = 0 + 1 * ((256 * t + (j 2).val) % 4096); omega

/-! ## The state of a slot -/

variable (XK XV : Vec F S256x131072 .fp8e4m3) (XVs : Vec F S4x131072 .f32)

theorem m_lt (n : ℕ) : (BitVec.ofNat 32 (n % 4)).toNat < 32 := w_lt (by omega)

def IdleK (n : ℕ) : sProp 𝕄 :=
  iprop(Any c (slotK (BitVec.ofNat 32 (n % 4)) (m_lt n)) ∗ semVal ((c : Thread nD τ), SemLoc.dma (semK (BitVec.ofNat 32 (n % 4)) (m_lt n)).sem) 0
    ∗ (aPK.view.loc (c : Thread nD τ) ↦[Finset.univ]{Transfers.shareTokN fullShare (n % 4)} XK))
def IdleV (n : ℕ) : sProp 𝕄 :=
  iprop(Any c (slotV (BitVec.ofNat 32 (n % 4)) (m_lt n)) ∗ semVal ((c : Thread nD τ), SemLoc.dma (semV (BitVec.ofNat 32 (n % 4)) (m_lt n)).sem) 0
    ∗ (aPV.view.loc (c : Thread nD τ) ↦[Finset.univ]{Transfers.shareTokN fullShare (n % 4)} XV))
def IdleVs (n : ℕ) : sProp 𝕄 :=
  iprop(Any c (slotVs (BitVec.ofNat 32 (n % 4)) (m_lt n)) ∗ semVal ((c : Thread nD τ), SemLoc.dma (semVs (BitVec.ofNat 32 (n % 4)) (m_lt n)).sem) 0
    ∗ (aPVs.view.loc (c : Thread nD τ) ↦[Finset.univ]{Transfers.shareTokN fullShare (n % 4)} XVs))

def FlyK (n : ℕ) (h : n < 32) : sProp 𝕄 :=
  Fly c (blkK (BitVec.ofNat 32 n) (w_lt h)) (slotK (BitVec.ofNat 32 n) (w_lt h)) (semK (BitVec.ofNat 32 n) (w_lt h)).sem (Transfers.shareTokN fullShare (n % 4)) XK
def FlyV (n : ℕ) (h : n < 32) : sProp 𝕄 :=
  Fly c (blkV (BitVec.ofNat 32 n) (w_lt h)) (slotV (BitVec.ofNat 32 n) (w_lt h)) (semV (BitVec.ofNat 32 n) (w_lt h)).sem (Transfers.shareTokN fullShare (n % 4)) XV
def FlyVs (n : ℕ) (h : n < 32) : sProp 𝕄 :=
  Fly c (blkVs (BitVec.ofNat 32 n) (w_lt h)) (slotVs (BitVec.ofNat 32 n) (w_lt h)) (semVs (BitVec.ofNat 32 n) (w_lt h)).sem (Transfers.shareTokN fullShare (n % 4)) XVs

def StK (n : ℕ) : sProp 𝕄 := if h : n < 32 then FlyK c XK n h else IdleK c XK n
def StV (n : ℕ) : sProp 𝕄 := if h : n < 32 then FlyV c XV n h else IdleV c XV n
def StVs (n : ℕ) : sProp 𝕄 := if h : n < 32 then FlyVs c XVs n h else IdleVs c XVs n

/-- Slots and cells depend on the chunk number modulo 4. -/
theorem remsi_mod {n : ℕ} (h : n < 32) : (Scalar.remsi (BitVec.ofNat 32 n) 4#32).toNat = (Scalar.remsi (BitVec.ofNat 32 (n % 4)) 4#32).toNat := by
  rw [remsi_toNat (w_lt h), remsi_toNat (m_lt n), w_toNat h, w_toNat (by omega), Nat.mod_mod]
theorem slotOff_mod {n : ℕ} (h : n < 32) : slotOff (BitVec.ofNat 32 n) = slotOff (BitVec.ofNat 32 (n % 4)) := by
  unfold slotOff; rw [remsi_mod h]
theorem semOff_mod {n : ℕ} (h : n < 32) : semOff (BitVec.ofNat 32 n) = semOff (BitVec.ofNat 32 (n % 4)) := by
  unfold semOff; rw [remsi_mod h]
theorem slotK_mod {n : ℕ} (h : n < 32) : slotK (BitVec.ofNat 32 n) (w_lt h) = slotK (BitVec.ofNat 32 (n % 4)) (m_lt n) :=
  congrArg (fun M : Memref sig .tc .vmem S1x256x4096 .fp8e4m3 => M.squeeze S256x4096 squeezes_S1x256x4096_S256x4096) (Memref.slice_unit_congr _ (slotOff_mod h) _ _ _ _)
theorem slotV_mod {n : ℕ} (h : n < 32) : slotV (BitVec.ofNat 32 n) (w_lt h) = slotV (BitVec.ofNat 32 (n % 4)) (m_lt n) :=
  congrArg (fun M : Memref sig .tc .vmem S1x256x4096 .fp8e4m3 => M.squeeze S256x4096 squeezes_S1x256x4096_S256x4096) (Memref.slice_unit_congr _ (slotOff_mod h) _ _ _ _)
theorem slotVs_mod {n : ℕ} (h : n < 32) : slotVs (BitVec.ofNat 32 n) (w_lt h) = slotVs (BitVec.ofNat 32 (n % 4)) (m_lt n) :=
  congrArg (fun M : Memref sig .tc .vmem S1x4x4096 .f32 => M.squeeze S4x4096 squeezes_S1x4x4096_S4x4096) (Memref.slice_unit_congr _ (slotOff_mod h) _ _ _ _)
theorem semK_mod {n : ℕ} (h : n < 32) : semK (BitVec.ofNat 32 n) (w_lt h) = semK (BitVec.ofNat 32 (n % 4)) (m_lt n) :=
  congrArg (fun A : DmaSems sig S1 => A.squeeze S_ squeezes_S1_S_) (SemArray.slice_unit_congr _ (semOff_mod h) _ _)
theorem semV_mod {n : ℕ} (h : n < 32) : semV (BitVec.ofNat 32 n) (w_lt h) = semV (BitVec.ofNat 32 (n % 4)) (m_lt n) :=
  congrArg (fun A : DmaSems sig S1 => A.squeeze S_ squeezes_S1_S_) (SemArray.slice_unit_congr _ (semOff_mod h) _ _)
theorem semVs_mod {n : ℕ} (h : n < 32) : semVs (BitVec.ofNat 32 n) (w_lt h) = semVs (BitVec.ofNat 32 (n % 4)) (m_lt n) :=
  congrArg (fun A : DmaSems sig S1 => A.squeeze S_ squeezes_S1_S_) (SemArray.slice_unit_congr _ (semOff_mod h) _ _)

theorem IdleK_eq {n : ℕ} (h : n < 32) : IdleK c XK n =
    iprop(Any c (slotK (BitVec.ofNat 32 n) (w_lt h)) ∗ semVal ((c : Thread nD τ), SemLoc.dma (semK (BitVec.ofNat 32 n) (w_lt h)).sem) 0
      ∗ (aPK.view.loc (c : Thread nD τ) ↦[Finset.univ]{Transfers.shareTokN fullShare (n % 4)} XK)) := by
  unfold IdleK; rw [slotK_mod h, semK_mod h]
theorem IdleV_eq {n : ℕ} (h : n < 32) : IdleV c XV n =
    iprop(Any c (slotV (BitVec.ofNat 32 n) (w_lt h)) ∗ semVal ((c : Thread nD τ), SemLoc.dma (semV (BitVec.ofNat 32 n) (w_lt h)).sem) 0
      ∗ (aPV.view.loc (c : Thread nD τ) ↦[Finset.univ]{Transfers.shareTokN fullShare (n % 4)} XV)) := by
  unfold IdleV; rw [slotV_mod h, semV_mod h]
theorem IdleVs_eq {n : ℕ} (h : n < 32) : IdleVs c XVs n =
    iprop(Any c (slotVs (BitVec.ofNat 32 n) (w_lt h)) ∗ semVal ((c : Thread nD τ), SemLoc.dma (semVs (BitVec.ofNat 32 n) (w_lt h)).sem) 0
      ∗ (aPVs.view.loc (c : Thread nD τ) ↦[Finset.univ]{Transfers.shareTokN fullShare (n % 4)} XVs)) := by
  unfold IdleVs; rw [slotVs_mod h, semVs_mod h]
theorem IdleK_add (n : ℕ) : IdleK c XK (n + 4) = IdleK c XK n := by
  unfold IdleK; simp only [Nat.add_mod_right]
theorem IdleV_add (n : ℕ) : IdleV c XV (n + 4) = IdleV c XV n := by
  unfold IdleV; simp only [Nat.add_mod_right]
theorem IdleVs_add (n : ℕ) : IdleVs c XVs (n + 4) = IdleVs c XVs n := by
  unfold IdleVs; simp only [Nat.add_mod_right]

/-- A chunk arrived: its slot holds the operand's block. -/
def HereK (n : ℕ) (h : n < 32) : sProp 𝕄 :=
  iprop(owns (c : Thread nD τ) (slotK (BitVec.ofNat 32 n) (w_lt h)) fullShare ((blkK (BitVec.ofNat 32 n) (w_lt h)).view.read (Elt F) XK)
    ∗ semVal ((c : Thread nD τ), SemLoc.dma (semK (BitVec.ofNat 32 n) (w_lt h)).sem) 0
    ∗ (aPK.view.loc (c : Thread nD τ) ↦[Finset.univ]{Transfers.shareTokN fullShare (n % 4)} XK))
def HereV (n : ℕ) (h : n < 32) : sProp 𝕄 :=
  iprop(owns (c : Thread nD τ) (slotV (BitVec.ofNat 32 n) (w_lt h)) fullShare ((blkV (BitVec.ofNat 32 n) (w_lt h)).view.read (Elt F) XV)
    ∗ semVal ((c : Thread nD τ), SemLoc.dma (semV (BitVec.ofNat 32 n) (w_lt h)).sem) 0
    ∗ (aPV.view.loc (c : Thread nD τ) ↦[Finset.univ]{Transfers.shareTokN fullShare (n % 4)} XV))
def HereVs (n : ℕ) (h : n < 32) : sProp 𝕄 :=
  iprop(owns (c : Thread nD τ) (slotVs (BitVec.ofNat 32 n) (w_lt h)) fullShare ((blkVs (BitVec.ofNat 32 n) (w_lt h)).view.read (Elt F) XVs)
    ∗ semVal ((c : Thread nD τ), SemLoc.dma (semVs (BitVec.ofNat 32 n) (w_lt h)).sem) 0
    ∗ (aPVs.view.loc (c : Thread nD τ) ↦[Finset.univ]{Transfers.shareTokN fullShare (n % 4)} XVs))

theorem IdleK_of_Here {n : ℕ} (h : n < 32) : HereK c XK n h ⊢ IdleK c XK n := by
  rw [IdleK_eq c XK h]; unfold HereK
  iintro ⟨H, Hr⟩
  isplitl [H]
  · iapply (Any_of_owns c _ _); iexact H
  iexact Hr
theorem IdleV_of_Here {n : ℕ} (h : n < 32) : HereV c XV n h ⊢ IdleV c XV n := by
  rw [IdleV_eq c XV h]; unfold HereV
  iintro ⟨H, Hr⟩
  isplitl [H]
  · iapply (Any_of_owns c _ _); iexact H
  iexact Hr
theorem IdleVs_of_Here {n : ℕ} (h : n < 32) : HereVs c XVs n h ⊢ IdleVs c XVs n := by
  rw [IdleVs_eq c XVs h]; unfold HereVs
  iintro ⟨H, Hr⟩
  isplitl [H]
  · iapply (Any_of_owns c _ _); iexact H
  iexact Hr

/-! ## Starting and awaiting a chunk -/

theorem W_startK {n : ℕ} (h : n < 32) (Q : PUnit → sProp 𝕄) :
    IdleK c XK n ⊢ iprop((StK c XK n -∗ Q ⟨⟩) -∗ W c (startK (BitVec.ofNat 32 n) (w_lt h)) Q) := by
  rw [IdleK_eq c XK h]; unfold StK startK; rw [dif_pos h]
  iintro ⟨Ha, Hs, Hx⟩ K
  iapply (W_start c _ _ _ _ _ _ (by decide) (Transfers.shareTokN fullShare (n % 4)) XK) $$ [Ha Hs Hx]
  · isplitl [Hx]; · iexact Hx
    isplitl [Ha]; · iexact Ha
    iexact Hs
  iintro HF; iapply K; unfold FlyK; iexact HF
theorem W_startV {n : ℕ} (h : n < 32) (Q : PUnit → sProp 𝕄) :
    IdleV c XV n ⊢ iprop((StV c XV n -∗ Q ⟨⟩) -∗ W c (startV (BitVec.ofNat 32 n) (w_lt h)) Q) := by
  rw [IdleV_eq c XV h]; unfold StV startV; rw [dif_pos h]
  iintro ⟨Ha, Hs, Hx⟩ K
  iapply (W_start c _ _ _ _ _ _ (by decide) (Transfers.shareTokN fullShare (n % 4)) XV) $$ [Ha Hs Hx]
  · isplitl [Hx]; · iexact Hx
    isplitl [Ha]; · iexact Ha
    iexact Hs
  iintro HF; iapply K; unfold FlyV; iexact HF
theorem W_startVs {n : ℕ} (h : n < 32) (Q : PUnit → sProp 𝕄) :
    IdleVs c XVs n ⊢ iprop((StVs c XVs n -∗ Q ⟨⟩) -∗ W c (startVs (BitVec.ofNat 32 n) (w_lt h)) Q) := by
  rw [IdleVs_eq c XVs h]; unfold StVs startVs; rw [dif_pos h]
  iintro ⟨Ha, Hs, Hx⟩ K
  iapply (W_start c _ _ _ _ _ _ (by decide) (Transfers.shareTokN fullShare (n % 4)) XVs) $$ [Ha Hs Hx]
  · isplitl [Hx]; · iexact Hx
    isplitl [Ha]; · iexact Ha
    iexact Hs
  iintro HF; iapply K; unfold FlyVs; iexact HF

theorem W_waitK {n : ℕ} (h : n < 32) (Q : PUnit → sProp 𝕄) :
    iprop(StK c XK n ∗ Owes c) ⊢ iprop((iprop(HereK c XK n h ∗ Owes c) -∗ Q ⟨⟩) -∗ W c (waitK (BitVec.ofNat 32 n) (w_lt h)) Q) := by
  unfold StK waitK; rw [dif_pos h]; unfold FlyK
  iintro H K
  iapply (W_wait c _ _ _ _ _ _ XK) $$ H
  iintro ⟨H1, H2, H3, HO⟩; iapply K; unfold HereK
  isplitl [H1 H2 H3]
  · isplitl [H1]; · iexact H1
    isplitl [H2]; · iexact H2
    iexact H3
  iexact HO
theorem W_waitV {n : ℕ} (h : n < 32) (Q : PUnit → sProp 𝕄) :
    iprop(StV c XV n ∗ Owes c) ⊢ iprop((iprop(HereV c XV n h ∗ Owes c) -∗ Q ⟨⟩) -∗ W c (waitV (BitVec.ofNat 32 n) (w_lt h)) Q) := by
  unfold StV waitV; rw [dif_pos h]; unfold FlyV
  iintro H K
  iapply (W_wait c _ _ _ _ _ _ XV) $$ H
  iintro ⟨H1, H2, H3, HO⟩; iapply K; unfold HereV
  isplitl [H1 H2 H3]
  · isplitl [H1]; · iexact H1
    isplitl [H2]; · iexact H2
    iexact H3
  iexact HO
theorem W_waitVs {n : ℕ} (h : n < 32) (Q : PUnit → sProp 𝕄) :
    iprop(StVs c XVs n ∗ Owes c) ⊢ iprop((iprop(HereVs c XVs n h ∗ Owes c) -∗ Q ⟨⟩) -∗ W c (waitVs (BitVec.ofNat 32 n) (w_lt h)) Q) := by
  unfold StVs waitVs; rw [dif_pos h]; unfold FlyVs
  iintro H K
  iapply (W_wait c _ _ _ _ _ _ XVs) $$ H
  iintro ⟨H1, H2, H3, HO⟩; iapply K; unfold HereVs
  isplitl [H1 H2 H3]
  · isplitl [H1]; · iexact H1
    isplitl [H2]; · iexact H2
    iexact H3
  iexact HO

/-! ## Tiles of a chunk -/

/-- Tile `t` of chunk `n` of an operand. -/
def tile (X : Vec F S256x131072 .fp8e4m3) (n t : ℕ) : Vec F S1x256x256 .fp8e4m3 := fun j => X (ix2 (j 1) (pcol n t (j 2).val))
def tileS (X : Vec F S4x131072 .f32) (n t : ℕ) : Vec F S1x4x256 .f32 := fun j => X (ix2 (j 1) (pcol n t (j 2).val))

theorem blk_col {n t x : ℕ} (h : n < 32) (ht : t < 16) (hx : x < 256) :
    (Scalar.muli (BitVec.ofNat 32 n) 4096#32).toNat + 1 * ((256 * t + x) % 4096) = (4096 * n + 256 * t + x) % 131072 := by
  rw [muli_toNat (w_lt h), w_toNat h]; omega
theorem blkK_tile {n : ℕ} (h : n < 32) {t : ℕ} (ht : t < 16) :
    (fun j : S1x256x256.Idx => (blkK (BitVec.ofNat 32 n) (w_lt h)).view.read (Elt F) XK (ix2 (j 1) (lcol t (j 2).val))) = tile XK n t := by
  funext j
  show XK _ = XK _
  congr 1
  funext a; apply Fin.ext
  match a with
  | 0 => show 0 + 1 * (j 1).val = (j 1).val; omega
  | 1 => exact blk_col h ht (j 2).isLt
theorem blkV_tile {n : ℕ} (h : n < 32) {t : ℕ} (ht : t < 16) :
    (fun j : S1x256x256.Idx => (blkV (BitVec.ofNat 32 n) (w_lt h)).view.read (Elt F) XV (ix2 (j 1) (lcol t (j 2).val))) = tile XV n t := by
  funext j
  show XV _ = XV _
  congr 1
  funext a; apply Fin.ext
  match a with
  | 0 => show 0 + 1 * (j 1).val = (j 1).val; omega
  | 1 => exact blk_col h ht (j 2).isLt
theorem blkVs_tile {n : ℕ} (h : n < 32) {t : ℕ} (ht : t < 16) :
    (fun j : S1x4x256.Idx => (blkVs (BitVec.ofNat 32 n) (w_lt h)).view.read (Elt F) XVs (ix2 (j 1) (lcol t (j 2).val))) = tileS XVs n t := by
  funext j
  show XVs _ = XVs _
  congr 1
  funext a; apply Fin.ext
  match a with
  | 0 => show 0 + 1 * (j 1).val = (j 1).val; omega
  | 1 => exact blk_col h ht (j 2).isLt

theorem W_tileK {n : ℕ} (h : n < 32) {t : ℕ} (ht : t < 16) (Q : Vec F S1x256x256 .fp8e4m3 → sProp 𝕄) :
    HereK c XK n h ⊢ iprop((HereK c XK n h -∗ Q (tile XK n t)) -∗ W c (ldW bK (BitVec.ofNat 32 n) (w_lt h) t ht) Q) := by
  unfold HereK
  iintro ⟨H, Hr⟩ K
  iapply (W_ldW c bK (BitVec.ofNat 32 n) (w_lt h) t ht _ Q) $$ H
  iintro H
  irw [blkK_tile XK h ht]
  iapply K
  isplitl [H]; · iexact H
  iexact Hr
theorem W_tileV {n : ℕ} (h : n < 32) {t : ℕ} (ht : t < 16) (Q : Vec F S1x256x256 .fp8e4m3 → sProp 𝕄) :
    HereV c XV n h ⊢ iprop((HereV c XV n h -∗ Q (tile XV n t)) -∗ W c (ldW bV (BitVec.ofNat 32 n) (w_lt h) t ht) Q) := by
  unfold HereV
  iintro ⟨H, Hr⟩ K
  iapply (W_ldW c bV (BitVec.ofNat 32 n) (w_lt h) t ht _ Q) $$ H
  iintro H
  irw [blkV_tile XV h ht]
  iapply K
  isplitl [H]; · iexact H
  iexact Hr
theorem W_tileVs {n : ℕ} (h : n < 32) {t : ℕ} (ht : t < 16) (Q : Vec F S1x4x256 .f32 → sProp 𝕄) :
    HereVs c XVs n h ⊢ iprop((HereVs c XVs n h -∗ Q (tileS XVs n t)) -∗ W c (ldWs (BitVec.ofNat 32 n) (w_lt h) t ht) Q) := by
  unfold HereVs
  iintro ⟨H, Hr⟩ K
  iapply (W_ldWs c (BitVec.ofNat 32 n) (w_lt h) t ht _ Q) $$ H
  iintro H
  irw [blkVs_tile XVs h ht]
  iapply K
  isplitl [H]; · iexact H
  iexact Hr

end Cert.Kernel.Steps

end
-- ==== Proof.Kernel.Chunk.lean ====
/-
  One chunk: its scores, its weighted values, and the step of the two.

  The values the kernel computes, chunk after chunk, are the recursions `Mv` (the maximum) and `LA` (the sum and the
  weighted values); the rules say that the program's step computes them.
-/
module

public import proofs.«01_k».proof.Proof.Kernel.Rings

@[expose] public section

noncomputable section

namespace Cert.Kernel.Steps

open Facts₀ Facts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The values -/

section Values

variable (XK XV : Vec F S256x131072 .fp8e4m3) (XVs : Vec F S4x131072 .f32) (Qv : Vec F S64x256 .bf16)
  (M0 L0 : FVec F S64x128 .f32) (A0 : FVec F S64x256 .f32)

/-- The scores of tile `t` of chunk `n`. -/
def sc (n t : ℕ) : FVec F S64x256 .f32 := vScore Qv (tile XK n t)
/-- The maximum over `r` tiles from `t` on. -/
def cmFold (n : ℕ) : (r t : ℕ) → FVec F S64x128 .f32 → FVec F S64x128 .f32
  | 0, _, cm => cm
  | r + 1, t, cm => cmFold n r (t + 1) (maximumf cm (vFoldMax (sc XK Qv n t)))
def CM (n : ℕ) : FVec F S64x128 .f32 := cmFold XK Qv n 15 1 (vFoldMax (sc XK Qv n 0))
/-- The maximum before chunk `i`. -/
def Mv : ℕ → FVec F S64x128 .f32
  | 0 => M0
  | i + 1 => vMNew (Mv i) (CM XK Qv i)
/-- A tile's part of the sum and of the weighted values. -/
def tl (mw : FVec F S64x256 .f32) (n t : ℕ) : FVec F S64x128 .f32 := vFoldAdd (vE (sc XK Qv n t) mw)
def tO (mw : FVec F S64x256 .f32) (n t : ℕ) : FVec F S64x256 .f32 := vPV (vE (sc XK Qv n t) mw) (tileS XVs n t) (tile XV n t)
def wFold (mw : FVec F S64x256 .f32) (n : ℕ) : (r t : ℕ) → FVec F S64x128 .f32 → FVec F S64x256 .f32 → FVec F S64x256 .f32 →
    FVec F S64x128 .f32 × FVec F S64x256 .f32 × FVec F S64x256 .f32
  | 0, _, l, o0, o1 => (l, o0, o1)
  | r + 1, t, l, o0, o1 => wFold mw n r (t + 2) (addf (addf l (tl XK Qv mw n t)) (tl XK Qv mw n (t + 1)))
      (addf o0 (tO XK XV XVs Qv mw n t)) (addf o1 (tO XK XV XVs Qv mw n (t + 1)))
/-- The sums after chunk `n`, the maximum `m`, the factor `al`. -/
def wStep (n : ℕ) (m al l : FVec F S64x128 .f32) (acc : FVec F S64x256 .f32) : FVec F S64x128 .f32 × FVec F S64x256 .f32 :=
  let r := wFold XK XV XVs Qv (vWide m) n 7 2 (addf (addf (mulf l al) (tl XK Qv (vWide m) n 0)) (tl XK Qv (vWide m) n 1))
    (tO XK XV XVs Qv (vWide m) n 0) (tO XK XV XVs Qv (vWide m) n 1)
  (r.1, vAcc acc (vWide al) r.2.1 r.2.2)
/-- The sums before chunk `i`. -/
def LA : ℕ → FVec F S64x128 .f32 × FVec F S64x256 .f32
  | 0 => (L0, A0)
  | i + 1 => wStep XK XV XVs Qv i (Mv XK Qv M0 (i + 1)) (vAl (Mv XK Qv M0 i) (Mv XK Qv M0 (i + 1))) (LA i).1 (LA i).2

end Values

theorem vC128_eq (v : FVec F S64x128 .f32) : vC128 v = v := shapeCast_self _ _
theorem vC256_eq (v : FVec F S64x256 .f32) : vC256 v = v := shapeCast_self _ _

variable (c : Dev nD)
variable (XK XV : Vec F S256x131072 .fp8e4m3) (XVs : Vec F S4x131072 .f32) (Qv : Vec F S64x256 .bf16)

/-! ## Whole buffers and tiles of scores -/

theorem idx_zero2 {a b : ℕ} (h : ∀ i, (![0, 0] : Fin 2 → ℕ) i + (⟨2, ![a, b]⟩ : Shape).size i ≤ (⟨2, ![a, b]⟩ : Shape).size i)
    (j : (⟨2, ![a, b]⟩ : Shape).Idx) : (Rect.unit (s := ⟨2, ![a, b]⟩) ![0, 0] (⟨2, ![a, b]⟩ : Shape).size h).toLoadRect.idx j = j := by
  funext i; apply Fin.ext
  match i with
  | 0 => show 0 + 1 * (j 0).val = (j 0).val; omega
  | 1 => show 0 + 1 * (j 1).val = (j 1).val; omega

theorem W_ld2 {cs : CoreSpace} {a b : ℕ} {e : EltTy} (m : Memref sig .tc cs ⟨2, ![a, b]⟩ e) (h hl) (v : (⟨2, ![a, b]⟩ : Shape).Idx → Elt F e)
    (Q : ((⟨2, ![a, b]⟩ : Shape).Idx → Elt F e) → sProp 𝕄) :
    (owns (c : Thread nD τ) m fullShare v : sProp 𝕄)
      ⊢ iprop((owns (c : Thread nD τ) m fullShare v -∗ Q v)
        -∗ W c (Prog.lift (.load m (Rect.unit (s := ⟨2, ![a, b]⟩) ![0, 0] (⟨2, ![a, b]⟩ : Shape).size h).toLoadRect hl)) Q) := by
  iintro H K
  iapply (W_load c m _ hl fullShare v Q) $$ H
  iintro H
  rw [show (fun j => v ((Rect.unit (s := ⟨2, ![a, b]⟩) ![0, 0] (⟨2, ![a, b]⟩ : Shape).size h).toLoadRect.idx j)) = v from funext fun j => congrArg v (idx_zero2 h j)]
  iapply K; iexact H
theorem W_st2 {cs : CoreSpace} {a b : ℕ} {e : EltTy} (m : Memref sig .tc cs ⟨2, ![a, b]⟩ e) (h) (w : (⟨2, ![a, b]⟩ : Shape).Idx → Elt F e) (hx hm)
    (v : (⟨2, ![a, b]⟩ : Shape).Idx → Elt F e) (Q : PUnit → sProp 𝕄) :
    (owns (c : Thread nD τ) m fullShare v : sProp 𝕄)
      ⊢ iprop((owns (c : Thread nD τ) m fullShare w -∗ Q ⟨⟩)
        -∗ W c (Prog.lift (.store m (Rect.unit (s := ⟨2, ![a, b]⟩) ![0, 0] (⟨2, ![a, b]⟩ : Shape).size h) w Finset.univ hx hm)) Q) := by
  iintro H K
  iapply (W_store c m _ w hx hm v Q) $$ H
  iintro %v' %hv H
  have e : v' = w := funext fun j => by
    have := hv.1 j
    rwa [show (Rect.unit (s := ⟨2, ![a, b]⟩) ![0, 0] (⟨2, ![a, b]⟩ : Shape).size h).emb j = j from idx_zero2 h j] at this
  subst e
  iapply K; iexact H

theorem W_ld128 (b : Memref sig .tc .vmem S64x128 .f32) (v : FVec F S64x128 .f32) (Q : Vec F S64x128 .f32 → sProp 𝕄) :
    (owns (c : Thread nD τ) b fullShare v : sProp 𝕄) ⊢ iprop((owns (c : Thread nD τ) b fullShare v -∗ Q v) -∗ W c (ld128 b) Q) :=
  W_ld2 c b _ _ v Q
theorem W_ld256 (b : Memref sig .tc .vmem S64x256 .f32) (v : FVec F S64x256 .f32) (Q : Vec F S64x256 .f32 → sProp 𝕄) :
    (owns (c : Thread nD τ) b fullShare v : sProp 𝕄) ⊢ iprop((owns (c : Thread nD τ) b fullShare v -∗ Q v) -∗ W c (ld256 b) Q) :=
  W_ld2 c b _ _ v Q
theorem W_ldQ (v : FVec F S64x256 .bf16) (Q : Vec F S64x256 .bf16 → sProp 𝕄) :
    (owns (c : Thread nD τ) bQ fullShare v : sProp 𝕄) ⊢ iprop((owns (c : Thread nD τ) bQ fullShare v -∗ Q v) -∗ W c ldQ Q) :=
  W_ld2 c bQ _ _ v Q
theorem W_st128 (b : Memref sig .tc .vmem S64x128 .f32) (v w : FVec F S64x128 .f32) (Q : PUnit → sProp 𝕄) :
    (owns (c : Thread nD τ) b fullShare v : sProp 𝕄) ⊢ iprop((owns (c : Thread nD τ) b fullShare w -∗ Q ⟨⟩) -∗ W c (st128 b w) Q) :=
  W_st2 c b _ w _ _ v Q
theorem W_st256 (b : Memref sig .tc .vmem S64x256 .f32) (v w : FVec F S64x256 .f32) (Q : PUnit → sProp 𝕄) :
    (owns (c : Thread nD τ) b fullShare v : sProp 𝕄) ⊢ iprop((owns (c : Thread nD τ) b fullShare w -∗ Q ⟨⟩) -∗ W c (st256 b w) Q) :=
  W_st2 c b _ w _ _ v Q

/-- The first `k` tiles of a buffer hold the scores of chunk `n`. -/
def SHas (b : Memref sig .tc .vmem S64x4096 .f32) (n k : ℕ) : sProp 𝕄 :=
  iprop(∃ v : S64x4096.Idx → Elt F .f32, ⌜∀ t < k, ∀ x : S64x256.Idx, v (ix2 (x 0) (lcol t (x 1).val)) = sc XK Qv n t x⌝ ∗ owns (c : Thread nD τ) b fullShare v)

theorem SHas_zero (b : Memref sig .tc .vmem S64x4096 .f32) (n : ℕ) : (Any c b : sProp 𝕄) ⊢ SHas c XK Qv b n 0 := by
  unfold SHas
  iintro H
  ihave H' := (owns_of_Any c b) $$ H
  icases H' with ⟨%v, H⟩
  iexists v
  isplitr; · ipureintro; intro t ht; omega
  iexact H
theorem Any_of_SHas (b : Memref sig .tc .vmem S64x4096 .f32) (n k : ℕ) : SHas c XK Qv b n k ⊢ (Any c b : sProp 𝕄) := by
  unfold SHas
  iintro ⟨%v, -, H⟩
  iapply (Any_of_owns c b v); iexact H

theorem tile_idx {t : ℕ} (ht : t < 16) (j : S64x256.Idx) :
    (Rect.unit (s := S64x4096) (tileOff t) S64x256.size (tileOff_inb ht)).toLoadRect.idx j = (ix2 (j 0) (lcol t (j 1).val) : S64x4096.Idx) := by
  have h1 : (j 1).val < 256 := (j 1).isLt
  funext i; apply Fin.ext
  match i with
  | 0 => show 0 + 1 * (j 0).val = (j 0).val; omega
  | 1 => show 256 * t + 1 * (j 1).val = (256 * t + (j 1).val) % 4096; omega

theorem W_ldS (b : Memref sig .tc .vmem S64x4096 .f32) (n : ℕ) {t : ℕ} (ht : t < 16) (Q : Vec F S64x256 .f32 → sProp 𝕄) :
    SHas c XK Qv b n 16 ⊢ iprop((SHas c XK Qv b n 16 -∗ Q (sc XK Qv n t)) -∗ W c (ldS b t ht) Q) := by
  unfold SHas ldS
  iintro ⟨%v, %hv, H⟩ K
  iapply (W_load c b _ _ fullShare v Q) $$ H
  iintro H
  rw [show (fun j => v ((Rect.unit (s := S64x4096) (tileOff t) S64x256.size (tileOff_inb ht)).toLoadRect.idx j)) = sc XK Qv n t from
    funext fun j => (congrArg v (tile_idx ht j)).trans (hv t ht j)]
  iapply K
  iexists v
  isplitr; · ipureintro; exact hv
  iexact H
theorem W_ldS_any (b : Memref sig .tc .vmem S64x4096 .f32) (n k : ℕ) {t : ℕ} (ht : t < 16) (Q : Vec F S64x256 .f32 → sProp 𝕄) :
    SHas c XK Qv b n k ⊢ iprop((∀ x, SHas c XK Qv b n k -∗ Q x) -∗ W c (ldS b t ht) Q) := by
  unfold SHas ldS
  iintro ⟨%v, %hv, H⟩ K
  iapply (W_load c b _ _ fullShare v Q) $$ H
  iintro H
  iapply K
  iexists v
  isplitr; · ipureintro; exact hv
  iexact H
theorem W_stS (b : Memref sig .tc .vmem S64x4096 .f32) (n : ℕ) {t : ℕ} (ht : t < 16) (Q : PUnit → sProp 𝕄) :
    SHas c XK Qv b n t ⊢ iprop((SHas c XK Qv b n (t + 1) -∗ Q ⟨⟩) -∗ W c (stS b t ht (vC256 (sc XK Qv n t))) Q) := by
  unfold SHas stS
  iintro ⟨%v, %hv, H⟩ K
  iapply (W_store c b _ _ _ _ v Q) $$ H
  iintro %v' %hv' H
  iapply K
  iexists v'
  isplitr
  · ipureintro
    intro t' ht' x
    have hx1 : (x 1).val < 256 := (x 1).isLt
    rcases Nat.lt_succ_iff_lt_or_eq.mp ht' with h | h
    · rw [hv'.2 _ ?_, hv t' h x]
      rw [Rect.mem_set_unit]
      intro hm
      have h1 : 256 * t ≤ (256 * t' + (x 1).val) % 4096 := (hm 1).1
      omega
    · subst h
      rw [← tile_idx ht x]
      exact (hv'.1 x).trans (congrFun (vC256_eq _) x)
  iexact H

/-! ## Scores -/

theorem W_scoresTile {n : ℕ} (h : n < 32) (dst : Memref sig .tc .vmem S64x4096 .f32) {t : ℕ} (ht : t < 16) (Q : FVec F S64x256 .f32 → sProp 𝕄) :
    iprop(HereK c XK n h ∗ SHas c XK Qv dst n t)
      ⊢ iprop((iprop(HereK c XK n h ∗ SHas c XK Qv dst n (t + 1)) -∗ Q (sc XK Qv n t))
        -∗ W c (scoresTile (BitVec.ofNat 32 n) (w_lt h) dst Qv t ht) Q) := by
  unfold scoresTile
  iintro ⟨HK, HS⟩ K
  rw [W_bind]
  iapply (W_tileK c XK h ht) $$ HK
  iintro HK
  rw [W_bind]
  iapply (W_ldS_any c XK Qv dst n t ht) $$ HS
  iintro %_ HS
  rw [W_bind]
  iapply (W_stS c XK Qv dst n ht) $$ HS
  iintro HS
  iapply (W_pure c)
  rw [show sc XK Qv n t = vScore Qv (tile XK n t) from rfl]
  iapply K
  isplitl [HK]; · iexact HK
  iexact HS

theorem W_scoresFrom {n : ℕ} (h : n < 32) (dst : Memref sig .tc .vmem S64x4096 .f32) (Q : FVec F S64x128 .f32 → sProp 𝕄) :
    ∀ (r t : ℕ) (ht : t + r ≤ 16) (cm : FVec F S64x128 .f32),
    iprop(HereK c XK n h ∗ SHas c XK Qv dst n t)
      ⊢ iprop((iprop(HereK c XK n h ∗ SHas c XK Qv dst n (t + r)) -∗ Q (cmFold XK Qv n r t cm))
        -∗ W c (scoresFrom (BitVec.ofNat 32 n) (w_lt h) dst Qv r t ht cm) Q)
  | 0, t, ht, cm => by
    rw [scoresFrom, cmFold, Nat.add_zero]
    iintro H K
    iapply (W_pure c); iapply K; iexact H
  | r + 1, t, ht, cm => by
    rw [scoresFrom, cmFold, W_bind]
    iintro H K
    iapply (W_scoresTile c XK Qv h dst (t := t) _) $$ H
    iintro H
    iapply (W_scoresFrom h dst Q r (t + 1) _ _) $$ H
    rw [show t + 1 + r = t + (r + 1) by omega]
    iexact K

theorem W_scores {n : ℕ} (h : n < 32) (dst : Memref sig .tc .vmem S64x4096 .f32) (m : FVec F S64x128 .f32)
    (Q : FVec F S64x128 .f32 × FVec F S64x128 .f32 → sProp 𝕄) :
    iprop(HereK c XK n h ∗ Any c dst ∗ owns (c : Thread nD τ) bQ fullShare Qv ∗ owns (c : Thread nD τ) bM fullShare m)
      ⊢ iprop((iprop(HereK c XK n h ∗ SHas c XK Qv dst n 16 ∗ owns (c : Thread nD τ) bQ fullShare Qv ∗ owns (c : Thread nD τ) bM fullShare m)
            -∗ Q (vMNew m (CM XK Qv n), vAl m (vMNew m (CM XK Qv n))))
        -∗ W c (scores (BitVec.ofNat 32 n) (w_lt h) dst) Q) := by
  unfold scores
  iintro ⟨HK, HD, HQ, HM⟩ K
  ihave HS := (SHas_zero c XK Qv dst n) $$ HD
  rw [W_bind]
  iapply (W_ldQ c Qv) $$ HQ
  iintro HQ
  rw [W_bind]
  iapply (W_scoresTile c XK Qv h dst (t := 0) _) $$ [HK HS]
  · isplitl [HK]; · iexact HK
    iexact HS
  iintro H
  rw [W_bind]
  iapply (W_scoresFrom c XK Qv h dst _ 15 1 le_rfl _) $$ H
  iintro ⟨HK, HS⟩
  rw [W_bind]
  iapply (W_ld128 c bM m) $$ HM
  iintro HM
  iapply (W_pure c)
  unfold CM
  iapply K
  isplitl [HK]; · iexact HK
  isplitl [HS]; · iexact HS
  isplitl [HQ]; · iexact HQ
  iexact HM

/-! ## Weighted values -/

/-- What the weighted values of chunk `n` read. -/
def Rd (src : Memref sig .tc .vmem S64x4096 .f32) (n : ℕ) (h : n < 32) : sProp 𝕄 :=
  iprop(SHas c XK Qv src n 16 ∗ HereV c XV n h ∗ HereVs c XVs n h)

theorem W_weightedTile {n : ℕ} (h : n < 32) (src : Memref sig .tc .vmem S64x4096 .f32) (mw : FVec F S64x256 .f32) {t : ℕ} (ht : t < 16)
    (Q : FVec F S64x128 .f32 × FVec F S64x256 .f32 → sProp 𝕄) :
    Rd c XK XV XVs Qv src n h
      ⊢ iprop((Rd c XK XV XVs Qv src n h -∗ Q (tl XK Qv mw n t, tO XK XV XVs Qv mw n t))
        -∗ W c (weightedTile (BitVec.ofNat 32 n) (w_lt h) src mw t ht) Q) := by
  unfold Rd weightedTile
  iintro ⟨HS, HV, HW⟩ K
  rw [W_bind]
  iapply (W_ldS c XK Qv src n ht) $$ HS
  iintro HS
  rw [W_bind]
  iapply (W_tileVs c XVs h ht) $$ HW
  iintro HW
  rw [W_bind]
  iapply (W_tileV c XV h ht) $$ HV
  iintro HV
  iapply (W_pure c)
  unfold tl tO
  iapply K
  isplitl [HS]; · iexact HS
  isplitl [HV]; · iexact HV
  iexact HW

theorem W_weightedFrom {n : ℕ} (h : n < 32) (src : Memref sig .tc .vmem S64x4096 .f32) (mw : FVec F S64x256 .f32)
    (Q : FVec F S64x128 .f32 × FVec F S64x256 .f32 × FVec F S64x256 .f32 → sProp 𝕄) :
    ∀ (r t : ℕ) (ht : t + 2 * r = 16) (l : FVec F S64x128 .f32) (o0 o1 : FVec F S64x256 .f32),
    Rd c XK XV XVs Qv src n h
      ⊢ iprop((Rd c XK XV XVs Qv src n h -∗ Q (wFold XK XV XVs Qv mw n r t l o0 o1))
        -∗ W c (weightedFrom (BitVec.ofNat 32 n) (w_lt h) src mw r t ht l o0 o1) Q)
  | 0, t, ht, l, o0, o1 => by
    rw [weightedFrom, wFold]
    iintro H K
    iapply (W_pure c); iapply K; iexact H
  | r + 1, t, ht, l, o0, o1 => by
    rw [weightedFrom, wFold, W_bind]
    iintro H K
    iapply (W_weightedTile c XK XV XVs Qv h src mw (t := t) _) $$ H
    iintro H
    rw [W_bind]
    iapply (W_weightedTile c XK XV XVs Qv h src mw (t := t + 1) _) $$ H
    iintro H
    iapply (W_weightedFrom h src mw Q r (t + 2) _ _ _ _) $$ H
    iexact K

theorem W_weighted {n : ℕ} (h : n < 32) (src : Memref sig .tc .vmem S64x4096 .f32) (m al l : FVec F S64x128 .f32) (acc : FVec F S64x256 .f32)
    (Q : PUnit → sProp 𝕄) :
    iprop(Rd c XK XV XVs Qv src n h ∗ owns (c : Thread nD τ) bL fullShare l ∗ owns (c : Thread nD τ) bAcc fullShare acc)
      ⊢ iprop((iprop(Rd c XK XV XVs Qv src n h ∗ owns (c : Thread nD τ) bL fullShare (wStep XK XV XVs Qv n m al l acc).1
            ∗ owns (c : Thread nD τ) bAcc fullShare (wStep XK XV XVs Qv n m al l acc).2) -∗ Q ⟨⟩)
        -∗ W c (weighted (BitVec.ofNat 32 n) (w_lt h) src m al) Q) := by
  unfold weighted
  iintro ⟨HR, HL, HA⟩ K
  rw [W_bind]
  iapply (W_ld128 c bL l) $$ HL
  iintro HL
  rw [W_bind]
  iapply (W_weightedTile c XK XV XVs Qv h src (vWide m) (t := 0) _) $$ HR
  iintro HR
  rw [W_bind]
  iapply (W_weightedTile c XK XV XVs Qv h src (vWide m) (t := 1) _) $$ HR
  iintro HR
  rw [W_bind]
  iapply (W_weightedFrom c XK XV XVs Qv h src (vWide m) _ 7 2 rfl _ _ _) $$ HR
  iintro HR
  rw [W_bind]
  iapply (W_ld128 c bL l) $$ HL
  iintro HL
  rw [W_bind, vC128_eq]
  iapply (W_st128 c bL l _) $$ HL
  iintro HL
  rw [W_bind]
  iapply (W_ld256 c bAcc acc) $$ HA
  iintro HA
  rw [W_bind]
  iapply (W_ld256 c bAcc acc) $$ HA
  iintro HA
  rw [vC256_eq]
  iapply (W_st256 c bAcc acc _) $$ HA
  iintro HA
  iapply K
  isplitl [HR]; · iexact HR
  isplitl [HL]; · iexact HL
  iexact HA

theorem W_stMAl (r : FVec F S64x128 .f32 × FVec F S64x128 .f32) (m al : FVec F S64x128 .f32) (Q : PUnit → sProp 𝕄) :
    iprop(owns (c : Thread nD τ) bM fullShare m ∗ owns (c : Thread nD τ) bAl fullShare al)
      ⊢ iprop((iprop(owns (c : Thread nD τ) bM fullShare r.1 ∗ owns (c : Thread nD τ) bAl fullShare r.2) -∗ Q ⟨⟩) -∗ W c (stMAl r) Q) := by
  unfold stMAl
  iintro ⟨HM, HA⟩ K
  rw [W_bind]
  iapply (W_ld128 c bM m) $$ HM
  iintro HM
  rw [W_bind, vC128_eq]
  iapply (W_st128 c bM m _) $$ HM
  iintro HM
  rw [W_bind]
  iapply (W_ld128 c bAl al) $$ HA
  iintro HA
  rw [vC128_eq]
  iapply (W_st128 c bAl al _) $$ HA
  iintro HA
  iapply K
  isplitl [HM]; · iexact HM
  iexact HA

/-! ## A step -/

variable (M0 L0 : FVec F S64x128 .f32) (A0 : FVec F S64x256 .f32)

/-- The buffers before step `i`. -/
def Bufs (i : ℕ) (cur nxt : Memref sig .tc .vmem S64x4096 .f32) : sProp 𝕄 :=
  iprop(owns (c : Thread nD τ) bQ fullShare Qv ∗ owns (c : Thread nD τ) bM fullShare (Mv XK Qv M0 (i + 1))
    ∗ owns (c : Thread nD τ) bAl fullShare (vAl (Mv XK Qv M0 i) (Mv XK Qv M0 (i + 1)))
    ∗ owns (c : Thread nD τ) bL fullShare (LA XK XV XVs Qv M0 L0 A0 i).1 ∗ owns (c : Thread nD τ) bAcc fullShare (LA XK XV XVs Qv M0 L0 A0 i).2
    ∗ SHas c XK Qv cur i 16 ∗ Any c nxt ∗ Owes c)

theorem W_stepCore {w w' : BitVec 32} {i : ℕ} (h : i + 1 < 32) (ew : w = BitVec.ofNat 32 i) (ew' : w' = BitVec.ofNat 32 (i + 1))
    (hw : w.toNat < 32) (hw' : w'.toNat < 32) (cur nxt : Memref sig .tc .vmem S64x4096 .f32) (Q : PUnit → sProp 𝕄) :
    iprop(StV c XV i ∗ StVs c XVs i ∗ StK c XK (i + 1) ∗ Bufs c XK XV XVs Qv M0 L0 A0 i cur nxt)
      ⊢ iprop((iprop(IdleV c XV (i + 4) ∗ IdleVs c XVs (i + 4) ∗ IdleK c XK (i + 5) ∗ Bufs c XK XV XVs Qv M0 L0 A0 (i + 1) nxt cur) -∗ Q ⟨⟩)
        -∗ W c (stepCore w w' hw hw' cur nxt) Q) := by
  subst ew; subst ew'
  have h0 : i < 32 := by omega
  unfold stepCore Bufs
  iintro ⟨HV, HW, HK, HQ, HM, HAl, HL, HA, HC, HN, HO⟩ K
  rw [W_bind]
  iapply (W_waitV c XV h0) $$ [HV HO]
  · isplitl [HV]; · iexact HV
    iexact HO
  iintro ⟨HV, HO⟩
  rw [W_bind]
  iapply (W_waitVs c XVs h0) $$ [HW HO]
  · isplitl [HW]; · iexact HW
    iexact HO
  iintro ⟨HW, HO⟩
  rw [W_bind]
  iapply (W_waitK c XK h) $$ [HK HO]
  · isplitl [HK]; · iexact HK
    iexact HO
  iintro ⟨HK, HO⟩
  rw [W_bind]
  iapply (W_ld128 c bM _) $$ HM
  iintro HM
  rw [W_bind]
  iapply (W_ld128 c bAl _) $$ HAl
  iintro HAl
  rw [W_bind]
  iapply (W_scores c XK Qv h nxt _) $$ [HK HN HQ HM]
  · isplitl [HK]; · iexact HK
    isplitl [HN]; · iexact HN
    isplitl [HQ]; · iexact HQ
    iexact HM
  iintro ⟨HK, HN, HQ, HM⟩
  rw [W_bind]
  iapply (W_weighted c XK XV XVs Qv h0 cur _ _ _ _) $$ [HC HV HW HL HA]
  · isplitl [HC HV HW]
    · unfold Rd
      isplitl [HC]; · iexact HC
      isplitl [HV]; · iexact HV
      iexact HW
    isplitl [HL]; · iexact HL
    iexact HA
  unfold Rd
  iintro ⟨⟨HC, HV, HW⟩, HL, HA⟩
  iapply (W_stMAl c _ _ _) $$ [HM HAl]
  · isplitl [HM]; · iexact HM
    iexact HAl
  iintro ⟨HM, HAl⟩
  iapply K
  rw [IdleV_add, IdleVs_add, show i + 5 = i + 1 + 4 from rfl, IdleK_add]
  isplitl [HV]; · iapply (IdleV_of_Here c XV h0); iexact HV
  isplitl [HW]; · iapply (IdleVs_of_Here c XVs h0); iexact HW
  isplitl [HK]; · iapply (IdleK_of_Here c XK h); iexact HK
  isplitl [HQ]; · iexact HQ
  isplitl [HM]; · iexact HM
  isplitl [HAl]; · iexact HAl
  isplitl [HL]; · iexact HL
  isplitl [HA]; · iexact HA
  isplitl [HN]; · iexact HN
  isplitl [HC]; · iapply (Any_of_SHas c XK Qv cur i 16); iexact HC
  iexact HO

/-- The last step: the sums of all chunks. -/
theorem W_stepLast {w : BitVec 32} {i : ℕ} (h : i < 32) (ew : w = BitVec.ofNat 32 i)
    (hw : w.toNat < 32) (cur nxt : Memref sig .tc .vmem S64x4096 .f32) (Q : PUnit → sProp 𝕄) :
    iprop(StV c XV i ∗ StVs c XVs i ∗ Bufs c XK XV XVs Qv M0 L0 A0 i cur nxt)
      ⊢ iprop((iprop(IdleV c XV (i + 4) ∗ IdleVs c XVs (i + 4) ∗ owns (c : Thread nD τ) bQ fullShare Qv ∗ owns (c : Thread nD τ) bM fullShare (Mv XK Qv M0 (i + 1))
    ∗ owns (c : Thread nD τ) bAl fullShare (vAl (Mv XK Qv M0 i) (Mv XK Qv M0 (i + 1)))
    ∗ owns (c : Thread nD τ) bL fullShare (LA XK XV XVs Qv M0 L0 A0 (i + 1)).1 ∗ owns (c : Thread nD τ) bAcc fullShare (LA XK XV XVs Qv M0 L0 A0 (i + 1)).2
    ∗ Any c cur ∗ Any c nxt ∗ Owes c) -∗ Q ⟨⟩)
        -∗ W c (stepLast w hw cur) Q) := by
  subst ew
  unfold stepLast Bufs
  iintro ⟨HV, HW, HQ, HM, HAl, HL, HA, HC, HN, HO⟩ K
  rw [W_bind]
  iapply (W_waitV c XV h) $$ [HV HO]
  · isplitl [HV]; · iexact HV
    iexact HO
  iintro ⟨HV, HO⟩
  rw [W_bind]
  iapply (W_waitVs c XVs h) $$ [HW HO]
  · isplitl [HW]; · iexact HW
    iexact HO
  iintro ⟨HW, HO⟩
  rw [W_bind]
  iapply (W_ld128 c bM _) $$ HM
  iintro HM
  rw [W_bind]
  iapply (W_ld128 c bAl _) $$ HAl
  iintro HAl
  iapply (W_weighted c XK XV XVs Qv h cur _ _ _ _) $$ [HC HV HW HL HA]
  · isplitl [HC HV HW]
    · unfold Rd
      isplitl [HC]; · iexact HC
      isplitl [HV]; · iexact HV
      iexact HW
    isplitl [HL]; · iexact HL
    iexact HA
  unfold Rd
  iintro ⟨⟨HC, HV, HW⟩, HL, HA⟩
  iapply K
  rw [IdleV_add, IdleVs_add]
  isplitl [HV]; · iapply (IdleV_of_Here c XV h); iexact HV
  isplitl [HW]; · iapply (IdleVs_of_Here c XVs h); iexact HW
  isplitl [HQ]; · iexact HQ
  isplitl [HM]; · iexact HM
  isplitl [HAl]; · iexact HAl
  isplitl [HL]; · iexact HL
  isplitl [HA]; · iexact HA
  isplitl [HC]; · iapply (Any_of_SHas c XK Qv cur i 16); iexact HC
  isplitl [HN]; · iexact HN
  iexact HO

end Cert.Kernel.Steps

end
-- ==== Proof.Kernel.Loop.lean ====
/-
  The loop over the chunks: two chunks a trip, the copies four chunks ahead.
-/
module

public import proofs.«01_k».proof.Proof.Kernel.Chunk

@[expose] public section

noncomputable section

namespace Cert.Kernel.Steps

open Facts₀ Facts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
variable (XK XV : Vec F S256x131072 .fp8e4m3) (XVs : Vec F S4x131072 .f32) (Qv : Vec F S64x256 .bf16)
  (M0 L0 : FVec F S64x128 .f32) (A0 : FVec F S64x256 .f32)

theorem W_guard {p : Prop} [Decidable p] (a : p → KProg F PUnit) (P R : sProp 𝕄) (Q : PUnit → sProp 𝕄)
    (h1 : ∀ h : p, P ⊢ iprop((R -∗ Q ⟨⟩) -∗ W c (a h) Q)) (h2 : ¬p → P ⊢ R) :
    P ⊢ iprop((R -∗ Q ⟨⟩) -∗ W c (guardP p a) Q) := by
  unfold guardP
  split
  · exact h1 _
  · rename_i h
    iintro H K
    iapply (W_pure c)
    iapply K
    iapply (h2 h); iexact H

theorem W_tryK {w : BitVec 32} {n : ℕ} (hn : n < 64) (ew : w = BitVec.ofNat 32 n) (hs : w.toNat < 64) (Q : PUnit → sProp 𝕄) :
    IdleK c XK n ⊢ iprop((StK c XK n -∗ Q ⟨⟩) -∗ W c (tryK w hs) Q) := by
  subst ew
  unfold tryK
  refine W_guard c _ _ _ Q (fun h => W_startK c XK (cond_fin ⟨n, hn⟩ h) Q) (fun h => ?_)
  unfold StK
  rw [dif_neg (fun h' => h (cond_fin' ⟨n, hn⟩ h'))]
theorem W_tryV {w : BitVec 32} {n : ℕ} (hn : n < 64) (ew : w = BitVec.ofNat 32 n) (hs : w.toNat < 64) (Q : PUnit → sProp 𝕄) :
    iprop(IdleV c XV n ∗ IdleVs c XVs n) ⊢ iprop((iprop(StV c XV n ∗ StVs c XVs n) -∗ Q ⟨⟩) -∗ W c (tryV w hs) Q) := by
  subst ew
  unfold tryV
  refine W_guard c _ _ _ Q (fun h => ?_) (fun h => ?_)
  · iintro ⟨H1, H2⟩ K
    rw [W_bind]
    iapply (W_startV c XV (cond_fin ⟨n, hn⟩ h)) $$ H1
    iintro H1
    iapply (W_startVs c XVs (cond_fin ⟨n, hn⟩ h)) $$ H2
    iintro H2
    iapply K
    isplitl [H1] <;> iassumption
  · unfold StV StVs
    rw [dif_neg (fun h' => h (cond_fin' ⟨n, hn⟩ h')), dif_neg (fun h' => h (cond_fin' ⟨n, hn⟩ h'))]

/-- Before chunk `i`: three or four chunks of each ring on their way, the buffers at their values. -/
def Inv (i : ℕ) (cur nxt : Memref sig .tc .vmem S64x4096 .f32) : sProp 𝕄 :=
  iprop(StK c XK (i + 1) ∗ StK c XK (i + 2) ∗ StK c XK (i + 3) ∗ StK c XK (i + 4)
    ∗ StV c XV i ∗ StV c XV (i + 1) ∗ StV c XV (i + 2) ∗ StV c XV (i + 3)
    ∗ StVs c XVs i ∗ StVs c XVs (i + 1) ∗ StVs c XVs (i + 2) ∗ StVs c XVs (i + 3)
    ∗ Bufs c XK XV XVs Qv M0 L0 A0 i cur nxt)

theorem W_half {w w1 w4 w5 : BitVec 32} {i : ℕ} (h : i + 1 < 32) (ew : w = BitVec.ofNat 32 i) (ew1 : w1 = BitVec.ofNat 32 (i + 1))
    (ew4 : w4 = BitVec.ofNat 32 (i + 4)) (ew5 : w5 = BitVec.ofNat 32 (i + 5)) (hw : w.toNat < 32) (hw1 : w1.toNat < 32)
    (hw4 : w4.toNat < 64) (hw5 : w5.toNat < 64) (cur nxt : Memref sig .tc .vmem S64x4096 .f32) (k : KProg F PUnit) (Q : PUnit → sProp 𝕄) :
    Inv c XK XV XVs Qv M0 L0 A0 i cur nxt ⊢ iprop((Inv c XK XV XVs Qv M0 L0 A0 (i + 1) nxt cur -∗ W c k Q)
      -∗ W c (stepCore w w1 hw hw1 cur nxt >>= fun _ => tryK w5 hw5 >>= fun _ => tryV w4 hw4 >>= fun _ => k) Q) := by
  unfold Inv
  iintro ⟨HK1, HK2, HK3, HK4, HV0, HV1, HV2, HV3, HW0, HW1, HW2, HW3, HB⟩ K
  rw [W_bind]
  iapply (W_stepCore c XK XV XVs Qv M0 L0 A0 h ew ew1 hw hw1 cur nxt _) $$ [HK1 HV0 HW0 HB]
  · isplitl [HV0]; · iexact HV0
    isplitl [HW0]; · iexact HW0
    isplitl [HK1]; · iexact HK1
    iexact HB
  iintro ⟨HV4, HW4, HK5, HB⟩
  rw [W_bind]
  iapply (W_tryK c XK (by omega) ew5 hw5 _) $$ HK5
  iintro HK5
  rw [W_bind]
  iapply (W_tryV c XV XVs (by omega) ew4 hw4 _) $$ [HV4 HW4]
  · isplitl [HV4] <;> iassumption
  iintro ⟨HV4, HW4⟩
  iapply K
  isplitl [HK2]; · iexact HK2
  isplitl [HK3]; · iexact HK3
  isplitl [HK4]; · iexact HK4
  isplitl [HK5]; · iexact HK5
  isplitl [HV1]; · iexact HV1
  isplitl [HV2]; · iexact HV2
  isplitl [HV3]; · iexact HV3
  isplitl [HV4]; · iexact HV4
  isplitl [HW1]; · iexact HW1
  isplitl [HW2]; · iexact HW2
  isplitl [HW3]; · iexact HW3
  isplitl [HW4]; · iexact HW4
  iexact HB

theorem loopStep_ret (t : Fin k0_t1_loop.trips) : (loopStep t >>= fun _ => pure () : KProg F Unit) =
    (stepCore (wA t) (Scalar.addi (wA t) 1#32) (wA_lt t) (wA1_lt t) bA bB >>= fun _ =>
      tryK (Scalar.addi (Scalar.addi (wA t) 1#32) 4#32) (wA5_lt t) >>= fun _ => tryV (Scalar.addi (wA t) 4#32) (wA4_lt t) >>= fun _ =>
      (stepCore (wB t) (Scalar.addi (wB t) 1#32) (wB_lt t) (wB1_lt t) bB bA >>= fun _ =>
      tryK (Scalar.addi (Scalar.addi (wB t) 1#32) 4#32) (wB5_lt t) >>= fun _ => tryV (Scalar.addi (wB t) 4#32) (wB4_lt t) >>= fun _ => pure ())) := by
  unfold loopStep; simp only [bind_assoc]

theorem h0 (t : Fin k0_t1_loop.trips) (ht : t.val < 15) : 2 * t.val + 1 < 32 := by omega
theorem h1 (t : Fin k0_t1_loop.trips) (ht : t.val < 15) : 2 * t.val + 1 + 1 < 32 := by omega

theorem StK_idle {n j : ℕ} (h : n = j + 4 * 8) : (StK c XK n : sProp 𝕄) = IdleK c XK j := by
  subst h; unfold StK; rw [dif_neg (by omega)]
  rw [show j + 4 * 8 = j + 4 + 4 + 4 + 4 + 4 + 4 + 4 + 4 from rfl, IdleK_add, IdleK_add, IdleK_add, IdleK_add, IdleK_add, IdleK_add, IdleK_add, IdleK_add]
theorem StV_idle {n j : ℕ} (h : n = j + 4 * 8) : (StV c XV n : sProp 𝕄) = IdleV c XV j := by
  subst h; unfold StV; rw [dif_neg (by omega)]
  rw [show j + 4 * 8 = j + 4 + 4 + 4 + 4 + 4 + 4 + 4 + 4 from rfl, IdleV_add, IdleV_add, IdleV_add, IdleV_add, IdleV_add, IdleV_add, IdleV_add, IdleV_add]
theorem StVs_idle {n j : ℕ} (h : n = j + 4 * 8) : (StVs c XVs n : sProp 𝕄) = IdleVs c XVs j := by
  subst h; unfold StVs; rw [dif_neg (by omega)]
  rw [show j + 4 * 8 = j + 4 + 4 + 4 + 4 + 4 + 4 + 4 + 4 from rfl, IdleVs_add, IdleVs_add, IdleVs_add, IdleVs_add, IdleVs_add, IdleVs_add, IdleVs_add, IdleVs_add]

theorem W_loopStep (t : Fin k0_t1_loop.trips) (u : Unit) :
    Inv c XK XV XVs Qv M0 L0 A0 (2 * t.val) bA bB ⊢ W c (loopStep t >>= fun _ => pure () : KProg F Unit)
      (fun _ => Inv c XK XV XVs Qv M0 L0 A0 (2 * (t.val + 1)) bA bB) := by
  have ht := t_lt t
  rw [loopStep_ret]
  iintro HI
  iapply (W_half c XK XV XVs Qv M0 L0 A0 (w := wA t) (w1 := Scalar.addi (wA t) 1#32) (w4 := Scalar.addi (wA t) 4#32)
    (w5 := Scalar.addi (Scalar.addi (wA t) 1#32) 4#32) (i := 2 * t.val) (h0 t ht) (wA_eq t) (wA1_eq t) (wA4_eq t) (wA5_eq t) (wA_lt t) (wA1_lt t) (wA4_lt t) (wA5_lt t) bA bB _ _) $$ HI
  iintro HI
  iapply (W_half c XK XV XVs Qv M0 L0 A0 (w := wB t) (w1 := Scalar.addi (wB t) 1#32) (w4 := Scalar.addi (wB t) 4#32)
    (w5 := Scalar.addi (Scalar.addi (wB t) 1#32) 4#32) (i := 2 * t.val + 1) (h1 t ht) (wB_eq t) (wB1_eq t) (wB4_eq t) (wB5_eq t) (wB_lt t) (wB1_lt t) (wB4_lt t) (wB5_lt t) bB bA (pure ()) _) $$ HI
  iintro HI
  iapply (W_pure c)
  rw [show 2 * (t.val + 1) = 2 * t.val + 1 + 1 from rfl]
  iexact HI

/-- A loop that carries nothing. -/
theorem W_for (L : Scf.Loop 32) (hok : L.OK) (body : Fin L.trips → Unit → KProg F Unit) (I : ℕ → sProp 𝕄)
    (hb : ∀ t u, I t.val ⊢ W c (body t u) (fun _ => I (t.val + 1))) {n : ℕ} (hn : L.trips = n) (Q : Unit → sProp 𝕄) :
    I 0 ⊢ iprop((I n -∗ Q ()) -∗ W c (Scf.Loop.for L hok () body) Q) := by
  subst hn
  unfold W at *
  iintro HI K
  iapply (Scf.wp_for frame (wpE (defs₀ (F := F)) 𝒱₀ (c : Thread nD τ) none) Set.univ L.lb L.ub L.st hok () body (fun k _ => I k) hb)
  isplitl [HI]; · iexact HI
  iintro %u HI
  iapply K
  iexact HI

theorem W_loop (Q : Unit → sProp 𝕄) :
    Inv c XK XV XVs Qv M0 L0 A0 0 bA bB ⊢ iprop((Inv c XK XV XVs Qv M0 L0 A0 30 bA bB -∗ Q ())
      -∗ W c (Scf.Loop.for k0_t1_loop k0_t1_ok () (fun t _ => loopStep t >>= fun _ => pure ())) Q) :=
  W_for c k0_t1_loop k0_t1_ok (fun t _ => loopStep t >>= fun _ => pure ()) (fun k => Inv c XK XV XVs Qv M0 L0 A0 (2 * k) bA bB)
    (W_loopStep c XK XV XVs Qv M0 L0 A0) (n := 15) trips_eq Q

/-- All chunks, after the scores of the first. -/
theorem W_main (Q : PUnit → sProp 𝕄) (k : KProg F PUnit) :
    Inv c XK XV XVs Qv M0 L0 A0 0 bA bB
      ⊢ iprop((iprop(IdleK c XK 0 ∗ IdleK c XK 1 ∗ IdleK c XK 2 ∗ IdleK c XK 3
          ∗ IdleV c XV 0 ∗ IdleV c XV 1 ∗ IdleV c XV 2 ∗ IdleV c XV 3
          ∗ IdleVs c XVs 0 ∗ IdleVs c XVs 1 ∗ IdleVs c XVs 2 ∗ IdleVs c XVs 3
          ∗ owns (c : Thread nD τ) bQ fullShare Qv ∗ owns (c : Thread nD τ) bM fullShare (Mv XK Qv M0 32)
          ∗ owns (c : Thread nD τ) bAl fullShare (vAl (Mv XK Qv M0 31) (Mv XK Qv M0 32))
          ∗ owns (c : Thread nD τ) bL fullShare (LA XK XV XVs Qv M0 L0 A0 32).1 ∗ owns (c : Thread nD τ) bAcc fullShare (LA XK XV XVs Qv M0 L0 A0 32).2
          ∗ Any c bB ∗ Any c bA ∗ Owes c) -∗ W c k Q)
        -∗ W c (Scf.Loop.for k0_t1_loop k0_t1_ok () (fun t _ => loopStep t >>= fun _ => pure ()) >>= fun _ =>
            stepCore 30#32 31#32 (by decide) (by decide) bA bB >>= fun _ => stepLast 31#32 (by decide) bB >>= fun _ => k) Q) := by
  iintro HI K
  rw [W_bind]
  iapply (W_loop c XK XV XVs Qv M0 L0 A0 _) $$ HI
  unfold Inv
  iintro ⟨HK1, HK2, HK3, HK4, HV0, HV1, HV2, HV3, HW0, HW1, HW2, HW3, HB⟩
  rw [W_bind]
  iapply (W_stepCore c XK XV XVs Qv M0 L0 A0 (i := 30) (by omega) rfl rfl _ _ bA bB _) $$ [HK1 HV0 HW0 HB]
  · isplitl [HV0]; · iexact HV0
    isplitl [HW0]; · iexact HW0
    isplitl [HK1]; · iexact HK1
    iexact HB
  iintro ⟨HV4, HW4, HK5, HB⟩
  rw [W_bind]
  iapply (W_stepLast c XK XV XVs Qv M0 L0 A0 (i := 31) (by omega) rfl _ bB bA _) $$ [HV1 HW1 HB]
  · isplitl [HV1]; · iexact HV1
    isplitl [HW1]; · iexact HW1
    iexact HB
  iintro ⟨HV5, HW5, HQ, HM, HAl, HL, HA, HB, HC, HO⟩
  iapply K
  rw [← StK_idle c XK (n := 30 + 2) (j := 0) rfl, ← StK_idle c XK (n := 30 + 3) (j := 1) rfl, ← StK_idle c XK (n := 30 + 4) (j := 2) rfl,
    ← StV_idle c XV (n := 30 + 2) (j := 0) rfl, ← StV_idle c XV (n := 30 + 3) (j := 1) rfl,
    ← StVs_idle c XVs (n := 30 + 2) (j := 0) rfl, ← StVs_idle c XVs (n := 30 + 3) (j := 1) rfl]
  isplitl [HK2]; · iexact HK2
  isplitl [HK3]; · iexact HK3
  isplitl [HK4]; · iexact HK4
  isplitl [HK5]; · iexact HK5
  isplitl [HV2]; · iexact HV2
  isplitl [HV3]; · iexact HV3
  isplitl [HV4]; · iexact HV4
  isplitl [HV5]; · iexact HV5
  isplitl [HW2]; · iexact HW2
  isplitl [HW3]; · iexact HW3
  isplitl [HW4]; · iexact HW4
  isplitl [HW5]; · iexact HW5
  isplitl [HQ]; · iexact HQ
  isplitl [HM]; · iexact HM
  isplitl [HAl]; · iexact HAl
  isplitl [HL]; · iexact HL
  isplitl [HA]; · iexact HA
  isplitl [HB]; · iexact HB
  isplitl [HC]; · iexact HC
  iexact HO

end Cert.Kernel.Steps

end
-- ==== Proof.Kernel.Pro.lean ====
/-
  The kernel before the first chunk and after the last: the operands copied in, the first sums, the result.
-/
module

public import proofs.«01_k».proof.Proof.Kernel.Loop

@[expose] public section

noncomputable section

namespace Cert.Kernel.Steps

open Facts₀ Facts
open Cert.Kernel.Gen (k0_pay1 k0_pay2)
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Values -/

/-- The operands. -/
structure Ops (F : FTy → Type) where
  x : Vec F S64x64 .bf16
  kn : Vec F S2x4x64 .bf16
  vn : Vec F S2x4x64 .bf16
  pk : Vec F S256x131072 .fp8e4m3
  pks : Vec F S4x64 .f32
  pv : Vec F S256x131072 .fp8e4m3
  pvs : Vec F S4x131072 .f32
  tk : Vec F S2x256x1024 .fp8e4m3
  tks : Vec F S2x4x1024 .f32
  tv : Vec F S2x256x1024 .fp8e4m3
  tvs : Vec F S2x4x1024 .f32
  len : Vec F S2 .i32

/-- Member `i` of a pair, with its leading axis. -/
def row3 {α : Type} {a b : ℕ} (v : (⟨3, ![2, a, b]⟩ : Shape).Idx → α) (i : Fin 2) : (⟨3, ![1, a, b]⟩ : Shape).Idx → α :=
  fun j => v (ix3 i (j 1) (j 2))
/-- One half over the other. -/
def join2 {α : Type} {n : ℕ} (a b : (⟨2, ![32, n]⟩ : Shape).Idx → α) : (⟨2, ![64, n]⟩ : Shape).Idx → α :=
  fun y => if h : (y 0).val < 32 then a (ix2 (⟨(y 0).val, h⟩ : Fin 32) (y 1))
    else b (ix2 (⟨(y 0).val - 32, by have : (y 0).val < 64 := (y 0).isLt; omega⟩ : Fin 32) (y 1))
/-- Two rows. -/
def rows2 {α : Type} {n : ℕ} (a b : (⟨2, ![1, n]⟩ : Shape).Idx → α) : (⟨2, ![2, n]⟩ : Shape).Idx → α :=
  fun y => if (y 0).val = 0 then a (ix2 (0 : Fin 1) (y 1)) else b (ix2 (0 : Fin 1) (y 1))

/-- What the prologue loads, and the values it starts the chunks from. -/
def pIn (O : Ops F) : ProIn F :=
  ⟨O.x, O.pks, row3 O.kn 0, row3 O.kn 1, row3 O.tk 0, row3 O.tks 0, O.len (ix1 (0 : Fin 2)), row3 O.tk 1, row3 O.tks 1,
    O.len (ix1 (1 : Fin 2)), row3 O.vn 0, row3 O.vn 1⟩
def kQ (O : Ops F) : FVec F S64x256 .bf16 := pQ O.x O.pks
def kM0 (O : Ops F) : FVec F S64x128 .f32 := pM (pIn O)
def kL0 (O : Ops F) : FVec F S64x128 .f32 := join2 (pL0 (pIn O)) (pL1 (pIn O))
def kA0 (O : Ops F) : FVec F S64x256 .f32 :=
  join2 (pA0 (pIn O) (row3 O.tvs 0) (row3 O.tv 0)) (pA1 (pIn O) (row3 O.tvs 1) (row3 O.tv 1))
/-- The sums of all chunks, and the result. -/
def kLA (O : Ops F) : FVec F S64x128 .f32 × FVec F S64x256 .f32 := LA O.pk O.pv O.pvs (kQ O) (kM0 O) (kL0 O) (kA0 O) 32
def kOut (O : Ops F) : FVec F S2x2048 .bf16 :=
  rows2 (k0_pay1 (eRow0 (kLA O).1 (kLA O).2)) (k0_pay2 (eOut (kLA O).1 (kLA O).2))

theorem idx_row3 {a b i : ℕ} (k : Fin 2) (hk : k.val = i) (h : ∀ x, (![i, 0, 0] : Fin 3 → ℕ) x + (⟨3, ![1, a, b]⟩ : Shape).size x ≤ (⟨3, ![2, a, b]⟩ : Shape).size x)
    (j : (⟨3, ![1, a, b]⟩ : Shape).Idx) : (Rect.unit (s := ⟨3, ![2, a, b]⟩) ![i, 0, 0] (⟨3, ![1, a, b]⟩ : Shape).size h).toLoadRect.idx j = ix3 k (j 1) (j 2) := by
  have h0 : (j 0).val < 1 := (j 0).isLt
  funext x; apply Fin.ext
  match x with
  | 0 => show i + 1 * (j 0).val = k.val; omega
  | 1 => show 0 + 1 * (j 1).val = (j 1).val; omega
  | 2 => show 0 + 1 * (j 2).val = (j 2).val; omega

theorem emb_half {n i : ℕ} (h : ∀ x, (![i, 0] : Fin 2 → ℕ) x + (⟨2, ![32, n]⟩ : Shape).size x ≤ (⟨2, ![64, n]⟩ : Shape).size x)
    (r : Fin 64) (k : Fin 32) (hk : r.val = i + k.val) (q : Fin n) :
    (Rect.unit (s := ⟨2, ![64, n]⟩) ![i, 0] (⟨2, ![32, n]⟩ : Shape).size h).emb (ix2 k q) = ix2 r q := by
  funext x; apply Fin.ext
  match x with
  | 0 => show i + 1 * k.val = r.val; omega
  | 1 => show 0 + 1 * q.val = q.val; omega

theorem join_eq {α : Type} {n : ℕ} (h0 h1) (a b : (⟨2, ![32, n]⟩ : Shape).Idx → α) (v w : (⟨2, ![64, n]⟩ : Shape).Idx → α)
    (e0 : ∀ x, v ((Rect.unit (s := ⟨2, ![64, n]⟩) ![0, 0] (⟨2, ![32, n]⟩ : Shape).size h0).emb x) = a x)
    (e1 : (∀ x, w ((Rect.unit (s := ⟨2, ![64, n]⟩) ![32, 0] (⟨2, ![32, n]⟩ : Shape).size h1).emb x) = b x)
      ∧ ∀ y, y ∉ (Rect.unit (s := ⟨2, ![64, n]⟩) ![32, 0] (⟨2, ![32, n]⟩ : Shape).size h1).set → w y = v y) : w = join2 a b := by
  funext y
  obtain ⟨r, q, rfl⟩ : ∃ (r : Fin 64) (q : Fin n), y = ix2 r q := ⟨y 0, y 1, by funext x; match x with | 0 => rfl | 1 => rfl⟩
  unfold join2
  by_cases h : r.val < 32
  · rw [dif_pos (show ((ix2 r q : (⟨2, ![64, n]⟩ : Shape).Idx) 0).val < 32 from h)]
    refine (e1.2 _ fun hy => ?_).trans ((congrArg v (emb_half h0 r ⟨r.val, h⟩ (by simp) q).symm).trans (e0 _))
    have hy := (Rect.mem_set_unit.mp hy 0).1
    have hy : 32 ≤ r.val := hy
    omega
  · have h64 := r.isLt
    rw [dif_neg (show ¬((ix2 r q : (⟨2, ![64, n]⟩ : Shape).Idx) 0).val < 32 from h)]
    exact (congrArg w (emb_half h1 r ⟨r.val - 32, by omega⟩ (by simp; omega) q).symm).trans (e1.1 _)

theorem rows_eq {α : Type} {n : ℕ} (h0 h1) (old : (⟨2, ![2, n]⟩ : Shape).Idx → α) (a b : (⟨2, ![1, n]⟩ : Shape).Idx → α) :
    updateSlice (s := ⟨2, ![2, n]⟩) (u := ⟨2, ![1, n]⟩) (updateSlice (s := ⟨2, ![2, n]⟩) (u := ⟨2, ![1, n]⟩) old a ![0, 0] h0) b ![1, 0] h1 = rows2 a b := by
  funext y
  have hy0 : (y 0).val < 2 := (y 0).isLt
  have hy1 : (y 1).val < n := (y 1).isLt
  unfold updateSlice rows2
  by_cases h : (y 0).val = 0
  · rw [if_pos h, dif_neg (fun hh => by have := (hh 0).1; have : 1 ≤ (y 0).val := this; omega), dif_pos (fun i => by
      match i with
      | 0 => exact ⟨Nat.zero_le _, by show (y 0).val < 0 + 1; omega⟩
      | 1 => exact ⟨Nat.zero_le _, by show (y 1).val < 0 + n; omega⟩)]
    congr 1; funext i; apply Fin.ext
    match i with
    | 0 => show (y 0).val - 0 = 0; omega
    | 1 => show (y 1).val - 0 = (y 1).val; omega
  · rw [if_neg h, dif_pos (fun i => by
      match i with
      | 0 => exact ⟨by show 1 ≤ (y 0).val; omega, by show (y 0).val < 1 + 1; omega⟩
      | 1 => exact ⟨Nat.zero_le _, by show (y 1).val < 0 + n; omega⟩)]
    congr 1; funext i; apply Fin.ext
    match i with
    | 0 => show (y 0).val - 1 = 0; omega
    | 1 => show (y 1).val - 0 = (y 1).val; omega

/-! ## Whole operands -/

variable (c : Dev nD)

section Whole

variable {sp : Space} {s : Shape} {e : EltTy} (src : Memref sig .tc .hbm s e) (dst : Memref sig .tc sp s e) (j : ℕ)
  (hj : ∀ a, (![j] : Fin 1 → ℕ) a + S1.size a ≤ S9.size a) (X : Buf (Elt F) (src.view.loc (c : Thread nD τ)))

/-- An operand, its buffer and its cell: before its copy, and on its way. -/
def Sm : sProp 𝕄 :=
  iprop((src.view.loc (c : Thread nD τ) ↦[Finset.univ]{fullShare} X) ∗ Any c dst ∗ semVal ((c : Thread nD τ), SemLoc.dma (sem9 j hj)) 0)
def SmF : sProp 𝕄 := Fly c src dst (sem9 j hj) fullShare X
/-- After it, but the buffer. -/
def SmB : sProp 𝕄 :=
  iprop((src.view.loc (c : Thread nD τ) ↦[Finset.univ]{fullShare} X) ∗ semVal ((c : Thread nD τ), SemLoc.dma (sem9 j hj)) 0)

theorem W_startW (hs hd hl) (hn : 0 < s.numel) (Q : PUnit → sProp 𝕄) :
    Sm c src dst j hj X ⊢ iprop((SmF c src dst j hj X -∗ Q ⟨⟩) -∗ W c (startW src dst j hj hs hd hl) Q) :=
  W_start c src dst (sem9 j hj) _ _ hl hn fullShare X Q
theorem W_waitW (hs hd) (Q : PUnit → sProp 𝕄) :
    iprop(SmF c src dst j hj X ∗ Owes c)
      ⊢ iprop((iprop(owns (c : Thread nD τ) dst fullShare (src.view.read (Elt F) X) ∗ SmB c src j hj X ∗ Owes c) -∗ Q ⟨⟩)
        -∗ W c (waitW src dst j hj hs hd) Q) := by
  unfold SmF SmB waitW
  iintro H K
  iapply (W_wait c src dst (sem9 j hj) _ _ fullShare X Q) $$ H
  iintro ⟨H1, H2, H3, H4⟩
  iapply K
  isplitl [H1]; · iexact H1
  isplitl [H2 H3]
  · isplitl [H3] <;> iassumption
  iexact H4
theorem Sm_back (v : s.Idx → Elt F e) :
    iprop(owns (c : Thread nD τ) dst fullShare v ∗ SmB c src j hj X) ⊢ Sm c src dst j hj X := by
  unfold Sm SmB
  iintro ⟨H1, H2, H3⟩
  isplitl [H2]; · iexact H2
  isplitl [H1]; · iapply (Any_of_owns c dst v); iexact H1
  iexact H3

end Whole

variable (O : Ops F)

def Sms : sProp 𝕄 :=
  iprop(Sm c aX bX 0 inb_S9_S1_0 O.x ∗ Sm c aPKs bPKs 1 inb_S9_S1_1 O.pks ∗ Sm c aKn bKn 2 inb_S9_S1_2 O.kn
    ∗ Sm c aVn bVn 3 inb_S9_S1_3 O.vn ∗ Sm c aLen bLen 4 inb_S9_S1_4 O.len ∗ Sm c aTK bTK 5 inb_S9_S1_5 O.tk
    ∗ Sm c aTKs bTKs 6 inb_S9_S1_6 O.tks ∗ Sm c aTV bTV 7 inb_S9_S1_7 O.tv ∗ Sm c aTVs bTVs 8 inb_S9_S1_8 O.tvs)
def SmFs : sProp 𝕄 :=
  iprop(SmF c aX bX 0 inb_S9_S1_0 O.x ∗ SmF c aPKs bPKs 1 inb_S9_S1_1 O.pks ∗ SmF c aKn bKn 2 inb_S9_S1_2 O.kn
    ∗ SmF c aVn bVn 3 inb_S9_S1_3 O.vn ∗ SmF c aLen bLen 4 inb_S9_S1_4 O.len ∗ SmF c aTK bTK 5 inb_S9_S1_5 O.tk
    ∗ SmF c aTKs bTKs 6 inb_S9_S1_6 O.tks ∗ SmF c aTV bTV 7 inb_S9_S1_7 O.tv ∗ SmF c aTVs bTVs 8 inb_S9_S1_8 O.tvs)
def SmBs : sProp 𝕄 :=
  iprop(SmB c aX 0 inb_S9_S1_0 O.x ∗ SmB c aPKs 1 inb_S9_S1_1 O.pks ∗ SmB c aKn 2 inb_S9_S1_2 O.kn
    ∗ SmB c aVn 3 inb_S9_S1_3 O.vn ∗ SmB c aLen 4 inb_S9_S1_4 O.len ∗ SmB c aTK 5 inb_S9_S1_5 O.tk
    ∗ SmB c aTKs 6 inb_S9_S1_6 O.tks ∗ SmB c aTV 7 inb_S9_S1_7 O.tv ∗ SmB c aTVs 8 inb_S9_S1_8 O.tvs)
/-- The nine operands in their buffers. -/
def Held : sProp 𝕄 :=
  iprop(owns (c : Thread nD τ) bX fullShare O.x ∗ owns (c : Thread nD τ) bPKs fullShare O.pks ∗ owns (c : Thread nD τ) bKn fullShare O.kn
    ∗ owns (c : Thread nD τ) bVn fullShare O.vn ∗ owns (c : Thread nD τ) bLen fullShare O.len ∗ owns (c : Thread nD τ) bTK fullShare O.tk
    ∗ owns (c : Thread nD τ) bTKs fullShare O.tks ∗ owns (c : Thread nD τ) bTV fullShare O.tv ∗ owns (c : Thread nD τ) bTVs fullShare O.tvs)

theorem W_startsW (Q : PUnit → sProp 𝕄) : Sms c O ⊢ iprop((SmFs c O -∗ Q ⟨⟩) -∗ W c startsW Q) := by
  unfold Sms SmFs startsW
  iintro ⟨H0, H1, H2, H3, H4, H5, H6, H7, H8⟩ K
  rw [W_bind]
  iapply (W_startW c aX bX 0 inb_S9_S1_0 O.x _ _ _ (by decide) _) $$ H0
  iintro H0
  rw [W_bind]
  iapply (W_startW c aPKs bPKs 1 inb_S9_S1_1 O.pks _ _ _ (by decide) _) $$ H1
  iintro H1
  rw [W_bind]
  iapply (W_startW c aKn bKn 2 inb_S9_S1_2 O.kn _ _ _ (by decide) _) $$ H2
  iintro H2
  rw [W_bind]
  iapply (W_startW c aVn bVn 3 inb_S9_S1_3 O.vn _ _ _ (by decide) _) $$ H3
  iintro H3
  rw [W_bind]
  iapply (W_startW c aLen bLen 4 inb_S9_S1_4 O.len _ _ _ (by decide) _) $$ H4
  iintro H4
  rw [W_bind]
  iapply (W_startW c aTK bTK 5 inb_S9_S1_5 O.tk _ _ _ (by decide) _) $$ H5
  iintro H5
  rw [W_bind]
  iapply (W_startW c aTKs bTKs 6 inb_S9_S1_6 O.tks _ _ _ (by decide) _) $$ H6
  iintro H6
  rw [W_bind]
  iapply (W_startW c aTV bTV 7 inb_S9_S1_7 O.tv _ _ _ (by decide) _) $$ H7
  iintro H7
  iapply (W_startW c aTVs bTVs 8 inb_S9_S1_8 O.tvs _ _ _ (by decide) _) $$ H8
  iintro H8
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem W_waitsW (Q : PUnit → sProp 𝕄) : iprop(SmFs c O ∗ Owes c) ⊢ iprop((iprop(Held c O ∗ SmBs c O ∗ Owes c) -∗ Q ⟨⟩) -∗ W c waitsW Q) := by
  unfold SmFs SmBs Held waitsW
  iintro ⟨⟨H0, H1, H2, H3, H4, H5, H6, H7, H8⟩, HO⟩ K
  rw [W_bind]
  iapply (W_waitW c aX bX 0 inb_S9_S1_0 O.x _ _ _) $$ [H0 HO]
  · isplitl [H0] <;> iassumption
  iintro ⟨H0, G0, HO⟩
  rw [W_bind]
  iapply (W_waitW c aPKs bPKs 1 inb_S9_S1_1 O.pks _ _ _) $$ [H1 HO]
  · isplitl [H1] <;> iassumption
  iintro ⟨H1, G1, HO⟩
  rw [W_bind]
  iapply (W_waitW c aKn bKn 2 inb_S9_S1_2 O.kn _ _ _) $$ [H2 HO]
  · isplitl [H2] <;> iassumption
  iintro ⟨H2, G2, HO⟩
  rw [W_bind]
  iapply (W_waitW c aVn bVn 3 inb_S9_S1_3 O.vn _ _ _) $$ [H3 HO]
  · isplitl [H3] <;> iassumption
  iintro ⟨H3, G3, HO⟩
  rw [W_bind]
  iapply (W_waitW c aLen bLen 4 inb_S9_S1_4 O.len _ _ _) $$ [H4 HO]
  · isplitl [H4] <;> iassumption
  iintro ⟨H4, G4, HO⟩
  rw [W_bind]
  iapply (W_waitW c aTK bTK 5 inb_S9_S1_5 O.tk _ _ _) $$ [H5 HO]
  · isplitl [H5] <;> iassumption
  iintro ⟨H5, G5, HO⟩
  rw [W_bind]
  iapply (W_waitW c aTKs bTKs 6 inb_S9_S1_6 O.tks _ _ _) $$ [H6 HO]
  · isplitl [H6] <;> iassumption
  iintro ⟨H6, G6, HO⟩
  rw [W_bind]
  iapply (W_waitW c aTV bTV 7 inb_S9_S1_7 O.tv _ _ _) $$ [H7 HO]
  · isplitl [H7] <;> iassumption
  iintro ⟨H7, G7, HO⟩
  iapply (W_waitW c aTVs bTVs 8 inb_S9_S1_8 O.tvs _ _ _) $$ [H8 HO]
  · isplitl [H8] <;> iassumption
  iintro ⟨H8, G8, HO⟩
  iapply K
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitr [HO]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  iexact HO

theorem Sms_back : iprop(Held c O ∗ SmBs c O) ⊢ Sms c O := by
  unfold Sms SmBs Held
  iintro ⟨⟨H0, H1, H2, H3, H4, H5, H6, H7, H8⟩, ⟨G0, G1, G2, G3, G4, G5, G6, G7, G8⟩⟩
  isplitl [H0 G0]
  · iapply (Sm_back c aX bX 0 inb_S9_S1_0 O.x _)
    isplitl [H0] <;> iassumption
  isplitl [H1 G1]
  · iapply (Sm_back c aPKs bPKs 1 inb_S9_S1_1 O.pks _)
    isplitl [H1] <;> iassumption
  isplitl [H2 G2]
  · iapply (Sm_back c aKn bKn 2 inb_S9_S1_2 O.kn _)
    isplitl [H2] <;> iassumption
  isplitl [H3 G3]
  · iapply (Sm_back c aVn bVn 3 inb_S9_S1_3 O.vn _)
    isplitl [H3] <;> iassumption
  isplitl [H4 G4]
  · iapply (Sm_back c aLen bLen 4 inb_S9_S1_4 O.len _)
    isplitl [H4] <;> iassumption
  isplitl [H5 G5]
  · iapply (Sm_back c aTK bTK 5 inb_S9_S1_5 O.tk _)
    isplitl [H5] <;> iassumption
  isplitl [H6 G6]
  · iapply (Sm_back c aTKs bTKs 6 inb_S9_S1_6 O.tks _)
    isplitl [H6] <;> iassumption
  isplitl [H7 G7]
  · iapply (Sm_back c aTV bTV 7 inb_S9_S1_7 O.tv _)
    isplitl [H7] <;> iassumption
  iapply (Sm_back c aTVs bTVs 8 inb_S9_S1_8 O.tvs _)
  isplitl [H8] <;> iassumption

/-! ## The first copies of the rings -/

/-- The rings at rest. -/
def Idles : sProp 𝕄 :=
  iprop(IdleK c O.pk 0 ∗ IdleK c O.pk 1 ∗ IdleK c O.pk 2 ∗ IdleK c O.pk 3
    ∗ IdleV c O.pv 0 ∗ IdleV c O.pv 1 ∗ IdleV c O.pv 2 ∗ IdleV c O.pv 3
    ∗ IdleVs c O.pvs 0 ∗ IdleVs c O.pvs 1 ∗ IdleVs c O.pvs 2 ∗ IdleVs c O.pvs 3)
def Starts : sProp 𝕄 :=
  iprop(StK c O.pk 0 ∗ StK c O.pk 1 ∗ StK c O.pk 2 ∗ StK c O.pk 3
    ∗ StV c O.pv 0 ∗ StV c O.pv 1 ∗ StV c O.pv 2 ∗ StV c O.pv 3
    ∗ StVs c O.pvs 0 ∗ StVs c O.pvs 1 ∗ StVs c O.pvs 2 ∗ StVs c O.pvs 3)

theorem W_start3 {n : ℕ} (h : n < 32) (hn) (Q : PUnit → sProp 𝕄) :
    iprop(IdleK c O.pk n ∗ IdleV c O.pv n ∗ IdleVs c O.pvs n)
      ⊢ iprop((iprop(StK c O.pk n ∗ StV c O.pv n ∗ StVs c O.pvs n) -∗ Q ⟨⟩) -∗ W c (start3 n hn) Q) := by
  unfold start3
  iintro ⟨H1, H2, H3⟩ K
  rw [W_bind]
  iapply (W_startK c O.pk h _) $$ H1
  iintro H1
  rw [W_bind]
  iapply (W_startV c O.pv h _) $$ H2
  iintro H2
  iapply (W_startVs c O.pvs h _) $$ H3
  iintro H3
  iapply K
  isplitl [H1]; · iexact H1
  isplitl [H2] <;> iassumption
theorem W_starts3 (Q : PUnit → sProp 𝕄) : Idles c O ⊢ iprop((Starts c O -∗ Q ⟨⟩) -∗ W c starts3 Q) := by
  unfold Idles Starts starts3
  iintro ⟨K0, K1, K2, K3, V0, V1, V2, V3, W0, W1, W2, W3⟩ K
  rw [W_bind]
  iapply (W_start3 c O (n := 0) (by decide) _ _) $$ [K0 V0 W0]
  · isplitl [K0]; · iexact K0
    isplitl [V0] <;> iassumption
  iintro ⟨K0, V0, W0⟩
  rw [W_bind]
  iapply (W_start3 c O (n := 1) (by decide) _ _) $$ [K1 V1 W1]
  · isplitl [K1]; · iexact K1
    isplitl [V1] <;> iassumption
  iintro ⟨K1, V1, W1⟩
  rw [W_bind]
  iapply (W_start3 c O (n := 2) (by decide) _ _) $$ [K2 V2 W2]
  · isplitl [K2]; · iexact K2
    isplitl [V2] <;> iassumption
  iintro ⟨K2, V2, W2⟩
  iapply (W_start3 c O (n := 3) (by decide) _ _) $$ [K3 V3 W3]
  · isplitl [K3]; · iexact K3
    isplitl [V3] <;> iassumption
  iintro ⟨K3, V3, W3⟩
  iapply K
  isplitl [K0]; · iexact K0
  isplitl [K1]; · iexact K1
  isplitl [K2]; · iexact K2
  isplitl [K3]; · iexact K3
  isplitl [V0]; · iexact V0
  isplitl [V1]; · iexact V1
  isplitl [V2]; · iexact V2
  isplitl [V3]; · iexact V3
  isplitl [W0]; · iexact W0
  isplitl [W1]; · iexact W1
  isplitl [W2] <;> iassumption

/-! ## Loads and stores -/

theorem W_ld3 {cs : CoreSpace} {a b i : ℕ} {e : EltTy} (m : Memref sig .tc cs ⟨3, ![2, a, b]⟩ e) (k : Fin 2) (hk : k.val = i) (h hl)
    (v : (⟨3, ![2, a, b]⟩ : Shape).Idx → Elt F e) (Q : ((⟨3, ![1, a, b]⟩ : Shape).Idx → Elt F e) → sProp 𝕄) :
    (owns (c : Thread nD τ) m fullShare v : sProp 𝕄)
      ⊢ iprop((owns (c : Thread nD τ) m fullShare v -∗ Q (row3 v k))
        -∗ W c (Prog.lift (.load m (Rect.unit (s := ⟨3, ![2, a, b]⟩) ![i, 0, 0] (⟨3, ![1, a, b]⟩ : Shape).size h).toLoadRect hl)) Q) := by
  iintro H K
  iapply (W_load c m _ hl fullShare v Q) $$ H
  iintro H
  rw [show (fun j => v ((Rect.unit (s := ⟨3, ![2, a, b]⟩) ![i, 0, 0] (⟨3, ![1, a, b]⟩ : Shape).size h).toLoadRect.idx j)) = row3 v k from funext fun j => congrArg v (idx_row3 k hk h j)]
  iapply K; iexact H
theorem W_ldN (b : Memref sig .tc .vmem S2x4x64 .bf16) {i : ℕ} (k : Fin 2) (hk : k.val = i) (hi) (v : Vec F S2x4x64 .bf16) (Q : Vec F S1x4x64 .bf16 → sProp 𝕄) :
    (owns (c : Thread nD τ) b fullShare v : sProp 𝕄)
      ⊢ iprop((owns (c : Thread nD τ) b fullShare v -∗ Q (row3 v k)) -∗ W c (ldN b i hi) Q) :=
  W_ld3 c b k hk _ _ v Q
theorem W_ldT (b : Memref sig .tc .vmem S2x256x1024 .fp8e4m3) {i : ℕ} (k : Fin 2) (hk : k.val = i) (hi) (v : Vec F S2x256x1024 .fp8e4m3) (Q : Vec F S1x256x1024 .fp8e4m3 → sProp 𝕄) :
    (owns (c : Thread nD τ) b fullShare v : sProp 𝕄)
      ⊢ iprop((owns (c : Thread nD τ) b fullShare v -∗ Q (row3 v k)) -∗ W c (ldT b i hi) Q) :=
  W_ld3 c b k hk _ _ v Q
theorem W_ldTs (b : Memref sig .tc .vmem S2x4x1024 .f32) {i : ℕ} (k : Fin 2) (hk : k.val = i) (hi) (v : Vec F S2x4x1024 .f32) (Q : Vec F S1x4x1024 .f32 → sProp 𝕄) :
    (owns (c : Thread nD τ) b fullShare v : sProp 𝕄)
      ⊢ iprop((owns (c : Thread nD τ) b fullShare v -∗ Q (row3 v k)) -∗ W c (ldTs b i hi) Q) :=
  W_ld3 c b k hk _ _ v Q
theorem W_ldLen {i : ℕ} (k : Fin 2) (hk : k.val = i) (hi) (v : Vec F S2 .i32) (Q : Elt F .i32 → sProp 𝕄) :
    (owns (c : Thread nD τ) bLen fullShare v : sProp 𝕄)
      ⊢ iprop((owns (c : Thread nD τ) bLen fullShare v -∗ Q (v (ix1 k))) -∗ W c (ldLen i hi) Q) := by
  iintro H K
  rw [show (ldLen i hi : KProg F _) = (Prog.lift (.load bLen (Rect.unit (s := S2) ![i] S1.size hi).toLoadRect (View.loadsAt_rect (View.loads_smem_one rfl numel1_S1)))
    >>= fun f => pure (f (Shape.Idx.first (numel1_S1.symm ▸ Nat.one_pos)))) from rfl, W_bind]
  iapply (W_load c bLen _ _ fullShare v _) $$ H
  iintro H
  iapply (W_pure c)
  beta_reduce
  rw [show (Rect.unit (s := S2) ![i] S1.size hi).toLoadRect.idx (Shape.Idx.first (numel1_S1.symm ▸ Nat.one_pos)) = ix1 k from by
    funext x; apply Fin.ext
    match x with
    | 0 => show i + 1 * 0 = k.val; omega]
  iapply K; iexact H
theorem W_proLoads (Q : ProIn F → sProp 𝕄) :
    iprop(Held c O ∗ Any c bQ) ⊢ iprop((iprop(Held c O ∗ owns (c : Thread nD τ) bQ fullShare (kQ O)) -∗ Q (pIn O)) -∗ W c proLoads Q) := by
  unfold Held proLoads
  iintro ⟨⟨H0, H1, H2, H3, H4, H5, H6, H7, H8⟩, HQ⟩ K
  ihave HQ := (owns_of_Any c bQ) $$ HQ
  icases HQ with ⟨%q0, HQ⟩
  rw [W_bind]
  iapply (W_ld2 c bX _ _ O.x _) $$ H0
  iintro H0
  rw [W_bind]
  iapply (W_ld2 c bPKs _ _ O.pks _) $$ H1
  iintro H1
  rw [W_bind]
  iapply (W_ldQ c q0 _) $$ HQ
  iintro HQ
  rw [W_bind]
  iapply (W_st2 c bQ _ (pQ O.x O.pks) _ _ q0 _) $$ HQ
  iintro HQ
  rw [W_bind]
  iapply (W_ldN c bKn 0 rfl _ O.kn _) $$ H2
  iintro H2
  rw [W_bind]
  iapply (W_ldN c bKn 1 rfl _ O.kn _) $$ H2
  iintro H2
  rw [W_bind]
  iapply (W_ldT c bTK 0 rfl _ O.tk _) $$ H5
  iintro H5
  rw [W_bind]
  iapply (W_ldTs c bTKs 0 rfl _ O.tks _) $$ H6
  iintro H6
  rw [W_bind]
  iapply (W_ldLen c 0 rfl _ O.len _) $$ H4
  iintro H4
  rw [W_bind]
  iapply (W_ldT c bTK 1 rfl _ O.tk _) $$ H5
  iintro H5
  rw [W_bind]
  iapply (W_ldTs c bTKs 1 rfl _ O.tks _) $$ H6
  iintro H6
  rw [W_bind]
  iapply (W_ldLen c 1 rfl _ O.len _) $$ H4
  iintro H4
  rw [W_bind]
  iapply (W_ldN c bVn 0 rfl _ O.vn _) $$ H3
  iintro H3
  rw [W_bind]
  iapply (W_ldN c bVn 1 rfl _ O.vn _) $$ H3
  iintro H3
  iapply (W_pure c)
  rw [show (⟨O.x, O.pks, row3 O.kn 0, row3 O.kn 1, row3 O.tk 0, row3 O.tks 0, O.len (ix1 0), row3 O.tk 1, row3 O.tks 1, O.len (ix1 1), row3 O.vn 0, row3 O.vn 1⟩ : ProIn F) = pIn O from rfl]
  iapply K
  isplitr [HQ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  iexact HQ

theorem W_ldL32 (i : ℕ) (hi) (v : Vec F S64x128 .f32) (Q : Vec F S32x128 .f32 → sProp 𝕄) :
    (owns (c : Thread nD τ) bL fullShare v : sProp 𝕄)
      ⊢ iprop((owns (c : Thread nD τ) bL fullShare v -∗ Q (fun j => v ((Rect.unit (s := S64x128) ![i, 0] S32x128.size hi).emb j))) -∗ W c (ldL32 i hi) Q) :=
  W_load c bL (Rect.unit (s := S64x128) ![i, 0] S32x128.size hi).toLoadRect _ fullShare v Q
theorem W_ldA32 (i : ℕ) (hi) (v : Vec F S64x256 .f32) (Q : Vec F S32x256 .f32 → sProp 𝕄) :
    (owns (c : Thread nD τ) bAcc fullShare v : sProp 𝕄)
      ⊢ iprop((owns (c : Thread nD τ) bAcc fullShare v -∗ Q (fun j => v ((Rect.unit (s := S64x256) ![i, 0] S32x256.size hi).emb j))) -∗ W c (ldA32 i hi) Q) :=
  W_load c bAcc (Rect.unit (s := S64x256) ![i, 0] S32x256.size hi).toLoadRect _ fullShare v Q
/-- A half of a vector stored. -/
def Half {α : Type} {n : ℕ} (i : ℕ) (hi : ∀ x, (![i, 0] : Fin 2 → ℕ) x + (⟨2, ![32, n]⟩ : Shape).size x ≤ (⟨2, ![64, n]⟩ : Shape).size x)
    (w : (⟨2, ![32, n]⟩ : Shape).Idx → α) (v v' : (⟨2, ![64, n]⟩ : Shape).Idx → α) : Prop :=
  (∀ x, v' ((Rect.unit (s := ⟨2, ![64, n]⟩) ![i, 0] (⟨2, ![32, n]⟩ : Shape).size hi).emb x) = w x)
    ∧ ∀ y, y ∉ (Rect.unit (s := ⟨2, ![64, n]⟩) ![i, 0] (⟨2, ![32, n]⟩ : Shape).size hi).set → v' y = v y
theorem Half_join {α : Type} {n : ℕ} {h0 h1} {a b : (⟨2, ![32, n]⟩ : Shape).Idx → α} {v v' v'' : (⟨2, ![64, n]⟩ : Shape).Idx → α}
    (e0 : Half 0 h0 a v v') (e1 : Half 32 h1 b v' v'') : v'' = join2 a b := join_eq h0 h1 a b v' v'' e0.1 e1
theorem W_stL32 (i : ℕ) (hi) (w : FVec F S32x128 .f32) (v : Vec F S64x128 .f32) (Q : PUnit → sProp 𝕄) :
    (owns (c : Thread nD τ) bL fullShare v : sProp 𝕄)
      ⊢ iprop((∀ v', ⌜Half i hi w v v'⌝ -∗ owns (c : Thread nD τ) bL fullShare v' -∗ Q ⟨⟩) -∗ W c (stL32 i hi w) Q) :=
  W_store c bL (Rect.unit (s := S64x128) ![i, 0] S32x128.size hi) w _ _ v Q
theorem W_stA32 (i : ℕ) (hi) (w : FVec F S32x256 .f32) (v : Vec F S64x256 .f32) (Q : PUnit → sProp 𝕄) :
    (owns (c : Thread nD τ) bAcc fullShare v : sProp 𝕄)
      ⊢ iprop((∀ v', ⌜Half i hi w v v'⌝ -∗ owns (c : Thread nD τ) bAcc fullShare v' -∗ Q ⟨⟩) -∗ W c (stA32 i hi w) Q) :=
  W_store c bAcc (Rect.unit (s := S64x256) ![i, 0] S32x256.size hi) w _ _ v Q

theorem W_proStores (Q : PUnit → sProp 𝕄) :
    iprop(Held c O ∗ Any c bL ∗ Any c bAcc ∗ Any c bM)
      ⊢ iprop((iprop(Held c O ∗ owns (c : Thread nD τ) bL fullShare (kL0 O) ∗ owns (c : Thread nD τ) bAcc fullShare (kA0 O)
          ∗ owns (c : Thread nD τ) bM fullShare (kM0 O)) -∗ Q ⟨⟩) -∗ W c (proStores (pIn O)) Q) := by
  unfold Held proStores
  iintro ⟨⟨H0, H1, H2, H3, H4, H5, H6, H7, H8⟩, HL, HA, HM⟩ K
  ihave HL := (owns_of_Any c bL) $$ HL
  icases HL with ⟨%l0, HL⟩
  ihave HA := (owns_of_Any c bAcc) $$ HA
  icases HA with ⟨%a0, HA⟩
  ihave HM := (owns_of_Any c bM) $$ HM
  icases HM with ⟨%m0, HM⟩
  rw [W_bind]
  iapply (W_ldL32 c _ _ l0 _) $$ HL
  iintro HL
  rw [W_bind]
  iapply (W_stL32 c _ _ (pL0 (pIn O)) l0 _) $$ HL
  iintro %l1 %hl1 HL
  rw [W_bind]
  iapply (W_ldTs c bTVs 0 rfl _ O.tvs _) $$ H8
  iintro H8
  rw [W_bind]
  iapply (W_ldT c bTV 0 rfl _ O.tv _) $$ H7
  iintro H7
  rw [W_bind]
  iapply (W_ldA32 c _ _ a0 _) $$ HA
  iintro HA
  rw [W_bind]
  iapply (W_stA32 c _ _ (pA0 (pIn O) (row3 O.tvs 0) (row3 O.tv 0)) a0 _) $$ HA
  iintro %a1 %ha1 HA
  rw [W_bind]
  iapply (W_ldL32 c _ _ l1 _) $$ HL
  iintro HL
  rw [W_bind]
  iapply (W_stL32 c _ _ (pL1 (pIn O)) l1 _) $$ HL
  iintro %l2 %hl2 HL
  rw [W_bind]
  iapply (W_ldTs c bTVs 1 rfl _ O.tvs _) $$ H8
  iintro H8
  rw [W_bind]
  iapply (W_ldT c bTV 1 rfl _ O.tv _) $$ H7
  iintro H7
  rw [W_bind]
  iapply (W_ldA32 c _ _ a1 _) $$ HA
  iintro HA
  rw [W_bind]
  iapply (W_stA32 c _ _ (pA1 (pIn O) (row3 O.tvs 1) (row3 O.tv 1)) a1 _) $$ HA
  iintro %a2 %ha2 HA
  rw [W_bind]
  iapply (W_ld128 c bM m0 _) $$ HM
  iintro HM
  iapply (W_st128 c bM m0 _ _) $$ HM
  rw [vC128_eq]
  iintro HM
  have el : l2 = kL0 O := Half_join hl1 hl2
  have ea : a2 = kA0 O := Half_join ha1 ha2
  rw [← el, ← ea]
  iapply K
  isplitr [HL HA HM]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  isplitl [HL]; · iexact HL
  isplitl [HA]; · iexact HA
  iexact HM

/-! ## The result -/

theorem W_stOut (o : Memref sig .tc .vmem S2x2048 .bf16) (ho : o.IsWhole) (i : ℕ) (hi : S2x2048.Slices ![i, 0] S1x2048) (w : FVec F S1x2048 .bf16)
    (v : Vec F S2x2048 .bf16) (Q : PUnit → sProp 𝕄) :
    (owns (c : Thread nD τ) o fullShare v : sProp 𝕄)
      ⊢ iprop((owns (c : Thread nD τ) o fullShare (updateSlice v w ![i, 0] hi) -∗ Q ⟨⟩) -∗ W c (stOut o ho i hi w) Q) := by
  iintro H K
  rw [show (stOut o ho i hi w : KProg F PUnit) = (Prog.lift (.load o (Rect.unit (s := S2x2048) ![0, 0] S2x2048.size inb_S2x2048_S2x2048_0_0).toLoadRect (View.loadsAt_vmem h_S2x2048))
    >>= fun old => Prog.lift (.store o (Rect.unit (s := S2x2048) ![0, 0] S2x2048.size inb_S2x2048_S2x2048_0_0) (updateSlice old w ![i, 0] hi) Finset.univ
      (View.stores_vmem h_S2x2048 (ho.storeExact_slice rfl _ packedbf16_S2x2048_S2x2048_0_0) (fun _ => rfl)) (.inl rfl))) from rfl, W_bind]
  iapply (W_ld2 c o _ _ v _) $$ H
  iintro H
  iapply (W_st2 c o _ _ _ _ v _) $$ H
  iintro H
  iapply K; iexact H

theorem W_epilogue (o : Memref sig .tc .vmem S2x2048 .bf16) (ho : o.IsWhole) (l : Vec F S64x128 .f32) (acc : Vec F S64x256 .f32) (Q : PUnit → sProp 𝕄) :
    (Any c o : sProp 𝕄)
      ⊢ iprop((owns (c : Thread nD τ) o fullShare (rows2 (k0_pay1 (eRow0 l acc)) (k0_pay2 (eOut l acc))) -∗ Q ⟨⟩) -∗ W c (epilogue o ho l acc) Q) := by
  unfold epilogue
  iintro HO K
  ihave HO := (owns_of_Any c o) $$ HO
  icases HO with ⟨%v, HO⟩
  rw [W_bind]
  iapply (W_load c o _ _ fullShare v _) $$ HO
  iintro HO
  rw [W_bind]
  iapply (W_stOut c o ho 0 _ _ v _) $$ HO
  iintro HO
  rw [W_bind]
  iapply (W_load c o _ _ fullShare _ _) $$ HO
  iintro HO
  iapply (W_stOut c o ho 1 _ _ _ _) $$ HO
  iintro HO
  iapply K
  rw [rows_eq]
  iexact HO

/-! ## The whole body -/

/-- What the body works on, before it and after it. -/
def Res : sProp 𝕄 :=
  iprop(Sms c O ∗ Idles c O ∗ Any c bQ ∗ Any c bM ∗ Any c bAl ∗ Any c bL ∗ Any c bAcc ∗ Any c bA ∗ Any c bB)

theorem W_body (o : Memref sig .tc .vmem S2x2048 .bf16) (ho : o.IsWhole) (Q : PUnit → sProp 𝕄) :
    iprop(Res c O ∗ Any c o ∗ Owes c)
      ⊢ iprop((iprop(Res c O ∗ owns (c : Thread nD τ) o fullShare (kOut O) ∗ Owes c) -∗ Q ⟨⟩) -∗ W c (kBody o ho) Q) := by
  unfold Res kBody prologue
  simp only [bind_assoc]
  iintro ⟨⟨HS, HI, HQ, HM, HAl, HL, HA, HbA, HbB⟩, Ho, HO⟩ K
  rw [W_bind]
  iapply (W_startsW c O _) $$ HS
  iintro HS
  rw [W_bind]
  iapply (W_starts3 c O _) $$ HI
  iintro HI
  rw [W_bind]
  iapply (W_waitsW c O _) $$ [HS HO]
  · isplitl [HS] <;> iassumption
  iintro ⟨HH, HS, HO⟩
  rw [W_bind]
  iapply (W_proLoads c O _) $$ [HH HQ]
  · isplitl [HH] <;> iassumption
  iintro ⟨HH, HQ⟩
  rw [W_bind]
  iapply (W_proStores c O _) $$ [HH HL HA HM]
  · isplitl [HH]; · iexact HH
    isplitl [HL]; · iexact HL
    isplitl [HA] <;> iassumption
  iintro ⟨HH, HL, HA, HM⟩
  unfold Starts
  icases HI with ⟨K0, K1, K2, K3, V0, V1, V2, V3, W0, W1, W2, W3⟩
  rw [W_bind]
  iapply (W_waitK c O.pk (n := 0) (by decide) _) $$ [K0 HO]
  · isplitl [K0] <;> iassumption
  iintro ⟨K0, HO⟩
  rw [W_bind]
  iapply (W_scores c O.pk (kQ O) (n := 0) (by decide) bA (kM0 O) _) $$ [K0 HbA HQ HM]
  · isplitl [K0]; · iexact K0
    isplitl [HbA]; · iexact HbA
    isplitl [HQ] <;> iassumption
  iintro ⟨K0, HbA, HQ, HM⟩
  rw [W_bind]
  ihave HAl := (owns_of_Any c bAl) $$ HAl
  icases HAl with ⟨%al0, HAl⟩
  iapply (W_stMAl c _ (kM0 O) al0 _) $$ [HM HAl]
  · isplitl [HM] <;> iassumption
  iintro ⟨HM, HAl⟩
  rw [W_bind]
  ihave K4 := (IdleK_of_Here c O.pk (n := 0) _) $$ K0
  ihave K4 := (show IdleK c O.pk 0 ⊢ IdleK c O.pk 4 from by rw [← IdleK_add c O.pk 0]) $$ K4
  iapply (W_startK c O.pk (n := 4) (by decide) _) $$ K4
  iintro K4
  iapply (W_main c O.pk O.pv O.pvs (kQ O) (kM0 O) (kL0 O) (kA0 O) Q (ld128 bL >>= fun l => ld256 bAcc >>= fun acc => epilogue o ho l acc)) $$ [K1 K2 K3 K4 V0 V1 V2 V3 W0 W1 W2 W3 HQ HM HAl HL HA HbA HbB HO]
  · unfold Inv Bufs
    isplitl [K1]; · iexact K1
    isplitl [K2]; · iexact K2
    isplitl [K3]; · iexact K3
    isplitl [K4]; · iexact K4
    isplitl [V0]; · iexact V0
    isplitl [V1]; · iexact V1
    isplitl [V2]; · iexact V2
    isplitl [V3]; · iexact V3
    isplitl [W0]; · iexact W0
    isplitl [W1]; · iexact W1
    isplitl [W2]; · iexact W2
    isplitl [W3]; · iexact W3
    isplitl [HQ]; · iexact HQ
    isplitl [HM]; · iexact HM
    isplitl [HAl]; · iexact HAl
    isplitl [HL]; · iexact HL
    isplitl [HA]; · iexact HA
    isplitl [HbA]; · iexact HbA
    isplitl [HbB] <;> iassumption
  iintro ⟨K0, K1, K2, K3, V0, V1, V2, V3, W0, W1, W2, W3, HQ, HM, HAl, HL, HA, HbB, HbA, HO⟩
  rw [W_bind]
  iapply (W_ld128 c bL _ _) $$ HL
  iintro HL
  rw [W_bind]
  iapply (W_ld256 c bAcc _ _) $$ HA
  iintro HA
  iapply (W_epilogue c o ho _ _ _) $$ Ho
  iintro Ho
  iapply K
  isplitr [Ho HO]
  · isplitl [HH HS]
    · iapply (Sms_back c O); isplitl [HH] <;> iassumption
    isplitl [K0 K1 K2 K3 V0 V1 V2 V3 W0 W1 W2 W3]
    · unfold Idles
      isplitl [K0]; · iexact K0
      isplitl [K1]; · iexact K1
      isplitl [K2]; · iexact K2
      isplitl [K3]; · iexact K3
      isplitl [V0]; · iexact V0
      isplitl [V1]; · iexact V1
      isplitl [V2]; · iexact V2
      isplitl [V3]; · iexact V3
      isplitl [W0]; · iexact W0
      isplitl [W1]; · iexact W1
      isplitl [W2] <;> iassumption
    isplitl [HQ]; · iapply (Any_of_owns c bQ _); iexact HQ
    isplitl [HM]; · iapply (Any_of_owns c bM _); iexact HM
    isplitl [HAl]; · iapply (Any_of_owns c bAl _); iexact HAl
    isplitl [HL]; · iapply (Any_of_owns c bL _); iexact HL
    isplitl [HA]; · iapply (Any_of_owns c bAcc _); iexact HA
    isplitl [HbA]; · iexact HbA
    iexact HbB
  isplitl [Ho]; · iexact Ho
  iexact HO

end Cert.Kernel.Steps

end
-- ==== Proof.Kernel.Run.lean ====
/-
  The launch: from the buffers as @main hands them over to the kernel's body, and back; the run of the program.
-/
module

public import proofs.«01_k».proof.Proof.Kernel.Pro
public import proofs.«01_k».proof.Proof.Gen.Kernel.Frame
public import Idealize.ShloMosaic.Lib.Pipeline.Routed
public import Idealize.ShloMosaic.Lib.Pipeline.Value

@[expose] public section

noncomputable section

namespace Cert.Kernel.Steps

open Facts₀ Facts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Cert.Kernel.Gen (V launch0 scopedRest0_eq bigSep_W0 hostOps0 hostOps0_sub hostOps0_fresh main_chain fin_N0 t0_0)
open Idealize.ShloMosaic.Pipeline (Dat BodyObligation)

variable (c : Dev nD)

/-! ## Whole buffers -/

theorem Any_eq {sp : Space} {s : Shape} {e : EltTy} (m : Memref sig .tc sp s e) (hm : m.IsWhole) :
    (Any c m : sProp 𝕄) = iprop(∃ f, m.view.loc (c : Thread nD τ) ↦[Finset.univ]{fullShare} f) := by
  unfold Any; rw [hm.set_eq_univ]

theorem ofEq {P Q : sProp 𝕄} (h : P = Q) : P ⊢ Q := by rw [h]

theorem mono4 {A B : Fin 4 → sProp 𝕄} (h : ∀ k, A k ⊢ B k) : bigSep Finset.univ A ⊢ bigSep Finset.univ B :=
  bigSep_mono fun k _ => h k

theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-! ## The rings -/

theorem k_lt (k : Fin 4) : (BitVec.ofNat 32 k.val).toNat < 32 := w_lt (by omega)

/-- The slots of the ring. -/
def setK (k : Fin 4) : Finset S4x256x4096.Idx := (Rect.unit (s := S4x256x4096) (slotOff (BitVec.ofNat 32 k.val)) S1x256x4096.size (slotOff_inb (k_lt k))).set
theorem mem_setK (k : Fin 4) (y : S4x256x4096.Idx) : y ∈ setK k ↔ (y 0).val = k.val := by
  unfold setK
  rw [Rect.mem_set_unit]
  have e : (Scalar.remsi (BitVec.ofNat 32 k.val) 4#32).toNat = k.val := by
    rw [remsi_toNat (k_lt k), w_toNat (by omega)]; omega
  have h1 : (y 1).val < 256 := (y 1).isLt
  have h2 : (y 2).val < 4096 := (y 2).isLt
  constructor
  · intro H
    have a0 : (Scalar.remsi (BitVec.ofNat 32 k.val) 4#32).toNat ≤ (y 0).val ∧ (y 0).val < (Scalar.remsi (BitVec.ofNat 32 k.val) 4#32).toNat + 1 := H 0
    omega
  · intro H i
    match i with
    | 0 => show (Scalar.remsi (BitVec.ofNat 32 k.val) 4#32).toNat ≤ (y 0).val ∧ (y 0).val < (Scalar.remsi (BitVec.ofNat 32 k.val) 4#32).toNat + 1; omega
    | 1 => show 0 ≤ (y 1).val ∧ (y 1).val < 0 + 256; omega
    | 2 => show 0 ≤ (y 2).val ∧ (y 2).val < 0 + 4096; omega
theorem disjK : ∀ b b' : Fin 4, b ≠ b' → Disjoint (setK b) (setK b') := by
  intro b b' hne; rw [Finset.disjoint_left]; intro y hy hy'; rw [mem_setK] at hy hy'; exact hne (Fin.ext (hy.symm.trans hy'))
theorem coverK : (Finset.univ : Finset (Fin 4)).biUnion setK = Finset.univ := by
  ext y; simp only [Finset.mem_biUnion, Finset.mem_univ, true_and, iff_true]; exact ⟨⟨(y 0).val, (y 0).isLt⟩, by rw [mem_setK]⟩
theorem slotSetK (k : Fin 4) : (slotK (BitVec.ofNat 32 k.val) (k_lt k) : Memref sig .tc .vmem _ _).view.set = setK k :=
  (View.set_reshape _ _).trans (View.set_slice_whole _ _)
theorem slotPK (k : Fin 4) (f) : ((slotK (BitVec.ofNat 32 k.val) (k_lt k)).view.loc (c : Thread nD τ) ↦[(slotK (BitVec.ofNat 32 k.val) (k_lt k)).view.set]{fullShare} f : sProp 𝕄)
    = (((c : Thread nD τ).loc cc0_scratch9) ↦[setK k]{fullShare} f : sProp 𝕄) :=
  congrArg (fun S => (_ ↦[S]{fullShare} f : sProp 𝕄)) (slotSetK k)
theorem splitK : (iprop(∃ f : Buf (Elt F) ((c : Thread nD τ).loc cc0_scratch9), ((c : Thread nD τ).loc cc0_scratch9) ↦{fullShare} f) : sProp 𝕄)
    ⊢ bigSep Finset.univ (fun k : Fin 4 => Any c (slotK (BitVec.ofNat 32 k.val) (k_lt k))) := by
  iintro ⟨%f, H⟩
  ihave H := (ofEq (Ring.pointsTo_blocks (Ix := Unit) (Name := ℕ) (U := UU nD τ) (Lvl := ℕ) (q := fullShare) (ℓ := (c : Thread nD τ).loc cc0_scratch9) setK disjK coverK f)) $$ H
  iapply (mono4 fun k => (show (((c : Thread nD τ).loc cc0_scratch9) ↦[setK k]{fullShare} f : sProp 𝕄) ⊢ Any c (slotK (BitVec.ofNat 32 k.val) (k_lt k)) from by
    unfold Any
    iintro H; iexists f; iapply (ofEq (slotPK c k f).symm); iexact H))
  iexact H
theorem joinK (f0 : Buf (Elt F) ((c : Thread nD τ).loc cc0_scratch9)) : bigSep Finset.univ (fun k : Fin 4 => Any c (slotK (BitVec.ofNat 32 k.val) (k_lt k)))
    ⊢ (iprop(∃ f : Buf (Elt F) ((c : Thread nD τ).loc cc0_scratch9), ((c : Thread nD τ).loc cc0_scratch9) ↦{fullShare} f) : sProp 𝕄) := by
  iintro H
  iapply (Ring.pointsTo_blocks_join_exists (ℓ := (c : Thread nD τ).loc cc0_scratch9) setK disjK coverK f0)
  iapply (mono4 fun k => (show Any c (slotK (BitVec.ofNat 32 k.val) (k_lt k)) ⊢ (iprop(∃ f, ((c : Thread nD τ).loc cc0_scratch9) ↦[setK k]{fullShare} f) : sProp 𝕄) from by
    unfold Any
    iintro ⟨%f, H⟩; iexists f; iapply (ofEq (slotPK c k f)); iexact H))
  iexact H
theorem ringInK (XK : Vec F S256x131072 .fp8e4m3) :
    (iprop((∃ f : Buf (Elt F) ((c : Thread nD τ).loc cc0_scratch9), ((c : Thread nD τ).loc cc0_scratch9) ↦{fullShare} f)
      ∗ (aPK.view.loc (c : Thread nD τ) ↦[Finset.univ]{fullShare} XK)
      ∗ semVal ((c : Thread nD τ), SemLoc.dma (semK (BitVec.ofNat 32 (0 % 4)) (m_lt 0)).sem) 0
      ∗ semVal ((c : Thread nD τ), SemLoc.dma (semK (BitVec.ofNat 32 (1 % 4)) (m_lt 1)).sem) 0
      ∗ semVal ((c : Thread nD τ), SemLoc.dma (semK (BitVec.ofNat 32 (2 % 4)) (m_lt 2)).sem) 0
      ∗ semVal ((c : Thread nD τ), SemLoc.dma (semK (BitVec.ofNat 32 (3 % 4)) (m_lt 3)).sem) 0) : sProp 𝕄)
    ⊢ iprop((IdleK c XK 0 ∗ IdleK c XK 1 ∗ IdleK c XK 2 ∗ IdleK c XK 3) ∗ (aPK.view.loc (c : Thread nD τ) ↦[Finset.univ]{Transfers.shareDrop fullShare 4} XK)) := by
  iintro ⟨HB, HX, S0, S1, S2, S3⟩
  ihave HB := (splitK c) $$ HB
  ihave HB := (ofEq (bigSep_fin4 _)) $$ HB
  icases HB with ⟨B0, B1, B2, B3⟩
  ihave HX := (Transfers.pointsTo_toks_split fullShare 4) $$ HX
  icases HX with ⟨HX, HT⟩
  ihave HT := (ofEq (bigSep_fin4 _)) $$ HT
  icases HT with ⟨T0, T1, T2, T3⟩
  unfold IdleK
  isplitr [HX]
  · isplitl [B0 S0 T0]
    · isplitl [B0]; · iexact B0
      isplitl [S0]; · iexact S0
      iexact T0
    isplitl [B1 S1 T1]
    · isplitl [B1]; · iexact B1
      isplitl [S1]; · iexact S1
      iexact T1
    isplitl [B2 S2 T2]
    · isplitl [B2]; · iexact B2
      isplitl [S2]; · iexact S2
      iexact T2
    isplitl [B3]; · iexact B3
    isplitl [S3]; · iexact S3
    iexact T3
  iexact HX
theorem ringOutK (XK : Vec F S256x131072 .fp8e4m3) (f0 : Buf (Elt F) ((c : Thread nD τ).loc cc0_scratch9)) :
    iprop((IdleK c XK 0 ∗ IdleK c XK 1 ∗ IdleK c XK 2 ∗ IdleK c XK 3) ∗ (aPK.view.loc (c : Thread nD τ) ↦[Finset.univ]{Transfers.shareDrop fullShare 4} XK))
    ⊢ (iprop((∃ f : Buf (Elt F) ((c : Thread nD τ).loc cc0_scratch9), ((c : Thread nD τ).loc cc0_scratch9) ↦{fullShare} f)
      ∗ (aPK.view.loc (c : Thread nD τ) ↦[Finset.univ]{fullShare} XK)
      ∗ semVal ((c : Thread nD τ), SemLoc.dma (semK (BitVec.ofNat 32 (0 % 4)) (m_lt 0)).sem) 0
      ∗ semVal ((c : Thread nD τ), SemLoc.dma (semK (BitVec.ofNat 32 (1 % 4)) (m_lt 1)).sem) 0
      ∗ semVal ((c : Thread nD τ), SemLoc.dma (semK (BitVec.ofNat 32 (2 % 4)) (m_lt 2)).sem) 0
      ∗ semVal ((c : Thread nD τ), SemLoc.dma (semK (BitVec.ofNat 32 (3 % 4)) (m_lt 3)).sem) 0) : sProp 𝕄) := by
  unfold IdleK
  iintro ⟨⟨⟨B0, S0, T0⟩, ⟨B1, S1, T1⟩, ⟨B2, S2, T2⟩, ⟨B3, S3, T3⟩⟩, HX⟩
  isplitl [B0 B1 B2 B3]
  · iapply (joinK c f0)
    iapply (ofEq (bigSep_fin4 _).symm)
    isplitl [B0]; · iexact B0
    isplitl [B1]; · iexact B1
    isplitl [B2]; · iexact B2
    iexact B3
  isplitl [HX T0 T1 T2 T3]
  · iapply (Transfers.pointsTo_toks_join fullShare 4)
    isplitl [HX]; · iexact HX
    iapply (ofEq (bigSep_fin4 _).symm)
    isplitl [T0]; · iexact T0
    isplitl [T1]; · iexact T1
    isplitl [T2]; · iexact T2
    iexact T3
  isplitl [S0]; · iexact S0
  isplitl [S1]; · iexact S1
  isplitl [S2]; · iexact S2
  iexact S3

/-- The slots of the ring. -/
def setV (k : Fin 4) : Finset S4x256x4096.Idx := (Rect.unit (s := S4x256x4096) (slotOff (BitVec.ofNat 32 k.val)) S1x256x4096.size (slotOff_inb (k_lt k))).set
theorem mem_setV (k : Fin 4) (y : S4x256x4096.Idx) : y ∈ setV k ↔ (y 0).val = k.val := by
  unfold setV
  rw [Rect.mem_set_unit]
  have e : (Scalar.remsi (BitVec.ofNat 32 k.val) 4#32).toNat = k.val := by
    rw [remsi_toNat (k_lt k), w_toNat (by omega)]; omega
  have h1 : (y 1).val < 256 := (y 1).isLt
  have h2 : (y 2).val < 4096 := (y 2).isLt
  constructor
  · intro H
    have a0 : (Scalar.remsi (BitVec.ofNat 32 k.val) 4#32).toNat ≤ (y 0).val ∧ (y 0).val < (Scalar.remsi (BitVec.ofNat 32 k.val) 4#32).toNat + 1 := H 0
    omega
  · intro H i
    match i with
    | 0 => show (Scalar.remsi (BitVec.ofNat 32 k.val) 4#32).toNat ≤ (y 0).val ∧ (y 0).val < (Scalar.remsi (BitVec.ofNat 32 k.val) 4#32).toNat + 1; omega
    | 1 => show 0 ≤ (y 1).val ∧ (y 1).val < 0 + 256; omega
    | 2 => show 0 ≤ (y 2).val ∧ (y 2).val < 0 + 4096; omega
theorem disjV : ∀ b b' : Fin 4, b ≠ b' → Disjoint (setV b) (setV b') := by
  intro b b' hne; rw [Finset.disjoint_left]; intro y hy hy'; rw [mem_setV] at hy hy'; exact hne (Fin.ext (hy.symm.trans hy'))
theorem coverV : (Finset.univ : Finset (Fin 4)).biUnion setV = Finset.univ := by
  ext y; simp only [Finset.mem_biUnion, Finset.mem_univ, true_and, iff_true]; exact ⟨⟨(y 0).val, (y 0).isLt⟩, by rw [mem_setV]⟩
theorem slotSetV (k : Fin 4) : (slotV (BitVec.ofNat 32 k.val) (k_lt k) : Memref sig .tc .vmem _ _).view.set = setV k :=
  (View.set_reshape _ _).trans (View.set_slice_whole _ _)
theorem slotPV (k : Fin 4) (f) : ((slotV (BitVec.ofNat 32 k.val) (k_lt k)).view.loc (c : Thread nD τ) ↦[(slotV (BitVec.ofNat 32 k.val) (k_lt k)).view.set]{fullShare} f : sProp 𝕄)
    = (((c : Thread nD τ).loc cc0_scratch10) ↦[setV k]{fullShare} f : sProp 𝕄) :=
  congrArg (fun S => (_ ↦[S]{fullShare} f : sProp 𝕄)) (slotSetV k)
theorem splitV : (iprop(∃ f : Buf (Elt F) ((c : Thread nD τ).loc cc0_scratch10), ((c : Thread nD τ).loc cc0_scratch10) ↦{fullShare} f) : sProp 𝕄)
    ⊢ bigSep Finset.univ (fun k : Fin 4 => Any c (slotV (BitVec.ofNat 32 k.val) (k_lt k))) := by
  iintro ⟨%f, H⟩
  ihave H := (ofEq (Ring.pointsTo_blocks (Ix := Unit) (Name := ℕ) (U := UU nD τ) (Lvl := ℕ) (q := fullShare) (ℓ := (c : Thread nD τ).loc cc0_scratch10) setV disjV coverV f)) $$ H
  iapply (mono4 fun k => (show (((c : Thread nD τ).loc cc0_scratch10) ↦[setV k]{fullShare} f : sProp 𝕄) ⊢ Any c (slotV (BitVec.ofNat 32 k.val) (k_lt k)) from by
    unfold Any
    iintro H; iexists f; iapply (ofEq (slotPV c k f).symm); iexact H))
  iexact H
theorem joinV (f0 : Buf (Elt F) ((c : Thread nD τ).loc cc0_scratch10)) : bigSep Finset.univ (fun k : Fin 4 => Any c (slotV (BitVec.ofNat 32 k.val) (k_lt k)))
    ⊢ (iprop(∃ f : Buf (Elt F) ((c : Thread nD τ).loc cc0_scratch10), ((c : Thread nD τ).loc cc0_scratch10) ↦{fullShare} f) : sProp 𝕄) := by
  iintro H
  iapply (Ring.pointsTo_blocks_join_exists (ℓ := (c : Thread nD τ).loc cc0_scratch10) setV disjV coverV f0)
  iapply (mono4 fun k => (show Any c (slotV (BitVec.ofNat 32 k.val) (k_lt k)) ⊢ (iprop(∃ f, ((c : Thread nD τ).loc cc0_scratch10) ↦[setV k]{fullShare} f) : sProp 𝕄) from by
    unfold Any
    iintro ⟨%f, H⟩; iexists f; iapply (ofEq (slotPV c k f)); iexact H))
  iexact H
theorem ringInV (XV : Vec F S256x131072 .fp8e4m3) :
    (iprop((∃ f : Buf (Elt F) ((c : Thread nD τ).loc cc0_scratch10), ((c : Thread nD τ).loc cc0_scratch10) ↦{fullShare} f)
      ∗ (aPV.view.loc (c : Thread nD τ) ↦[Finset.univ]{fullShare} XV)
      ∗ semVal ((c : Thread nD τ), SemLoc.dma (semV (BitVec.ofNat 32 (0 % 4)) (m_lt 0)).sem) 0
      ∗ semVal ((c : Thread nD τ), SemLoc.dma (semV (BitVec.ofNat 32 (1 % 4)) (m_lt 1)).sem) 0
      ∗ semVal ((c : Thread nD τ), SemLoc.dma (semV (BitVec.ofNat 32 (2 % 4)) (m_lt 2)).sem) 0
      ∗ semVal ((c : Thread nD τ), SemLoc.dma (semV (BitVec.ofNat 32 (3 % 4)) (m_lt 3)).sem) 0) : sProp 𝕄)
    ⊢ iprop((IdleV c XV 0 ∗ IdleV c XV 1 ∗ IdleV c XV 2 ∗ IdleV c XV 3) ∗ (aPV.view.loc (c : Thread nD τ) ↦[Finset.univ]{Transfers.shareDrop fullShare 4} XV)) := by
  iintro ⟨HB, HX, S0, S1, S2, S3⟩
  ihave HB := (splitV c) $$ HB
  ihave HB := (ofEq (bigSep_fin4 _)) $$ HB
  icases HB with ⟨B0, B1, B2, B3⟩
  ihave HX := (Transfers.pointsTo_toks_split fullShare 4) $$ HX
  icases HX with ⟨HX, HT⟩
  ihave HT := (ofEq (bigSep_fin4 _)) $$ HT
  icases HT with ⟨T0, T1, T2, T3⟩
  unfold IdleV
  isplitr [HX]
  · isplitl [B0 S0 T0]
    · isplitl [B0]; · iexact B0
      isplitl [S0]; · iexact S0
      iexact T0
    isplitl [B1 S1 T1]
    · isplitl [B1]; · iexact B1
      isplitl [S1]; · iexact S1
      iexact T1
    isplitl [B2 S2 T2]
    · isplitl [B2]; · iexact B2
      isplitl [S2]; · iexact S2
      iexact T2
    isplitl [B3]; · iexact B3
    isplitl [S3]; · iexact S3
    iexact T3
  iexact HX
theorem ringOutV (XV : Vec F S256x131072 .fp8e4m3) (f0 : Buf (Elt F) ((c : Thread nD τ).loc cc0_scratch10)) :
    iprop((IdleV c XV 0 ∗ IdleV c XV 1 ∗ IdleV c XV 2 ∗ IdleV c XV 3) ∗ (aPV.view.loc (c : Thread nD τ) ↦[Finset.univ]{Transfers.shareDrop fullShare 4} XV))
    ⊢ (iprop((∃ f : Buf (Elt F) ((c : Thread nD τ).loc cc0_scratch10), ((c : Thread nD τ).loc cc0_scratch10) ↦{fullShare} f)
      ∗ (aPV.view.loc (c : Thread nD τ) ↦[Finset.univ]{fullShare} XV)
      ∗ semVal ((c : Thread nD τ), SemLoc.dma (semV (BitVec.ofNat 32 (0 % 4)) (m_lt 0)).sem) 0
      ∗ semVal ((c : Thread nD τ), SemLoc.dma (semV (BitVec.ofNat 32 (1 % 4)) (m_lt 1)).sem) 0
      ∗ semVal ((c : Thread nD τ), SemLoc.dma (semV (BitVec.ofNat 32 (2 % 4)) (m_lt 2)).sem) 0
      ∗ semVal ((c : Thread nD τ), SemLoc.dma (semV (BitVec.ofNat 32 (3 % 4)) (m_lt 3)).sem) 0) : sProp 𝕄) := by
  unfold IdleV
  iintro ⟨⟨⟨B0, S0, T0⟩, ⟨B1, S1, T1⟩, ⟨B2, S2, T2⟩, ⟨B3, S3, T3⟩⟩, HX⟩
  isplitl [B0 B1 B2 B3]
  · iapply (joinV c f0)
    iapply (ofEq (bigSep_fin4 _).symm)
    isplitl [B0]; · iexact B0
    isplitl [B1]; · iexact B1
    isplitl [B2]; · iexact B2
    iexact B3
  isplitl [HX T0 T1 T2 T3]
  · iapply (Transfers.pointsTo_toks_join fullShare 4)
    isplitl [HX]; · iexact HX
    iapply (ofEq (bigSep_fin4 _).symm)
    isplitl [T0]; · iexact T0
    isplitl [T1]; · iexact T1
    isplitl [T2]; · iexact T2
    iexact T3
  isplitl [S0]; · iexact S0
  isplitl [S1]; · iexact S1
  isplitl [S2]; · iexact S2
  iexact S3

/-- The slots of the ring. -/
def setVs (k : Fin 4) : Finset S4x4x4096.Idx := (Rect.unit (s := S4x4x4096) (slotOff (BitVec.ofNat 32 k.val)) S1x4x4096.size (slotOff_inb4 (k_lt k))).set
theorem mem_setVs (k : Fin 4) (y : S4x4x4096.Idx) : y ∈ setVs k ↔ (y 0).val = k.val := by
  unfold setVs
  rw [Rect.mem_set_unit]
  have e : (Scalar.remsi (BitVec.ofNat 32 k.val) 4#32).toNat = k.val := by
    rw [remsi_toNat (k_lt k), w_toNat (by omega)]; omega
  have h1 : (y 1).val < 4 := (y 1).isLt
  have h2 : (y 2).val < 4096 := (y 2).isLt
  constructor
  · intro H
    have a0 : (Scalar.remsi (BitVec.ofNat 32 k.val) 4#32).toNat ≤ (y 0).val ∧ (y 0).val < (Scalar.remsi (BitVec.ofNat 32 k.val) 4#32).toNat + 1 := H 0
    omega
  · intro H i
    match i with
    | 0 => show (Scalar.remsi (BitVec.ofNat 32 k.val) 4#32).toNat ≤ (y 0).val ∧ (y 0).val < (Scalar.remsi (BitVec.ofNat 32 k.val) 4#32).toNat + 1; omega
    | 1 => show 0 ≤ (y 1).val ∧ (y 1).val < 0 + 4; omega
    | 2 => show 0 ≤ (y 2).val ∧ (y 2).val < 0 + 4096; omega
theorem disjVs : ∀ b b' : Fin 4, b ≠ b' → Disjoint (setVs b) (setVs b') := by
  intro b b' hne; rw [Finset.disjoint_left]; intro y hy hy'; rw [mem_setVs] at hy hy'; exact hne (Fin.ext (hy.symm.trans hy'))
theorem coverVs : (Finset.univ : Finset (Fin 4)).biUnion setVs = Finset.univ := by
  ext y; simp only [Finset.mem_biUnion, Finset.mem_univ, true_and, iff_true]; exact ⟨⟨(y 0).val, (y 0).isLt⟩, by rw [mem_setVs]⟩
theorem slotSetVs (k : Fin 4) : (slotVs (BitVec.ofNat 32 k.val) (k_lt k) : Memref sig .tc .vmem _ _).view.set = setVs k :=
  (View.set_reshape _ _).trans (View.set_slice_whole _ _)
theorem slotPVs (k : Fin 4) (f) : ((slotVs (BitVec.ofNat 32 k.val) (k_lt k)).view.loc (c : Thread nD τ) ↦[(slotVs (BitVec.ofNat 32 k.val) (k_lt k)).view.set]{fullShare} f : sProp 𝕄)
    = (((c : Thread nD τ).loc cc0_scratch11) ↦[setVs k]{fullShare} f : sProp 𝕄) :=
  congrArg (fun S => (_ ↦[S]{fullShare} f : sProp 𝕄)) (slotSetVs k)
theorem splitVs : (iprop(∃ f : Buf (Elt F) ((c : Thread nD τ).loc cc0_scratch11), ((c : Thread nD τ).loc cc0_scratch11) ↦{fullShare} f) : sProp 𝕄)
    ⊢ bigSep Finset.univ (fun k : Fin 4 => Any c (slotVs (BitVec.ofNat 32 k.val) (k_lt k))) := by
  iintro ⟨%f, H⟩
  ihave H := (ofEq (Ring.pointsTo_blocks (Ix := Unit) (Name := ℕ) (U := UU nD τ) (Lvl := ℕ) (q := fullShare) (ℓ := (c : Thread nD τ).loc cc0_scratch11) setVs disjVs coverVs f)) $$ H
  iapply (mono4 fun k => (show (((c : Thread nD τ).loc cc0_scratch11) ↦[setVs k]{fullShare} f : sProp 𝕄) ⊢ Any c (slotVs (BitVec.ofNat 32 k.val) (k_lt k)) from by
    unfold Any
    iintro H; iexists f; iapply (ofEq (slotPVs c k f).symm); iexact H))
  iexact H
theorem joinVs (f0 : Buf (Elt F) ((c : Thread nD τ).loc cc0_scratch11)) : bigSep Finset.univ (fun k : Fin 4 => Any c (slotVs (BitVec.ofNat 32 k.val) (k_lt k)))
    ⊢ (iprop(∃ f : Buf (Elt F) ((c : Thread nD τ).loc cc0_scratch11), ((c : Thread nD τ).loc cc0_scratch11) ↦{fullShare} f) : sProp 𝕄) := by
  iintro H
  iapply (Ring.pointsTo_blocks_join_exists (ℓ := (c : Thread nD τ).loc cc0_scratch11) setVs disjVs coverVs f0)
  iapply (mono4 fun k => (show Any c (slotVs (BitVec.ofNat 32 k.val) (k_lt k)) ⊢ (iprop(∃ f, ((c : Thread nD τ).loc cc0_scratch11) ↦[setVs k]{fullShare} f) : sProp 𝕄) from by
    unfold Any
    iintro ⟨%f, H⟩; iexists f; iapply (ofEq (slotPVs c k f)); iexact H))
  iexact H
theorem ringInVs (XVs : Vec F S4x131072 .f32) :
    (iprop((∃ f : Buf (Elt F) ((c : Thread nD τ).loc cc0_scratch11), ((c : Thread nD τ).loc cc0_scratch11) ↦{fullShare} f)
      ∗ (aPVs.view.loc (c : Thread nD τ) ↦[Finset.univ]{fullShare} XVs)
      ∗ semVal ((c : Thread nD τ), SemLoc.dma (semVs (BitVec.ofNat 32 (0 % 4)) (m_lt 0)).sem) 0
      ∗ semVal ((c : Thread nD τ), SemLoc.dma (semVs (BitVec.ofNat 32 (1 % 4)) (m_lt 1)).sem) 0
      ∗ semVal ((c : Thread nD τ), SemLoc.dma (semVs (BitVec.ofNat 32 (2 % 4)) (m_lt 2)).sem) 0
      ∗ semVal ((c : Thread nD τ), SemLoc.dma (semVs (BitVec.ofNat 32 (3 % 4)) (m_lt 3)).sem) 0) : sProp 𝕄)
    ⊢ iprop((IdleVs c XVs 0 ∗ IdleVs c XVs 1 ∗ IdleVs c XVs 2 ∗ IdleVs c XVs 3) ∗ (aPVs.view.loc (c : Thread nD τ) ↦[Finset.univ]{Transfers.shareDrop fullShare 4} XVs)) := by
  iintro ⟨HB, HX, S0, S1, S2, S3⟩
  ihave HB := (splitVs c) $$ HB
  ihave HB := (ofEq (bigSep_fin4 _)) $$ HB
  icases HB with ⟨B0, B1, B2, B3⟩
  ihave HX := (Transfers.pointsTo_toks_split fullShare 4) $$ HX
  icases HX with ⟨HX, HT⟩
  ihave HT := (ofEq (bigSep_fin4 _)) $$ HT
  icases HT with ⟨T0, T1, T2, T3⟩
  unfold IdleVs
  isplitr [HX]
  · isplitl [B0 S0 T0]
    · isplitl [B0]; · iexact B0
      isplitl [S0]; · iexact S0
      iexact T0
    isplitl [B1 S1 T1]
    · isplitl [B1]; · iexact B1
      isplitl [S1]; · iexact S1
      iexact T1
    isplitl [B2 S2 T2]
    · isplitl [B2]; · iexact B2
      isplitl [S2]; · iexact S2
      iexact T2
    isplitl [B3]; · iexact B3
    isplitl [S3]; · iexact S3
    iexact T3
  iexact HX
theorem ringOutVs (XVs : Vec F S4x131072 .f32) (f0 : Buf (Elt F) ((c : Thread nD τ).loc cc0_scratch11)) :
    iprop((IdleVs c XVs 0 ∗ IdleVs c XVs 1 ∗ IdleVs c XVs 2 ∗ IdleVs c XVs 3) ∗ (aPVs.view.loc (c : Thread nD τ) ↦[Finset.univ]{Transfers.shareDrop fullShare 4} XVs))
    ⊢ (iprop((∃ f : Buf (Elt F) ((c : Thread nD τ).loc cc0_scratch11), ((c : Thread nD τ).loc cc0_scratch11) ↦{fullShare} f)
      ∗ (aPVs.view.loc (c : Thread nD τ) ↦[Finset.univ]{fullShare} XVs)
      ∗ semVal ((c : Thread nD τ), SemLoc.dma (semVs (BitVec.ofNat 32 (0 % 4)) (m_lt 0)).sem) 0
      ∗ semVal ((c : Thread nD τ), SemLoc.dma (semVs (BitVec.ofNat 32 (1 % 4)) (m_lt 1)).sem) 0
      ∗ semVal ((c : Thread nD τ), SemLoc.dma (semVs (BitVec.ofNat 32 (2 % 4)) (m_lt 2)).sem) 0
      ∗ semVal ((c : Thread nD τ), SemLoc.dma (semVs (BitVec.ofNat 32 (3 % 4)) (m_lt 3)).sem) 0) : sProp 𝕄) := by
  unfold IdleVs
  iintro ⟨⟨⟨B0, S0, T0⟩, ⟨B1, S1, T1⟩, ⟨B2, S2, T2⟩, ⟨B3, S3, T3⟩⟩, HX⟩
  isplitl [B0 B1 B2 B3]
  · iapply (joinVs c f0)
    iapply (ofEq (bigSep_fin4 _).symm)
    isplitl [B0]; · iexact B0
    isplitl [B1]; · iexact B1
    isplitl [B2]; · iexact B2
    iexact B3
  isplitl [HX T0 T1 T2 T3]
  · iapply (Transfers.pointsTo_toks_join fullShare 4)
    isplitl [HX]; · iexact HX
    iapply (ofEq (bigSep_fin4 _).symm)
    isplitl [T0]; · iexact T0
    isplitl [T1]; · iexact T1
    isplitl [T2]; · iexact T2
    iexact T3
  isplitl [S0]; · iexact S0
  isplitl [S1]; · iexact S1
  isplitl [S2]; · iexact S2
  iexact S3

/-! ## The kernel's cells and operands -/

def osem : Fin 21 → SemLoc sig := ![
  SemLoc.dma (sem9 0 inb_S9_S1_0),
  SemLoc.dma (sem9 1 inb_S9_S1_1),
  SemLoc.dma (sem9 2 inb_S9_S1_2),
  SemLoc.dma (sem9 3 inb_S9_S1_3),
  SemLoc.dma (sem9 4 inb_S9_S1_4),
  SemLoc.dma (sem9 5 inb_S9_S1_5),
  SemLoc.dma (sem9 6 inb_S9_S1_6),
  SemLoc.dma (sem9 7 inb_S9_S1_7),
  SemLoc.dma (sem9 8 inb_S9_S1_8),
  SemLoc.dma (semK (BitVec.ofNat 32 (0 % 4)) (m_lt 0)).sem,
  SemLoc.dma (semK (BitVec.ofNat 32 (1 % 4)) (m_lt 1)).sem,
  SemLoc.dma (semK (BitVec.ofNat 32 (2 % 4)) (m_lt 2)).sem,
  SemLoc.dma (semK (BitVec.ofNat 32 (3 % 4)) (m_lt 3)).sem,
  SemLoc.dma (semV (BitVec.ofNat 32 (0 % 4)) (m_lt 0)).sem,
  SemLoc.dma (semV (BitVec.ofNat 32 (1 % 4)) (m_lt 1)).sem,
  SemLoc.dma (semV (BitVec.ofNat 32 (2 % 4)) (m_lt 2)).sem,
  SemLoc.dma (semV (BitVec.ofNat 32 (3 % 4)) (m_lt 3)).sem,
  SemLoc.dma (semVs (BitVec.ofNat 32 (0 % 4)) (m_lt 0)).sem,
  SemLoc.dma (semVs (BitVec.ofNat 32 (1 % 4)) (m_lt 1)).sem,
  SemLoc.dma (semVs (BitVec.ofNat 32 (2 % 4)) (m_lt 2)).sem,
  SemLoc.dma (semVs (BitVec.ofNat 32 (3 % 4)) (m_lt 3)).sem]
theorem ownSemFacts : Pipeline.OwnSemFacts spec0 osem := by decide

theorem ownSems_eq : (Pipeline.ownSems0 (Ix := Unit) (Name := ℕ) (U := UU nD τ) (Lvl := ℕ) (Val := Elt F) (τ := τ) osem c : sProp 𝕄)
    = iprop(semVal ((c : Thread nD τ), SemLoc.dma (sem9 0 inb_S9_S1_0)) 0 ∗ semVal ((c : Thread nD τ), SemLoc.dma (sem9 1 inb_S9_S1_1)) 0 ∗ semVal ((c : Thread nD τ), SemLoc.dma (sem9 2 inb_S9_S1_2)) 0 ∗ semVal ((c : Thread nD τ), SemLoc.dma (sem9 3 inb_S9_S1_3)) 0 ∗ semVal ((c : Thread nD τ), SemLoc.dma (sem9 4 inb_S9_S1_4)) 0 ∗ semVal ((c : Thread nD τ), SemLoc.dma (sem9 5 inb_S9_S1_5)) 0 ∗ semVal ((c : Thread nD τ), SemLoc.dma (sem9 6 inb_S9_S1_6)) 0 ∗ semVal ((c : Thread nD τ), SemLoc.dma (sem9 7 inb_S9_S1_7)) 0 ∗ semVal ((c : Thread nD τ), SemLoc.dma (sem9 8 inb_S9_S1_8)) 0 ∗ semVal ((c : Thread nD τ), SemLoc.dma (semK (BitVec.ofNat 32 (0 % 4)) (m_lt 0)).sem) 0 ∗ semVal ((c : Thread nD τ), SemLoc.dma (semK (BitVec.ofNat 32 (1 % 4)) (m_lt 1)).sem) 0 ∗ semVal ((c : Thread nD τ), SemLoc.dma (semK (BitVec.ofNat 32 (2 % 4)) (m_lt 2)).sem) 0 ∗ semVal ((c : Thread nD τ), SemLoc.dma (semK (BitVec.ofNat 32 (3 % 4)) (m_lt 3)).sem) 0 ∗ semVal ((c : Thread nD τ), SemLoc.dma (semV (BitVec.ofNat 32 (0 % 4)) (m_lt 0)).sem) 0 ∗ semVal ((c : Thread nD τ), SemLoc.dma (semV (BitVec.ofNat 32 (1 % 4)) (m_lt 1)).sem) 0 ∗ semVal ((c : Thread nD τ), SemLoc.dma (semV (BitVec.ofNat 32 (2 % 4)) (m_lt 2)).sem) 0 ∗ semVal ((c : Thread nD τ), SemLoc.dma (semV (BitVec.ofNat 32 (3 % 4)) (m_lt 3)).sem) 0 ∗ semVal ((c : Thread nD τ), SemLoc.dma (semVs (BitVec.ofNat 32 (0 % 4)) (m_lt 0)).sem) 0 ∗ semVal ((c : Thread nD τ), SemLoc.dma (semVs (BitVec.ofNat 32 (1 % 4)) (m_lt 1)).sem) 0 ∗ semVal ((c : Thread nD τ), SemLoc.dma (semVs (BitVec.ofNat 32 (2 % 4)) (m_lt 2)).sem) 0 ∗ semVal ((c : Thread nD τ), SemLoc.dma (semVs (BitVec.ofNat 32 (3 % 4)) (m_lt 3)).sem) 0) :=
  Pipeline.ownSems0_eq_of_list c osem [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] (by decide) (by decide)

/-- The operands left where they are. -/
def RR : Finset (Ref sig .tc) := [main_v0, main_v1, main_v2, main_v4, main_arg4, main_v6, main_v7, main_v9, main_v10, main_v12, main_v13, main_arg11].toFinset
theorem RR_sub : RR ⊆ Pipeline.restRefs sig spec0 := by decide
theorem routed_eq (Wt : (b : Ref sig .tc) → Buf (Elt F) ((c : Thread nD τ).loc b)) : (Pipeline.routed RR c Wt : sProp 𝕄)
    = iprop((((c : Thread nD τ).loc main_v0) ↦{fullShare} Wt main_v0) ∗ (((c : Thread nD τ).loc main_v1) ↦{fullShare} Wt main_v1) ∗ (((c : Thread nD τ).loc main_v2) ↦{fullShare} Wt main_v2) ∗ (((c : Thread nD τ).loc main_v4) ↦{fullShare} Wt main_v4) ∗ (((c : Thread nD τ).loc main_arg4) ↦{fullShare} Wt main_arg4) ∗ (((c : Thread nD τ).loc main_v6) ↦{fullShare} Wt main_v6) ∗ (((c : Thread nD τ).loc main_v7) ↦{fullShare} Wt main_v7) ∗ (((c : Thread nD τ).loc main_v9) ↦{fullShare} Wt main_v9) ∗ (((c : Thread nD τ).loc main_v10) ↦{fullShare} Wt main_v10) ∗ (((c : Thread nD τ).loc main_v12) ↦{fullShare} Wt main_v12) ∗ (((c : Thread nD τ).loc main_v13) ↦{fullShare} Wt main_v13) ∗ (((c : Thread nD τ).loc main_arg11) ↦{fullShare} Wt main_arg11)) := by
  unfold Pipeline.routed RR
  exact bigSep_eq_bigSepL [main_v0, main_v1, main_v2, main_v4, main_arg4, main_v6, main_v7, main_v9, main_v10, main_v12, main_v13, main_arg11] (by decide) _

variable (m : (ℓ : Loc nD τ sig) → Buf (Elt F) ℓ) (ρ : Dev nD → PrngReg)

/-- The operands as the kernel finds them. -/
def ops : Ops F := ⟨V m c main_v0, V m c main_v1, V m c main_v2, V m c main_v4, V m c main_arg4, V m c main_v6, V m c main_v7, V m c main_v9, V m c main_v10, V m c main_v12, V m c main_v13, V m c main_arg11⟩
/-- What is left over while the body runs. -/
def Rem (O : Ops F) : sProp 𝕄 :=
  iprop((aPK.view.loc (c : Thread nD τ) ↦[Finset.univ]{Transfers.shareDrop fullShare 4} O.pk)
    ∗ (aPV.view.loc (c : Thread nD τ) ↦[Finset.univ]{Transfers.shareDrop fullShare 4} O.pv)
    ∗ (aPVs.view.loc (c : Thread nD τ) ↦[Finset.univ]{Transfers.shareDrop fullShare 4} O.pvs)
    ∗ ∃ r, prngReg c r)
def Φ (O : Ops F) : sProp 𝕄 := iprop(Res c O ∗ Rem c O)

theorem Φ_in : Pipeline.Ends spec0 osem RR c (V m c) ⊢ Φ c (ops c m) := by
  unfold Pipeline.Ends
  rw [ownSems_eq, routed_eq, scopedRest0_eq]
  iintro ⟨⟨R0, R1, R2, R3, R4, R5, R6, R7, R8, R9, R10, R11⟩, ⟨S0, S1, S2, S3, S4, S5, S6, S7, S8, S9, S10, S11, S12, S13, S14, S15, S16, S17, S18, S19, S20⟩, ⟨B0, B1, B2, B3, B4, B5, B6, B7, B9, B10, B11, B12, B13, B14, B15, B16, B17, B18, B8⟩, HP⟩
  ihave GK := (ringInK c (ops c m).pk) $$ [B9 R3 S9 S10 S11 S12]
  · isplitl [B9]; · iexact B9
    isplitl [R3]; · iexact R3
    isplitl [S9]; · iexact S9
    isplitl [S10]; · iexact S10
    isplitl [S11]; · iexact S11
    iexact S12
  icases GK with ⟨GK, DK⟩
  ihave GV := (ringInV c (ops c m).pv) $$ [B10 R5 S13 S14 S15 S16]
  · isplitl [B10]; · iexact B10
    isplitl [R5]; · iexact R5
    isplitl [S13]; · iexact S13
    isplitl [S14]; · iexact S14
    isplitl [S15]; · iexact S15
    iexact S16
  icases GV with ⟨GV, DV⟩
  ihave GW := (ringInVs c (ops c m).pvs) $$ [B11 R6 S17 S18 S19 S20]
  · isplitl [B11]; · iexact B11
    isplitl [R6]; · iexact R6
    isplitl [S17]; · iexact S17
    isplitl [S18]; · iexact S18
    isplitl [S19]; · iexact S19
    iexact S20
  icases GW with ⟨GW, DW⟩
  icases GK with ⟨K0, K1, K2, K3⟩
  icases GV with ⟨V0, V1, V2, V3⟩
  icases GW with ⟨W0, W1, W2, W3⟩
  unfold Φ Res Rem
  isplitr [DK DV DW HP]
  · isplitl [R0 B0 S0 R4 B3 S1 R1 B1 S2 R2 B2 S3 R11 B8 S4 R7 B4 S5 R8 B5 S6 R9 B6 S7 R10 B7 S8]
    · unfold Sms Sm
      isplitl [R0 B0 S0]
      · isplitl [R0]; · iexact R0
        isplitl [B0]; · iapply (ofEq (Any_eq c bX (Memref.isWhole_whole _)).symm); iexact B0
        iexact S0
      isplitl [R4 B3 S1]
      · isplitl [R4]; · iexact R4
        isplitl [B3]; · iapply (ofEq (Any_eq c bPKs (Memref.isWhole_whole _)).symm); iexact B3
        iexact S1
      isplitl [R1 B1 S2]
      · isplitl [R1]; · iexact R1
        isplitl [B1]; · iapply (ofEq (Any_eq c bKn (Memref.isWhole_whole _)).symm); iexact B1
        iexact S2
      isplitl [R2 B2 S3]
      · isplitl [R2]; · iexact R2
        isplitl [B2]; · iapply (ofEq (Any_eq c bVn (Memref.isWhole_whole _)).symm); iexact B2
        iexact S3
      isplitl [R11 B8 S4]
      · isplitl [R11]; · iexact R11
        isplitl [B8]; · iapply (ofEq (Any_eq c bLen (Memref.isWhole_whole _)).symm); iexact B8
        iexact S4
      isplitl [R7 B4 S5]
      · isplitl [R7]; · iexact R7
        isplitl [B4]; · iapply (ofEq (Any_eq c bTK (Memref.isWhole_whole _)).symm); iexact B4
        iexact S5
      isplitl [R8 B5 S6]
      · isplitl [R8]; · iexact R8
        isplitl [B5]; · iapply (ofEq (Any_eq c bTKs (Memref.isWhole_whole _)).symm); iexact B5
        iexact S6
      isplitl [R9 B6 S7]
      · isplitl [R9]; · iexact R9
        isplitl [B6]; · iapply (ofEq (Any_eq c bTV (Memref.isWhole_whole _)).symm); iexact B6
        iexact S7
      isplitl [R10]; · iexact R10
      isplitl [B7]; · iapply (ofEq (Any_eq c bTVs (Memref.isWhole_whole _)).symm); iexact B7
      iexact S8
    isplitl [K0 K1 K2 K3 V0 V1 V2 V3 W0 W1 W2 W3]
    · unfold Idles
      isplitl [K0]; · iexact K0
      isplitl [K1]; · iexact K1
      isplitl [K2]; · iexact K2
      isplitl [K3]; · iexact K3
      isplitl [V0]; · iexact V0
      isplitl [V1]; · iexact V1
      isplitl [V2]; · iexact V2
      isplitl [V3]; · iexact V3
      isplitl [W0]; · iexact W0
      isplitl [W1]; · iexact W1
      isplitl [W2]; · iexact W2
      iexact W3
    isplitl [B14]; · iapply (ofEq (Any_eq c bQ (Memref.isWhole_whole _)).symm); iexact B14
    isplitl [B15]; · iapply (ofEq (Any_eq c bM (Memref.isWhole_whole _)).symm); iexact B15
    isplitl [B16]; · iapply (ofEq (Any_eq c bAl (Memref.isWhole_whole _)).symm); iexact B16
    isplitl [B17]; · iapply (ofEq (Any_eq c bL (Memref.isWhole_whole _)).symm); iexact B17
    isplitl [B18]; · iapply (ofEq (Any_eq c bAcc (Memref.isWhole_whole _)).symm); iexact B18
    isplitl [B12]; · iapply (ofEq (Any_eq c bA (Memref.isWhole_whole _)).symm); iexact B12
    iapply (ofEq (Any_eq c bB (Memref.isWhole_whole _)).symm); iexact B13
  isplitl [DK]; · iexact DK
  isplitl [DV]; · iexact DV
  isplitl [DW]; · iexact DW
  iexact HP

theorem Φ_out : Φ c (ops c m) ⊢ Pipeline.Ends spec0 osem RR c (V m c) := by
  unfold Pipeline.Ends
  rw [ownSems_eq, routed_eq, scopedRest0_eq]
  unfold Φ Res Rem Sms Sm Idles
  iintro ⟨⟨⟨⟨R0, B0, S0⟩, ⟨R4, B3, S1⟩, ⟨R1, B1, S2⟩, ⟨R2, B2, S3⟩, ⟨R11, B8, S4⟩, ⟨R7, B4, S5⟩, ⟨R8, B5, S6⟩, ⟨R9, B6, S7⟩, ⟨R10, B7, S8⟩⟩, ⟨K0, K1, K2, K3, V0, V1, V2, V3, W0, W1, W2, W3⟩, B14, B15, B16, B17, B18, B12, B13⟩, DK, DV, DW, HP⟩
  ihave GK := (ringOutK c (ops c m).pk (fun _ => default)) $$ [K0 K1 K2 K3 DK]
  · isplitr [DK]
    · isplitl [K0]; · iexact K0
      isplitl [K1]; · iexact K1
      isplitl [K2]; · iexact K2
      iexact K3
    iexact DK
  icases GK with ⟨B9, R3, S9, S10, S11, S12⟩
  ihave GV := (ringOutV c (ops c m).pv (fun _ => default)) $$ [V0 V1 V2 V3 DV]
  · isplitr [DV]
    · isplitl [V0]; · iexact V0
      isplitl [V1]; · iexact V1
      isplitl [V2]; · iexact V2
      iexact V3
    iexact DV
  icases GV with ⟨B10, R5, S13, S14, S15, S16⟩
  ihave GW := (ringOutVs c (ops c m).pvs (fun _ => default)) $$ [W0 W1 W2 W3 DW]
  · isplitr [DW]
    · isplitl [W0]; · iexact W0
      isplitl [W1]; · iexact W1
      isplitl [W2]; · iexact W2
      iexact W3
    iexact DW
  icases GW with ⟨B11, R6, S17, S18, S19, S20⟩
  ihave B0 := (ofEq (Any_eq c bX (Memref.isWhole_whole _))) $$ B0
  ihave B1 := (ofEq (Any_eq c bKn (Memref.isWhole_whole _))) $$ B1
  ihave B2 := (ofEq (Any_eq c bVn (Memref.isWhole_whole _))) $$ B2
  ihave B3 := (ofEq (Any_eq c bPKs (Memref.isWhole_whole _))) $$ B3
  ihave B4 := (ofEq (Any_eq c bTK (Memref.isWhole_whole _))) $$ B4
  ihave B5 := (ofEq (Any_eq c bTKs (Memref.isWhole_whole _))) $$ B5
  ihave B6 := (ofEq (Any_eq c bTV (Memref.isWhole_whole _))) $$ B6
  ihave B7 := (ofEq (Any_eq c bTVs (Memref.isWhole_whole _))) $$ B7
  ihave B8 := (ofEq (Any_eq c bLen (Memref.isWhole_whole _))) $$ B8
  ihave B12 := (ofEq (Any_eq c bA (Memref.isWhole_whole _))) $$ B12
  ihave B13 := (ofEq (Any_eq c bB (Memref.isWhole_whole _))) $$ B13
  ihave B14 := (ofEq (Any_eq c bQ (Memref.isWhole_whole _))) $$ B14
  ihave B15 := (ofEq (Any_eq c bM (Memref.isWhole_whole _))) $$ B15
  ihave B16 := (ofEq (Any_eq c bAl (Memref.isWhole_whole _))) $$ B16
  ihave B17 := (ofEq (Any_eq c bL (Memref.isWhole_whole _))) $$ B17
  ihave B18 := (ofEq (Any_eq c bAcc (Memref.isWhole_whole _))) $$ B18
  isplitl [R0 R1 R2 R3 R4 R5 R6 R7 R8 R9 R10 R11]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [S0 S1 S2 S3 S4 S5 S6 S7 S8 S9 S10 S11 S12 S13 S14 S15 S16 S17 S18 S19 S20]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    iexact S20
  isplitl [B0 B1 B2 B3 B4 B5 B6 B7 B9 B10 B11 B12 B13 B14 B15 B16 B17 B18 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    iexact B8
  iexact HP

/-! ## The pipeline -/

def dats (_ : Fin 1) (c : Dev nD) : Dat τ (Elt F) Unit ℕ (UU nD τ) ℕ cfg0 c where
  A w := V m c (Pipeline.arrRef spec0 w)
  after w t := match w with
    | ⟨0, _⟩ => kOut (ops c m)
  Φ _ := Φ c (ops c m)
  q _ := fullShare
  owed _ := 0

theorem after_w0 (t : Fin cfg0.N) : (dats m 0 c).after 0 t = kOut (ops c m) := by dsimp only [dats]

theorem defs_tc : (defs₀ (F := F)) .tc cfg0.body
    = fun a => cc0_cascade_decode (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) (win0_0.stage (a.2 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 := rfl
theorem prog_eq (t : Fin cfg0.N) : (defs₀ (F := F)) .tc cfg0.body (cfg0.bodyArgs t (cfg0.slots t))
    = kBody (win0_0.stage (cfg0.slots t 0)) (hstage0_0 0) :=
  (congrFun defs_tc _).trans (body_eq (win0_0.stage (cfg0.slots t 0)) (hstage0_0 0))

theorem W_body' (O : Ops F) (o : Memref sig .tc .vmem S2x2048 .bf16) (ho : o.IsWhole) (Q : PUnit → sProp 𝕄) :
    iprop(Res c O ∗ Any c o ∗ Owes c)
      ⊢ iprop((iprop(Res c O ∗ owns (c : Thread nD τ) o fullShare (kOut O) ∗ Owes c) -∗ Q ⟨⟩)
        -∗ wp frame (wpE (defs₀ (F := F)) 𝒱₀ (c : Thread nD τ) none) Set.univ (kBody o ho) Q) := W_body c O o ho Q

set_option backward.isDefEq.respectTransparency.types false in
theorem body_obligation : BodyObligation (dats (F := F) m 0 c) (defs₀ (F := F)) 𝒱₀ () Set.univ := fun t => by
  rw [bigSep_W0, bigSep_W0]
  dsimp only
  simp only [after_w0]
  rw [show (dats m 0 c).Φ t.castSucc = Φ c (ops c m) from rfl, show (dats m 0 c).Φ t.succ = Φ c (ops c m) from rfl]
  unfold Dat.owesAt Pipeline.owesWithin
  rw [show (dats m 0 c).owed t.castSucc = 0 from rfl, show (dats m 0 c).owed t.succ = 0 from rfl]
  unfold Φ
  iintro ⟨⟨HR, HM⟩, ⟨%Wt, -, HW⟩, ⟨%d0, Ho⟩⟩
  ihave Ho := (Any_of_owns c (win0_0.stage (cfg0.slots t 0)) _) $$ Ho
  sl_rw [prog_eq t]
  iapply (W_body' c (ops c m) (win0_0.stage (cfg0.slots t 0)) (hstage0_0 0)) $$ [HR Ho HW]
  · isplitl [HR]; · iexact HR
    isplitl [Ho]; · iexact Ho
    unfold Owes; iexists Wt; iexact HW
  unfold Owes
  iintro ⟨HR, Ho, ⟨%W', HW⟩⟩
  isplitl [HR HM]
  · isplitl [HR]; · iexact HR
    iexact HM
  isplitl [HW]
  · iexists W'; isplitr; · ipureintro; exact fun _ _ => Or.inl trivial
    iexact HW
  iexact Ho

theorem run_main : θ_run defs (onTc (τ := τ) (main (F := F))) (s₀ m ρ)
    (fun r => Pipeline.RoutedPost cfgs (dats m) 0 RR (V m) (V m) r ∧ r.2.sem = fun _ => 0) :=
  Pipeline.θ_run_frame_routed (Q' := _) cfgs (dats m) (0 : Fin 1) launch0 ownSemFacts defs₀ 𝒱₀ m ρ main
    (hbody := fun c => (body_obligation c m).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := RR) (hR := RR_sub) (Y := V m)
    (hin := fun c => Φ_in c m) (hout := fun c => Φ_out c m)

/-! ## The frame -/

theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c => ⟨((h.1 c).2.2 main_arg0 (by decide)).trans (Gen.V_main_arg0 m c),
      ((h.1 c).2.2 main_arg1 (by decide)).trans (Gen.V_main_arg1 m c),
      ((h.1 c).2.2 main_arg2 (by decide)).trans (Gen.V_main_arg2 m c),
      ((h.1 c).2.2 main_arg3 (by decide)).trans (Gen.V_main_arg3 m c),
      ((h.1 c).2.1 main_arg4 (by decide)).trans (Gen.V_main_arg4 m c),
      ((h.1 c).2.2 main_arg5 (by decide)).trans (Gen.V_main_arg5 m c),
      ((h.1 c).2.2 main_arg6 (by decide)).trans (Gen.V_main_arg6 m c),
      ((h.1 c).2.2 main_arg7 (by decide)).trans (Gen.V_main_arg7 m c),
      ((h.1 c).2.2 main_arg8 (by decide)).trans (Gen.V_main_arg8 m c),
      ((h.1 c).2.2 main_arg9 (by decide)).trans (Gen.V_main_arg9 m c),
      ((h.1 c).2.2 main_arg10 (by decide)).trans (Gen.V_main_arg10 m c),
      ((h.1 c).2.1 main_arg11 (by decide)).trans (Gen.V_main_arg11 m c)⟩, h.2⟩) (run_main m ρ)

/-- The result, as the library computes it. -/
theorem out_run : θ_run defs (onTc (τ := τ) (main (F := F))) ⟨m, fun _ => 0, ρ⟩ (fun r => ∀ c : Dev nD,
    r.2.mem ((c.tc : Thread nD τ).loc main_v14) = (dats m 0 c).arrAt 0 cfg0.N) :=
  (θ_run defs _ _).mono (fun _ h => fun c => (h.1 c).1 0) (run_main m ρ)

end Cert.Kernel.Steps

end
-- ==== Proof.KernelIdeal.Pieces.lean ====
/-
  The kernel's body as a composition of a few named steps.

  The printed body is one long straight-line program with one loop. Here its repeating parts are given names,
  each over the chunk number as the word the program computes: starting and awaiting the copy of one chunk of
  keys, values or value scales, computing the scores of a chunk, adding a chunk's weighted values, and the step
  made of these. `body_eq` and `loop_eq` say that the printed program is the composition.
-/
module

public import proofs.«01_k».proof.Proof.Gen.KernelIdeal.Skeleton
public import Idealize.ShloMosaic.Lib.Tactic
public import Idealize.ShloMosaic.Lib.Affine

@[expose] public section

noncomputable section

namespace Cert.KernelIdeal.Steps

open Idealize.ShloMosaic Idealize.SL.Sem
open Facts₀ Facts

variable {F : FTy → Type} [FloatOps F] [Named F]

/-- The scale inside every exponential. -/
def expScale : F .f32 := Named.named κ "exp_scale" 0x3E38AA3B#32

/-- A program of the kernel. -/
abbrev KProg (F : FTy → Type) [FloatOps F] [Named F] (α : Type) := Prog (TpuEff nD τ sig (Elt F) Λ₀ .tc) α

/-! ## Slots and blocks of a chunk -/

theorem word_eq {w : BitVec 32} : w = BitVec.ofNat 32 w.toNat := by simp

theorem remsi_fin : ∀ n : Fin 32, (Scalar.remsi (BitVec.ofNat 32 n.val) 4#32).toNat = n.val % 4 := by decide
theorem muli_fin : ∀ n : Fin 32, (Scalar.muli (BitVec.ofNat 32 n.val) 4096#32).toNat = n.val * 4096 := by decide

theorem remsi_toNat {w : BitVec 32} (hw : w.toNat < 32) : (Scalar.remsi w 4#32).toNat = w.toNat % 4 := by
  conv_lhs => rw [word_eq (w := w)]
  exact remsi_fin ⟨w.toNat, hw⟩
theorem muli_toNat {w : BitVec 32} (hw : w.toNat < 32) : (Scalar.muli w 4096#32).toNat = w.toNat * 4096 := by
  conv_lhs => rw [word_eq (w := w)]
  exact muli_fin ⟨w.toNat, hw⟩

/-- The semaphore of the slot, the slot, the block of the chunk, and the tiles of the slot. -/
def semOff (w : BitVec 32) : Fin 1 → Nat := ![(Scalar.remsi w 4#32).toNat]
def slotOff (w : BitVec 32) : Fin 3 → Nat := ![(Scalar.remsi w 4#32).toNat, 0, 0]
def blkOff (w : BitVec 32) : Fin 2 → Nat := ![0, (Scalar.muli w 4096#32).toNat]
def winOff (w : BitVec 32) (c : ℕ) : Fin 3 → Nat := ![(Scalar.remsi w 4#32).toNat, 0, 256 * c]
def tileOff (c : ℕ) : Fin 2 → Nat := ![0, 256 * c]

theorem semOff_inb {w : BitVec 32} (hw : w.toNat < 32) : ∀ a, semOff w a + S1.size a ≤ S4.size a := by
  have h := remsi_toNat hw
  intro a; match a with
  | 0 => show (Scalar.remsi w 4#32).toNat + 1 ≤ 4; omega
theorem slotOff_inb {w : BitVec 32} (hw : w.toNat < 32) : ∀ a, slotOff w a + S1x256x4096.size a ≤ S4x256x4096.size a := by
  have h := remsi_toNat hw
  intro a; match a with
  | 0 => show (Scalar.remsi w 4#32).toNat + 1 ≤ 4; omega
  | 1 => show 0 + 256 ≤ 256; omega
  | 2 => show 0 + 4096 ≤ 4096; omega
theorem slotOff_inb4 {w : BitVec 32} (hw : w.toNat < 32) : ∀ a, slotOff w a + S1x4x4096.size a ≤ S4x4x4096.size a := by
  have h := remsi_toNat hw
  intro a; match a with
  | 0 => show (Scalar.remsi w 4#32).toNat + 1 ≤ 4; omega
  | 1 => show 0 + 4 ≤ 4; omega
  | 2 => show 0 + 4096 ≤ 4096; omega
theorem blkOff_inb {w : BitVec 32} (hw : w.toNat < 32) : ∀ a, blkOff w a + S256x4096.size a ≤ S256x131072.size a := by
  have h := muli_toNat hw
  intro a; match a with
  | 0 => show 0 + 256 ≤ 256; omega
  | 1 => show (Scalar.muli w 4096#32).toNat + 4096 ≤ 131072; omega
theorem blkOff_inb4 {w : BitVec 32} (hw : w.toNat < 32) : ∀ a, blkOff w a + S4x4096.size a ≤ S4x131072.size a := by
  have h := muli_toNat hw
  intro a; match a with
  | 0 => show 0 + 4 ≤ 4; omega
  | 1 => show (Scalar.muli w 4096#32).toNat + 4096 ≤ 131072; omega
theorem winOff_inb {w : BitVec 32} (hw : w.toNat < 32) {c : ℕ} (hc : c < 16) :
    ∀ a, winOff w c a + S1x256x256.size a ≤ S4x256x4096.size a := by
  have h := remsi_toNat hw
  intro a; match a with
  | 0 => show (Scalar.remsi w 4#32).toNat + 1 ≤ 4; omega
  | 1 => show 0 + 256 ≤ 256; omega
  | 2 => show 256 * c + 256 ≤ 4096; omega
theorem winOff_inb4 {w : BitVec 32} (hw : w.toNat < 32) {c : ℕ} (hc : c < 16) :
    ∀ a, winOff w c a + S1x4x256.size a ≤ S4x4x4096.size a := by
  have h := remsi_toNat hw
  intro a; match a with
  | 0 => show (Scalar.remsi w 4#32).toNat + 1 ≤ 4; omega
  | 1 => show 0 + 4 ≤ 4; omega
  | 2 => show 256 * c + 256 ≤ 4096; omega
theorem tileOff_inb {c : ℕ} (hc : c < 16) : ∀ a, tileOff c a + S64x256.size a ≤ S64x4096.size a := by
  intro a; match a with
  | 0 => show 0 + 64 ≤ 64; omega
  | 1 => show 256 * c + 256 ≤ 4096; omega

theorem slotOff_words {w : BitVec 32} (hw : w.toNat < 32) :
    (Rect.unit (s := S4x256x4096) (slotOff w) S1x256x4096.size (slotOff_inb hw)).WholeWords (EltTy.packing .fp8e4m3) :=
  Or.inr ⟨by decide, rfl, rfl, rfl⟩
theorem blkOff_words {w : BitVec 32} (hw : w.toNat < 32) :
    (Rect.unit (s := S256x131072) (blkOff w) S256x4096.size (blkOff_inb hw)).WholeWords (EltTy.packing .fp8e4m3) :=
  Or.inr ⟨by decide, rfl, rfl, rfl⟩

/-! ## The buffers -/

abbrev aPK : Memref sig .tc .hbm S256x131072 .fp8e4m3 := Memref.whole main_v4
abbrev aPV : Memref sig .tc .hbm S256x131072 .fp8e4m3 := Memref.whole main_v6
abbrev aPVs : Memref sig .tc .hbm S4x131072 .f32 := Memref.whole main_v7
abbrev bK : Memref sig .tc .vmem S4x256x4096 .fp8e4m3 := Memref.whole cc0_scratch9
abbrev bV : Memref sig .tc .vmem S4x256x4096 .fp8e4m3 := Memref.whole cc0_scratch10
abbrev bVs : Memref sig .tc .vmem S4x4x4096 .f32 := Memref.whole cc0_scratch11
abbrev bA : Memref sig .tc .vmem S64x4096 .f32 := Memref.whole cc0_scratch12
abbrev bB : Memref sig .tc .vmem S64x4096 .f32 := Memref.whole cc0_scratch13
abbrev bQ : Memref sig .tc .vmem S64x256 .bf16 := Memref.whole cc0_scratch14
abbrev bM : Memref sig .tc .vmem S64x128 .f32 := Memref.whole cc0_scratch15
abbrev bAl : Memref sig .tc .vmem S64x128 .f32 := Memref.whole cc0_scratch16
abbrev bL : Memref sig .tc .vmem S64x128 .f32 := Memref.whole cc0_scratch17
abbrev bAcc : Memref sig .tc .vmem S64x256 .f32 := Memref.whole cc0_scratch18
abbrev bX : Memref sig .tc .vmem S64x64 .bf16 := Memref.whole cc0_scratch0
abbrev bKn : Memref sig .tc .vmem S2x4x64 .bf16 := Memref.whole cc0_scratch1
abbrev bVn : Memref sig .tc .vmem S2x4x64 .bf16 := Memref.whole cc0_scratch2
abbrev bPKs : Memref sig .tc .vmem S4x64 .f32 := Memref.whole cc0_scratch3
abbrev bTK : Memref sig .tc .vmem S2x256x1024 .fp8e4m3 := Memref.whole cc0_scratch4
abbrev bTKs : Memref sig .tc .vmem S2x4x1024 .f32 := Memref.whole cc0_scratch5
abbrev bTV : Memref sig .tc .vmem S2x256x1024 .fp8e4m3 := Memref.whole cc0_scratch6
abbrev bTVs : Memref sig .tc .vmem S2x4x1024 .f32 := Memref.whole cc0_scratch7
abbrev bLen : Memref sig .tc .smem S2 .i32 := Memref.whole cc0_scratch8

/-- The slot of a chunk in its ring, its semaphore, and the chunk in the operand. -/
abbrev slotK (w : BitVec 32) (hw : w.toNat < 32) : Memref sig .tc .vmem S256x4096 .fp8e4m3 :=
  (bK.slice (Rect.unit (s := S4x256x4096) (slotOff w) S1x256x4096.size (slotOff_inb hw)) (fun _ => rfl)).squeeze S256x4096 squeezes_S1x256x4096_S256x4096
abbrev slotV (w : BitVec 32) (hw : w.toNat < 32) : Memref sig .tc .vmem S256x4096 .fp8e4m3 :=
  (bV.slice (Rect.unit (s := S4x256x4096) (slotOff w) S1x256x4096.size (slotOff_inb hw)) (fun _ => rfl)).squeeze S256x4096 squeezes_S1x256x4096_S256x4096
abbrev slotVs (w : BitVec 32) (hw : w.toNat < 32) : Memref sig .tc .vmem S4x4096 .f32 :=
  (bVs.slice (Rect.unit (s := S4x4x4096) (slotOff w) S1x4x4096.size (slotOff_inb4 hw)) (fun _ => rfl)).squeeze S4x4096 squeezes_S1x4x4096_S4x4096
abbrev blkK (w : BitVec 32) (hw : w.toNat < 32) : Memref sig .tc .hbm S256x4096 .fp8e4m3 :=
  aPK.slice (Rect.unit (s := S256x131072) (blkOff w) S256x4096.size (blkOff_inb hw)) (fun _ => rfl)
abbrev blkV (w : BitVec 32) (hw : w.toNat < 32) : Memref sig .tc .hbm S256x4096 .fp8e4m3 :=
  aPV.slice (Rect.unit (s := S256x131072) (blkOff w) S256x4096.size (blkOff_inb hw)) (fun _ => rfl)
abbrev blkVs (w : BitVec 32) (hw : w.toNat < 32) : Memref sig .tc .hbm S4x4096 .f32 :=
  aPVs.slice (Rect.unit (s := S4x131072) (blkOff w) S4x4096.size (blkOff_inb4 hw)) (fun _ => rfl)
abbrev semK (w : BitVec 32) (hw : w.toNat < 32) : DmaSems sig S_ :=
  ((cc0_scratch20).slice (Rect.unit (s := S4) (semOff w) S1.size (semOff_inb hw))).squeeze S_ squeezes_S1_S_
abbrev semV (w : BitVec 32) (hw : w.toNat < 32) : DmaSems sig S_ :=
  ((cc0_scratch21).slice (Rect.unit (s := S4) (semOff w) S1.size (semOff_inb hw))).squeeze S_ squeezes_S1_S_
abbrev semVs (w : BitVec 32) (hw : w.toNat < 32) : DmaSems sig S_ :=
  ((cc0_scratch22).slice (Rect.unit (s := S4) (semOff w) S1.size (semOff_inb hw))).squeeze S_ squeezes_S1_S_

/-! ## The copies of a chunk -/

def startK (w : BitVec 32) (hw : w.toNat < 32) : KProg F PUnit :=
  Prog.lift (.enqueueDma (blkK w hw) (.here (slotK w hw)) (.dma (semK w hw).sem)
    ((Memref.isWhole_whole main_v4).wordExact_slice rfl _ (blkOff_words hw))
    (((Memref.isWhole_whole cc0_scratch9).wordExact_slice rfl _ (slotOff_words hw)).reshape _ _) ⟨Or.inl rfl, trivial⟩)
def startV (w : BitVec 32) (hw : w.toNat < 32) : KProg F PUnit :=
  Prog.lift (.enqueueDma (blkV w hw) (.here (slotV w hw)) (.dma (semV w hw).sem)
    ((Memref.isWhole_whole main_v6).wordExact_slice rfl _ (blkOff_words hw))
    (((Memref.isWhole_whole cc0_scratch10).wordExact_slice rfl _ (slotOff_words hw)).reshape _ _) ⟨Or.inl rfl, trivial⟩)
def startVs (w : BitVec 32) (hw : w.toNat < 32) : KProg F PUnit :=
  Prog.lift (.enqueueDma (blkVs w hw) (.here (slotVs w hw)) (.dma (semVs w hw).sem)
    (View.wordExact_bits rfl) ((View.wordExact_bits rfl).reshape _ _) ⟨Or.inl rfl, trivial⟩)

def waitK (w : BitVec 32) (hw : w.toNat < 32) : KProg F PUnit :=
  Prog.lift (.waitDma2 (semK w hw).sem (blkK w hw) (slotK w hw)
    ((Memref.isWhole_whole main_v4).wordExact_slice rfl _ (blkOff_words hw))
    (((Memref.isWhole_whole cc0_scratch9).wordExact_slice rfl _ (slotOff_words hw)).reshape _ _))
def waitV (w : BitVec 32) (hw : w.toNat < 32) : KProg F PUnit :=
  Prog.lift (.waitDma2 (semV w hw).sem (blkV w hw) (slotV w hw)
    ((Memref.isWhole_whole main_v6).wordExact_slice rfl _ (blkOff_words hw))
    (((Memref.isWhole_whole cc0_scratch10).wordExact_slice rfl _ (slotOff_words hw)).reshape _ _))
def waitVs (w : BitVec 32) (hw : w.toNat < 32) : KProg F PUnit :=
  Prog.lift (.waitDma2 (semVs w hw).sem (blkVs w hw) (slotVs w hw)
    (View.wordExact_bits rfl) ((View.wordExact_bits rfl).reshape _ _))

/-! ## Whole buffers and tiles -/

def ld128 (b : Memref sig .tc .vmem S64x128 .f32) : KProg F (Vec F S64x128 .f32) :=
  Prog.lift (.load b (Rect.unit (s := S64x128) ![0, 0] S64x128.size inb_S64x128_S64x128_0_0).toLoadRect (View.loadsAt_vmem h_S64x128))
def st128 (b : Memref sig .tc .vmem S64x128 .f32) (v : FVec F S64x128 .f32) : KProg F PUnit :=
  Prog.lift (.store b (Rect.unit (s := S64x128) ![0, 0] S64x128.size inb_S64x128_S64x128_0_0) v Finset.univ (View.stores_vmem_bits_univ h_S64x128 rfl) (.inl rfl))
def ld256 (b : Memref sig .tc .vmem S64x256 .f32) : KProg F (Vec F S64x256 .f32) :=
  Prog.lift (.load b (Rect.unit (s := S64x256) ![0, 0] S64x256.size inb_S64x256_S64x256_0_0).toLoadRect (View.loadsAt_vmem h_S64x256))
def st256 (b : Memref sig .tc .vmem S64x256 .f32) (v : FVec F S64x256 .f32) : KProg F PUnit :=
  Prog.lift (.store b (Rect.unit (s := S64x256) ![0, 0] S64x256.size inb_S64x256_S64x256_0_0) v Finset.univ (View.stores_vmem_bits_univ h_S64x256 rfl) (.inl rfl))
def ldQ : KProg F (Vec F S64x256 .bf16) :=
  Prog.lift (.load bQ (Rect.unit (s := S64x256) ![0, 0] S64x256.size inb_S64x256_S64x256_0_0).toLoadRect (View.loadsAt_vmem h_S64x256))
def ldS (b : Memref sig .tc .vmem S64x4096 .f32) (c : ℕ) (hc : c < 16) : KProg F (Vec F S64x256 .f32) :=
  Prog.lift (.load b (Rect.unit (s := S64x4096) (tileOff c) S64x256.size (tileOff_inb hc)).toLoadRect (View.loadsAt_vmem h_S64x256))
def stS (b : Memref sig .tc .vmem S64x4096 .f32) (c : ℕ) (hc : c < 16) (v : FVec F S64x256 .f32) : KProg F PUnit :=
  Prog.lift (.store b (Rect.unit (s := S64x4096) (tileOff c) S64x256.size (tileOff_inb hc)) v Finset.univ (View.stores_vmem_bits_univ h_S64x256 rfl) (.inl rfl))
def ldW (b : Memref sig .tc .vmem S4x256x4096 .fp8e4m3) (w : BitVec 32) (hw : w.toNat < 32) (c : ℕ) (hc : c < 16) :
    KProg F (Vec F S1x256x256 .fp8e4m3) :=
  Prog.lift (.load b (Rect.unit (s := S4x256x4096) (winOff w c) S1x256x256.size (winOff_inb hw hc)).toLoadRect (View.loadsAt_vmem h_S1x256x256))
def ldWs (w : BitVec 32) (hw : w.toNat < 32) (c : ℕ) (hc : c < 16) : KProg F (Vec F S1x4x256 .f32) :=
  Prog.lift (.load bVs (Rect.unit (s := S4x4x4096) (winOff w c) S1x4x256.size (winOff_inb4 hw hc)).toLoadRect (View.loadsAt_vmem h_S1x4x256))

/-! ## The values -/

/-- The scores of a tile of keys; a tile's two lane halves folded by the maximum, by the sum; the new maximum of
    the rows; the factor from one maximum to a later one. -/
def vScore (q : Vec F S64x256 .bf16) (k : Vec F S1x256x256 .fp8e4m3) : FVec F S64x256 .f32 :=
  matmul dot_S64x256_S256x256_S64x256_1_0_0_1_n_n none q (shapeCast S256x256 k shapeCasts_S1x256x256_S256x256 : FVec F S256x256 .fp8e4m3) (constant S64x256 .f32 0x00000000#32)
def vFoldMax (d : FVec F S64x256 .f32) : FVec F S64x128 .f32 :=
  maximumf (extractStridedSlice S64x128 ![0, 0] d slices_S64x256_o0_0_S64x128) (extractStridedSlice S64x128 ![0, 128] d slices_S64x256_o0_128_S64x128)
def vFoldAdd (d : FVec F S64x256 .f32) : FVec F S64x128 .f32 :=
  addf (extractStridedSlice S64x128 ![0, 0] d slices_S64x256_o0_0_S64x128) (extractStridedSlice S64x128 ![0, 128] d slices_S64x256_o0_128_S64x128)
def vRowMax (d : FVec F S64x128 .f32) : FVec F S64x128 .f32 :=
  broadcastTo S64x128 (shapeCast S64x1 (shapeCast S64x1 (multiReduction .maximumf [1] S64 d 0xFF800000#32 reduces_S64x128_S64 (.inl rfl) rfl : FVec F S64 .f32) shapeCasts_S64_S64x1 : FVec F S64x1 .f32) shapeCasts_S64x1_S64x1 : FVec F S64x1 .f32) broadcasts_S64x1_S64x128
def vMNew (m cmax : FVec F S64x128 .f32) : FVec F S64x128 .f32 := maximumf m (vRowMax cmax)
def vAl (m m' : FVec F S64x128 .f32) : FVec F S64x128 .f32 :=
  exp2 (mulf (subf m m') (broadcast S64x128 (expScale : F .f32)) : FVec F S64x128 .f32)
def vWide (m : FVec F S64x128 .f32) : FVec F S64x256 .f32 :=
  concatenate S64x256 1 [⟨S64x128, m⟩, ⟨S64x128, m⟩] concatenates_S64x128_S64x128_S64x256_d1
def vE (s mw : FVec F S64x256 .f32) : FVec F S64x256 .f32 :=
  exp2 (mulf (subf s mw) (broadcast S64x256 (expScale : F .f32)) : FVec F S64x256 .f32)
def vHead (n : ℕ) (h : S4x256.Slices ![n, 0] S1x256) (t : FVec F S4x256 .f32) : FVec F S8x256 .f32 :=
  broadcastTo S8x256 (shapeCast S1x256 (extractStridedSlice S1x256 ![n, 0] t h : FVec F S1x256 .f32) shapeCasts_S1x256_S1x256 : FVec F S1x256 .f32) broadcasts_S1x256_S8x256
def vHeads (t : FVec F S4x256 .f32) : FVec F S64x256 .f32 :=
  concatenate S64x256 0 [⟨S8x256, vHead 0 slices_S4x256_o0_0_S1x256 t⟩, ⟨S8x256, vHead 1 slices_S4x256_o1_0_S1x256 t⟩, ⟨S8x256, vHead 2 slices_S4x256_o2_0_S1x256 t⟩, ⟨S8x256, vHead 3 slices_S4x256_o3_0_S1x256 t⟩, ⟨S8x256, vHead 0 slices_S4x256_o0_0_S1x256 t⟩, ⟨S8x256, vHead 1 slices_S4x256_o1_0_S1x256 t⟩, ⟨S8x256, vHead 2 slices_S4x256_o2_0_S1x256 t⟩, ⟨S8x256, vHead 3 slices_S4x256_o3_0_S1x256 t⟩] concatenates_S8x256_S8x256_S8x256_S8x256_S8x256_S8x256_S8x256_S8x256_S64x256_d0
def vPV (e : FVec F S64x256 .f32) (sc : Vec F S1x4x256 .f32) (v : Vec F S1x256x256 .fp8e4m3) : FVec F S64x256 .f32 :=
  matmul dot_S64x256_S256x256_S64x256_1_1_0_0_n_n none
    (truncf .bf16 (mulf e (vHeads (shapeCast S4x256 sc shapeCasts_S1x4x256_S4x256)) : FVec F S64x256 .f32) bitsLt_bf16_f32 : FVec F S64x256 .bf16)
    (shapeCast S256x256 v shapeCasts_S1x256x256_S256x256 : FVec F S256x256 .fp8e4m3) (constant S64x256 .f32 0x00000000#32)
def vAcc (acc al256 o0 o1 : FVec F S64x256 .f32) : FVec F S64x256 .f32 := addf (mulf acc al256) (addf o0 o1)
def vC128 (v : FVec F S64x128 .f32) : FVec F S64x128 .f32 := shapeCast S64x128 v shapeCasts_S64x128_S64x128
def vC256 (v : FVec F S64x256 .f32) : FVec F S64x256 .f32 := shapeCast S64x256 v shapeCasts_S64x256_S64x256

/-! ## Scores of a chunk -/

/-- One tile: its scores, stored. -/
def scoresTile (w : BitVec 32) (hw : w.toNat < 32) (dst : Memref sig .tc .vmem S64x4096 .f32) (q : Vec F S64x256 .bf16)
    (c : ℕ) (hc : c < 16) : KProg F (FVec F S64x256 .f32) := do
  let k ← ldW bK w hw c hc
  let _ ← ldS dst c hc
  stS dst c hc (vC256 (vScore q k))
  pure (vScore q k)

/-- The tiles from `c` on, under the running maximum. -/
def scoresFrom (w : BitVec 32) (hw : w.toNat < 32) (dst : Memref sig .tc .vmem S64x4096 .f32) (q : Vec F S64x256 .bf16) :
    (r c : ℕ) → c + r ≤ 16 → FVec F S64x128 .f32 → KProg F (FVec F S64x128 .f32)
  | 0, _, _, cm => pure cm
  | r + 1, c, h, cm => do
    let d ← scoresTile w hw dst q c (by omega)
    scoresFrom w hw dst q r (c + 1) (by omega) (maximumf cm (vFoldMax d))

/-- The scores of a chunk into `dst`: the new maximum. -/
def scores (w : BitVec 32) (hw : w.toNat < 32) (dst : Memref sig .tc .vmem S64x4096 .f32) : KProg F (FVec F S64x128 .f32 × FVec F S64x128 .f32) := do
  let q ← ldQ
  let d ← scoresTile w hw dst q 0 (by omega)
  let cm ← scoresFrom w hw dst q 15 1 le_rfl (vFoldMax d)
  let m ← ld128 bM
  pure (vMNew m cm, vAl m (vMNew m cm))

/-! ## Weighted values of a chunk -/

/-- One tile: its exponentials and its product with the values. -/
def weightedTile (w : BitVec 32) (hw : w.toNat < 32) (src : Memref sig .tc .vmem S64x4096 .f32) (mw : FVec F S64x256 .f32)
    (c : ℕ) (hc : c < 16) : KProg F (FVec F S64x128 .f32 × FVec F S64x256 .f32) := do
  let s ← ldS src c hc
  let sc ← ldWs w hw c hc
  let v ← ldW bV w hw c hc
  pure (vFoldAdd (vE s mw), vPV (vE s mw) sc v)

/-- The tiles from `c` on, two at a time, under the running sums. -/
def weightedFrom (w : BitVec 32) (hw : w.toNat < 32) (src : Memref sig .tc .vmem S64x4096 .f32) (mw : FVec F S64x256 .f32) :
    (r c : ℕ) → c + 2 * r = 16 → FVec F S64x128 .f32 → FVec F S64x256 .f32 → FVec F S64x256 .f32 →
      KProg F (FVec F S64x128 .f32 × FVec F S64x256 .f32 × FVec F S64x256 .f32)
  | 0, _, _, l, o0, o1 => pure (l, o0, o1)
  | r + 1, c, h, l, o0, o1 => do
    let d0 ← weightedTile w hw src mw c (by omega)
    let d1 ← weightedTile w hw src mw (c + 1) (by omega)
    weightedFrom w hw src mw r (c + 2) (by omega) (addf (addf l d0.1) d1.1) (addf o0 d0.2) (addf o1 d1.2)

/-- The weighted values of a chunk, whose scores are in `src`, added to the sums. -/
def weighted (w : BitVec 32) (hw : w.toNat < 32) (src : Memref sig .tc .vmem S64x4096 .f32) (m al : FVec F S64x128 .f32) : KProg F PUnit := do
  let l ← ld128 bL
  let d0 ← weightedTile w hw src (vWide m) 0 (by omega)
  let d1 ← weightedTile w hw src (vWide m) 1 (by omega)
  let r ← weightedFrom w hw src (vWide m) 7 2 rfl (addf (addf (mulf l al) d0.1) d1.1) d0.2 d1.2
  let _ ← ld128 bL
  st128 bL (vC128 r.1)
  let acc ← ld256 bAcc
  let _ ← ld256 bAcc
  st256 bAcc (vC256 (vAcc acc (vWide al) r.2.1 r.2.2))

/-! ## A step -/

/-- Store the new maximum and the factor to it. -/
def stMAl (r : FVec F S64x128 .f32 × FVec F S64x128 .f32) : KProg F PUnit := do
  let _ ← ld128 bM
  st128 bM (vC128 r.1)
  let _ ← ld128 bAl
  st128 bAl (vC128 r.2)

/-- Step `w` without the copies it starts: the scores of the next chunk, the weighted values of this one. -/
def stepCore (w w' : BitVec 32) (hw : w.toNat < 32) (hw' : w'.toNat < 32) (cur nxt : Memref sig .tc .vmem S64x4096 .f32) : KProg F PUnit := do
  waitV w hw
  waitVs w hw
  waitK w' hw'
  let m ← ld128 bM
  let al ← ld128 bAl
  let r ← scores w' hw' nxt
  weighted w hw cur m al
  stMAl r

/-- The last step: no next chunk. -/
def stepLast (w : BitVec 32) (hw : w.toNat < 32) (cur : Memref sig .tc .vmem S64x4096 .f32) : KProg F PUnit := do
  waitV w hw
  waitVs w hw
  let m ← ld128 bM
  let al ← ld128 bAl
  weighted w hw cur m al

/-- The program's conditions "chunk `w` exists". -/
def condW (w : BitVec 32) : BitVec 1 := Scalar.cmpi .ne (Scalar.extui (Scalar.cmpi .slt w 32#32) : BitVec 32) 0#32

end Cert.KernelIdeal.Steps
-- ==== Proof.KernelIdeal.Body.lean ====
/-
  The printed body of the kernel is the composition of the steps of `Pieces`.
-/
module

public import proofs.«01_k».proof.Proof.KernelIdeal.Pieces
public import Idealize.ShloMosaic.Lib.Pipeline.Regions

@[expose] public section

set_option maxRecDepth 65536

noncomputable section

namespace Cert.KernelIdeal.Steps

open Idealize.ShloMosaic Idealize.SL.Sem
open Facts₀ Facts
open Cert.KernelIdeal.Gen (k0_t1_body k0_pay1 k0_pay2 k0_pay211 k0_pay212 k0_pay213 k0_pay214 k0_pay215 k0_pay216 k0_pay217 k0_pay219 k0_pay220 k0_pay221 k0_pay222 k0_pay224 k0_pay225 k0_pay226 k0_pay227 k0_pay228 k0_pay229 k0_pay230 k0_pay232 k0_pay233 k0_pay234 k0_pay235 k0_pay237 k0_pay238 k0_pay240 k0_pay241 k0_pay242 k0_pay243 k0_pay455 k0_pay456 k0_pay457 k0_pay458 k0_pay459 k0_pay460 k0_pay461 k0_pay462 k0_pay463 k0_pay464 k0_pay465 k0_pay466 k0_pay467 k0_pay468 k0_pay469 k0_pay470 k0_pay471 k0_pay472 k0_pay473 k0_pay474 k0_pay475)

variable {F : FTy → Type} [FloatOps F] [Named F]

/-! ## Copies under a condition -/

theorem cond_fin : ∀ n : Fin 64, condW (BitVec.ofNat 32 n.val) = 1#1 → n.val < 32 := by decide
theorem cond_fin' : ∀ n : Fin 64, n.val < 32 → condW (BitVec.ofNat 32 n.val) = 1#1 := by decide
theorem cond_lt {w : BitVec 32} (hs : w.toNat < 64) (h : condW w = 1#1) : w.toNat < 32 := by
  rw [word_eq (w := w)] at h
  exact cond_fin ⟨w.toNat, hs⟩ h

/-- A program under a condition, in front of another. -/
def guardC {α : Type} (c : Prop) [Decidable c] (a : c → KProg F PUnit) (k : KProg F α) : KProg F α :=
  if h : c then a h >>= fun _ => k else k
/-- A program under a condition. -/
def guardP (c : Prop) [Decidable c] (a : c → KProg F PUnit) : KProg F PUnit := if h : c then a h else pure ⟨⟩
theorem guardC_eq {α : Type} (c : Prop) [Decidable c] (a : c → KProg F PUnit) (k : KProg F α) :
    guardC c a k = guardP c a >>= fun _ => k := by
  unfold guardC guardP; split <;> rfl

/-- Start the copy of the keys of chunk `w`, and of the values of chunk `w`, if there is one. -/
def tryK (w : BitVec 32) (hs : w.toNat < 64) : KProg F PUnit := guardP (condW w = 1#1) fun h => startK w (cond_lt hs h)
def tryV (w : BitVec 32) (hs : w.toNat < 64) : KProg F PUnit :=
  guardP (condW w = 1#1) fun h => do startV w (cond_lt hs h); startVs w (cond_lt hs h)

/-! ## The loop's words -/

def wA (t : Fin k0_t1_loop.trips) : BitVec 32 :=
  Scalar.muli 2#32 (Scalar.addi 0#32 (Scalar.muli (Scf.iv 0#32 1#32 t.val) 1#32))
def wB (t : Fin k0_t1_loop.trips) : BitVec 32 :=
  Scalar.addi (Scalar.muli 2#32 (Scalar.addi 0#32 (Scalar.muli (Scf.iv 0#32 1#32 t.val) 1#32))) 1#32

theorem trips_eq : k0_t1_loop.trips = 15 := by decide
theorem t_lt (t : Fin k0_t1_loop.trips) : t.val < 15 := lt_of_lt_of_eq t.isLt trips_eq
theorem wA_eq (t : Fin k0_t1_loop.trips) : wA t = BitVec.ofNat 32 (2 * t.val) := by
  revert t; decide
theorem wB_eq (t : Fin k0_t1_loop.trips) : wB t = BitVec.ofNat 32 (2 * t.val + 1) := by
  revert t; decide
theorem wA1_eq (t : Fin k0_t1_loop.trips) : Scalar.addi (wA t) 1#32 = BitVec.ofNat 32 (2 * t.val + 1) := by
  revert t; decide
theorem wB1_eq (t : Fin k0_t1_loop.trips) : Scalar.addi (wB t) 1#32 = BitVec.ofNat 32 (2 * t.val + 2) := by
  revert t; decide
theorem wA4_eq (t : Fin k0_t1_loop.trips) : Scalar.addi (wA t) 4#32 = BitVec.ofNat 32 (2 * t.val + 4) := by
  revert t; decide
theorem wA5_eq (t : Fin k0_t1_loop.trips) : Scalar.addi (Scalar.addi (wA t) 1#32) 4#32 = BitVec.ofNat 32 (2 * t.val + 5) := by
  revert t; decide
theorem wB4_eq (t : Fin k0_t1_loop.trips) : Scalar.addi (wB t) 4#32 = BitVec.ofNat 32 (2 * t.val + 5) := by
  revert t; decide
theorem wB5_eq (t : Fin k0_t1_loop.trips) : Scalar.addi (Scalar.addi (wB t) 1#32) 4#32 = BitVec.ofNat 32 (2 * t.val + 6) := by
  revert t; decide

theorem ofNat_lt {n b : ℕ} (h : n < b) (hb : b ≤ 64) : (BitVec.ofNat 32 n).toNat < b := by
  rw [BitVec.toNat_ofNat, Nat.mod_eq_of_lt (by omega)]; exact h
theorem wA_lt (t : Fin k0_t1_loop.trips) : (wA t).toNat < 32 := by
  have := t_lt t; rw [wA_eq]; exact ofNat_lt (by omega) (by omega)
theorem wB_lt (t : Fin k0_t1_loop.trips) : (wB t).toNat < 32 := by
  have := t_lt t; rw [wB_eq]; exact ofNat_lt (by omega) (by omega)
theorem wA1_lt (t : Fin k0_t1_loop.trips) : (Scalar.addi (wA t) 1#32).toNat < 32 := by
  have := t_lt t; rw [wA1_eq]; exact ofNat_lt (by omega) (by omega)
theorem wB1_lt (t : Fin k0_t1_loop.trips) : (Scalar.addi (wB t) 1#32).toNat < 32 := by
  have := t_lt t; rw [wB1_eq]; exact ofNat_lt (by omega) (by omega)
theorem wA4_lt (t : Fin k0_t1_loop.trips) : (Scalar.addi (wA t) 4#32).toNat < 64 := by
  have := t_lt t; rw [wA4_eq]; exact ofNat_lt (by omega) (by omega)
theorem wA5_lt (t : Fin k0_t1_loop.trips) : (Scalar.addi (Scalar.addi (wA t) 1#32) 4#32).toNat < 64 := by
  have := t_lt t; rw [wA5_eq]; exact ofNat_lt (by omega) (by omega)
theorem wB4_lt (t : Fin k0_t1_loop.trips) : (Scalar.addi (wB t) 4#32).toNat < 64 := by
  have := t_lt t; rw [wB4_eq]; exact ofNat_lt (by omega) (by omega)
theorem wB5_lt (t : Fin k0_t1_loop.trips) : (Scalar.addi (Scalar.addi (wB t) 1#32) 4#32).toNat < 64 := by
  have := t_lt t; rw [wB5_eq]; exact ofNat_lt (by omega) (by omega)

/-! ## The loop's body -/

/-- Step `w` up to its last store: the factor it stores. -/
def stepPre (w w' : BitVec 32) (hw : w.toNat < 32) (hw' : w'.toNat < 32) (cur nxt : Memref sig .tc .vmem S64x4096 .f32) : KProg F (FVec F S64x128 .f32) := do
  waitV w hw
  waitVs w hw
  waitK w' hw'
  let m ← ld128 bM
  let al ← ld128 bAl
  let r ← scores w' hw' nxt
  weighted w hw cur m al
  let _ ← ld128 bM
  st128 bM (vC128 r.1)
  let _ ← ld128 bAl
  pure r.2

theorem stepCore_eq (w w' : BitVec 32) (hw : w.toNat < 32) (hw' : w'.toNat < 32) (cur nxt : Memref sig .tc .vmem S64x4096 .f32) :
    (stepCore w w' hw hw' cur nxt : KProg F PUnit) = stepPre w w' hw hw' cur nxt >>= fun a => st128 bAl (vC128 a) := by
  simp only [stepCore, stepPre, stMAl, bind_assoc, pure_bind]

/-- Two steps: the loop's body. -/
def loopStep (t : Fin k0_t1_loop.trips) : KProg F PUnit := do
  stepCore (wA t) (Scalar.addi (wA t) 1#32) (wA_lt t) (wA1_lt t) bA bB
  tryK (Scalar.addi (Scalar.addi (wA t) 1#32) 4#32) (wA5_lt t)
  tryV (Scalar.addi (wA t) 4#32) (wA4_lt t)
  stepCore (wB t) (Scalar.addi (wB t) 1#32) (wB_lt t) (wB1_lt t) bB bA
  tryK (Scalar.addi (Scalar.addi (wB t) 1#32) 4#32) (wB5_lt t)
  tryV (Scalar.addi (wB t) 4#32) (wB4_lt t)

/-- The second half after its first two waits. -/
def stepPost (w' : BitVec 32) (w : BitVec 32) (hw : w.toNat < 32) (hw' : w'.toNat < 32) (cur nxt : Memref sig .tc .vmem S64x4096 .f32) : KProg F PUnit := do
  waitK w' hw'
  let m ← ld128 bM
  let al ← ld128 bAl
  let r ← scores w' hw' nxt
  weighted w hw cur m al
  stMAl r

theorem stepCore_eq' (w w' : BitVec 32) (hw : w.toNat < 32) (hw' : w'.toNat < 32) (cur nxt : Memref sig .tc .vmem S64x4096 .f32) :
    (stepCore w w' hw hw' cur nxt : KProg F PUnit) = waitV w hw >>= fun _ => waitVs w hw >>= fun _ => stepPost w' w hw hw' cur nxt := by
  simp only [stepCore, stepPost, bind_assoc, pure_bind]

theorem part18_eq (o : Memref sig .tc .vmem S2x2048 .bf16) (ho : o.IsWhole) (t : Fin k0_t1_loop.trips) (al : FVec F S64x128 .f32) :
    (k0_part18 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 t (Scalar.addi 0#32 (Scalar.muli (Scf.iv 0#32 1#32 t.val) 1#32)) (wA t) al : KProg F (BitVec 32)) = (do
      st128 bAl (vC128 al)
      guardC (k0_cond1 t = 1#1) (fun h => startK (Scalar.addi (Scalar.addi (wA t) 1#32) 4#32) (cond_lt (wA5_lt t) h)) (
       guardC (k0_cond2 t = 1#1) (fun h => do startV (Scalar.addi (wA t) 4#32) (cond_lt (wA4_lt t) h); startVs (Scalar.addi (wA t) 4#32) (cond_lt (wA4_lt t) h)) (do
        waitV (wB t) (wB_lt t)
        waitVs (wB t) (wB_lt t)
        pure (wB t)))) := by
  chain_rfl

theorem part35_eq (o : Memref sig .tc .vmem S2x2048 .bf16) (ho : o.IsWhole) (t : Fin k0_t1_loop.trips) :
    (k0_part35 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 0#32 1#32 t : KProg F (Σ' (_ : BitVec 32), BitVec 32)) = (do
      let al ← stepPre (wA t) (Scalar.addi (wA t) 1#32) (wA_lt t) (wA1_lt t) bA bB
      let v ← k0_part18 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 t (Scalar.addi 0#32 (Scalar.muli (Scf.iv 0#32 1#32 t.val) 1#32)) (wA t) al
      stepPost (Scalar.addi (wB t) 1#32) (wB t) (wB_lt t) (wB1_lt t) bB bA
      pure ⟨v, Scalar.extui (Scalar.cmpi .slt (Scalar.addi (Scalar.addi v 1#32) 4#32) 32#32)⟩) := by
  chain_rfl

theorem t1_body_eq (o : Memref sig .tc .vmem S2x2048 .bf16) (ho : o.IsWhole) (x y z : FVec F S64x128 .f32) (t : Fin k0_t1_loop.trips) :
    (k0_t1_body (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z t () : KProg F Unit) = k0_part35 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 0#32 1#32 t >>= fun _ =>
      guardC (k0_cond3 t = 1#1) (fun h => startK (Scalar.addi (Scalar.addi (wB t) 1#32) 4#32) (cond_lt (wB5_lt t) h)) (
       guardC (k0_cond4 t = 1#1) (fun h => do startV (Scalar.addi (wB t) 4#32) (cond_lt (wB4_lt t) h); startVs (Scalar.addi (wB t) 4#32) (cond_lt (wB4_lt t) h)) (
        pure ())) := by
  chain_rfl

theorem loop_eq (o : Memref sig .tc .vmem S2x2048 .bf16) (ho : o.IsWhole) (x y z : FVec F S64x128 .f32) (t : Fin k0_t1_loop.trips) :
    (k0_t1_body (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z t () : KProg F Unit) = loopStep t >>= fun _ => pure () := by
  rw [t1_body_eq, part35_eq]
  simp only [part18_eq, guardC_eq, bind_assoc, pure_bind, loopStep, stepCore_eq (wA t), stepCore_eq' (wB t), tryK, tryV]
  chain_rfl

/-! ## The prologue -/

/-- The whole operands: one copy each, under semaphore `j` of the nine. -/
abbrev sem9 (j : ℕ) (hj : ∀ a, (![j] : Fin 1 → ℕ) a + S1.size a ≤ S9.size a) : DmaSem sig :=
  ((cc0_scratch19.slice (Rect.unit (s := S9) ![j] S1.size hj)).squeeze S_ squeezes_S1_S_).sem
def startW {sp : Space} {s : Shape} {e : EltTy} (src : Memref sig .tc .hbm s e) (dst : Memref sig .tc sp s e) (j : ℕ)
    (hj : ∀ a, (![j] : Fin 1 → ℕ) a + S1.size a ≤ S9.size a) (hs : src.IsWhole) (hd : dst.IsWhole)
    (hl : (DmaTarget.here (nD := nD) (τ := τ) (p := Proc.tc) dst).Typed .hbm (.dma (sem9 j hj))) : KProg F PUnit :=
  Prog.lift (.enqueueDma src (.here dst) (.dma (sem9 j hj)) hs.wordExact hd.wordExact hl)
def waitW {sp : Space} {s : Shape} {e : EltTy} (src : Memref sig .tc .hbm s e) (dst : Memref sig .tc sp s e) (j : ℕ)
    (hj : ∀ a, (![j] : Fin 1 → ℕ) a + S1.size a ≤ S9.size a) (hs : src.IsWhole) (hd : dst.IsWhole) : KProg F PUnit :=
  Prog.lift (.waitDma2 (sem9 j hj) src dst hs.wordExact hd.wordExact)

abbrev aX : Memref sig .tc .hbm S64x64 .bf16 := Memref.whole main_v0
abbrev aKn : Memref sig .tc .hbm S2x4x64 .bf16 := Memref.whole main_v1
abbrev aVn : Memref sig .tc .hbm S2x4x64 .bf16 := Memref.whole main_v2
abbrev aPKs : Memref sig .tc .hbm S4x64 .f32 := Memref.whole main_arg4
abbrev aTK : Memref sig .tc .hbm S2x256x1024 .fp8e4m3 := Memref.whole main_v9
abbrev aTKs : Memref sig .tc .hbm S2x4x1024 .f32 := Memref.whole main_v10
abbrev aTV : Memref sig .tc .hbm S2x256x1024 .fp8e4m3 := Memref.whole main_v12
abbrev aTVs : Memref sig .tc .hbm S2x4x1024 .f32 := Memref.whole main_v13
abbrev aLen : Memref sig .tc .hbm S2 .i32 := Memref.whole main_arg11

def startsW : KProg F PUnit := do
  startW aX bX 0 inb_S9_S1_0 (Memref.isWhole_whole _) (Memref.isWhole_whole _) ⟨Or.inl rfl, trivial⟩
  startW aPKs bPKs 1 inb_S9_S1_1 (Memref.isWhole_whole _) (Memref.isWhole_whole _) ⟨Or.inl rfl, trivial⟩
  startW aKn bKn 2 inb_S9_S1_2 (Memref.isWhole_whole _) (Memref.isWhole_whole _) ⟨Or.inl rfl, trivial⟩
  startW aVn bVn 3 inb_S9_S1_3 (Memref.isWhole_whole _) (Memref.isWhole_whole _) ⟨Or.inl rfl, trivial⟩
  startW aLen bLen 4 inb_S9_S1_4 (Memref.isWhole_whole _) (Memref.isWhole_whole _) ⟨Or.inl rfl, trivial⟩
  startW aTK bTK 5 inb_S9_S1_5 (Memref.isWhole_whole _) (Memref.isWhole_whole _) ⟨Or.inl rfl, trivial⟩
  startW aTKs bTKs 6 inb_S9_S1_6 (Memref.isWhole_whole _) (Memref.isWhole_whole _) ⟨Or.inl rfl, trivial⟩
  startW aTV bTV 7 inb_S9_S1_7 (Memref.isWhole_whole _) (Memref.isWhole_whole _) ⟨Or.inl rfl, trivial⟩
  startW aTVs bTVs 8 inb_S9_S1_8 (Memref.isWhole_whole _) (Memref.isWhole_whole _) ⟨Or.inl rfl, trivial⟩
def waitsW : KProg F PUnit := do
  waitW aX bX 0 inb_S9_S1_0 (Memref.isWhole_whole _) (Memref.isWhole_whole _)
  waitW aPKs bPKs 1 inb_S9_S1_1 (Memref.isWhole_whole _) (Memref.isWhole_whole _)
  waitW aKn bKn 2 inb_S9_S1_2 (Memref.isWhole_whole _) (Memref.isWhole_whole _)
  waitW aVn bVn 3 inb_S9_S1_3 (Memref.isWhole_whole _) (Memref.isWhole_whole _)
  waitW aLen bLen 4 inb_S9_S1_4 (Memref.isWhole_whole _) (Memref.isWhole_whole _)
  waitW aTK bTK 5 inb_S9_S1_5 (Memref.isWhole_whole _) (Memref.isWhole_whole _)
  waitW aTKs bTKs 6 inb_S9_S1_6 (Memref.isWhole_whole _) (Memref.isWhole_whole _)
  waitW aTV bTV 7 inb_S9_S1_7 (Memref.isWhole_whole _) (Memref.isWhole_whole _)
  waitW aTVs bTVs 8 inb_S9_S1_8 (Memref.isWhole_whole _) (Memref.isWhole_whole _)

/-- The three copies of chunk `n`. -/
def start3 (n : ℕ) (hn : (BitVec.ofNat 32 n).toNat < 32) : KProg F PUnit := do
  startK (BitVec.ofNat 32 n) hn
  startV (BitVec.ofNat 32 n) hn
  startVs (BitVec.ofNat 32 n) hn
def starts3 : KProg F PUnit := do
  start3 0 (by decide)
  start3 1 (by decide)
  start3 2 (by decide)
  start3 3 (by decide)

/-- What the prologue loads before its first store of a sum. -/
structure ProIn (F : FTy → Type) where
  x : Vec F S64x64 .bf16
  pks : Vec F S4x64 .f32
  kn0 : Vec F S1x4x64 .bf16
  kn1 : Vec F S1x4x64 .bf16
  tk0 : Vec F S1x256x1024 .fp8e4m3
  tks0 : Vec F S1x4x1024 .f32
  len0 : Elt F .i32
  tk1 : Vec F S1x256x1024 .fp8e4m3
  tks1 : Vec F S1x4x1024 .f32
  len1 : Elt F .i32
  vn0 : Vec F S1x4x64 .bf16
  vn1 : Vec F S1x4x64 .bf16

/-- The mask of the block diagonal, and what the prologue computes. -/
def pMaskArgs {β : Type} (k : IVec S64x256 32 → IVec S64x256 32 → BitVec 32 → IVec S64x256 32 → IVec S64x256 32 → BitVec 32 → BitVec 1 → β) : β :=
  k (iota .tc S64x256 32 [1] iota_S64x256_d1_w32)
    (k0_pay214 (iota .tc S64x256 32 [0] iota_S64x256_d0_w32) 8#32 k0_pay211 k0_pay212 k0_pay213) 64#32
    (k0_pay215 (iota .tc S64x256 32 [1] iota_S64x256_d1_w32)) (k0_pay216 (iota .tc S64x256 32 [1] iota_S64x256_d1_w32))
    (Scalar.extui (Scalar.cmpi .sgt 64#32 0#32)) (Scalar.cmpi .slt 64#32 0#32)
def pMask : IVec S64x256 1 := pMaskArgs fun a b c d e f g => k0_pay217 a b c d e f g
def pQf (I : ProIn F) : FVec F S64x256 .f32 := pMaskArgs fun a b c d e f g => k0_pay219 a b c d e f g I.x
def pQ (x : Vec F S64x64 .bf16) (pks : Vec F S4x64 .f32) : FVec F S64x256 .bf16 := pMaskArgs fun a b c d e f g => k0_pay220 a b c d e f g x pks
def p221 (I : ProIn F) : FVec F S64x128 .f32 := k0_pay222 (pQf I) (k0_pay221 I.kn0) I.kn1
def p248 (I : ProIn F) : FVec F S32x1024 .f32 := k0_pay224 (pQf I) I.tk0 I.tks0 I.len0
def p274 (I : ProIn F) : FVec F S32x1024 .f32 := k0_pay227 (k0_pay225 (pQf I)) (k0_pay226 I.tk1) I.tks1 I.len1
def p304 (I : ProIn F) : FVec F S32x128 .f32 := k0_pay229 (k0_pay225 (pQf I)) (k0_pay226 I.tk1) I.tks1 I.len1
def pM (I : ProIn F) : FVec F S64x128 .f32 := k0_pay230 (p221 I) (p274 I) (k0_pay228 (p248 I)) (p304 I)
def p323 (I : ProIn F) : FVec F S64x128 .f32 := k0_pay232 (p221 I) (p274 I) (k0_pay228 (p248 I)) (p304 I)
def p348 (I : ProIn F) : FVec F S64x256 .f32 := k0_pay233 (p221 I) (p274 I) (k0_pay228 (p248 I)) (p304 I) I.vn0 I.vn1
def p352 (I : ProIn F) : FVec F S32x1024 .f32 := k0_pay234 (p221 I) (p248 I) (p274 I) (k0_pay228 (p248 I)) (p304 I)
def pL0 (I : ProIn F) : FVec F S32x128 .f32 := k0_pay237 (p323 I) (p352 I) k0_pay235
def pL1 (I : ProIn F) : FVec F S32x128 .f32 := k0_pay240 (p274 I) (pM I) (p323 I)
def pA0 (I : ProIn F) (tvs0 : Vec F S1x4x1024 .f32) (tv0 : Vec F S1x256x1024 .fp8e4m3) : FVec F S32x256 .f32 := k0_pay238 (p348 I) (p352 I) k0_pay235 tvs0 tv0
def pA1 (I : ProIn F) (tvs1 : Vec F S1x4x1024 .f32) (tv1 : Vec F S1x256x1024 .fp8e4m3) : FVec F S32x256 .f32 :=
  k0_pay242 (k0_pay241 (p274 I) (pM I) (p348 I) tvs1 tv1)

/-- Loads and stores of the prologue. -/
def ldX : KProg F (Vec F S64x64 .bf16) := Prog.lift (.load bX (Rect.unit (s := S64x64) ![0, 0] S64x64.size inb_S64x64_S64x64_0_0).toLoadRect (View.loadsAt_vmem h_S64x64))
def ldPKs : KProg F (Vec F S4x64 .f32) := Prog.lift (.load bPKs (Rect.unit (s := S4x64) ![0, 0] S4x64.size inb_S4x64_S4x64_0_0).toLoadRect (View.loadsAt_vmem h_S4x64))
def stQ (v : FVec F S64x256 .bf16) : KProg F PUnit :=
  Prog.lift (.store bQ (Rect.unit (s := S64x256) ![0, 0] S64x256.size inb_S64x256_S64x256_0_0) v Finset.univ (View.stores_vmem h_S64x256 ((Memref.isWhole_whole cc0_scratch14).storeExact_slice rfl _ packedbf16_S64x256_S64x256_0_0) (fun _ => rfl)) (.inl rfl))
def ldN (b : Memref sig .tc .vmem S2x4x64 .bf16) (i : ℕ) (hi : ∀ a, (![i, 0, 0] : Fin 3 → ℕ) a + S1x4x64.size a ≤ S2x4x64.size a) : KProg F (Vec F S1x4x64 .bf16) :=
  Prog.lift (.load b (Rect.unit (s := S2x4x64) ![i, 0, 0] S1x4x64.size hi).toLoadRect (View.loadsAt_vmem h_S1x4x64))
def ldT (b : Memref sig .tc .vmem S2x256x1024 .fp8e4m3) (i : ℕ) (hi : ∀ a, (![i, 0, 0] : Fin 3 → ℕ) a + S1x256x1024.size a ≤ S2x256x1024.size a) : KProg F (Vec F S1x256x1024 .fp8e4m3) :=
  Prog.lift (.load b (Rect.unit (s := S2x256x1024) ![i, 0, 0] S1x256x1024.size hi).toLoadRect (View.loadsAt_vmem h_S1x256x1024))
def ldTs (b : Memref sig .tc .vmem S2x4x1024 .f32) (i : ℕ) (hi : ∀ a, (![i, 0, 0] : Fin 3 → ℕ) a + S1x4x1024.size a ≤ S2x4x1024.size a) : KProg F (Vec F S1x4x1024 .f32) :=
  Prog.lift (.load b (Rect.unit (s := S2x4x1024) ![i, 0, 0] S1x4x1024.size hi).toLoadRect (View.loadsAt_vmem h_S1x4x1024))
def ldLen (i : ℕ) (hi : ∀ a, (![i] : Fin 1 → ℕ) a + S1.size a ≤ S2.size a) : KProg F (Elt F .i32) :=
  smemLoad bLen (Rect.unit (s := S2) ![i] S1.size hi) numel1_S1 rfl
def ldL32 (i : ℕ) (hi : ∀ a, (![i, 0] : Fin 2 → ℕ) a + S32x128.size a ≤ S64x128.size a) : KProg F (Vec F S32x128 .f32) :=
  Prog.lift (.load bL (Rect.unit (s := S64x128) ![i, 0] S32x128.size hi).toLoadRect (View.loadsAt_vmem h_S32x128))
def stL32 (i : ℕ) (hi : ∀ a, (![i, 0] : Fin 2 → ℕ) a + S32x128.size a ≤ S64x128.size a) (v : FVec F S32x128 .f32) : KProg F PUnit :=
  Prog.lift (.store bL (Rect.unit (s := S64x128) ![i, 0] S32x128.size hi) v Finset.univ (View.stores_vmem_bits_univ h_S32x128 rfl) (.inl rfl))
def ldA32 (i : ℕ) (hi : ∀ a, (![i, 0] : Fin 2 → ℕ) a + S32x256.size a ≤ S64x256.size a) : KProg F (Vec F S32x256 .f32) :=
  Prog.lift (.load bAcc (Rect.unit (s := S64x256) ![i, 0] S32x256.size hi).toLoadRect (View.loadsAt_vmem h_S32x256))
def stA32 (i : ℕ) (hi : ∀ a, (![i, 0] : Fin 2 → ℕ) a + S32x256.size a ≤ S64x256.size a) (v : FVec F S32x256 .f32) : KProg F PUnit :=
  Prog.lift (.store bAcc (Rect.unit (s := S64x256) ![i, 0] S32x256.size hi) v Finset.univ (View.stores_vmem_bits_univ h_S32x256 rfl) (.inl rfl))

/-- The queries, and the loads of the prologue. -/
def proLoads : KProg F (ProIn F) := do
  let x ← ldX
  let pks ← ldPKs
  let _ ← ldQ
  stQ (pQ x pks)
  let kn0 ← ldN bKn 0 inb_S2x4x64_S1x4x64_0_0_0
  let kn1 ← ldN bKn 1 inb_S2x4x64_S1x4x64_1_0_0
  let tk0 ← ldT bTK 0 inb_S2x256x1024_S1x256x1024_0_0_0
  let tks0 ← ldTs bTKs 0 inb_S2x4x1024_S1x4x1024_0_0_0
  let len0 ← ldLen 0 inb_S2_S1_0
  let tk1 ← ldT bTK 1 inb_S2x256x1024_S1x256x1024_1_0_0
  let tks1 ← ldTs bTKs 1 inb_S2x4x1024_S1x4x1024_1_0_0
  let len1 ← ldLen 1 inb_S2_S1_1
  let vn0 ← ldN bVn 0 inb_S2x4x64_S1x4x64_0_0_0
  let vn1 ← ldN bVn 1 inb_S2x4x64_S1x4x64_1_0_0
  pure ⟨x, pks, kn0, kn1, tk0, tks0, len0, tk1, tks1, len1, vn0, vn1⟩

/-- The first sums and the first maximum, stored. -/
def proStores (I : ProIn F) : KProg F PUnit := do
  let _ ← ldL32 0 inb_S64x128_S32x128_0_0
  stL32 0 inb_S64x128_S32x128_0_0 (pL0 I)
  let tvs0 ← ldTs bTVs 0 inb_S2x4x1024_S1x4x1024_0_0_0
  let tv0 ← ldT bTV 0 inb_S2x256x1024_S1x256x1024_0_0_0
  let _ ← ldA32 0 inb_S64x256_S32x256_0_0
  stA32 0 inb_S64x256_S32x256_0_0 (pA0 I tvs0 tv0)
  let _ ← ldL32 32 inb_S64x128_S32x128_32_0
  stL32 32 inb_S64x128_S32x128_32_0 (pL1 I)
  let tvs1 ← ldTs bTVs 1 inb_S2x4x1024_S1x4x1024_1_0_0
  let tv1 ← ldT bTV 1 inb_S2x256x1024_S1x256x1024_1_0_0
  let _ ← ldA32 32 inb_S64x256_S32x256_32_0
  stA32 32 inb_S64x256_S32x256_32_0 (pA1 I tvs1 tv1)
  let _ ← ld128 bM
  st128 bM (vC128 (pM I))

def prologue : KProg F PUnit := do
  startsW
  starts3
  waitsW
  let I ← proLoads
  proStores I
  waitK 0#32 (by decide)

/-! ## The epilogue -/

/-- The heads' values: the quotient of the sums on the block diagonal, its four blocks added. -/
def eOut (l : Vec F S64x128 .f32) (acc : Vec F S64x256 .f32) : FVec F S64x64 .f32 := k0_pay455 pMask l acc
def eRow0 (l : Vec F S64x128 .f32) (acc : Vec F S64x256 .f32) : FVec F S1x2048 .f32 :=
  k0_pay475 (k0_pay455 pMask l acc) (k0_pay456 pMask l acc) (k0_pay457 pMask l acc) (k0_pay458 pMask l acc) (k0_pay459 pMask l acc) (k0_pay460 pMask l acc) (k0_pay461 pMask l acc) (k0_pay462 pMask l acc) (k0_pay463 pMask l acc) (k0_pay464 pMask l acc) (k0_pay465 pMask l acc) (k0_pay466 pMask l acc) (k0_pay467 pMask l acc) (k0_pay468 pMask l acc) (k0_pay469 pMask l acc) (k0_pay470 pMask l acc) (k0_pay471 pMask l acc) (k0_pay472 pMask l acc) (k0_pay473 pMask l acc) (k0_pay474 pMask l acc)
def ldOut (o : Memref sig .tc .vmem S2x2048 .bf16) (i : ℕ) (hi : ∀ a, (![i, 0] : Fin 2 → ℕ) a + S1x2048.size a ≤ S2x2048.size a) : KProg F (Vec F S1x2048 .bf16) :=
  Prog.lift (.load o (Rect.unit (s := S2x2048) ![i, 0] S1x2048.size hi).toLoadRect (View.loadsAt_vmem h_S1x2048))
def stOut (o : Memref sig .tc .vmem S2x2048 .bf16) (ho : o.IsWhole) (i : ℕ) (hi : S2x2048.Slices ![i, 0] S1x2048) (v : FVec F S1x2048 .bf16) : KProg F PUnit :=
  storeSubelements o (Rect.unit (s := S2x2048) ![0, 0] S2x2048.size inb_S2x2048_S2x2048_0_0) (fun old => updateSlice old v ![i, 0] hi) (View.loadsAt_vmem h_S2x2048) (View.stores_vmem h_S2x2048 (ho.storeExact_slice rfl _ packedbf16_S2x2048_S2x2048_0_0) (fun _ => rfl))
def epilogue (o : Memref sig .tc .vmem S2x2048 .bf16) (ho : o.IsWhole) (l : Vec F S64x128 .f32) (acc : Vec F S64x256 .f32) : KProg F PUnit := do
  let _ ← ldOut o 0 inb_S2x2048_S1x2048_0_0
  stOut o ho 0 slices_S2x2048_S1x2048_0_0 (k0_pay1 (eRow0 l acc))
  let _ ← ldOut o 1 inb_S2x2048_S1x2048_1_0
  stOut o ho 1 slices_S2x2048_S1x2048_1_0 (k0_pay2 (eOut l acc))

/-! ## The whole body -/

/-- What the scores of the first chunk leave to store. -/
theorem part52_eq (o : Memref sig .tc .vmem S2x2048 .bf16) (ho : o.IsWhole) (x y z : FVec F S64x128 .f32) :
    (k0_part52 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z : KProg F PUnit) = (do
      let m ← ld128 bM
      stMAl (vMNew m (maximumf x (maximumf y z)), vAl m (vMNew m (maximumf x (maximumf y z))))
      startK 4#32 (by decide)
      let _ ← Scf.Loop.for k0_t1_loop k0_t1_ok ⟨⟩ (k0_t1_body (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z)
      waitV 30#32 (by decide)
      pure ⟨⟩) := by
  chain_rfl

theorem part82_eq (o : Memref sig .tc .vmem S2x2048 .bf16) (ho : o.IsWhole) :
    (k0_part82 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 : KProg F (Σ' (_ : FVec F S64x64 .f32), FVec F S1x2048 .f32)) = (do
      prologue
      let q ← ldQ
      let d ← scoresTile 0#32 (by decide) bA q 0 (by decide)
      let cm ← scoresFrom 0#32 (by decide) bA q 14 1 (by decide) (vFoldMax d)
      let d' ← scoresTile 0#32 (by decide) bA q 15 (by decide)
      k0_part52 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cm (extractStridedSlice S64x128 ![0, 0] d' slices_S64x256_o0_0_S64x128) (extractStridedSlice S64x128 ![0, 128] d' slices_S64x256_o0_128_S64x128)
      waitVs 30#32 (by decide)
      stepPost 31#32 30#32 (by decide) (by decide) bA bB
      stepLast 31#32 (by decide) bB
      let l ← ld128 bL
      let acc ← ld256 bAcc
      pure ⟨eOut l acc, eRow0 l acc⟩) := by
  chain_rfl

theorem root_eq (o : Memref sig .tc .vmem S2x2048 .bf16) (ho : o.IsWhole) :
    (cc0_cascade_decode (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 : KProg F PUnit) = k0_part82 (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 >>= fun p => (do
      let _ ← ldOut o 0 inb_S2x2048_S1x2048_0_0
      stOut o ho 0 slices_S2x2048_S1x2048_0_0 (k0_pay1 p.2)
      let _ ← ldOut o 1 inb_S2x2048_S1x2048_1_0
      stOut o ho 1 slices_S2x2048_S1x2048_1_0 (k0_pay2 p.1)) := by
  chain_rfl

/-- The kernel's body. -/
def kBody (o : Memref sig .tc .vmem S2x2048 .bf16) (ho : o.IsWhole) : KProg F PUnit := do
  prologue
  let r ← scores 0#32 (by decide) bA
  stMAl r
  startK 4#32 (by decide)
  let _ ← Scf.Loop.for k0_t1_loop k0_t1_ok () (fun t _ => loopStep t >>= fun _ => pure ())
  stepCore 30#32 31#32 (by decide) (by decide) bA bB
  stepLast 31#32 (by decide) bB
  let l ← ld128 bL
  let acc ← ld256 bAcc
  epilogue o ho l acc

theorem scoresFrom_add (w : BitVec 32) (hw : w.toNat < 32) (dst : Memref sig .tc .vmem S64x4096 .f32) (q : Vec F S64x256 .bf16) :
    ∀ (r c : ℕ) (h : c + (r + 1) ≤ 16) (cm : FVec F S64x128 .f32),
      (scoresFrom w hw dst q (r + 1) c h cm : KProg F _) = scoresFrom w hw dst q r c (by omega) cm >>= fun cm' =>
        scoresTile w hw dst q (c + r) (by omega) >>= fun d => pure (maximumf cm' (vFoldMax d))
  | 0, c, h, cm => by
    simp only [scoresFrom, pure_bind, Nat.add_zero]
  | r + 1, c, h, cm => by
    rw [scoresFrom, scoresFrom]
    simp only [bind_assoc, scoresFrom_add w hw dst q r (c + 1) (by omega), Nat.add_assoc, Nat.add_comm 1 r]

theorem body_eq (o : Memref sig .tc .vmem S2x2048 .bf16) (ho : o.IsWhole) :
    (cc0_cascade_decode (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 : KProg F PUnit) = kBody o ho := by
  have hl : ∀ x y z, (k0_t1_body (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 x y z : _ → Unit → KProg F Unit) = fun t _ => loopStep t >>= fun _ => pure () := by
    intro x y z; funext t u; exact loop_eq o ho x y z t
  rw [root_eq, part82_eq]
  simp only [part52_eq, hl, kBody, scores, stepCore_eq', bind_assoc, pure_bind, epilogue, scoresFrom_add _ _ _ _ 14 1]
  rfl

end Cert.KernelIdeal.Steps
-- ==== Proof.KernelIdeal.Rules.lean ====
/-
  Rules for the operations of the kernel's body.

  A buffer, or a part of one, is held at the vector its memref reads (`owns`). `W` is the weakest precondition of a
  program on one core. A load hands over the vector at the rectangle's indices; a store leaves a vector with the
  stored values at the rectangle's indices and the old ones elsewhere; a copy in flight (`Fly`) hands over, when
  awaited, its destination holding the source's vector.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Steps

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The weakest precondition of a program of the kernel on core `c`. -/
def W (c : Dev nD) {α : Type} (p : KProg F α) (Q : α → sProp 𝕄) : sProp 𝕄 :=
  wp frame (wpE (defs₀ (F := F)) 𝒱₀ (c : Thread nD τ) none) Set.univ p Q

variable (c : Dev nD)

theorem W_bind {α β : Type} (p : KProg F α) (k : α → KProg F β) (Q : β → sProp 𝕄) :
    W c (p >>= k) Q = W c p (fun a => W c (k a) Q) := by
  unfold W; exact wp_bind ..
theorem W_pure {α : Type} (a : α) (Q : α → sProp 𝕄) : Q a ⊢ W c (pure a : KProg F α) Q := by
  unfold W
  rw [show (pure a : KProg F α) = Prog.ret a from rfl, wp_ret]
  iintro H; imodintro; iexact H

/-- A load from a memref held. -/
theorem W_load {cs : CoreSpace} {s : Shape} {e : EltTy} (m : Memref sig .tc cs s e) (r : LoadRect s) (hl : m.view.LoadsAt r)
    (q : PosShare TreeShare) (v : s.Idx → Elt F e) (Q : (r.shape.Idx → Elt F e) → sProp 𝕄) :
    (owns (c : Thread nD τ) m q v : sProp 𝕄)
      ⊢ iprop((owns (c : Thread nD τ) m q v -∗ Q (fun j => v (r.idx j))) -∗ W c (Prog.lift (.load m r hl)) Q) := by
  unfold owns W
  iintro ⟨%f, %hf, H⟩ K
  iapply (wp_load (k := Prog.ret) 𝒱₀ (c : Thread nD τ) none Set.univ (m.view.setOn_subset_set _)) $$ H
  iintro H
  rw [wp_ret]; imodintro
  subst hf
  rw [show m.view.readAt (Elt F) r f = fun j => m.view.read (Elt F) f (r.idx j) from rfl]
  iapply K
  iexists f
  isplitr; · ipureintro; rfl
  iexact H

/-- A store to a memref held. -/
theorem W_store {cs : CoreSpace} {s : Shape} {e : EltTy} (m : Memref sig .tc cs s e) (r : Rect s) (w : r.shape.Idx → Elt F e)
    (hx : (m.access r).Stores Finset.univ) (hm) (v : s.Idx → Elt F e) (Q : PUnit → sProp 𝕄) :
    (owns (c : Thread nD τ) m fullShare v : sProp 𝕄)
      ⊢ iprop((∀ v', ⌜(∀ x, v' (r.emb x) = w x) ∧ ∀ y, y ∉ r.set → v' y = v y⌝ -∗ owns (c : Thread nD τ) m fullShare v' -∗ Q ⟨⟩)
        -∗ W c (Prog.lift (.store m r w Finset.univ hx hm)) Q) := by
  unfold owns W
  iintro ⟨%f, %hf, H⟩ K
  ihave H' := (show ((m.view.loc (c : Thread nD τ) ↦[m.view.set]{fullShare} f) : sProp 𝕄) ⊢ ((m.access r).loc (c : Thread nD τ) ↦[m.view.set]{fullShare} f) from .rfl) $$ H
  iapply (wp_store (m := m) (r := r) (w := w) (Mk := Finset.univ) (hx := hx) (hm := hm) (k := Prog.ret) 𝒱₀ (c : Thread nD τ) none Set.univ (m.view.set_slice_subset r)) $$ H'
  iintro H
  rw [wp_ret]; imodintro
  subst hf
  iapply K
  · ipureintro
    refine ⟨fun x => m.view.read_slice_write_emb r f w (Finset.mem_univ x), fun y hy => ?_⟩
    exact m.view.read_slice_write_of_not_mem r f w Finset.univ (by rw [Rect.map_emb_univ]; exact hy)
  iexists _
  isplitr; · ipureintro; rfl
  iexact H

/-! ## Copies -/

/-- A copy in flight on the cell `sem`, of `src` into `dst`, the rest of the source's buffer kept. -/
def Fly {sp : Space} {s : Shape} {e : EltTy} (src : Memref sig .tc .hbm s e) (dst : Memref sig .tc sp s e) (sem : DmaSem sig)
    (q : PosShare TreeShare) (X : Buf (Elt F) (src.view.loc (c : Thread nD τ))) : sProp 𝕄 :=
  iprop(Transfers.Flight countersEmb (c : Thread nD τ) (.dma sem) () dst.view.dmaCredit
      iprop(owns (c : Thread nD τ) dst fullShare (src.view.read (Elt F) X) ∗ (src.view.loc (c : Thread nD τ) ↦[src.view.set]{q} X))
    ∗ (src.view.loc (c : Thread nD τ) ↦[Finset.univ \ src.view.set]{q} X))

/-- A part of a buffer held at anything. -/
def Any {sp : Space} {s : Shape} {e : EltTy} (m : Memref sig .tc sp s e) : sProp 𝕄 :=
  iprop(∃ f, m.view.loc (c : Thread nD τ) ↦[m.view.set]{fullShare} f)

theorem Any_of_owns {sp : Space} {s : Shape} {e : EltTy} (m : Memref sig .tc sp s e) (v : s.Idx → Elt F e) :
    (owns (c : Thread nD τ) m fullShare v : sProp 𝕄) ⊢ Any c m := by
  unfold owns Any
  iintro ⟨%f, -, H⟩; iexists f; iexact H
theorem owns_of_Any {sp : Space} {s : Shape} {e : EltTy} (m : Memref sig .tc sp s e) :
    (Any c m : sProp 𝕄) ⊢ iprop(∃ v, owns (c : Thread nD τ) m fullShare v) := by
  unfold owns Any
  iintro ⟨%f, H⟩; iexists (m.view.read (Elt F) f); iexists f
  isplitr; · ipureintro; rfl
  iexact H

/-- Nothing is owed, whatever has been awaited. -/
def Owes : sProp 𝕄 := iprop(∃ Wt, owes (c : Thread nD τ) 0 Wt)

theorem landed {sp : Space} {s : Shape} {e : EltTy} (src : Memref sig .tc .hbm s e) (dst : Memref sig .tc sp s e)
    (fd : Buf (Elt F) (dst.view.loc (c : Thread nD τ))) (q : PosShare TreeShare) (X : Buf (Elt F) (src.view.loc (c : Thread nD τ))) :
    (iprop((dst.view.loc (c : Thread nD τ) ↦[dst.view.set]{fullShare} (dst.view.write (Elt F) fd (ReadAs.same.apply (src.view.read (Elt F) X)) Finset.univ))
        ∗ (src.view.loc (c : Thread nD τ) ↦[src.view.set]{q} X)) : sProp 𝕄)
      ⊢ iprop(owns (c : Thread nD τ) dst fullShare (src.view.read (Elt F) X) ∗ (src.view.loc (c : Thread nD τ) ↦[src.view.set]{q} X)) := by
  iintro ⟨H1, H2⟩
  isplitl [H1]
  · unfold owns
    iexists (dst.view.write (Elt F) fd (ReadAs.same.apply (src.view.read (Elt F) X)) Finset.univ)
    isplitr; · ipureintro; exact dst.view.read_write_univ _ _
    iexact H1
  iexact H2

theorem W_start {sp : Space} {s : Shape} {e : EltTy} (src : Memref sig .tc .hbm s e) (dst : Memref sig .tc sp s e) (sem : DmaSem sig)
    (hsrc hdst hsem) (hn : 0 < s.numel) (q : PosShare TreeShare) (X : Buf (Elt F) (src.view.loc (c : Thread nD τ))) (Q : PUnit → sProp 𝕄) :
    iprop((src.view.loc (c : Thread nD τ) ↦[Finset.univ]{q} X) ∗ Any c dst ∗ semVal ((c : Thread nD τ), SemLoc.dma sem) 0)
      ⊢ iprop((Fly c src dst sem q X -∗ Q ⟨⟩) -∗ W c (Prog.lift (.enqueueDma src (.here dst) (.dma sem) hsrc hdst hsem)) Q) := by
  unfold W Any
  iintro ⟨Hs, ⟨%fd, Hd⟩, Hv⟩ K
  ihave Hs2 := (pointsTo_split_subset (Finset.subset_univ src.view.set)).1 $$ Hs
  icases Hs2 with ⟨Hs, Hr⟩
  iapply (Transfers.wp_dmaLocal (k := Prog.ret) countersEmb 𝒱₀ (c : Thread nD τ) none () dst.view.dmaCredit rfl (dst.view.dmaCredit_pos hn)
    (Finset.Subset.refl _)) $$ [Hs Hd Hv]
  · isplitl [Hs]; · iexact Hs
    isplitl [Hd]; · iexact Hd
    iexact Hv
  iintro HF
  rw [wp_ret]; imodintro
  iapply K
  unfold Fly
  isplitl [HF]
  · ihave HF' := (Transfers.Flight_mono countersEmb (c : Thread nD τ) (landed c src dst fd q X)) $$ HF
    iexact HF'
  iexact Hr

theorem W_wait {sp : Space} {s : Shape} {e : EltTy} (src : Memref sig .tc .hbm s e) (dst : Memref sig .tc sp s e) (sem : DmaSem sig)
    (hsrc hdst) (q : PosShare TreeShare) (X : Buf (Elt F) (src.view.loc (c : Thread nD τ))) (Q : PUnit → sProp 𝕄) :
    iprop(Fly c src dst sem q X ∗ Owes c)
      ⊢ iprop((iprop(owns (c : Thread nD τ) dst fullShare (src.view.read (Elt F) X) ∗ semVal ((c : Thread nD τ), SemLoc.dma sem) 0
            ∗ (src.view.loc (c : Thread nD τ) ↦[Finset.univ]{q} X) ∗ Owes c) -∗ Q ⟨⟩)
        -∗ W c (Prog.lift (.waitDma2 sem src dst hsrc hdst)) Q) := by
  unfold W Fly Owes
  iintro ⟨⟨HF, Hr⟩, ⟨%Wt, HO⟩⟩ K
  iapply (Transfers.wp_waitLocal (k := Prog.ret) countersEmb 𝒱₀ (c : Thread nD τ) none () rfl) $$ [HF HO]
  · isplitl [HF]; · iexact HF
    iexact HO
  iintro ⟨⟨Hd, Hs⟩, Hv, HO⟩
  rw [wp_ret]; imodintro
  iapply K
  isplitl [Hd]; · iexact Hd
  isplitl [Hv]; · iexact Hv
  isplitl [Hs Hr]
  · iapply (pointsTo_split_subset (Finset.subset_univ src.view.set)).2
    isplitl [Hs]; · iexact Hs
    iexact Hr
  iexists _; iexact HO

end Cert.KernelIdeal.Steps

end
-- ==== Proof.KernelIdeal.Rings.lean ====
/-
  The three rings of the kernel: chunks of keys, values and value scales.

  Chunk `n` travels through slot `n % 4` of its ring, on the slot's own cell, with one of four read shares of the
  operand. `StK n` is the slot of chunk `n` with the chunk in flight, or, past the last chunk, idle. The rules say
  what starting, awaiting and reading a chunk do.
-/
module

public import proofs.«01_k».proof.Proof.KernelIdeal.Rules
public import Idealize.ShloMosaic.Lib.ValueLayout

@[expose] public section

noncomputable section

namespace Cert.KernelIdeal.Steps

open Facts₀ Facts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)

/-! ## Indices -/

theorem w_lt {n : ℕ} (h : n < 32) : (BitVec.ofNat 32 n).toNat < 32 := by
  rw [BitVec.toNat_ofNat]; omega
theorem w_toNat {n : ℕ} (h : n < 32) : (BitVec.ofNat 32 n).toNat = n := by
  rw [BitVec.toNat_ofNat]; omega

/-- Column `x` of tile `c` of a chunk, of chunk `n` of the operand. -/
def lcol (c x : ℕ) : Fin 4096 := ⟨(256 * c + x) % 4096, Nat.mod_lt _ (by decide)⟩
def pcol (n c x : ℕ) : Fin 131072 := ⟨(4096 * n + 256 * c + x) % 131072, Nat.mod_lt _ (by decide)⟩

/-! ## Reading a slot -/

/-- A load from inside a slice, squeezed, of the memref. -/
theorem W_load_slot {cs : CoreSpace} {s s' : Shape} {e : EltTy} (m : Memref sig .tc cs s e) (R : Rect s) (hR : ∀ a, R.stride a = 1)
    (hq : R.shape.Squeezes s') (r : LoadRect s) (hl : m.view.LoadsAt r) (hsub : r.set ⊆ R.toLoadRect.set)
    (φ : r.shape.Idx → s'.Idx) (hφ : ∀ j, r.idx j = R.emb (Shape.reshapeEquiv hq.numel_eq (φ j)))
    (v : s'.Idx → Elt F e) (Q : (r.shape.Idx → Elt F e) → sProp 𝕄) :
    (owns (c : Thread nD τ) ((m.slice R hR).squeeze s' hq) fullShare v : sProp 𝕄)
      ⊢ iprop((owns (c : Thread nD τ) ((m.slice R hR).squeeze s' hq) fullShare v -∗ Q (fun j => v (φ j))) -∗ W c (Prog.lift (.load m r hl)) Q) := by
  unfold owns W
  iintro ⟨%f, %hf, H⟩ K
  ihave H' := (show ((((m.slice R hR).squeeze s' hq).view.loc (c : Thread nD τ) ↦[((m.slice R hR).squeeze s' hq).view.set]{fullShare} f) : sProp 𝕄)
    ⊢ (m.view.loc (c : Thread nD τ) ↦[((m.slice R hR).squeeze s' hq).view.set]{fullShare} f) from .rfl) $$ H
  iapply (wp_load (m := m) (r := r) (hl := hl) (f := f) (k := Prog.ret) 𝒱₀ (c : Thread nD τ) none Set.univ (by
    refine Finset.Subset.trans (Finset.map_subset_map.mpr hsub) (Finset.Subset.trans (subset_of_eq (View.set_slice m.view R).symm) ?_)
    exact subset_of_eq (View.set_reshape (m.view.slice R) hq.numel_eq).symm)) $$ H'
  iintro H
  rw [wp_ret]; imodintro
  subst hf
  rw [show m.view.readAt (Elt F) r f = fun j => ((m.slice R hR).squeeze s' hq).view.read (Elt F) f (φ j) from by
    funext j
    rw [View.readAt_apply, View.read_apply, hφ j]; rfl]
  iapply K
  iexists f
  isplitr; · ipureintro; rfl
  iexact H

/-- The slot of a chunk in a ring of keys or values; of scales. -/
theorem W_ldW (b : Memref sig .tc .vmem S4x256x4096 .fp8e4m3) (w : BitVec 32) (hw : w.toNat < 32) (t : ℕ) (ht : t < 16)
    (v : S256x4096.Idx → Elt F .fp8e4m3) (Q : Vec F S1x256x256 .fp8e4m3 → sProp 𝕄) :
    (owns (c : Thread nD τ) ((b.slice (Rect.unit (s := S4x256x4096) (slotOff w) S1x256x4096.size (slotOff_inb hw)) (fun _ => rfl)).squeeze S256x4096 squeezes_S1x256x4096_S256x4096) fullShare v : sProp 𝕄)
      ⊢ iprop((owns (c : Thread nD τ) ((b.slice (Rect.unit (s := S4x256x4096) (slotOff w) S1x256x4096.size (slotOff_inb hw)) (fun _ => rfl)).squeeze S256x4096 squeezes_S1x256x4096_S256x4096) fullShare v
          -∗ Q (fun j => v (ix2 (j 1) (lcol t (j 2).val)))) -∗ W c (ldW b w hw t ht) Q) := by
  unfold ldW
  refine W_load_slot (F := F) c b _ _ _ (Rect.unit (s := S4x256x4096) (winOff w t) S1x256x256.size (winOff_inb hw ht)).toLoadRect _ ?_
    (fun j : S1x256x256.Idx => (ix2 (j 1) (lcol t (j 2).val) : S256x4096.Idx)) ?_ v Q
  · intro y hy
    have hy := Rect.mem_set_unit.mp hy
    refine Rect.mem_set_unit.mpr fun a => ?_
    have h0 := hy a
    have hlt := (y a).isLt
    match a with
    | 0 => exact h0
    | 1 => exact ⟨Nat.zero_le _, by show _ < 0 + 256; exact (Nat.zero_add 256).symm ▸ hlt⟩
    | 2 => exact ⟨Nat.zero_le _, by show _ < 0 + 4096; exact (Nat.zero_add 4096).symm ▸ hlt⟩
  · intro j
    have e : Shape.reshapeEquiv (squeezes_S1x256x4096_S256x4096.numel_eq) (ix2 (j 1) (lcol t (j 2).val) : S256x4096.Idx)
        = (ix3 (⟨0, Nat.one_pos⟩ : Fin 1) (j 1) (lcol t (j 2).val) : S1x256x4096.Idx) := reshapeEquiv_ix2_1ab _ _ _
    refine Eq.trans ?_ (congrArg (Rect.emb _) e.symm)
    funext a; apply Fin.ext
    have h0 : (j 0).val < 1 := (j 0).isLt
    have h2 : (j 2).val < 256 := (j 2).isLt
    match a with
    | 0 => show (Scalar.remsi w 4#32).toNat + 1 * (j 0).val = (Scalar.remsi w 4#32).toNat + 1 * 0; omega
    | 1 => show 0 + 1 * (j 1).val = 0 + 1 * (j 1).val; rfl
    | 2 => show 256 * t + 1 * (j 2).val = 0 + 1 * ((256 * t + (j 2).val) % 4096); omega
theorem W_ldWs (w : BitVec 32) (hw : w.toNat < 32) (t : ℕ) (ht : t < 16)
    (v : S4x4096.Idx → Elt F .f32) (Q : Vec F S1x4x256 .f32 → sProp 𝕄) :
    (owns (c : Thread nD τ) (slotVs w hw) fullShare v : sProp 𝕄)
      ⊢ iprop((owns (c : Thread nD τ) (slotVs w hw) fullShare v
          -∗ Q (fun j => v (ix2 (j 1) (lcol t (j 2).val)))) -∗ W c (ldWs w hw t ht) Q) := by
  unfold ldWs
  refine W_load_slot (F := F) c bVs _ _ _ (Rect.unit (s := S4x4x4096) (winOff w t) S1x4x256.size (winOff_inb4 hw ht)).toLoadRect _ ?_
    (fun j : S1x4x256.Idx => (ix2 (j 1) (lcol t (j 2).val) : S4x4096.Idx)) ?_ v Q
  · intro y hy
    have hy := Rect.mem_set_unit.mp hy
    refine Rect.mem_set_unit.mpr fun a => ?_
    have h0 := hy a
    have hlt := (y a).isLt
    match a with
    | 0 => exact h0
    | 1 => exact ⟨Nat.zero_le _, by show _ < 0 + 4; exact (Nat.zero_add 4).symm ▸ hlt⟩
    | 2 => exact ⟨Nat.zero_le _, by show _ < 0 + 4096; exact (Nat.zero_add 4096).symm ▸ hlt⟩
  · intro j
    have e : Shape.reshapeEquiv (squeezes_S1x4x4096_S4x4096.numel_eq) (ix2 (j 1) (lcol t (j 2).val) : S4x4096.Idx)
        = (ix3 (⟨0, Nat.one_pos⟩ : Fin 1) (j 1) (lcol t (j 2).val) : S1x4x4096.Idx) := reshapeEquiv_ix2_1ab _ _ _
    refine Eq.trans ?_ (congrArg (Rect.emb _) e.symm)
    funext a; apply Fin.ext
    have h0 : (j 0).val < 1 := (j 0).isLt
    have h2 : (j 2).val < 256 := (j 2).isLt
    match a with
    | 0 => show (Scalar.remsi w 4#32).toNat + 1 * (j 0).val = (Scalar.remsi w 4#32).toNat + 1 * 0; omega
    | 1 => show 0 + 1 * (j 1).val = 0 + 1 * (j 1).val; rfl
    | 2 => show 256 * t + 1 * (j 2).val = 0 + 1 * ((256 * t + (j 2).val) % 4096); omega

/-! ## The state of a slot -/

variable (XK XV : Vec F S256x131072 .fp8e4m3) (XVs : Vec F S4x131072 .f32)

theorem m_lt (n : ℕ) : (BitVec.ofNat 32 (n % 4)).toNat < 32 := w_lt (by omega)

def IdleK (n : ℕ) : sProp 𝕄 :=
  iprop(Any c (slotK (BitVec.ofNat 32 (n % 4)) (m_lt n)) ∗ semVal ((c : Thread nD τ), SemLoc.dma (semK (BitVec.ofNat 32 (n % 4)) (m_lt n)).sem) 0
    ∗ (aPK.view.loc (c : Thread nD τ) ↦[Finset.univ]{Transfers.shareTokN fullShare (n % 4)} XK))
def IdleV (n : ℕ) : sProp 𝕄 :=
  iprop(Any c (slotV (BitVec.ofNat 32 (n % 4)) (m_lt n)) ∗ semVal ((c : Thread nD τ), SemLoc.dma (semV (BitVec.ofNat 32 (n % 4)) (m_lt n)).sem) 0
    ∗ (aPV.view.loc (c : Thread nD τ) ↦[Finset.univ]{Transfers.shareTokN fullShare (n % 4)} XV))
def IdleVs (n : ℕ) : sProp 𝕄 :=
  iprop(Any c (slotVs (BitVec.ofNat 32 (n % 4)) (m_lt n)) ∗ semVal ((c : Thread nD τ), SemLoc.dma (semVs (BitVec.ofNat 32 (n % 4)) (m_lt n)).sem) 0
    ∗ (aPVs.view.loc (c : Thread nD τ) ↦[Finset.univ]{Transfers.shareTokN fullShare (n % 4)} XVs))

def FlyK (n : ℕ) (h : n < 32) : sProp 𝕄 :=
  Fly c (blkK (BitVec.ofNat 32 n) (w_lt h)) (slotK (BitVec.ofNat 32 n) (w_lt h)) (semK (BitVec.ofNat 32 n) (w_lt h)).sem (Transfers.shareTokN fullShare (n % 4)) XK
def FlyV (n : ℕ) (h : n < 32) : sProp 𝕄 :=
  Fly c (blkV (BitVec.ofNat 32 n) (w_lt h)) (slotV (BitVec.ofNat 32 n) (w_lt h)) (semV (BitVec.ofNat 32 n) (w_lt h)).sem (Transfers.shareTokN fullShare (n % 4)) XV
def FlyVs (n : ℕ) (h : n < 32) : sProp 𝕄 :=
  Fly c (blkVs (BitVec.ofNat 32 n) (w_lt h)) (slotVs (BitVec.ofNat 32 n) (w_lt h)) (semVs (BitVec.ofNat 32 n) (w_lt h)).sem (Transfers.shareTokN fullShare (n % 4)) XVs

def StK (n : ℕ) : sProp 𝕄 := if h : n < 32 then FlyK c XK n h else IdleK c XK n
def StV (n : ℕ) : sProp 𝕄 := if h : n < 32 then FlyV c XV n h else IdleV c XV n
def StVs (n : ℕ) : sProp 𝕄 := if h : n < 32 then FlyVs c XVs n h else IdleVs c XVs n

/-- Slots and cells depend on the chunk number modulo 4. -/
theorem remsi_mod {n : ℕ} (h : n < 32) : (Scalar.remsi (BitVec.ofNat 32 n) 4#32).toNat = (Scalar.remsi (BitVec.ofNat 32 (n % 4)) 4#32).toNat := by
  rw [remsi_toNat (w_lt h), remsi_toNat (m_lt n), w_toNat h, w_toNat (by omega), Nat.mod_mod]
theorem slotOff_mod {n : ℕ} (h : n < 32) : slotOff (BitVec.ofNat 32 n) = slotOff (BitVec.ofNat 32 (n % 4)) := by
  unfold slotOff; rw [remsi_mod h]
theorem semOff_mod {n : ℕ} (h : n < 32) : semOff (BitVec.ofNat 32 n) = semOff (BitVec.ofNat 32 (n % 4)) := by
  unfold semOff; rw [remsi_mod h]
theorem slotK_mod {n : ℕ} (h : n < 32) : slotK (BitVec.ofNat 32 n) (w_lt h) = slotK (BitVec.ofNat 32 (n % 4)) (m_lt n) :=
  congrArg (fun M : Memref sig .tc .vmem S1x256x4096 .fp8e4m3 => M.squeeze S256x4096 squeezes_S1x256x4096_S256x4096) (Memref.slice_unit_congr _ (slotOff_mod h) _ _ _ _)
theorem slotV_mod {n : ℕ} (h : n < 32) : slotV (BitVec.ofNat 32 n) (w_lt h) = slotV (BitVec.ofNat 32 (n % 4)) (m_lt n) :=
  congrArg (fun M : Memref sig .tc .vmem S1x256x4096 .fp8e4m3 => M.squeeze S256x4096 squeezes_S1x256x4096_S256x4096) (Memref.slice_unit_congr _ (slotOff_mod h) _ _ _ _)
theorem slotVs_mod {n : ℕ} (h : n < 32) : slotVs (BitVec.ofNat 32 n) (w_lt h) = slotVs (BitVec.ofNat 32 (n % 4)) (m_lt n) :=
  congrArg (fun M : Memref sig .tc .vmem S1x4x4096 .f32 => M.squeeze S4x4096 squeezes_S1x4x4096_S4x4096) (Memref.slice_unit_congr _ (slotOff_mod h) _ _ _ _)
theorem semK_mod {n : ℕ} (h : n < 32) : semK (BitVec.ofNat 32 n) (w_lt h) = semK (BitVec.ofNat 32 (n % 4)) (m_lt n) :=
  congrArg (fun A : DmaSems sig S1 => A.squeeze S_ squeezes_S1_S_) (SemArray.slice_unit_congr _ (semOff_mod h) _ _)
theorem semV_mod {n : ℕ} (h : n < 32) : semV (BitVec.ofNat 32 n) (w_lt h) = semV (BitVec.ofNat 32 (n % 4)) (m_lt n) :=
  congrArg (fun A : DmaSems sig S1 => A.squeeze S_ squeezes_S1_S_) (SemArray.slice_unit_congr _ (semOff_mod h) _ _)
theorem semVs_mod {n : ℕ} (h : n < 32) : semVs (BitVec.ofNat 32 n) (w_lt h) = semVs (BitVec.ofNat 32 (n % 4)) (m_lt n) :=
  congrArg (fun A : DmaSems sig S1 => A.squeeze S_ squeezes_S1_S_) (SemArray.slice_unit_congr _ (semOff_mod h) _ _)

theorem IdleK_eq {n : ℕ} (h : n < 32) : IdleK c XK n =
    iprop(Any c (slotK (BitVec.ofNat 32 n) (w_lt h)) ∗ semVal ((c : Thread nD τ), SemLoc.dma (semK (BitVec.ofNat 32 n) (w_lt h)).sem) 0
      ∗ (aPK.view.loc (c : Thread nD τ) ↦[Finset.univ]{Transfers.shareTokN fullShare (n % 4)} XK)) := by
  unfold IdleK; rw [slotK_mod h, semK_mod h]
theorem IdleV_eq {n : ℕ} (h : n < 32) : IdleV c XV n =
    iprop(Any c (slotV (BitVec.ofNat 32 n) (w_lt h)) ∗ semVal ((c : Thread nD τ), SemLoc.dma (semV (BitVec.ofNat 32 n) (w_lt h)).sem) 0
      ∗ (aPV.view.loc (c : Thread nD τ) ↦[Finset.univ]{Transfers.shareTokN fullShare (n % 4)} XV)) := by
  unfold IdleV; rw [slotV_mod h, semV_mod h]
theorem IdleVs_eq {n : ℕ} (h : n < 32) : IdleVs c XVs n =
    iprop(Any c (slotVs (BitVec.ofNat 32 n) (w_lt h)) ∗ semVal ((c : Thread nD τ), SemLoc.dma (semVs (BitVec.ofNat 32 n) (w_lt h)).sem) 0
      ∗ (aPVs.view.loc (c : Thread nD τ) ↦[Finset.univ]{Transfers.shareTokN fullShare (n % 4)} XVs)) := by
  unfold IdleVs; rw [slotVs_mod h, semVs_mod h]
theorem IdleK_add (n : ℕ) : IdleK c XK (n + 4) = IdleK c XK n := by
  unfold IdleK; simp only [Nat.add_mod_right]
theorem IdleV_add (n : ℕ) : IdleV c XV (n + 4) = IdleV c XV n := by
  unfold IdleV; simp only [Nat.add_mod_right]
theorem IdleVs_add (n : ℕ) : IdleVs c XVs (n + 4) = IdleVs c XVs n := by
  unfold IdleVs; simp only [Nat.add_mod_right]

/-- A chunk arrived: its slot holds the operand's block. -/
def HereK (n : ℕ) (h : n < 32) : sProp 𝕄 :=
  iprop(owns (c : Thread nD τ) (slotK (BitVec.ofNat 32 n) (w_lt h)) fullShare ((blkK (BitVec.ofNat 32 n) (w_lt h)).view.read (Elt F) XK)
    ∗ semVal ((c : Thread nD τ), SemLoc.dma (semK (BitVec.ofNat 32 n) (w_lt h)).sem) 0
    ∗ (aPK.view.loc (c : Thread nD τ) ↦[Finset.univ]{Transfers.shareTokN fullShare (n % 4)} XK))
def HereV (n : ℕ) (h : n < 32) : sProp 𝕄 :=
  iprop(owns (c : Thread nD τ) (slotV (BitVec.ofNat 32 n) (w_lt h)) fullShare ((blkV (BitVec.ofNat 32 n) (w_lt h)).view.read (Elt F) XV)
    ∗ semVal ((c : Thread nD τ), SemLoc.dma (semV (BitVec.ofNat 32 n) (w_lt h)).sem) 0
    ∗ (aPV.view.loc (c : Thread nD τ) ↦[Finset.univ]{Transfers.shareTokN fullShare (n % 4)} XV))
def HereVs (n : ℕ) (h : n < 32) : sProp 𝕄 :=
  iprop(owns (c : Thread nD τ) (slotVs (BitVec.ofNat 32 n) (w_lt h)) fullShare ((blkVs (BitVec.ofNat 32 n) (w_lt h)).view.read (Elt F) XVs)
    ∗ semVal ((c : Thread nD τ), SemLoc.dma (semVs (BitVec.ofNat 32 n) (w_lt h)).sem) 0
    ∗ (aPVs.view.loc (c : Thread nD τ) ↦[Finset.univ]{Transfers.shareTokN fullShare (n % 4)} XVs))

theorem IdleK_of_Here {n : ℕ} (h : n < 32) : HereK c XK n h ⊢ IdleK c XK n := by
  rw [IdleK_eq c XK h]; unfold HereK
  iintro ⟨H, Hr⟩
  isplitl [H]
  · iapply (Any_of_owns c _ _); iexact H
  iexact Hr
theorem IdleV_of_Here {n : ℕ} (h : n < 32) : HereV c XV n h ⊢ IdleV c XV n := by
  rw [IdleV_eq c XV h]; unfold HereV
  iintro ⟨H, Hr⟩
  isplitl [H]
  · iapply (Any_of_owns c _ _); iexact H
  iexact Hr
theorem IdleVs_of_Here {n : ℕ} (h : n < 32) : HereVs c XVs n h ⊢ IdleVs c XVs n := by
  rw [IdleVs_eq c XVs h]; unfold HereVs
  iintro ⟨H, Hr⟩
  isplitl [H]
  · iapply (Any_of_owns c _ _); iexact H
  iexact Hr

/-! ## Starting and awaiting a chunk -/

theorem W_startK {n : ℕ} (h : n < 32) (Q : PUnit → sProp 𝕄) :
    IdleK c XK n ⊢ iprop((StK c XK n -∗ Q ⟨⟩) -∗ W c (startK (BitVec.ofNat 32 n) (w_lt h)) Q) := by
  rw [IdleK_eq c XK h]; unfold StK startK; rw [dif_pos h]
  iintro ⟨Ha, Hs, Hx⟩ K
  iapply (W_start c _ _ _ _ _ _ (by decide) (Transfers.shareTokN fullShare (n % 4)) XK) $$ [Ha Hs Hx]
  · isplitl [Hx]; · iexact Hx
    isplitl [Ha]; · iexact Ha
    iexact Hs
  iintro HF; iapply K; unfold FlyK; iexact HF
theorem W_startV {n : ℕ} (h : n < 32) (Q : PUnit → sProp 𝕄) :
    IdleV c XV n ⊢ iprop((StV c XV n -∗ Q ⟨⟩) -∗ W c (startV (BitVec.ofNat 32 n) (w_lt h)) Q) := by
  rw [IdleV_eq c XV h]; unfold StV startV; rw [dif_pos h]
  iintro ⟨Ha, Hs, Hx⟩ K
  iapply (W_start c _ _ _ _ _ _ (by decide) (Transfers.shareTokN fullShare (n % 4)) XV) $$ [Ha Hs Hx]
  · isplitl [Hx]; · iexact Hx
    isplitl [Ha]; · iexact Ha
    iexact Hs
  iintro HF; iapply K; unfold FlyV; iexact HF
theorem W_startVs {n : ℕ} (h : n < 32) (Q : PUnit → sProp 𝕄) :
    IdleVs c XVs n ⊢ iprop((StVs c XVs n -∗ Q ⟨⟩) -∗ W c (startVs (BitVec.ofNat 32 n) (w_lt h)) Q) := by
  rw [IdleVs_eq c XVs h]; unfold StVs startVs; rw [dif_pos h]
  iintro ⟨Ha, Hs, Hx⟩ K
  iapply (W_start c _ _ _ _ _ _ (by decide) (Transfers.shareTokN fullShare (n % 4)) XVs) $$ [Ha Hs Hx]
  · isplitl [Hx]; · iexact Hx
    isplitl [Ha]; · iexact Ha
    iexact Hs
  iintro HF; iapply K; unfold FlyVs; iexact HF

theorem W_waitK {n : ℕ} (h : n < 32) (Q : PUnit → sProp 𝕄) :
    iprop(StK c XK n ∗ Owes c) ⊢ iprop((iprop(HereK c XK n h ∗ Owes c) -∗ Q ⟨⟩) -∗ W c (waitK (BitVec.ofNat 32 n) (w_lt h)) Q) := by
  unfold StK waitK; rw [dif_pos h]; unfold FlyK
  iintro H K
  iapply (W_wait c _ _ _ _ _ _ XK) $$ H
  iintro ⟨H1, H2, H3, HO⟩; iapply K; unfold HereK
  isplitl [H1 H2 H3]
  · isplitl [H1]; · iexact H1
    isplitl [H2]; · iexact H2
    iexact H3
  iexact HO
theorem W_waitV {n : ℕ} (h : n < 32) (Q : PUnit → sProp 𝕄) :
    iprop(StV c XV n ∗ Owes c) ⊢ iprop((iprop(HereV c XV n h ∗ Owes c) -∗ Q ⟨⟩) -∗ W c (waitV (BitVec.ofNat 32 n) (w_lt h)) Q) := by
  unfold StV waitV; rw [dif_pos h]; unfold FlyV
  iintro H K
  iapply (W_wait c _ _ _ _ _ _ XV) $$ H
  iintro ⟨H1, H2, H3, HO⟩; iapply K; unfold HereV
  isplitl [H1 H2 H3]
  · isplitl [H1]; · iexact H1
    isplitl [H2]; · iexact H2
    iexact H3
  iexact HO
theorem W_waitVs {n : ℕ} (h : n < 32) (Q : PUnit → sProp 𝕄) :
    iprop(StVs c XVs n ∗ Owes c) ⊢ iprop((iprop(HereVs c XVs n h ∗ Owes c) -∗ Q ⟨⟩) -∗ W c (waitVs (BitVec.ofNat 32 n) (w_lt h)) Q) := by
  unfold StVs waitVs; rw [dif_pos h]; unfold FlyVs
  iintro H K
  iapply (W_wait c _ _ _ _ _ _ XVs) $$ H
  iintro ⟨H1, H2, H3, HO⟩; iapply K; unfold HereVs
  isplitl [H1 H2 H3]
  · isplitl [H1]; · iexact H1
    isplitl [H2]; · iexact H2
    iexact H3
  iexact HO

/-! ## Tiles of a chunk -/

/-- Tile `t` of chunk `n` of an operand. -/
def tile (X : Vec F S256x131072 .fp8e4m3) (n t : ℕ) : Vec F S1x256x256 .fp8e4m3 := fun j => X (ix2 (j 1) (pcol n t (j 2).val))
def tileS (X : Vec F S4x131072 .f32) (n t : ℕ) : Vec F S1x4x256 .f32 := fun j => X (ix2 (j 1) (pcol n t (j 2).val))

theorem blk_col {n t x : ℕ} (h : n < 32) (ht : t < 16) (hx : x < 256) :
    (Scalar.muli (BitVec.ofNat 32 n) 4096#32).toNat + 1 * ((256 * t + x) % 4096) = (4096 * n + 256 * t + x) % 131072 := by
  rw [muli_toNat (w_lt h), w_toNat h]; omega
theorem blkK_tile {n : ℕ} (h : n < 32) {t : ℕ} (ht : t < 16) :
    (fun j : S1x256x256.Idx => (blkK (BitVec.ofNat 32 n) (w_lt h)).view.read (Elt F) XK (ix2 (j 1) (lcol t (j 2).val))) = tile XK n t := by
  funext j
  show XK _ = XK _
  congr 1
  funext a; apply Fin.ext
  match a with
  | 0 => show 0 + 1 * (j 1).val = (j 1).val; omega
  | 1 => exact blk_col h ht (j 2).isLt
theorem blkV_tile {n : ℕ} (h : n < 32) {t : ℕ} (ht : t < 16) :
    (fun j : S1x256x256.Idx => (blkV (BitVec.ofNat 32 n) (w_lt h)).view.read (Elt F) XV (ix2 (j 1) (lcol t (j 2).val))) = tile XV n t := by
  funext j
  show XV _ = XV _
  congr 1
  funext a; apply Fin.ext
  match a with
  | 0 => show 0 + 1 * (j 1).val = (j 1).val; omega
  | 1 => exact blk_col h ht (j 2).isLt
theorem blkVs_tile {n : ℕ} (h : n < 32) {t : ℕ} (ht : t < 16) :
    (fun j : S1x4x256.Idx => (blkVs (BitVec.ofNat 32 n) (w_lt h)).view.read (Elt F) XVs (ix2 (j 1) (lcol t (j 2).val))) = tileS XVs n t := by
  funext j
  show XVs _ = XVs _
  congr 1
  funext a; apply Fin.ext
  match a with
  | 0 => show 0 + 1 * (j 1).val = (j 1).val; omega
  | 1 => exact blk_col h ht (j 2).isLt

theorem W_tileK {n : ℕ} (h : n < 32) {t : ℕ} (ht : t < 16) (Q : Vec F S1x256x256 .fp8e4m3 → sProp 𝕄) :
    HereK c XK n h ⊢ iprop((HereK c XK n h -∗ Q (tile XK n t)) -∗ W c (ldW bK (BitVec.ofNat 32 n) (w_lt h) t ht) Q) := by
  unfold HereK
  iintro ⟨H, Hr⟩ K
  iapply (W_ldW c bK (BitVec.ofNat 32 n) (w_lt h) t ht _ Q) $$ H
  iintro H
  irw [blkK_tile XK h ht]
  iapply K
  isplitl [H]; · iexact H
  iexact Hr
theorem W_tileV {n : ℕ} (h : n < 32) {t : ℕ} (ht : t < 16) (Q : Vec F S1x256x256 .fp8e4m3 → sProp 𝕄) :
    HereV c XV n h ⊢ iprop((HereV c XV n h -∗ Q (tile XV n t)) -∗ W c (ldW bV (BitVec.ofNat 32 n) (w_lt h) t ht) Q) := by
  unfold HereV
  iintro ⟨H, Hr⟩ K
  iapply (W_ldW c bV (BitVec.ofNat 32 n) (w_lt h) t ht _ Q) $$ H
  iintro H
  irw [blkV_tile XV h ht]
  iapply K
  isplitl [H]; · iexact H
  iexact Hr
theorem W_tileVs {n : ℕ} (h : n < 32) {t : ℕ} (ht : t < 16) (Q : Vec F S1x4x256 .f32 → sProp 𝕄) :
    HereVs c XVs n h ⊢ iprop((HereVs c XVs n h -∗ Q (tileS XVs n t)) -∗ W c (ldWs (BitVec.ofNat 32 n) (w_lt h) t ht) Q) := by
  unfold HereVs
  iintro ⟨H, Hr⟩ K
  iapply (W_ldWs c (BitVec.ofNat 32 n) (w_lt h) t ht _ Q) $$ H
  iintro H
  irw [blkVs_tile XVs h ht]
  iapply K
  isplitl [H]; · iexact H
  iexact Hr

end Cert.KernelIdeal.Steps

end
-- ==== Proof.KernelIdeal.Chunk.lean ====
/-
  One chunk: its scores, its weighted values, and the step of the two.

  The values the kernel computes, chunk after chunk, are the recursions `Mv` (the maximum) and `LA` (the sum and the
  weighted values); the rules say that the program's step computes them.
-/
module

public import proofs.«01_k».proof.Proof.KernelIdeal.Rings

@[expose] public section

noncomputable section

namespace Cert.KernelIdeal.Steps

open Facts₀ Facts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## The values -/

section Values

variable (XK XV : Vec F S256x131072 .fp8e4m3) (XVs : Vec F S4x131072 .f32) (Qv : Vec F S64x256 .bf16)
  (M0 L0 : FVec F S64x128 .f32) (A0 : FVec F S64x256 .f32)

/-- The scores of tile `t` of chunk `n`. -/
def sc (n t : ℕ) : FVec F S64x256 .f32 := vScore Qv (tile XK n t)
/-- The maximum over `r` tiles from `t` on. -/
def cmFold (n : ℕ) : (r t : ℕ) → FVec F S64x128 .f32 → FVec F S64x128 .f32
  | 0, _, cm => cm
  | r + 1, t, cm => cmFold n r (t + 1) (maximumf cm (vFoldMax (sc XK Qv n t)))
def CM (n : ℕ) : FVec F S64x128 .f32 := cmFold XK Qv n 15 1 (vFoldMax (sc XK Qv n 0))
/-- The maximum before chunk `i`. -/
def Mv : ℕ → FVec F S64x128 .f32
  | 0 => M0
  | i + 1 => vMNew (Mv i) (CM XK Qv i)
/-- A tile's part of the sum and of the weighted values. -/
def tl (mw : FVec F S64x256 .f32) (n t : ℕ) : FVec F S64x128 .f32 := vFoldAdd (vE (sc XK Qv n t) mw)
def tO (mw : FVec F S64x256 .f32) (n t : ℕ) : FVec F S64x256 .f32 := vPV (vE (sc XK Qv n t) mw) (tileS XVs n t) (tile XV n t)
def wFold (mw : FVec F S64x256 .f32) (n : ℕ) : (r t : ℕ) → FVec F S64x128 .f32 → FVec F S64x256 .f32 → FVec F S64x256 .f32 →
    FVec F S64x128 .f32 × FVec F S64x256 .f32 × FVec F S64x256 .f32
  | 0, _, l, o0, o1 => (l, o0, o1)
  | r + 1, t, l, o0, o1 => wFold mw n r (t + 2) (addf (addf l (tl XK Qv mw n t)) (tl XK Qv mw n (t + 1)))
      (addf o0 (tO XK XV XVs Qv mw n t)) (addf o1 (tO XK XV XVs Qv mw n (t + 1)))
/-- The sums after chunk `n`, the maximum `m`, the factor `al`. -/
def wStep (n : ℕ) (m al l : FVec F S64x128 .f32) (acc : FVec F S64x256 .f32) : FVec F S64x128 .f32 × FVec F S64x256 .f32 :=
  let r := wFold XK XV XVs Qv (vWide m) n 7 2 (addf (addf (mulf l al) (tl XK Qv (vWide m) n 0)) (tl XK Qv (vWide m) n 1))
    (tO XK XV XVs Qv (vWide m) n 0) (tO XK XV XVs Qv (vWide m) n 1)
  (r.1, vAcc acc (vWide al) r.2.1 r.2.2)
/-- The sums before chunk `i`. -/
def LA : ℕ → FVec F S64x128 .f32 × FVec F S64x256 .f32
  | 0 => (L0, A0)
  | i + 1 => wStep XK XV XVs Qv i (Mv XK Qv M0 (i + 1)) (vAl (Mv XK Qv M0 i) (Mv XK Qv M0 (i + 1))) (LA i).1 (LA i).2

end Values

theorem vC128_eq (v : FVec F S64x128 .f32) : vC128 v = v := shapeCast_self _ _
theorem vC256_eq (v : FVec F S64x256 .f32) : vC256 v = v := shapeCast_self _ _

variable (c : Dev nD)
variable (XK XV : Vec F S256x131072 .fp8e4m3) (XVs : Vec F S4x131072 .f32) (Qv : Vec F S64x256 .bf16)

/-! ## Whole buffers and tiles of scores -/

theorem idx_zero2 {a b : ℕ} (h : ∀ i, (![0, 0] : Fin 2 → ℕ) i + (⟨2, ![a, b]⟩ : Shape).size i ≤ (⟨2, ![a, b]⟩ : Shape).size i)
    (j : (⟨2, ![a, b]⟩ : Shape).Idx) : (Rect.unit (s := ⟨2, ![a, b]⟩) ![0, 0] (⟨2, ![a, b]⟩ : Shape).size h).toLoadRect.idx j = j := by
  funext i; apply Fin.ext
  match i with
  | 0 => show 0 + 1 * (j 0).val = (j 0).val; omega
  | 1 => show 0 + 1 * (j 1).val = (j 1).val; omega

theorem W_ld2 {cs : CoreSpace} {a b : ℕ} {e : EltTy} (m : Memref sig .tc cs ⟨2, ![a, b]⟩ e) (h hl) (v : (⟨2, ![a, b]⟩ : Shape).Idx → Elt F e)
    (Q : ((⟨2, ![a, b]⟩ : Shape).Idx → Elt F e) → sProp 𝕄) :
    (owns (c : Thread nD τ) m fullShare v : sProp 𝕄)
      ⊢ iprop((owns (c : Thread nD τ) m fullShare v -∗ Q v)
        -∗ W c (Prog.lift (.load m (Rect.unit (s := ⟨2, ![a, b]⟩) ![0, 0] (⟨2, ![a, b]⟩ : Shape).size h).toLoadRect hl)) Q) := by
  iintro H K
  iapply (W_load c m _ hl fullShare v Q) $$ H
  iintro H
  rw [show (fun j => v ((Rect.unit (s := ⟨2, ![a, b]⟩) ![0, 0] (⟨2, ![a, b]⟩ : Shape).size h).toLoadRect.idx j)) = v from funext fun j => congrArg v (idx_zero2 h j)]
  iapply K; iexact H
theorem W_st2 {cs : CoreSpace} {a b : ℕ} {e : EltTy} (m : Memref sig .tc cs ⟨2, ![a, b]⟩ e) (h) (w : (⟨2, ![a, b]⟩ : Shape).Idx → Elt F e) (hx hm)
    (v : (⟨2, ![a, b]⟩ : Shape).Idx → Elt F e) (Q : PUnit → sProp 𝕄) :
    (owns (c : Thread nD τ) m fullShare v : sProp 𝕄)
      ⊢ iprop((owns (c : Thread nD τ) m fullShare w -∗ Q ⟨⟩)
        -∗ W c (Prog.lift (.store m (Rect.unit (s := ⟨2, ![a, b]⟩) ![0, 0] (⟨2, ![a, b]⟩ : Shape).size h) w Finset.univ hx hm)) Q) := by
  iintro H K
  iapply (W_store c m _ w hx hm v Q) $$ H
  iintro %v' %hv H
  have e : v' = w := funext fun j => by
    have := hv.1 j
    rwa [show (Rect.unit (s := ⟨2, ![a, b]⟩) ![0, 0] (⟨2, ![a, b]⟩ : Shape).size h).emb j = j from idx_zero2 h j] at this
  subst e
  iapply K; iexact H

theorem W_ld128 (b : Memref sig .tc .vmem S64x128 .f32) (v : FVec F S64x128 .f32) (Q : Vec F S64x128 .f32 → sProp 𝕄) :
    (owns (c : Thread nD τ) b fullShare v : sProp 𝕄) ⊢ iprop((owns (c : Thread nD τ) b fullShare v -∗ Q v) -∗ W c (ld128 b) Q) :=
  W_ld2 c b _ _ v Q
theorem W_ld256 (b : Memref sig .tc .vmem S64x256 .f32) (v : FVec F S64x256 .f32) (Q : Vec F S64x256 .f32 → sProp 𝕄) :
    (owns (c : Thread nD τ) b fullShare v : sProp 𝕄) ⊢ iprop((owns (c : Thread nD τ) b fullShare v -∗ Q v) -∗ W c (ld256 b) Q) :=
  W_ld2 c b _ _ v Q
theorem W_ldQ (v : FVec F S64x256 .bf16) (Q : Vec F S64x256 .bf16 → sProp 𝕄) :
    (owns (c : Thread nD τ) bQ fullShare v : sProp 𝕄) ⊢ iprop((owns (c : Thread nD τ) bQ fullShare v -∗ Q v) -∗ W c ldQ Q) :=
  W_ld2 c bQ _ _ v Q
theorem W_st128 (b : Memref sig .tc .vmem S64x128 .f32) (v w : FVec F S64x128 .f32) (Q : PUnit → sProp 𝕄) :
    (owns (c : Thread nD τ) b fullShare v : sProp 𝕄) ⊢ iprop((owns (c : Thread nD τ) b fullShare w -∗ Q ⟨⟩) -∗ W c (st128 b w) Q) :=
  W_st2 c b _ w _ _ v Q
theorem W_st256 (b : Memref sig .tc .vmem S64x256 .f32) (v w : FVec F S64x256 .f32) (Q : PUnit → sProp 𝕄) :
    (owns (c : Thread nD τ) b fullShare v : sProp 𝕄) ⊢ iprop((owns (c : Thread nD τ) b fullShare w -∗ Q ⟨⟩) -∗ W c (st256 b w) Q) :=
  W_st2 c b _ w _ _ v Q

/-- The first `k` tiles of a buffer hold the scores of chunk `n`. -/
def SHas (b : Memref sig .tc .vmem S64x4096 .f32) (n k : ℕ) : sProp 𝕄 :=
  iprop(∃ v : S64x4096.Idx → Elt F .f32, ⌜∀ t < k, ∀ x : S64x256.Idx, v (ix2 (x 0) (lcol t (x 1).val)) = sc XK Qv n t x⌝ ∗ owns (c : Thread nD τ) b fullShare v)

theorem SHas_zero (b : Memref sig .tc .vmem S64x4096 .f32) (n : ℕ) : (Any c b : sProp 𝕄) ⊢ SHas c XK Qv b n 0 := by
  unfold SHas
  iintro H
  ihave H' := (owns_of_Any c b) $$ H
  icases H' with ⟨%v, H⟩
  iexists v
  isplitr; · ipureintro; intro t ht; omega
  iexact H
theorem Any_of_SHas (b : Memref sig .tc .vmem S64x4096 .f32) (n k : ℕ) : SHas c XK Qv b n k ⊢ (Any c b : sProp 𝕄) := by
  unfold SHas
  iintro ⟨%v, -, H⟩
  iapply (Any_of_owns c b v); iexact H

theorem tile_idx {t : ℕ} (ht : t < 16) (j : S64x256.Idx) :
    (Rect.unit (s := S64x4096) (tileOff t) S64x256.size (tileOff_inb ht)).toLoadRect.idx j = (ix2 (j 0) (lcol t (j 1).val) : S64x4096.Idx) := by
  have h1 : (j 1).val < 256 := (j 1).isLt
  funext i; apply Fin.ext
  match i with
  | 0 => show 0 + 1 * (j 0).val = (j 0).val; omega
  | 1 => show 256 * t + 1 * (j 1).val = (256 * t + (j 1).val) % 4096; omega

theorem W_ldS (b : Memref sig .tc .vmem S64x4096 .f32) (n : ℕ) {t : ℕ} (ht : t < 16) (Q : Vec F S64x256 .f32 → sProp 𝕄) :
    SHas c XK Qv b n 16 ⊢ iprop((SHas c XK Qv b n 16 -∗ Q (sc XK Qv n t)) -∗ W c (ldS b t ht) Q) := by
  unfold SHas ldS
  iintro ⟨%v, %hv, H⟩ K
  iapply (W_load c b _ _ fullShare v Q) $$ H
  iintro H
  rw [show (fun j => v ((Rect.unit (s := S64x4096) (tileOff t) S64x256.size (tileOff_inb ht)).toLoadRect.idx j)) = sc XK Qv n t from
    funext fun j => (congrArg v (tile_idx ht j)).trans (hv t ht j)]
  iapply K
  iexists v
  isplitr; · ipureintro; exact hv
  iexact H
theorem W_ldS_any (b : Memref sig .tc .vmem S64x4096 .f32) (n k : ℕ) {t : ℕ} (ht : t < 16) (Q : Vec F S64x256 .f32 → sProp 𝕄) :
    SHas c XK Qv b n k ⊢ iprop((∀ x, SHas c XK Qv b n k -∗ Q x) -∗ W c (ldS b t ht) Q) := by
  unfold SHas ldS
  iintro ⟨%v, %hv, H⟩ K
  iapply (W_load c b _ _ fullShare v Q) $$ H
  iintro H
  iapply K
  iexists v
  isplitr; · ipureintro; exact hv
  iexact H
theorem W_stS (b : Memref sig .tc .vmem S64x4096 .f32) (n : ℕ) {t : ℕ} (ht : t < 16) (Q : PUnit → sProp 𝕄) :
    SHas c XK Qv b n t ⊢ iprop((SHas c XK Qv b n (t + 1) -∗ Q ⟨⟩) -∗ W c (stS b t ht (vC256 (sc XK Qv n t))) Q) := by
  unfold SHas stS
  iintro ⟨%v, %hv, H⟩ K
  iapply (W_store c b _ _ _ _ v Q) $$ H
  iintro %v' %hv' H
  iapply K
  iexists v'
  isplitr
  · ipureintro
    intro t' ht' x
    have hx1 : (x 1).val < 256 := (x 1).isLt
    rcases Nat.lt_succ_iff_lt_or_eq.mp ht' with h | h
    · rw [hv'.2 _ ?_, hv t' h x]
      rw [Rect.mem_set_unit]
      intro hm
      have h1 : 256 * t ≤ (256 * t' + (x 1).val) % 4096 := (hm 1).1
      omega
    · subst h
      rw [← tile_idx ht x]
      exact (hv'.1 x).trans (congrFun (vC256_eq _) x)
  iexact H

/-! ## Scores -/

theorem W_scoresTile {n : ℕ} (h : n < 32) (dst : Memref sig .tc .vmem S64x4096 .f32) {t : ℕ} (ht : t < 16) (Q : FVec F S64x256 .f32 → sProp 𝕄) :
    iprop(HereK c XK n h ∗ SHas c XK Qv dst n t)
      ⊢ iprop((iprop(HereK c XK n h ∗ SHas c XK Qv dst n (t + 1)) -∗ Q (sc XK Qv n t))
        -∗ W c (scoresTile (BitVec.ofNat 32 n) (w_lt h) dst Qv t ht) Q) := by
  unfold scoresTile
  iintro ⟨HK, HS⟩ K
  rw [W_bind]
  iapply (W_tileK c XK h ht) $$ HK
  iintro HK
  rw [W_bind]
  iapply (W_ldS_any c XK Qv dst n t ht) $$ HS
  iintro %_ HS
  rw [W_bind]
  iapply (W_stS c XK Qv dst n ht) $$ HS
  iintro HS
  iapply (W_pure c)
  rw [show sc XK Qv n t = vScore Qv (tile XK n t) from rfl]
  iapply K
  isplitl [HK]; · iexact HK
  iexact HS

theorem W_scoresFrom {n : ℕ} (h : n < 32) (dst : Memref sig .tc .vmem S64x4096 .f32) (Q : FVec F S64x128 .f32 → sProp 𝕄) :
    ∀ (r t : ℕ) (ht : t + r ≤ 16) (cm : FVec F S64x128 .f32),
    iprop(HereK c XK n h ∗ SHas c XK Qv dst n t)
      ⊢ iprop((iprop(HereK c XK n h ∗ SHas c XK Qv dst n (t + r)) -∗ Q (cmFold XK Qv n r t cm))
        -∗ W c (scoresFrom (BitVec.ofNat 32 n) (w_lt h) dst Qv r t ht cm) Q)
  | 0, t, ht, cm => by
    rw [scoresFrom, cmFold, Nat.add_zero]
    iintro H K
    iapply (W_pure c); iapply K; iexact H
  | r + 1, t, ht, cm => by
    rw [scoresFrom, cmFold, W_bind]
    iintro H K
    iapply (W_scoresTile c XK Qv h dst (t := t) _) $$ H
    iintro H
    iapply (W_scoresFrom h dst Q r (t + 1) _ _) $$ H
    rw [show t + 1 + r = t + (r + 1) by omega]
    iexact K

theorem W_scores {n : ℕ} (h : n < 32) (dst : Memref sig .tc .vmem S64x4096 .f32) (m : FVec F S64x128 .f32)
    (Q : FVec F S64x128 .f32 × FVec F S64x128 .f32 → sProp 𝕄) :
    iprop(HereK c XK n h ∗ Any c dst ∗ owns (c : Thread nD τ) bQ fullShare Qv ∗ owns (c : Thread nD τ) bM fullShare m)
      ⊢ iprop((iprop(HereK c XK n h ∗ SHas c XK Qv dst n 16 ∗ owns (c : Thread nD τ) bQ fullShare Qv ∗ owns (c : Thread nD τ) bM fullShare m)
            -∗ Q (vMNew m (CM XK Qv n), vAl m (vMNew m (CM XK Qv n))))
        -∗ W c (scores (BitVec.ofNat 32 n) (w_lt h) dst) Q) := by
  unfold scores
  iintro ⟨HK, HD, HQ, HM⟩ K
  ihave HS := (SHas_zero c XK Qv dst n) $$ HD
  rw [W_bind]
  iapply (W_ldQ c Qv) $$ HQ
  iintro HQ
  rw [W_bind]
  iapply (W_scoresTile c XK Qv h dst (t := 0) _) $$ [HK HS]
  · isplitl [HK]; · iexact HK
    iexact HS
  iintro H
  rw [W_bind]
  iapply (W_scoresFrom c XK Qv h dst _ 15 1 le_rfl _) $$ H
  iintro ⟨HK, HS⟩
  rw [W_bind]
  iapply (W_ld128 c bM m) $$ HM
  iintro HM
  iapply (W_pure c)
  unfold CM
  iapply K
  isplitl [HK]; · iexact HK
  isplitl [HS]; · iexact HS
  isplitl [HQ]; · iexact HQ
  iexact HM

/-! ## Weighted values -/

/-- What the weighted values of chunk `n` read. -/
def Rd (src : Memref sig .tc .vmem S64x4096 .f32) (n : ℕ) (h : n < 32) : sProp 𝕄 :=
  iprop(SHas c XK Qv src n 16 ∗ HereV c XV n h ∗ HereVs c XVs n h)

theorem W_weightedTile {n : ℕ} (h : n < 32) (src : Memref sig .tc .vmem S64x4096 .f32) (mw : FVec F S64x256 .f32) {t : ℕ} (ht : t < 16)
    (Q : FVec F S64x128 .f32 × FVec F S64x256 .f32 → sProp 𝕄) :
    Rd c XK XV XVs Qv src n h
      ⊢ iprop((Rd c XK XV XVs Qv src n h -∗ Q (tl XK Qv mw n t, tO XK XV XVs Qv mw n t))
        -∗ W c (weightedTile (BitVec.ofNat 32 n) (w_lt h) src mw t ht) Q) := by
  unfold Rd weightedTile
  iintro ⟨HS, HV, HW⟩ K
  rw [W_bind]
  iapply (W_ldS c XK Qv src n ht) $$ HS
  iintro HS
  rw [W_bind]
  iapply (W_tileVs c XVs h ht) $$ HW
  iintro HW
  rw [W_bind]
  iapply (W_tileV c XV h ht) $$ HV
  iintro HV
  iapply (W_pure c)
  unfold tl tO
  iapply K
  isplitl [HS]; · iexact HS
  isplitl [HV]; · iexact HV
  iexact HW

theorem W_weightedFrom {n : ℕ} (h : n < 32) (src : Memref sig .tc .vmem S64x4096 .f32) (mw : FVec F S64x256 .f32)
    (Q : FVec F S64x128 .f32 × FVec F S64x256 .f32 × FVec F S64x256 .f32 → sProp 𝕄) :
    ∀ (r t : ℕ) (ht : t + 2 * r = 16) (l : FVec F S64x128 .f32) (o0 o1 : FVec F S64x256 .f32),
    Rd c XK XV XVs Qv src n h
      ⊢ iprop((Rd c XK XV XVs Qv src n h -∗ Q (wFold XK XV XVs Qv mw n r t l o0 o1))
        -∗ W c (weightedFrom (BitVec.ofNat 32 n) (w_lt h) src mw r t ht l o0 o1) Q)
  | 0, t, ht, l, o0, o1 => by
    rw [weightedFrom, wFold]
    iintro H K
    iapply (W_pure c); iapply K; iexact H
  | r + 1, t, ht, l, o0, o1 => by
    rw [weightedFrom, wFold, W_bind]
    iintro H K
    iapply (W_weightedTile c XK XV XVs Qv h src mw (t := t) _) $$ H
    iintro H
    rw [W_bind]
    iapply (W_weightedTile c XK XV XVs Qv h src mw (t := t + 1) _) $$ H
    iintro H
    iapply (W_weightedFrom h src mw Q r (t + 2) _ _ _ _) $$ H
    iexact K

theorem W_weighted {n : ℕ} (h : n < 32) (src : Memref sig .tc .vmem S64x4096 .f32) (m al l : FVec F S64x128 .f32) (acc : FVec F S64x256 .f32)
    (Q : PUnit → sProp 𝕄) :
    iprop(Rd c XK XV XVs Qv src n h ∗ owns (c : Thread nD τ) bL fullShare l ∗ owns (c : Thread nD τ) bAcc fullShare acc)
      ⊢ iprop((iprop(Rd c XK XV XVs Qv src n h ∗ owns (c : Thread nD τ) bL fullShare (wStep XK XV XVs Qv n m al l acc).1
            ∗ owns (c : Thread nD τ) bAcc fullShare (wStep XK XV XVs Qv n m al l acc).2) -∗ Q ⟨⟩)
        -∗ W c (weighted (BitVec.ofNat 32 n) (w_lt h) src m al) Q) := by
  unfold weighted
  iintro ⟨HR, HL, HA⟩ K
  rw [W_bind]
  iapply (W_ld128 c bL l) $$ HL
  iintro HL
  rw [W_bind]
  iapply (W_weightedTile c XK XV XVs Qv h src (vWide m) (t := 0) _) $$ HR
  iintro HR
  rw [W_bind]
  iapply (W_weightedTile c XK XV XVs Qv h src (vWide m) (t := 1) _) $$ HR
  iintro HR
  rw [W_bind]
  iapply (W_weightedFrom c XK XV XVs Qv h src (vWide m) _ 7 2 rfl _ _ _) $$ HR
  iintro HR
  rw [W_bind]
  iapply (W_ld128 c bL l) $$ HL
  iintro HL
  rw [W_bind, vC128_eq]
  iapply (W_st128 c bL l _) $$ HL
  iintro HL
  rw [W_bind]
  iapply (W_ld256 c bAcc acc) $$ HA
  iintro HA
  rw [W_bind]
  iapply (W_ld256 c bAcc acc) $$ HA
  iintro HA
  rw [vC256_eq]
  iapply (W_st256 c bAcc acc _) $$ HA
  iintro HA
  iapply K
  isplitl [HR]; · iexact HR
  isplitl [HL]; · iexact HL
  iexact HA

theorem W_stMAl (r : FVec F S64x128 .f32 × FVec F S64x128 .f32) (m al : FVec F S64x128 .f32) (Q : PUnit → sProp 𝕄) :
    iprop(owns (c : Thread nD τ) bM fullShare m ∗ owns (c : Thread nD τ) bAl fullShare al)
      ⊢ iprop((iprop(owns (c : Thread nD τ) bM fullShare r.1 ∗ owns (c : Thread nD τ) bAl fullShare r.2) -∗ Q ⟨⟩) -∗ W c (stMAl r) Q) := by
  unfold stMAl
  iintro ⟨HM, HA⟩ K
  rw [W_bind]
  iapply (W_ld128 c bM m) $$ HM
  iintro HM
  rw [W_bind, vC128_eq]
  iapply (W_st128 c bM m _) $$ HM
  iintro HM
  rw [W_bind]
  iapply (W_ld128 c bAl al) $$ HA
  iintro HA
  rw [vC128_eq]
  iapply (W_st128 c bAl al _) $$ HA
  iintro HA
  iapply K
  isplitl [HM]; · iexact HM
  iexact HA

/-! ## A step -/

variable (M0 L0 : FVec F S64x128 .f32) (A0 : FVec F S64x256 .f32)

/-- The buffers before step `i`. -/
def Bufs (i : ℕ) (cur nxt : Memref sig .tc .vmem S64x4096 .f32) : sProp 𝕄 :=
  iprop(owns (c : Thread nD τ) bQ fullShare Qv ∗ owns (c : Thread nD τ) bM fullShare (Mv XK Qv M0 (i + 1))
    ∗ owns (c : Thread nD τ) bAl fullShare (vAl (Mv XK Qv M0 i) (Mv XK Qv M0 (i + 1)))
    ∗ owns (c : Thread nD τ) bL fullShare (LA XK XV XVs Qv M0 L0 A0 i).1 ∗ owns (c : Thread nD τ) bAcc fullShare (LA XK XV XVs Qv M0 L0 A0 i).2
    ∗ SHas c XK Qv cur i 16 ∗ Any c nxt ∗ Owes c)

theorem W_stepCore {w w' : BitVec 32} {i : ℕ} (h : i + 1 < 32) (ew : w = BitVec.ofNat 32 i) (ew' : w' = BitVec.ofNat 32 (i + 1))
    (hw : w.toNat < 32) (hw' : w'.toNat < 32) (cur nxt : Memref sig .tc .vmem S64x4096 .f32) (Q : PUnit → sProp 𝕄) :
    iprop(StV c XV i ∗ StVs c XVs i ∗ StK c XK (i + 1) ∗ Bufs c XK XV XVs Qv M0 L0 A0 i cur nxt)
      ⊢ iprop((iprop(IdleV c XV (i + 4) ∗ IdleVs c XVs (i + 4) ∗ IdleK c XK (i + 5) ∗ Bufs c XK XV XVs Qv M0 L0 A0 (i + 1) nxt cur) -∗ Q ⟨⟩)
        -∗ W c (stepCore w w' hw hw' cur nxt) Q) := by
  subst ew; subst ew'
  have h0 : i < 32 := by omega
  unfold stepCore Bufs
  iintro ⟨HV, HW, HK, HQ, HM, HAl, HL, HA, HC, HN, HO⟩ K
  rw [W_bind]
  iapply (W_waitV c XV h0) $$ [HV HO]
  · isplitl [HV]; · iexact HV
    iexact HO
  iintro ⟨HV, HO⟩
  rw [W_bind]
  iapply (W_waitVs c XVs h0) $$ [HW HO]
  · isplitl [HW]; · iexact HW
    iexact HO
  iintro ⟨HW, HO⟩
  rw [W_bind]
  iapply (W_waitK c XK h) $$ [HK HO]
  · isplitl [HK]; · iexact HK
    iexact HO
  iintro ⟨HK, HO⟩
  rw [W_bind]
  iapply (W_ld128 c bM _) $$ HM
  iintro HM
  rw [W_bind]
  iapply (W_ld128 c bAl _) $$ HAl
  iintro HAl
  rw [W_bind]
  iapply (W_scores c XK Qv h nxt _) $$ [HK HN HQ HM]
  · isplitl [HK]; · iexact HK
    isplitl [HN]; · iexact HN
    isplitl [HQ]; · iexact HQ
    iexact HM
  iintro ⟨HK, HN, HQ, HM⟩
  rw [W_bind]
  iapply (W_weighted c XK XV XVs Qv h0 cur _ _ _ _) $$ [HC HV HW HL HA]
  · isplitl [HC HV HW]
    · unfold Rd
      isplitl [HC]; · iexact HC
      isplitl [HV]; · iexact HV
      iexact HW
    isplitl [HL]; · iexact HL
    iexact HA
  unfold Rd
  iintro ⟨⟨HC, HV, HW⟩, HL, HA⟩
  iapply (W_stMAl c _ _ _) $$ [HM HAl]
  · isplitl [HM]; · iexact HM
    iexact HAl
  iintro ⟨HM, HAl⟩
  iapply K
  rw [IdleV_add, IdleVs_add, show i + 5 = i + 1 + 4 from rfl, IdleK_add]
  isplitl [HV]; · iapply (IdleV_of_Here c XV h0); iexact HV
  isplitl [HW]; · iapply (IdleVs_of_Here c XVs h0); iexact HW
  isplitl [HK]; · iapply (IdleK_of_Here c XK h); iexact HK
  isplitl [HQ]; · iexact HQ
  isplitl [HM]; · iexact HM
  isplitl [HAl]; · iexact HAl
  isplitl [HL]; · iexact HL
  isplitl [HA]; · iexact HA
  isplitl [HN]; · iexact HN
  isplitl [HC]; · iapply (Any_of_SHas c XK Qv cur i 16); iexact HC
  iexact HO

/-- The last step: the sums of all chunks. -/
theorem W_stepLast {w : BitVec 32} {i : ℕ} (h : i < 32) (ew : w = BitVec.ofNat 32 i)
    (hw : w.toNat < 32) (cur nxt : Memref sig .tc .vmem S64x4096 .f32) (Q : PUnit → sProp 𝕄) :
    iprop(StV c XV i ∗ StVs c XVs i ∗ Bufs c XK XV XVs Qv M0 L0 A0 i cur nxt)
      ⊢ iprop((iprop(IdleV c XV (i + 4) ∗ IdleVs c XVs (i + 4) ∗ owns (c : Thread nD τ) bQ fullShare Qv ∗ owns (c : Thread nD τ) bM fullShare (Mv XK Qv M0 (i + 1))
    ∗ owns (c : Thread nD τ) bAl fullShare (vAl (Mv XK Qv M0 i) (Mv XK Qv M0 (i + 1)))
    ∗ owns (c : Thread nD τ) bL fullShare (LA XK XV XVs Qv M0 L0 A0 (i + 1)).1 ∗ owns (c : Thread nD τ) bAcc fullShare (LA XK XV XVs Qv M0 L0 A0 (i + 1)).2
    ∗ Any c cur ∗ Any c nxt ∗ Owes c) -∗ Q ⟨⟩)
        -∗ W c (stepLast w hw cur) Q) := by
  subst ew
  unfold stepLast Bufs
  iintro ⟨HV, HW, HQ, HM, HAl, HL, HA, HC, HN, HO⟩ K
  rw [W_bind]
  iapply (W_waitV c XV h) $$ [HV HO]
  · isplitl [HV]; · iexact HV
    iexact HO
  iintro ⟨HV, HO⟩
  rw [W_bind]
  iapply (W_waitVs c XVs h) $$ [HW HO]
  · isplitl [HW]; · iexact HW
    iexact HO
  iintro ⟨HW, HO⟩
  rw [W_bind]
  iapply (W_ld128 c bM _) $$ HM
  iintro HM
  rw [W_bind]
  iapply (W_ld128 c bAl _) $$ HAl
  iintro HAl
  iapply (W_weighted c XK XV XVs Qv h cur _ _ _ _) $$ [HC HV HW HL HA]
  · isplitl [HC HV HW]
    · unfold Rd
      isplitl [HC]; · iexact HC
      isplitl [HV]; · iexact HV
      iexact HW
    isplitl [HL]; · iexact HL
    iexact HA
  unfold Rd
  iintro ⟨⟨HC, HV, HW⟩, HL, HA⟩
  iapply K
  rw [IdleV_add, IdleVs_add]
  isplitl [HV]; · iapply (IdleV_of_Here c XV h); iexact HV
  isplitl [HW]; · iapply (IdleVs_of_Here c XVs h); iexact HW
  isplitl [HQ]; · iexact HQ
  isplitl [HM]; · iexact HM
  isplitl [HAl]; · iexact HAl
  isplitl [HL]; · iexact HL
  isplitl [HA]; · iexact HA
  isplitl [HC]; · iapply (Any_of_SHas c XK Qv cur i 16); iexact HC
  isplitl [HN]; · iexact HN
  iexact HO

end Cert.KernelIdeal.Steps

end
-- ==== Proof.KernelIdeal.Loop.lean ====
/-
  The loop over the chunks: two chunks a trip, the copies four chunks ahead.
-/
module

public import proofs.«01_k».proof.Proof.KernelIdeal.Chunk

@[expose] public section

noncomputable section

namespace Cert.KernelIdeal.Steps

open Facts₀ Facts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
variable (XK XV : Vec F S256x131072 .fp8e4m3) (XVs : Vec F S4x131072 .f32) (Qv : Vec F S64x256 .bf16)
  (M0 L0 : FVec F S64x128 .f32) (A0 : FVec F S64x256 .f32)

theorem W_guard {p : Prop} [Decidable p] (a : p → KProg F PUnit) (P R : sProp 𝕄) (Q : PUnit → sProp 𝕄)
    (h1 : ∀ h : p, P ⊢ iprop((R -∗ Q ⟨⟩) -∗ W c (a h) Q)) (h2 : ¬p → P ⊢ R) :
    P ⊢ iprop((R -∗ Q ⟨⟩) -∗ W c (guardP p a) Q) := by
  unfold guardP
  split
  · exact h1 _
  · rename_i h
    iintro H K
    iapply (W_pure c)
    iapply K
    iapply (h2 h); iexact H

theorem W_tryK {w : BitVec 32} {n : ℕ} (hn : n < 64) (ew : w = BitVec.ofNat 32 n) (hs : w.toNat < 64) (Q : PUnit → sProp 𝕄) :
    IdleK c XK n ⊢ iprop((StK c XK n -∗ Q ⟨⟩) -∗ W c (tryK w hs) Q) := by
  subst ew
  unfold tryK
  refine W_guard c _ _ _ Q (fun h => W_startK c XK (cond_fin ⟨n, hn⟩ h) Q) (fun h => ?_)
  unfold StK
  rw [dif_neg (fun h' => h (cond_fin' ⟨n, hn⟩ h'))]
theorem W_tryV {w : BitVec 32} {n : ℕ} (hn : n < 64) (ew : w = BitVec.ofNat 32 n) (hs : w.toNat < 64) (Q : PUnit → sProp 𝕄) :
    iprop(IdleV c XV n ∗ IdleVs c XVs n) ⊢ iprop((iprop(StV c XV n ∗ StVs c XVs n) -∗ Q ⟨⟩) -∗ W c (tryV w hs) Q) := by
  subst ew
  unfold tryV
  refine W_guard c _ _ _ Q (fun h => ?_) (fun h => ?_)
  · iintro ⟨H1, H2⟩ K
    rw [W_bind]
    iapply (W_startV c XV (cond_fin ⟨n, hn⟩ h)) $$ H1
    iintro H1
    iapply (W_startVs c XVs (cond_fin ⟨n, hn⟩ h)) $$ H2
    iintro H2
    iapply K
    isplitl [H1] <;> iassumption
  · unfold StV StVs
    rw [dif_neg (fun h' => h (cond_fin' ⟨n, hn⟩ h')), dif_neg (fun h' => h (cond_fin' ⟨n, hn⟩ h'))]

/-- Before chunk `i`: three or four chunks of each ring on their way, the buffers at their values. -/
def Inv (i : ℕ) (cur nxt : Memref sig .tc .vmem S64x4096 .f32) : sProp 𝕄 :=
  iprop(StK c XK (i + 1) ∗ StK c XK (i + 2) ∗ StK c XK (i + 3) ∗ StK c XK (i + 4)
    ∗ StV c XV i ∗ StV c XV (i + 1) ∗ StV c XV (i + 2) ∗ StV c XV (i + 3)
    ∗ StVs c XVs i ∗ StVs c XVs (i + 1) ∗ StVs c XVs (i + 2) ∗ StVs c XVs (i + 3)
    ∗ Bufs c XK XV XVs Qv M0 L0 A0 i cur nxt)

theorem W_half {w w1 w4 w5 : BitVec 32} {i : ℕ} (h : i + 1 < 32) (ew : w = BitVec.ofNat 32 i) (ew1 : w1 = BitVec.ofNat 32 (i + 1))
    (ew4 : w4 = BitVec.ofNat 32 (i + 4)) (ew5 : w5 = BitVec.ofNat 32 (i + 5)) (hw : w.toNat < 32) (hw1 : w1.toNat < 32)
    (hw4 : w4.toNat < 64) (hw5 : w5.toNat < 64) (cur nxt : Memref sig .tc .vmem S64x4096 .f32) (k : KProg F PUnit) (Q : PUnit → sProp 𝕄) :
    Inv c XK XV XVs Qv M0 L0 A0 i cur nxt ⊢ iprop((Inv c XK XV XVs Qv M0 L0 A0 (i + 1) nxt cur -∗ W c k Q)
      -∗ W c (stepCore w w1 hw hw1 cur nxt >>= fun _ => tryK w5 hw5 >>= fun _ => tryV w4 hw4 >>= fun _ => k) Q) := by
  unfold Inv
  iintro ⟨HK1, HK2, HK3, HK4, HV0, HV1, HV2, HV3, HW0, HW1, HW2, HW3, HB⟩ K
  rw [W_bind]
  iapply (W_stepCore c XK XV XVs Qv M0 L0 A0 h ew ew1 hw hw1 cur nxt _) $$ [HK1 HV0 HW0 HB]
  · isplitl [HV0]; · iexact HV0
    isplitl [HW0]; · iexact HW0
    isplitl [HK1]; · iexact HK1
    iexact HB
  iintro ⟨HV4, HW4, HK5, HB⟩
  rw [W_bind]
  iapply (W_tryK c XK (by omega) ew5 hw5 _) $$ HK5
  iintro HK5
  rw [W_bind]
  iapply (W_tryV c XV XVs (by omega) ew4 hw4 _) $$ [HV4 HW4]
  · isplitl [HV4] <;> iassumption
  iintro ⟨HV4, HW4⟩
  iapply K
  isplitl [HK2]; · iexact HK2
  isplitl [HK3]; · iexact HK3
  isplitl [HK4]; · iexact HK4
  isplitl [HK5]; · iexact HK5
  isplitl [HV1]; · iexact HV1
  isplitl [HV2]; · iexact HV2
  isplitl [HV3]; · iexact HV3
  isplitl [HV4]; · iexact HV4
  isplitl [HW1]; · iexact HW1
  isplitl [HW2]; · iexact HW2
  isplitl [HW3]; · iexact HW3
  isplitl [HW4]; · iexact HW4
  iexact HB

theorem loopStep_ret (t : Fin k0_t1_loop.trips) : (loopStep t >>= fun _ => pure () : KProg F Unit) =
    (stepCore (wA t) (Scalar.addi (wA t) 1#32) (wA_lt t) (wA1_lt t) bA bB >>= fun _ =>
      tryK (Scalar.addi (Scalar.addi (wA t) 1#32) 4#32) (wA5_lt t) >>= fun _ => tryV (Scalar.addi (wA t) 4#32) (wA4_lt t) >>= fun _ =>
      (stepCore (wB t) (Scalar.addi (wB t) 1#32) (wB_lt t) (wB1_lt t) bB bA >>= fun _ =>
      tryK (Scalar.addi (Scalar.addi (wB t) 1#32) 4#32) (wB5_lt t) >>= fun _ => tryV (Scalar.addi (wB t) 4#32) (wB4_lt t) >>= fun _ => pure ())) := by
  unfold loopStep; simp only [bind_assoc]

theorem h0 (t : Fin k0_t1_loop.trips) (ht : t.val < 15) : 2 * t.val + 1 < 32 := by omega
theorem h1 (t : Fin k0_t1_loop.trips) (ht : t.val < 15) : 2 * t.val + 1 + 1 < 32 := by omega

theorem StK_idle {n j : ℕ} (h : n = j + 4 * 8) : (StK c XK n : sProp 𝕄) = IdleK c XK j := by
  subst h; unfold StK; rw [dif_neg (by omega)]
  rw [show j + 4 * 8 = j + 4 + 4 + 4 + 4 + 4 + 4 + 4 + 4 from rfl, IdleK_add, IdleK_add, IdleK_add, IdleK_add, IdleK_add, IdleK_add, IdleK_add, IdleK_add]
theorem StV_idle {n j : ℕ} (h : n = j + 4 * 8) : (StV c XV n : sProp 𝕄) = IdleV c XV j := by
  subst h; unfold StV; rw [dif_neg (by omega)]
  rw [show j + 4 * 8 = j + 4 + 4 + 4 + 4 + 4 + 4 + 4 + 4 from rfl, IdleV_add, IdleV_add, IdleV_add, IdleV_add, IdleV_add, IdleV_add, IdleV_add, IdleV_add]
theorem StVs_idle {n j : ℕ} (h : n = j + 4 * 8) : (StVs c XVs n : sProp 𝕄) = IdleVs c XVs j := by
  subst h; unfold StVs; rw [dif_neg (by omega)]
  rw [show j + 4 * 8 = j + 4 + 4 + 4 + 4 + 4 + 4 + 4 + 4 from rfl, IdleVs_add, IdleVs_add, IdleVs_add, IdleVs_add, IdleVs_add, IdleVs_add, IdleVs_add, IdleVs_add]

theorem W_loopStep (t : Fin k0_t1_loop.trips) (u : Unit) :
    Inv c XK XV XVs Qv M0 L0 A0 (2 * t.val) bA bB ⊢ W c (loopStep t >>= fun _ => pure () : KProg F Unit)
      (fun _ => Inv c XK XV XVs Qv M0 L0 A0 (2 * (t.val + 1)) bA bB) := by
  have ht := t_lt t
  rw [loopStep_ret]
  iintro HI
  iapply (W_half c XK XV XVs Qv M0 L0 A0 (w := wA t) (w1 := Scalar.addi (wA t) 1#32) (w4 := Scalar.addi (wA t) 4#32)
    (w5 := Scalar.addi (Scalar.addi (wA t) 1#32) 4#32) (i := 2 * t.val) (h0 t ht) (wA_eq t) (wA1_eq t) (wA4_eq t) (wA5_eq t) (wA_lt t) (wA1_lt t) (wA4_lt t) (wA5_lt t) bA bB _ _) $$ HI
  iintro HI
  iapply (W_half c XK XV XVs Qv M0 L0 A0 (w := wB t) (w1 := Scalar.addi (wB t) 1#32) (w4 := Scalar.addi (wB t) 4#32)
    (w5 := Scalar.addi (Scalar.addi (wB t) 1#32) 4#32) (i := 2 * t.val + 1) (h1 t ht) (wB_eq t) (wB1_eq t) (wB4_eq t) (wB5_eq t) (wB_lt t) (wB1_lt t) (wB4_lt t) (wB5_lt t) bB bA (pure ()) _) $$ HI
  iintro HI
  iapply (W_pure c)
  rw [show 2 * (t.val + 1) = 2 * t.val + 1 + 1 from rfl]
  iexact HI

/-- A loop that carries nothing. -/
theorem W_for (L : Scf.Loop 32) (hok : L.OK) (body : Fin L.trips → Unit → KProg F Unit) (I : ℕ → sProp 𝕄)
    (hb : ∀ t u, I t.val ⊢ W c (body t u) (fun _ => I (t.val + 1))) {n : ℕ} (hn : L.trips = n) (Q : Unit → sProp 𝕄) :
    I 0 ⊢ iprop((I n -∗ Q ()) -∗ W c (Scf.Loop.for L hok () body) Q) := by
  subst hn
  unfold W at *
  iintro HI K
  iapply (Scf.wp_for frame (wpE (defs₀ (F := F)) 𝒱₀ (c : Thread nD τ) none) Set.univ L.lb L.ub L.st hok () body (fun k _ => I k) hb)
  isplitl [HI]; · iexact HI
  iintro %u HI
  iapply K
  iexact HI

theorem W_loop (Q : Unit → sProp 𝕄) :
    Inv c XK XV XVs Qv M0 L0 A0 0 bA bB ⊢ iprop((Inv c XK XV XVs Qv M0 L0 A0 30 bA bB -∗ Q ())
      -∗ W c (Scf.Loop.for k0_t1_loop k0_t1_ok () (fun t _ => loopStep t >>= fun _ => pure ())) Q) :=
  W_for c k0_t1_loop k0_t1_ok (fun t _ => loopStep t >>= fun _ => pure ()) (fun k => Inv c XK XV XVs Qv M0 L0 A0 (2 * k) bA bB)
    (W_loopStep c XK XV XVs Qv M0 L0 A0) (n := 15) trips_eq Q

/-- All chunks, after the scores of the first. -/
theorem W_main (Q : PUnit → sProp 𝕄) (k : KProg F PUnit) :
    Inv c XK XV XVs Qv M0 L0 A0 0 bA bB
      ⊢ iprop((iprop(IdleK c XK 0 ∗ IdleK c XK 1 ∗ IdleK c XK 2 ∗ IdleK c XK 3
          ∗ IdleV c XV 0 ∗ IdleV c XV 1 ∗ IdleV c XV 2 ∗ IdleV c XV 3
          ∗ IdleVs c XVs 0 ∗ IdleVs c XVs 1 ∗ IdleVs c XVs 2 ∗ IdleVs c XVs 3
          ∗ owns (c : Thread nD τ) bQ fullShare Qv ∗ owns (c : Thread nD τ) bM fullShare (Mv XK Qv M0 32)
          ∗ owns (c : Thread nD τ) bAl fullShare (vAl (Mv XK Qv M0 31) (Mv XK Qv M0 32))
          ∗ owns (c : Thread nD τ) bL fullShare (LA XK XV XVs Qv M0 L0 A0 32).1 ∗ owns (c : Thread nD τ) bAcc fullShare (LA XK XV XVs Qv M0 L0 A0 32).2
          ∗ Any c bB ∗ Any c bA ∗ Owes c) -∗ W c k Q)
        -∗ W c (Scf.Loop.for k0_t1_loop k0_t1_ok () (fun t _ => loopStep t >>= fun _ => pure ()) >>= fun _ =>
            stepCore 30#32 31#32 (by decide) (by decide) bA bB >>= fun _ => stepLast 31#32 (by decide) bB >>= fun _ => k) Q) := by
  iintro HI K
  rw [W_bind]
  iapply (W_loop c XK XV XVs Qv M0 L0 A0 _) $$ HI
  unfold Inv
  iintro ⟨HK1, HK2, HK3, HK4, HV0, HV1, HV2, HV3, HW0, HW1, HW2, HW3, HB⟩
  rw [W_bind]
  iapply (W_stepCore c XK XV XVs Qv M0 L0 A0 (i := 30) (by omega) rfl rfl _ _ bA bB _) $$ [HK1 HV0 HW0 HB]
  · isplitl [HV0]; · iexact HV0
    isplitl [HW0]; · iexact HW0
    isplitl [HK1]; · iexact HK1
    iexact HB
  iintro ⟨HV4, HW4, HK5, HB⟩
  rw [W_bind]
  iapply (W_stepLast c XK XV XVs Qv M0 L0 A0 (i := 31) (by omega) rfl _ bB bA _) $$ [HV1 HW1 HB]
  · isplitl [HV1]; · iexact HV1
    isplitl [HW1]; · iexact HW1
    iexact HB
  iintro ⟨HV5, HW5, HQ, HM, HAl, HL, HA, HB, HC, HO⟩
  iapply K
  rw [← StK_idle c XK (n := 30 + 2) (j := 0) rfl, ← StK_idle c XK (n := 30 + 3) (j := 1) rfl, ← StK_idle c XK (n := 30 + 4) (j := 2) rfl,
    ← StV_idle c XV (n := 30 + 2) (j := 0) rfl, ← StV_idle c XV (n := 30 + 3) (j := 1) rfl,
    ← StVs_idle c XVs (n := 30 + 2) (j := 0) rfl, ← StVs_idle c XVs (n := 30 + 3) (j := 1) rfl]
  isplitl [HK2]; · iexact HK2
  isplitl [HK3]; · iexact HK3
  isplitl [HK4]; · iexact HK4
  isplitl [HK5]; · iexact HK5
  isplitl [HV2]; · iexact HV2
  isplitl [HV3]; · iexact HV3
  isplitl [HV4]; · iexact HV4
  isplitl [HV5]; · iexact HV5
  isplitl [HW2]; · iexact HW2
  isplitl [HW3]; · iexact HW3
  isplitl [HW4]; · iexact HW4
  isplitl [HW5]; · iexact HW5
  isplitl [HQ]; · iexact HQ
  isplitl [HM]; · iexact HM
  isplitl [HAl]; · iexact HAl
  isplitl [HL]; · iexact HL
  isplitl [HA]; · iexact HA
  isplitl [HB]; · iexact HB
  isplitl [HC]; · iexact HC
  iexact HO

end Cert.KernelIdeal.Steps

end
-- ==== Proof.KernelIdeal.Pro.lean ====
/-
  The kernel before the first chunk and after the last: the operands copied in, the first sums, the result.
-/
module

public import proofs.«01_k».proof.Proof.KernelIdeal.Loop

@[expose] public section

noncomputable section

namespace Cert.KernelIdeal.Steps

open Facts₀ Facts
open Cert.KernelIdeal.Gen (k0_pay1 k0_pay2)
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-! ## Values -/

/-- The operands. -/
structure Ops (F : FTy → Type) where
  x : Vec F S64x64 .bf16
  kn : Vec F S2x4x64 .bf16
  vn : Vec F S2x4x64 .bf16
  pk : Vec F S256x131072 .fp8e4m3
  pks : Vec F S4x64 .f32
  pv : Vec F S256x131072 .fp8e4m3
  pvs : Vec F S4x131072 .f32
  tk : Vec F S2x256x1024 .fp8e4m3
  tks : Vec F S2x4x1024 .f32
  tv : Vec F S2x256x1024 .fp8e4m3
  tvs : Vec F S2x4x1024 .f32
  len : Vec F S2 .i32

/-- Member `i` of a pair, with its leading axis. -/
def row3 {α : Type} {a b : ℕ} (v : (⟨3, ![2, a, b]⟩ : Shape).Idx → α) (i : Fin 2) : (⟨3, ![1, a, b]⟩ : Shape).Idx → α :=
  fun j => v (ix3 i (j 1) (j 2))
/-- One half over the other. -/
def join2 {α : Type} {n : ℕ} (a b : (⟨2, ![32, n]⟩ : Shape).Idx → α) : (⟨2, ![64, n]⟩ : Shape).Idx → α :=
  fun y => if h : (y 0).val < 32 then a (ix2 (⟨(y 0).val, h⟩ : Fin 32) (y 1))
    else b (ix2 (⟨(y 0).val - 32, by have : (y 0).val < 64 := (y 0).isLt; omega⟩ : Fin 32) (y 1))
/-- Two rows. -/
def rows2 {α : Type} {n : ℕ} (a b : (⟨2, ![1, n]⟩ : Shape).Idx → α) : (⟨2, ![2, n]⟩ : Shape).Idx → α :=
  fun y => if (y 0).val = 0 then a (ix2 (0 : Fin 1) (y 1)) else b (ix2 (0 : Fin 1) (y 1))

/-- What the prologue loads, and the values it starts the chunks from. -/
def pIn (O : Ops F) : ProIn F :=
  ⟨O.x, O.pks, row3 O.kn 0, row3 O.kn 1, row3 O.tk 0, row3 O.tks 0, O.len (ix1 (0 : Fin 2)), row3 O.tk 1, row3 O.tks 1,
    O.len (ix1 (1 : Fin 2)), row3 O.vn 0, row3 O.vn 1⟩
def kQ (O : Ops F) : FVec F S64x256 .bf16 := pQ O.x O.pks
def kM0 (O : Ops F) : FVec F S64x128 .f32 := pM (pIn O)
def kL0 (O : Ops F) : FVec F S64x128 .f32 := join2 (pL0 (pIn O)) (pL1 (pIn O))
def kA0 (O : Ops F) : FVec F S64x256 .f32 :=
  join2 (pA0 (pIn O) (row3 O.tvs 0) (row3 O.tv 0)) (pA1 (pIn O) (row3 O.tvs 1) (row3 O.tv 1))
/-- The sums of all chunks, and the result. -/
def kLA (O : Ops F) : FVec F S64x128 .f32 × FVec F S64x256 .f32 := LA O.pk O.pv O.pvs (kQ O) (kM0 O) (kL0 O) (kA0 O) 32
def kOut (O : Ops F) : FVec F S2x2048 .bf16 :=
  rows2 (k0_pay1 (eRow0 (kLA O).1 (kLA O).2)) (k0_pay2 (eOut (kLA O).1 (kLA O).2))

theorem idx_row3 {a b i : ℕ} (k : Fin 2) (hk : k.val = i) (h : ∀ x, (![i, 0, 0] : Fin 3 → ℕ) x + (⟨3, ![1, a, b]⟩ : Shape).size x ≤ (⟨3, ![2, a, b]⟩ : Shape).size x)
    (j : (⟨3, ![1, a, b]⟩ : Shape).Idx) : (Rect.unit (s := ⟨3, ![2, a, b]⟩) ![i, 0, 0] (⟨3, ![1, a, b]⟩ : Shape).size h).toLoadRect.idx j = ix3 k (j 1) (j 2) := by
  have h0 : (j 0).val < 1 := (j 0).isLt
  funext x; apply Fin.ext
  match x with
  | 0 => show i + 1 * (j 0).val = k.val; omega
  | 1 => show 0 + 1 * (j 1).val = (j 1).val; omega
  | 2 => show 0 + 1 * (j 2).val = (j 2).val; omega

theorem emb_half {n i : ℕ} (h : ∀ x, (![i, 0] : Fin 2 → ℕ) x + (⟨2, ![32, n]⟩ : Shape).size x ≤ (⟨2, ![64, n]⟩ : Shape).size x)
    (r : Fin 64) (k : Fin 32) (hk : r.val = i + k.val) (q : Fin n) :
    (Rect.unit (s := ⟨2, ![64, n]⟩) ![i, 0] (⟨2, ![32, n]⟩ : Shape).size h).emb (ix2 k q) = ix2 r q := by
  funext x; apply Fin.ext
  match x with
  | 0 => show i + 1 * k.val = r.val; omega
  | 1 => show 0 + 1 * q.val = q.val; omega

theorem join_eq {α : Type} {n : ℕ} (h0 h1) (a b : (⟨2, ![32, n]⟩ : Shape).Idx → α) (v w : (⟨2, ![64, n]⟩ : Shape).Idx → α)
    (e0 : ∀ x, v ((Rect.unit (s := ⟨2, ![64, n]⟩) ![0, 0] (⟨2, ![32, n]⟩ : Shape).size h0).emb x) = a x)
    (e1 : (∀ x, w ((Rect.unit (s := ⟨2, ![64, n]⟩) ![32, 0] (⟨2, ![32, n]⟩ : Shape).size h1).emb x) = b x)
      ∧ ∀ y, y ∉ (Rect.unit (s := ⟨2, ![64, n]⟩) ![32, 0] (⟨2, ![32, n]⟩ : Shape).size h1).set → w y = v y) : w = join2 a b := by
  funext y
  obtain ⟨r, q, rfl⟩ : ∃ (r : Fin 64) (q : Fin n), y = ix2 r q := ⟨y 0, y 1, by funext x; match x with | 0 => rfl | 1 => rfl⟩
  unfold join2
  by_cases h : r.val < 32
  · rw [dif_pos (show ((ix2 r q : (⟨2, ![64, n]⟩ : Shape).Idx) 0).val < 32 from h)]
    refine (e1.2 _ fun hy => ?_).trans ((congrArg v (emb_half h0 r ⟨r.val, h⟩ (by simp) q).symm).trans (e0 _))
    have hy := (Rect.mem_set_unit.mp hy 0).1
    have hy : 32 ≤ r.val := hy
    omega
  · have h64 := r.isLt
    rw [dif_neg (show ¬((ix2 r q : (⟨2, ![64, n]⟩ : Shape).Idx) 0).val < 32 from h)]
    exact (congrArg w (emb_half h1 r ⟨r.val - 32, by omega⟩ (by simp; omega) q).symm).trans (e1.1 _)

theorem rows_eq {α : Type} {n : ℕ} (h0 h1) (old : (⟨2, ![2, n]⟩ : Shape).Idx → α) (a b : (⟨2, ![1, n]⟩ : Shape).Idx → α) :
    updateSlice (s := ⟨2, ![2, n]⟩) (u := ⟨2, ![1, n]⟩) (updateSlice (s := ⟨2, ![2, n]⟩) (u := ⟨2, ![1, n]⟩) old a ![0, 0] h0) b ![1, 0] h1 = rows2 a b := by
  funext y
  have hy0 : (y 0).val < 2 := (y 0).isLt
  have hy1 : (y 1).val < n := (y 1).isLt
  unfold updateSlice rows2
  by_cases h : (y 0).val = 0
  · rw [if_pos h, dif_neg (fun hh => by have := (hh 0).1; have : 1 ≤ (y 0).val := this; omega), dif_pos (fun i => by
      match i with
      | 0 => exact ⟨Nat.zero_le _, by show (y 0).val < 0 + 1; omega⟩
      | 1 => exact ⟨Nat.zero_le _, by show (y 1).val < 0 + n; omega⟩)]
    congr 1; funext i; apply Fin.ext
    match i with
    | 0 => show (y 0).val - 0 = 0; omega
    | 1 => show (y 1).val - 0 = (y 1).val; omega
  · rw [if_neg h, dif_pos (fun i => by
      match i with
      | 0 => exact ⟨by show 1 ≤ (y 0).val; omega, by show (y 0).val < 1 + 1; omega⟩
      | 1 => exact ⟨Nat.zero_le _, by show (y 1).val < 0 + n; omega⟩)]
    congr 1; funext i; apply Fin.ext
    match i with
    | 0 => show (y 0).val - 1 = 0; omega
    | 1 => show (y 1).val - 0 = (y 1).val; omega

/-! ## Whole operands -/

variable (c : Dev nD)

section Whole

variable {sp : Space} {s : Shape} {e : EltTy} (src : Memref sig .tc .hbm s e) (dst : Memref sig .tc sp s e) (j : ℕ)
  (hj : ∀ a, (![j] : Fin 1 → ℕ) a + S1.size a ≤ S9.size a) (X : Buf (Elt F) (src.view.loc (c : Thread nD τ)))

/-- An operand, its buffer and its cell: before its copy, and on its way. -/
def Sm : sProp 𝕄 :=
  iprop((src.view.loc (c : Thread nD τ) ↦[Finset.univ]{fullShare} X) ∗ Any c dst ∗ semVal ((c : Thread nD τ), SemLoc.dma (sem9 j hj)) 0)
def SmF : sProp 𝕄 := Fly c src dst (sem9 j hj) fullShare X
/-- After it, but the buffer. -/
def SmB : sProp 𝕄 :=
  iprop((src.view.loc (c : Thread nD τ) ↦[Finset.univ]{fullShare} X) ∗ semVal ((c : Thread nD τ), SemLoc.dma (sem9 j hj)) 0)

theorem W_startW (hs hd hl) (hn : 0 < s.numel) (Q : PUnit → sProp 𝕄) :
    Sm c src dst j hj X ⊢ iprop((SmF c src dst j hj X -∗ Q ⟨⟩) -∗ W c (startW src dst j hj hs hd hl) Q) :=
  W_start c src dst (sem9 j hj) _ _ hl hn fullShare X Q
theorem W_waitW (hs hd) (Q : PUnit → sProp 𝕄) :
    iprop(SmF c src dst j hj X ∗ Owes c)
      ⊢ iprop((iprop(owns (c : Thread nD τ) dst fullShare (src.view.read (Elt F) X) ∗ SmB c src j hj X ∗ Owes c) -∗ Q ⟨⟩)
        -∗ W c (waitW src dst j hj hs hd) Q) := by
  unfold SmF SmB waitW
  iintro H K
  iapply (W_wait c src dst (sem9 j hj) _ _ fullShare X Q) $$ H
  iintro ⟨H1, H2, H3, H4⟩
  iapply K
  isplitl [H1]; · iexact H1
  isplitl [H2 H3]
  · isplitl [H3] <;> iassumption
  iexact H4
theorem Sm_back (v : s.Idx → Elt F e) :
    iprop(owns (c : Thread nD τ) dst fullShare v ∗ SmB c src j hj X) ⊢ Sm c src dst j hj X := by
  unfold Sm SmB
  iintro ⟨H1, H2, H3⟩
  isplitl [H2]; · iexact H2
  isplitl [H1]; · iapply (Any_of_owns c dst v); iexact H1
  iexact H3

end Whole

variable (O : Ops F)

def Sms : sProp 𝕄 :=
  iprop(Sm c aX bX 0 inb_S9_S1_0 O.x ∗ Sm c aPKs bPKs 1 inb_S9_S1_1 O.pks ∗ Sm c aKn bKn 2 inb_S9_S1_2 O.kn
    ∗ Sm c aVn bVn 3 inb_S9_S1_3 O.vn ∗ Sm c aLen bLen 4 inb_S9_S1_4 O.len ∗ Sm c aTK bTK 5 inb_S9_S1_5 O.tk
    ∗ Sm c aTKs bTKs 6 inb_S9_S1_6 O.tks ∗ Sm c aTV bTV 7 inb_S9_S1_7 O.tv ∗ Sm c aTVs bTVs 8 inb_S9_S1_8 O.tvs)
def SmFs : sProp 𝕄 :=
  iprop(SmF c aX bX 0 inb_S9_S1_0 O.x ∗ SmF c aPKs bPKs 1 inb_S9_S1_1 O.pks ∗ SmF c aKn bKn 2 inb_S9_S1_2 O.kn
    ∗ SmF c aVn bVn 3 inb_S9_S1_3 O.vn ∗ SmF c aLen bLen 4 inb_S9_S1_4 O.len ∗ SmF c aTK bTK 5 inb_S9_S1_5 O.tk
    ∗ SmF c aTKs bTKs 6 inb_S9_S1_6 O.tks ∗ SmF c aTV bTV 7 inb_S9_S1_7 O.tv ∗ SmF c aTVs bTVs 8 inb_S9_S1_8 O.tvs)
def SmBs : sProp 𝕄 :=
  iprop(SmB c aX 0 inb_S9_S1_0 O.x ∗ SmB c aPKs 1 inb_S9_S1_1 O.pks ∗ SmB c aKn 2 inb_S9_S1_2 O.kn
    ∗ SmB c aVn 3 inb_S9_S1_3 O.vn ∗ SmB c aLen 4 inb_S9_S1_4 O.len ∗ SmB c aTK 5 inb_S9_S1_5 O.tk
    ∗ SmB c aTKs 6 inb_S9_S1_6 O.tks ∗ SmB c aTV 7 inb_S9_S1_7 O.tv ∗ SmB c aTVs 8 inb_S9_S1_8 O.tvs)
/-- The nine operands in their buffers. -/
def Held : sProp 𝕄 :=
  iprop(owns (c : Thread nD τ) bX fullShare O.x ∗ owns (c : Thread nD τ) bPKs fullShare O.pks ∗ owns (c : Thread nD τ) bKn fullShare O.kn
    ∗ owns (c : Thread nD τ) bVn fullShare O.vn ∗ owns (c : Thread nD τ) bLen fullShare O.len ∗ owns (c : Thread nD τ) bTK fullShare O.tk
    ∗ owns (c : Thread nD τ) bTKs fullShare O.tks ∗ owns (c : Thread nD τ) bTV fullShare O.tv ∗ owns (c : Thread nD τ) bTVs fullShare O.tvs)

theorem W_startsW (Q : PUnit → sProp 𝕄) : Sms c O ⊢ iprop((SmFs c O -∗ Q ⟨⟩) -∗ W c startsW Q) := by
  unfold Sms SmFs startsW
  iintro ⟨H0, H1, H2, H3, H4, H5, H6, H7, H8⟩ K
  rw [W_bind]
  iapply (W_startW c aX bX 0 inb_S9_S1_0 O.x _ _ _ (by decide) _) $$ H0
  iintro H0
  rw [W_bind]
  iapply (W_startW c aPKs bPKs 1 inb_S9_S1_1 O.pks _ _ _ (by decide) _) $$ H1
  iintro H1
  rw [W_bind]
  iapply (W_startW c aKn bKn 2 inb_S9_S1_2 O.kn _ _ _ (by decide) _) $$ H2
  iintro H2
  rw [W_bind]
  iapply (W_startW c aVn bVn 3 inb_S9_S1_3 O.vn _ _ _ (by decide) _) $$ H3
  iintro H3
  rw [W_bind]
  iapply (W_startW c aLen bLen 4 inb_S9_S1_4 O.len _ _ _ (by decide) _) $$ H4
  iintro H4
  rw [W_bind]
  iapply (W_startW c aTK bTK 5 inb_S9_S1_5 O.tk _ _ _ (by decide) _) $$ H5
  iintro H5
  rw [W_bind]
  iapply (W_startW c aTKs bTKs 6 inb_S9_S1_6 O.tks _ _ _ (by decide) _) $$ H6
  iintro H6
  rw [W_bind]
  iapply (W_startW c aTV bTV 7 inb_S9_S1_7 O.tv _ _ _ (by decide) _) $$ H7
  iintro H7
  iapply (W_startW c aTVs bTVs 8 inb_S9_S1_8 O.tvs _ _ _ (by decide) _) $$ H8
  iintro H8
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem W_waitsW (Q : PUnit → sProp 𝕄) : iprop(SmFs c O ∗ Owes c) ⊢ iprop((iprop(Held c O ∗ SmBs c O ∗ Owes c) -∗ Q ⟨⟩) -∗ W c waitsW Q) := by
  unfold SmFs SmBs Held waitsW
  iintro ⟨⟨H0, H1, H2, H3, H4, H5, H6, H7, H8⟩, HO⟩ K
  rw [W_bind]
  iapply (W_waitW c aX bX 0 inb_S9_S1_0 O.x _ _ _) $$ [H0 HO]
  · isplitl [H0] <;> iassumption
  iintro ⟨H0, G0, HO⟩
  rw [W_bind]
  iapply (W_waitW c aPKs bPKs 1 inb_S9_S1_1 O.pks _ _ _) $$ [H1 HO]
  · isplitl [H1] <;> iassumption
  iintro ⟨H1, G1, HO⟩
  rw [W_bind]
  iapply (W_waitW c aKn bKn 2 inb_S9_S1_2 O.kn _ _ _) $$ [H2 HO]
  · isplitl [H2] <;> iassumption
  iintro ⟨H2, G2, HO⟩
  rw [W_bind]
  iapply (W_waitW c aVn bVn 3 inb_S9_S1_3 O.vn _ _ _) $$ [H3 HO]
  · isplitl [H3] <;> iassumption
  iintro ⟨H3, G3, HO⟩
  rw [W_bind]
  iapply (W_waitW c aLen bLen 4 inb_S9_S1_4 O.len _ _ _) $$ [H4 HO]
  · isplitl [H4] <;> iassumption
  iintro ⟨H4, G4, HO⟩
  rw [W_bind]
  iapply (W_waitW c aTK bTK 5 inb_S9_S1_5 O.tk _ _ _) $$ [H5 HO]
  · isplitl [H5] <;> iassumption
  iintro ⟨H5, G5, HO⟩
  rw [W_bind]
  iapply (W_waitW c aTKs bTKs 6 inb_S9_S1_6 O.tks _ _ _) $$ [H6 HO]
  · isplitl [H6] <;> iassumption
  iintro ⟨H6, G6, HO⟩
  rw [W_bind]
  iapply (W_waitW c aTV bTV 7 inb_S9_S1_7 O.tv _ _ _) $$ [H7 HO]
  · isplitl [H7] <;> iassumption
  iintro ⟨H7, G7, HO⟩
  iapply (W_waitW c aTVs bTVs 8 inb_S9_S1_8 O.tvs _ _ _) $$ [H8 HO]
  · isplitl [H8] <;> iassumption
  iintro ⟨H8, G8, HO⟩
  iapply K
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitr [HO]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  iexact HO

theorem Sms_back : iprop(Held c O ∗ SmBs c O) ⊢ Sms c O := by
  unfold Sms SmBs Held
  iintro ⟨⟨H0, H1, H2, H3, H4, H5, H6, H7, H8⟩, ⟨G0, G1, G2, G3, G4, G5, G6, G7, G8⟩⟩
  isplitl [H0 G0]
  · iapply (Sm_back c aX bX 0 inb_S9_S1_0 O.x _)
    isplitl [H0] <;> iassumption
  isplitl [H1 G1]
  · iapply (Sm_back c aPKs bPKs 1 inb_S9_S1_1 O.pks _)
    isplitl [H1] <;> iassumption
  isplitl [H2 G2]
  · iapply (Sm_back c aKn bKn 2 inb_S9_S1_2 O.kn _)
    isplitl [H2] <;> iassumption
  isplitl [H3 G3]
  · iapply (Sm_back c aVn bVn 3 inb_S9_S1_3 O.vn _)
    isplitl [H3] <;> iassumption
  isplitl [H4 G4]
  · iapply (Sm_back c aLen bLen 4 inb_S9_S1_4 O.len _)
    isplitl [H4] <;> iassumption
  isplitl [H5 G5]
  · iapply (Sm_back c aTK bTK 5 inb_S9_S1_5 O.tk _)
    isplitl [H5] <;> iassumption
  isplitl [H6 G6]
  · iapply (Sm_back c aTKs bTKs 6 inb_S9_S1_6 O.tks _)
    isplitl [H6] <;> iassumption
  isplitl [H7 G7]
  · iapply (Sm_back c aTV bTV 7 inb_S9_S1_7 O.tv _)
    isplitl [H7] <;> iassumption
  iapply (Sm_back c aTVs bTVs 8 inb_S9_S1_8 O.tvs _)
  isplitl [H8] <;> iassumption

/-! ## The first copies of the rings -/

/-- The rings at rest. -/
def Idles : sProp 𝕄 :=
  iprop(IdleK c O.pk 0 ∗ IdleK c O.pk 1 ∗ IdleK c O.pk 2 ∗ IdleK c O.pk 3
    ∗ IdleV c O.pv 0 ∗ IdleV c O.pv 1 ∗ IdleV c O.pv 2 ∗ IdleV c O.pv 3
    ∗ IdleVs c O.pvs 0 ∗ IdleVs c O.pvs 1 ∗ IdleVs c O.pvs 2 ∗ IdleVs c O.pvs 3)
def Starts : sProp 𝕄 :=
  iprop(StK c O.pk 0 ∗ StK c O.pk 1 ∗ StK c O.pk 2 ∗ StK c O.pk 3
    ∗ StV c O.pv 0 ∗ StV c O.pv 1 ∗ StV c O.pv 2 ∗ StV c O.pv 3
    ∗ StVs c O.pvs 0 ∗ StVs c O.pvs 1 ∗ StVs c O.pvs 2 ∗ StVs c O.pvs 3)

theorem W_start3 {n : ℕ} (h : n < 32) (hn) (Q : PUnit → sProp 𝕄) :
    iprop(IdleK c O.pk n ∗ IdleV c O.pv n ∗ IdleVs c O.pvs n)
      ⊢ iprop((iprop(StK c O.pk n ∗ StV c O.pv n ∗ StVs c O.pvs n) -∗ Q ⟨⟩) -∗ W c (start3 n hn) Q) := by
  unfold start3
  iintro ⟨H1, H2, H3⟩ K
  rw [W_bind]
  iapply (W_startK c O.pk h _) $$ H1
  iintro H1
  rw [W_bind]
  iapply (W_startV c O.pv h _) $$ H2
  iintro H2
  iapply (W_startVs c O.pvs h _) $$ H3
  iintro H3
  iapply K
  isplitl [H1]; · iexact H1
  isplitl [H2] <;> iassumption
theorem W_starts3 (Q : PUnit → sProp 𝕄) : Idles c O ⊢ iprop((Starts c O -∗ Q ⟨⟩) -∗ W c starts3 Q) := by
  unfold Idles Starts starts3
  iintro ⟨K0, K1, K2, K3, V0, V1, V2, V3, W0, W1, W2, W3⟩ K
  rw [W_bind]
  iapply (W_start3 c O (n := 0) (by decide) _ _) $$ [K0 V0 W0]
  · isplitl [K0]; · iexact K0
    isplitl [V0] <;> iassumption
  iintro ⟨K0, V0, W0⟩
  rw [W_bind]
  iapply (W_start3 c O (n := 1) (by decide) _ _) $$ [K1 V1 W1]
  · isplitl [K1]; · iexact K1
    isplitl [V1] <;> iassumption
  iintro ⟨K1, V1, W1⟩
  rw [W_bind]
  iapply (W_start3 c O (n := 2) (by decide) _ _) $$ [K2 V2 W2]
  · isplitl [K2]; · iexact K2
    isplitl [V2] <;> iassumption
  iintro ⟨K2, V2, W2⟩
  iapply (W_start3 c O (n := 3) (by decide) _ _) $$ [K3 V3 W3]
  · isplitl [K3]; · iexact K3
    isplitl [V3] <;> iassumption
  iintro ⟨K3, V3, W3⟩
  iapply K
  isplitl [K0]; · iexact K0
  isplitl [K1]; · iexact K1
  isplitl [K2]; · iexact K2
  isplitl [K3]; · iexact K3
  isplitl [V0]; · iexact V0
  isplitl [V1]; · iexact V1
  isplitl [V2]; · iexact V2
  isplitl [V3]; · iexact V3
  isplitl [W0]; · iexact W0
  isplitl [W1]; · iexact W1
  isplitl [W2] <;> iassumption

/-! ## Loads and stores -/

theorem W_ld3 {cs : CoreSpace} {a b i : ℕ} {e : EltTy} (m : Memref sig .tc cs ⟨3, ![2, a, b]⟩ e) (k : Fin 2) (hk : k.val = i) (h hl)
    (v : (⟨3, ![2, a, b]⟩ : Shape).Idx → Elt F e) (Q : ((⟨3, ![1, a, b]⟩ : Shape).Idx → Elt F e) → sProp 𝕄) :
    (owns (c : Thread nD τ) m fullShare v : sProp 𝕄)
      ⊢ iprop((owns (c : Thread nD τ) m fullShare v -∗ Q (row3 v k))
        -∗ W c (Prog.lift (.load m (Rect.unit (s := ⟨3, ![2, a, b]⟩) ![i, 0, 0] (⟨3, ![1, a, b]⟩ : Shape).size h).toLoadRect hl)) Q) := by
  iintro H K
  iapply (W_load c m _ hl fullShare v Q) $$ H
  iintro H
  rw [show (fun j => v ((Rect.unit (s := ⟨3, ![2, a, b]⟩) ![i, 0, 0] (⟨3, ![1, a, b]⟩ : Shape).size h).toLoadRect.idx j)) = row3 v k from funext fun j => congrArg v (idx_row3 k hk h j)]
  iapply K; iexact H
theorem W_ldN (b : Memref sig .tc .vmem S2x4x64 .bf16) {i : ℕ} (k : Fin 2) (hk : k.val = i) (hi) (v : Vec F S2x4x64 .bf16) (Q : Vec F S1x4x64 .bf16 → sProp 𝕄) :
    (owns (c : Thread nD τ) b fullShare v : sProp 𝕄)
      ⊢ iprop((owns (c : Thread nD τ) b fullShare v -∗ Q (row3 v k)) -∗ W c (ldN b i hi) Q) :=
  W_ld3 c b k hk _ _ v Q
theorem W_ldT (b : Memref sig .tc .vmem S2x256x1024 .fp8e4m3) {i : ℕ} (k : Fin 2) (hk : k.val = i) (hi) (v : Vec F S2x256x1024 .fp8e4m3) (Q : Vec F S1x256x1024 .fp8e4m3 → sProp 𝕄) :
    (owns (c : Thread nD τ) b fullShare v : sProp 𝕄)
      ⊢ iprop((owns (c : Thread nD τ) b fullShare v -∗ Q (row3 v k)) -∗ W c (ldT b i hi) Q) :=
  W_ld3 c b k hk _ _ v Q
theorem W_ldTs (b : Memref sig .tc .vmem S2x4x1024 .f32) {i : ℕ} (k : Fin 2) (hk : k.val = i) (hi) (v : Vec F S2x4x1024 .f32) (Q : Vec F S1x4x1024 .f32 → sProp 𝕄) :
    (owns (c : Thread nD τ) b fullShare v : sProp 𝕄)
      ⊢ iprop((owns (c : Thread nD τ) b fullShare v -∗ Q (row3 v k)) -∗ W c (ldTs b i hi) Q) :=
  W_ld3 c b k hk _ _ v Q
theorem W_ldLen {i : ℕ} (k : Fin 2) (hk : k.val = i) (hi) (v : Vec F S2 .i32) (Q : Elt F .i32 → sProp 𝕄) :
    (owns (c : Thread nD τ) bLen fullShare v : sProp 𝕄)
      ⊢ iprop((owns (c : Thread nD τ) bLen fullShare v -∗ Q (v (ix1 k))) -∗ W c (ldLen i hi) Q) := by
  iintro H K
  rw [show (ldLen i hi : KProg F _) = (Prog.lift (.load bLen (Rect.unit (s := S2) ![i] S1.size hi).toLoadRect (View.loadsAt_rect (View.loads_smem_one rfl numel1_S1)))
    >>= fun f => pure (f (Shape.Idx.first (numel1_S1.symm ▸ Nat.one_pos)))) from rfl, W_bind]
  iapply (W_load c bLen _ _ fullShare v _) $$ H
  iintro H
  iapply (W_pure c)
  beta_reduce
  rw [show (Rect.unit (s := S2) ![i] S1.size hi).toLoadRect.idx (Shape.Idx.first (numel1_S1.symm ▸ Nat.one_pos)) = ix1 k from by
    funext x; apply Fin.ext
    match x with
    | 0 => show i + 1 * 0 = k.val; omega]
  iapply K; iexact H
theorem W_proLoads (Q : ProIn F → sProp 𝕄) :
    iprop(Held c O ∗ Any c bQ) ⊢ iprop((iprop(Held c O ∗ owns (c : Thread nD τ) bQ fullShare (kQ O)) -∗ Q (pIn O)) -∗ W c proLoads Q) := by
  unfold Held proLoads
  iintro ⟨⟨H0, H1, H2, H3, H4, H5, H6, H7, H8⟩, HQ⟩ K
  ihave HQ := (owns_of_Any c bQ) $$ HQ
  icases HQ with ⟨%q0, HQ⟩
  rw [W_bind]
  iapply (W_ld2 c bX _ _ O.x _) $$ H0
  iintro H0
  rw [W_bind]
  iapply (W_ld2 c bPKs _ _ O.pks _) $$ H1
  iintro H1
  rw [W_bind]
  iapply (W_ldQ c q0 _) $$ HQ
  iintro HQ
  rw [W_bind]
  iapply (W_st2 c bQ _ (pQ O.x O.pks) _ _ q0 _) $$ HQ
  iintro HQ
  rw [W_bind]
  iapply (W_ldN c bKn 0 rfl _ O.kn _) $$ H2
  iintro H2
  rw [W_bind]
  iapply (W_ldN c bKn 1 rfl _ O.kn _) $$ H2
  iintro H2
  rw [W_bind]
  iapply (W_ldT c bTK 0 rfl _ O.tk _) $$ H5
  iintro H5
  rw [W_bind]
  iapply (W_ldTs c bTKs 0 rfl _ O.tks _) $$ H6
  iintro H6
  rw [W_bind]
  iapply (W_ldLen c 0 rfl _ O.len _) $$ H4
  iintro H4
  rw [W_bind]
  iapply (W_ldT c bTK 1 rfl _ O.tk _) $$ H5
  iintro H5
  rw [W_bind]
  iapply (W_ldTs c bTKs 1 rfl _ O.tks _) $$ H6
  iintro H6
  rw [W_bind]
  iapply (W_ldLen c 1 rfl _ O.len _) $$ H4
  iintro H4
  rw [W_bind]
  iapply (W_ldN c bVn 0 rfl _ O.vn _) $$ H3
  iintro H3
  rw [W_bind]
  iapply (W_ldN c bVn 1 rfl _ O.vn _) $$ H3
  iintro H3
  iapply (W_pure c)
  rw [show (⟨O.x, O.pks, row3 O.kn 0, row3 O.kn 1, row3 O.tk 0, row3 O.tks 0, O.len (ix1 0), row3 O.tk 1, row3 O.tks 1, O.len (ix1 1), row3 O.vn 0, row3 O.vn 1⟩ : ProIn F) = pIn O from rfl]
  iapply K
  isplitr [HQ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  iexact HQ

theorem W_ldL32 (i : ℕ) (hi) (v : Vec F S64x128 .f32) (Q : Vec F S32x128 .f32 → sProp 𝕄) :
    (owns (c : Thread nD τ) bL fullShare v : sProp 𝕄)
      ⊢ iprop((owns (c : Thread nD τ) bL fullShare v -∗ Q (fun j => v ((Rect.unit (s := S64x128) ![i, 0] S32x128.size hi).emb j))) -∗ W c (ldL32 i hi) Q) :=
  W_load c bL (Rect.unit (s := S64x128) ![i, 0] S32x128.size hi).toLoadRect _ fullShare v Q
theorem W_ldA32 (i : ℕ) (hi) (v : Vec F S64x256 .f32) (Q : Vec F S32x256 .f32 → sProp 𝕄) :
    (owns (c : Thread nD τ) bAcc fullShare v : sProp 𝕄)
      ⊢ iprop((owns (c : Thread nD τ) bAcc fullShare v -∗ Q (fun j => v ((Rect.unit (s := S64x256) ![i, 0] S32x256.size hi).emb j))) -∗ W c (ldA32 i hi) Q) :=
  W_load c bAcc (Rect.unit (s := S64x256) ![i, 0] S32x256.size hi).toLoadRect _ fullShare v Q
/-- A half of a vector stored. -/
def Half {α : Type} {n : ℕ} (i : ℕ) (hi : ∀ x, (![i, 0] : Fin 2 → ℕ) x + (⟨2, ![32, n]⟩ : Shape).size x ≤ (⟨2, ![64, n]⟩ : Shape).size x)
    (w : (⟨2, ![32, n]⟩ : Shape).Idx → α) (v v' : (⟨2, ![64, n]⟩ : Shape).Idx → α) : Prop :=
  (∀ x, v' ((Rect.unit (s := ⟨2, ![64, n]⟩) ![i, 0] (⟨2, ![32, n]⟩ : Shape).size hi).emb x) = w x)
    ∧ ∀ y, y ∉ (Rect.unit (s := ⟨2, ![64, n]⟩) ![i, 0] (⟨2, ![32, n]⟩ : Shape).size hi).set → v' y = v y
theorem Half_join {α : Type} {n : ℕ} {h0 h1} {a b : (⟨2, ![32, n]⟩ : Shape).Idx → α} {v v' v'' : (⟨2, ![64, n]⟩ : Shape).Idx → α}
    (e0 : Half 0 h0 a v v') (e1 : Half 32 h1 b v' v'') : v'' = join2 a b := join_eq h0 h1 a b v' v'' e0.1 e1
theorem W_stL32 (i : ℕ) (hi) (w : FVec F S32x128 .f32) (v : Vec F S64x128 .f32) (Q : PUnit → sProp 𝕄) :
    (owns (c : Thread nD τ) bL fullShare v : sProp 𝕄)
      ⊢ iprop((∀ v', ⌜Half i hi w v v'⌝ -∗ owns (c : Thread nD τ) bL fullShare v' -∗ Q ⟨⟩) -∗ W c (stL32 i hi w) Q) :=
  W_store c bL (Rect.unit (s := S64x128) ![i, 0] S32x128.size hi) w _ _ v Q
theorem W_stA32 (i : ℕ) (hi) (w : FVec F S32x256 .f32) (v : Vec F S64x256 .f32) (Q : PUnit → sProp 𝕄) :
    (owns (c : Thread nD τ) bAcc fullShare v : sProp 𝕄)
      ⊢ iprop((∀ v', ⌜Half i hi w v v'⌝ -∗ owns (c : Thread nD τ) bAcc fullShare v' -∗ Q ⟨⟩) -∗ W c (stA32 i hi w) Q) :=
  W_store c bAcc (Rect.unit (s := S64x256) ![i, 0] S32x256.size hi) w _ _ v Q

theorem W_proStores (Q : PUnit → sProp 𝕄) :
    iprop(Held c O ∗ Any c bL ∗ Any c bAcc ∗ Any c bM)
      ⊢ iprop((iprop(Held c O ∗ owns (c : Thread nD τ) bL fullShare (kL0 O) ∗ owns (c : Thread nD τ) bAcc fullShare (kA0 O)
          ∗ owns (c : Thread nD τ) bM fullShare (kM0 O)) -∗ Q ⟨⟩) -∗ W c (proStores (pIn O)) Q) := by
  unfold Held proStores
  iintro ⟨⟨H0, H1, H2, H3, H4, H5, H6, H7, H8⟩, HL, HA, HM⟩ K
  ihave HL := (owns_of_Any c bL) $$ HL
  icases HL with ⟨%l0, HL⟩
  ihave HA := (owns_of_Any c bAcc) $$ HA
  icases HA with ⟨%a0, HA⟩
  ihave HM := (owns_of_Any c bM) $$ HM
  icases HM with ⟨%m0, HM⟩
  rw [W_bind]
  iapply (W_ldL32 c _ _ l0 _) $$ HL
  iintro HL
  rw [W_bind]
  iapply (W_stL32 c _ _ (pL0 (pIn O)) l0 _) $$ HL
  iintro %l1 %hl1 HL
  rw [W_bind]
  iapply (W_ldTs c bTVs 0 rfl _ O.tvs _) $$ H8
  iintro H8
  rw [W_bind]
  iapply (W_ldT c bTV 0 rfl _ O.tv _) $$ H7
  iintro H7
  rw [W_bind]
  iapply (W_ldA32 c _ _ a0 _) $$ HA
  iintro HA
  rw [W_bind]
  iapply (W_stA32 c _ _ (pA0 (pIn O) (row3 O.tvs 0) (row3 O.tv 0)) a0 _) $$ HA
  iintro %a1 %ha1 HA
  rw [W_bind]
  iapply (W_ldL32 c _ _ l1 _) $$ HL
  iintro HL
  rw [W_bind]
  iapply (W_stL32 c _ _ (pL1 (pIn O)) l1 _) $$ HL
  iintro %l2 %hl2 HL
  rw [W_bind]
  iapply (W_ldTs c bTVs 1 rfl _ O.tvs _) $$ H8
  iintro H8
  rw [W_bind]
  iapply (W_ldT c bTV 1 rfl _ O.tv _) $$ H7
  iintro H7
  rw [W_bind]
  iapply (W_ldA32 c _ _ a1 _) $$ HA
  iintro HA
  rw [W_bind]
  iapply (W_stA32 c _ _ (pA1 (pIn O) (row3 O.tvs 1) (row3 O.tv 1)) a1 _) $$ HA
  iintro %a2 %ha2 HA
  rw [W_bind]
  iapply (W_ld128 c bM m0 _) $$ HM
  iintro HM
  iapply (W_st128 c bM m0 _ _) $$ HM
  rw [vC128_eq]
  iintro HM
  have el : l2 = kL0 O := Half_join hl1 hl2
  have ea : a2 = kA0 O := Half_join ha1 ha2
  rw [← el, ← ea]
  iapply K
  isplitr [HL HA HM]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  isplitl [HL]; · iexact HL
  isplitl [HA]; · iexact HA
  iexact HM

/-! ## The result -/

theorem W_stOut (o : Memref sig .tc .vmem S2x2048 .bf16) (ho : o.IsWhole) (i : ℕ) (hi : S2x2048.Slices ![i, 0] S1x2048) (w : FVec F S1x2048 .bf16)
    (v : Vec F S2x2048 .bf16) (Q : PUnit → sProp 𝕄) :
    (owns (c : Thread nD τ) o fullShare v : sProp 𝕄)
      ⊢ iprop((owns (c : Thread nD τ) o fullShare (updateSlice v w ![i, 0] hi) -∗ Q ⟨⟩) -∗ W c (stOut o ho i hi w) Q) := by
  iintro H K
  rw [show (stOut o ho i hi w : KProg F PUnit) = (Prog.lift (.load o (Rect.unit (s := S2x2048) ![0, 0] S2x2048.size inb_S2x2048_S2x2048_0_0).toLoadRect (View.loadsAt_vmem h_S2x2048))
    >>= fun old => Prog.lift (.store o (Rect.unit (s := S2x2048) ![0, 0] S2x2048.size inb_S2x2048_S2x2048_0_0) (updateSlice old w ![i, 0] hi) Finset.univ
      (View.stores_vmem h_S2x2048 (ho.storeExact_slice rfl _ packedbf16_S2x2048_S2x2048_0_0) (fun _ => rfl)) (.inl rfl))) from rfl, W_bind]
  iapply (W_ld2 c o _ _ v _) $$ H
  iintro H
  iapply (W_st2 c o _ _ _ _ v _) $$ H
  iintro H
  iapply K; iexact H

theorem W_epilogue (o : Memref sig .tc .vmem S2x2048 .bf16) (ho : o.IsWhole) (l : Vec F S64x128 .f32) (acc : Vec F S64x256 .f32) (Q : PUnit → sProp 𝕄) :
    (Any c o : sProp 𝕄)
      ⊢ iprop((owns (c : Thread nD τ) o fullShare (rows2 (k0_pay1 (eRow0 l acc)) (k0_pay2 (eOut l acc))) -∗ Q ⟨⟩) -∗ W c (epilogue o ho l acc) Q) := by
  unfold epilogue
  iintro HO K
  ihave HO := (owns_of_Any c o) $$ HO
  icases HO with ⟨%v, HO⟩
  rw [W_bind]
  iapply (W_load c o _ _ fullShare v _) $$ HO
  iintro HO
  rw [W_bind]
  iapply (W_stOut c o ho 0 _ _ v _) $$ HO
  iintro HO
  rw [W_bind]
  iapply (W_load c o _ _ fullShare _ _) $$ HO
  iintro HO
  iapply (W_stOut c o ho 1 _ _ _ _) $$ HO
  iintro HO
  iapply K
  rw [rows_eq]
  iexact HO

/-! ## The whole body -/

/-- What the body works on, before it and after it. -/
def Res : sProp 𝕄 :=
  iprop(Sms c O ∗ Idles c O ∗ Any c bQ ∗ Any c bM ∗ Any c bAl ∗ Any c bL ∗ Any c bAcc ∗ Any c bA ∗ Any c bB)

theorem W_body (o : Memref sig .tc .vmem S2x2048 .bf16) (ho : o.IsWhole) (Q : PUnit → sProp 𝕄) :
    iprop(Res c O ∗ Any c o ∗ Owes c)
      ⊢ iprop((iprop(Res c O ∗ owns (c : Thread nD τ) o fullShare (kOut O) ∗ Owes c) -∗ Q ⟨⟩) -∗ W c (kBody o ho) Q) := by
  unfold Res kBody prologue
  simp only [bind_assoc]
  iintro ⟨⟨HS, HI, HQ, HM, HAl, HL, HA, HbA, HbB⟩, Ho, HO⟩ K
  rw [W_bind]
  iapply (W_startsW c O _) $$ HS
  iintro HS
  rw [W_bind]
  iapply (W_starts3 c O _) $$ HI
  iintro HI
  rw [W_bind]
  iapply (W_waitsW c O _) $$ [HS HO]
  · isplitl [HS] <;> iassumption
  iintro ⟨HH, HS, HO⟩
  rw [W_bind]
  iapply (W_proLoads c O _) $$ [HH HQ]
  · isplitl [HH] <;> iassumption
  iintro ⟨HH, HQ⟩
  rw [W_bind]
  iapply (W_proStores c O _) $$ [HH HL HA HM]
  · isplitl [HH]; · iexact HH
    isplitl [HL]; · iexact HL
    isplitl [HA] <;> iassumption
  iintro ⟨HH, HL, HA, HM⟩
  unfold Starts
  icases HI with ⟨K0, K1, K2, K3, V0, V1, V2, V3, W0, W1, W2, W3⟩
  rw [W_bind]
  iapply (W_waitK c O.pk (n := 0) (by decide) _) $$ [K0 HO]
  · isplitl [K0] <;> iassumption
  iintro ⟨K0, HO⟩
  rw [W_bind]
  iapply (W_scores c O.pk (kQ O) (n := 0) (by decide) bA (kM0 O) _) $$ [K0 HbA HQ HM]
  · isplitl [K0]; · iexact K0
    isplitl [HbA]; · iexact HbA
    isplitl [HQ] <;> iassumption
  iintro ⟨K0, HbA, HQ, HM⟩
  rw [W_bind]
  ihave HAl := (owns_of_Any c bAl) $$ HAl
  icases HAl with ⟨%al0, HAl⟩
  iapply (W_stMAl c _ (kM0 O) al0 _) $$ [HM HAl]
  · isplitl [HM] <;> iassumption
  iintro ⟨HM, HAl⟩
  rw [W_bind]
  ihave K4 := (IdleK_of_Here c O.pk (n := 0) _) $$ K0
  ihave K4 := (show IdleK c O.pk 0 ⊢ IdleK c O.pk 4 from by rw [← IdleK_add c O.pk 0]) $$ K4
  iapply (W_startK c O.pk (n := 4) (by decide) _) $$ K4
  iintro K4
  iapply (W_main c O.pk O.pv O.pvs (kQ O) (kM0 O) (kL0 O) (kA0 O) Q (ld128 bL >>= fun l => ld256 bAcc >>= fun acc => epilogue o ho l acc)) $$ [K1 K2 K3 K4 V0 V1 V2 V3 W0 W1 W2 W3 HQ HM HAl HL HA HbA HbB HO]
  · unfold Inv Bufs
    isplitl [K1]; · iexact K1
    isplitl [K2]; · iexact K2
    isplitl [K3]; · iexact K3
    isplitl [K4]; · iexact K4
    isplitl [V0]; · iexact V0
    isplitl [V1]; · iexact V1
    isplitl [V2]; · iexact V2
    isplitl [V3]; · iexact V3
    isplitl [W0]; · iexact W0
    isplitl [W1]; · iexact W1
    isplitl [W2]; · iexact W2
    isplitl [W3]; · iexact W3
    isplitl [HQ]; · iexact HQ
    isplitl [HM]; · iexact HM
    isplitl [HAl]; · iexact HAl
    isplitl [HL]; · iexact HL
    isplitl [HA]; · iexact HA
    isplitl [HbA]; · iexact HbA
    isplitl [HbB] <;> iassumption
  iintro ⟨K0, K1, K2, K3, V0, V1, V2, V3, W0, W1, W2, W3, HQ, HM, HAl, HL, HA, HbB, HbA, HO⟩
  rw [W_bind]
  iapply (W_ld128 c bL _ _) $$ HL
  iintro HL
  rw [W_bind]
  iapply (W_ld256 c bAcc _ _) $$ HA
  iintro HA
  iapply (W_epilogue c o ho _ _ _) $$ Ho
  iintro Ho
  iapply K
  isplitr [Ho HO]
  · isplitl [HH HS]
    · iapply (Sms_back c O); isplitl [HH] <;> iassumption
    isplitl [K0 K1 K2 K3 V0 V1 V2 V3 W0 W1 W2 W3]
    · unfold Idles
      isplitl [K0]; · iexact K0
      isplitl [K1]; · iexact K1
      isplitl [K2]; · iexact K2
      isplitl [K3]; · iexact K3
      isplitl [V0]; · iexact V0
      isplitl [V1]; · iexact V1
      isplitl [V2]; · iexact V2
      isplitl [V3]; · iexact V3
      isplitl [W0]; · iexact W0
      isplitl [W1]; · iexact W1
      isplitl [W2] <;> iassumption
    isplitl [HQ]; · iapply (Any_of_owns c bQ _); iexact HQ
    isplitl [HM]; · iapply (Any_of_owns c bM _); iexact HM
    isplitl [HAl]; · iapply (Any_of_owns c bAl _); iexact HAl
    isplitl [HL]; · iapply (Any_of_owns c bL _); iexact HL
    isplitl [HA]; · iapply (Any_of_owns c bAcc _); iexact HA
    isplitl [HbA]; · iexact HbA
    iexact HbB
  isplitl [Ho]; · iexact Ho
  iexact HO

end Cert.KernelIdeal.Steps

end
-- ==== Proof.Spec.lean ====
/-
  The mathematics of the attention row, on the extended reals: the weight of a score against a maximum, how it moves
  to a later maximum, the sum over the positions taken chunk by chunk, and the row's result as both programs compute it.
-/
module

public import Idealize.ShloMosaic.PureOps.Ideal
public import Idealize.ShloMosaic.PureOps.Ideal.Laws

@[expose] public section

noncomputable section

namespace Cert.Spec
open Idealize.ShloMosaic

/-- One eighth: the inverse root of the head width. -/
def c8 : EReal := ((1 / 8 : ℝ) : EReal)
/-- The weight of the score `s` against the maximum `m`. -/
def ee (s m : EReal) : EReal := Ideal.exp (s * c8 - m * c8)

theorem top_c8 : (⊤ : EReal) * c8 = ⊤ := EReal.top_mul_coe_of_pos (by norm_num)
theorem bot_c8 : (⊥ : EReal) * c8 = ⊥ := EReal.bot_mul_coe_of_pos (by norm_num)
theorem real_c8 (r : ℝ) : (r : EReal) * c8 = ((r * (1 / 8) : ℝ) : EReal) := (EReal.coe_mul r (1 / 8)).symm

theorem ee_bot (m : EReal) : ee ⊥ m = 0 := by
  unfold ee; rw [bot_c8, EReal.bot_sub]; rfl
theorem ee_top (s : EReal) : ee s ⊤ = 0 := by
  unfold ee; rw [top_c8]
  induction s with
  | bot => rw [bot_c8]; rfl
  | top => rw [top_c8]; rfl
  | coe r => rw [real_c8]; rfl
theorem ee_coe (s m : ℝ) : ee s m = ((Real.exp (s * (1 / 8) - m * (1 / 8)) : ℝ) : EReal) := by
  unfold ee; rw [real_c8, real_c8, ← EReal.coe_sub]; rfl

/-- The kernel's power of two is that weight. -/
theorem exp2_eq (s m : EReal) : Ideal.exp2 ((s - m) * ((((1 / 8) * (Real.log 2)⁻¹ : ℝ)) : EReal)) = ee s m := by
  have hp : (0 : ℝ) < (1 / 8) * (Real.log 2)⁻¹ := by
    have := Real.log_pos (show (1 : ℝ) < 2 by norm_num)
    positivity
  induction s with
  | bot => rw [ee_bot, EReal.bot_sub, EReal.bot_mul_coe_of_pos hp]; rfl
  | top =>
    induction m with
    | bot => unfold ee; rw [top_c8, bot_c8, EReal.top_sub_bot, EReal.top_mul_coe_of_pos hp]; rfl
    | top => rw [ee_top, EReal.sub_top, EReal.bot_mul_coe_of_pos hp]; rfl
    | coe b => unfold ee; rw [top_c8, real_c8, EReal.top_sub_coe, EReal.top_sub_coe, EReal.top_mul_coe_of_pos hp]; rfl
  | coe a =>
    induction m with
    | bot => unfold ee; rw [bot_c8, real_c8, EReal.coe_sub_bot, EReal.coe_sub_bot, EReal.top_mul_coe_of_pos hp]; rfl
    | top => rw [ee_top, EReal.sub_top, EReal.bot_mul_coe_of_pos hp]; rfl
    | coe b =>
      rw [ee_coe, ← EReal.coe_sub, ← EReal.coe_mul]
      show ((Real.rpow 2 _ : ℝ) : EReal) = _
      have h2 : Real.log 2 ≠ 0 := (Real.log_pos (by norm_num)).ne'
      rw [Real.rpow_eq_pow, Real.rpow_def_of_pos (by norm_num)]
      congr 2
      field_simp

theorem ee_nonneg {s m : EReal} : 0 ≤ ee s m := by
  induction s with
  | bot => rw [ee_bot]
  | top =>
    induction m with
    | bot => unfold ee; rw [top_c8, bot_c8, EReal.top_sub_bot]; exact le_top
    | top => rw [ee_top]
    | coe b => unfold ee; rw [top_c8, real_c8, EReal.top_sub_coe]; exact le_top
  | coe a =>
    induction m with
    | bot => unfold ee; rw [bot_c8, real_c8, EReal.coe_sub_bot]; exact le_top
    | top => rw [ee_top]
    | coe b => rw [ee_coe]; exact_mod_cast (Real.exp_pos _).le

theorem ee_ne_top {s m : EReal} (h : s ≤ m) : ee s m ≠ ⊤ := by
  induction s with
  | bot => rw [ee_bot]; exact EReal.zero_ne_top
  | top => rw [top_le_iff.mp h, ee_top]; exact EReal.zero_ne_top
  | coe a =>
    induction m with
    | bot => exact absurd (le_bot_iff.mp h) (EReal.coe_ne_bot a)
    | top => rw [ee_top]; exact EReal.zero_ne_top
    | coe b => rw [ee_coe]; exact EReal.coe_ne_top _

/-- Moving a weight to a later maximum. -/
theorem ee_mul {s m m' : EReal} (h : s ≤ m) (h' : m ≤ m') : ee s m * ee m m' = ee s m' := by
  induction s with
  | bot => rw [ee_bot, ee_bot, zero_mul]
  | top => rw [top_le_iff.mp h] at h' ⊢; rw [top_le_iff.mp h', ee_top, zero_mul]
  | coe a =>
    induction m with
    | bot => exact absurd (le_bot_iff.mp h) (EReal.coe_ne_bot a)
    | top => rw [top_le_iff.mp h', ee_top, ee_top, zero_mul]
    | coe b =>
      induction m' with
      | bot => exact absurd (le_bot_iff.mp h') (EReal.coe_ne_bot b)
      | top => rw [ee_top, ee_top, mul_zero]
      | coe c =>
        rw [ee_coe, ee_coe, ee_coe, ← EReal.coe_mul, ← Real.exp_add]
        congr 2; ring

/-- A finite factor that is not negative goes into a sum. -/
theorem sum_mul_fin {ι : Type*} (t : Finset ι) (f : ι → EReal) {a : EReal} (h0 : 0 ≤ a) (ht : a ≠ ⊤) :
    (∑ i ∈ t, f i) * a = ∑ i ∈ t, f i * a := by
  classical
  induction t using Finset.induction_on with
  | empty => simp
  | insert i t hi ih => rw [Finset.sum_insert hi, Finset.sum_insert hi, EReal.right_distrib_of_nonneg_of_ne_top h0 ht, ih]

/-! ## A row -/

/-- A row's scores: those of the prefix, of the tail, of the new token. -/
structure Row where
  S : ℕ → EReal
  T : ℕ → EReal
  w : EReal

variable (R : Row)

/-- The prologue's sum: the tail's and the new token's weights, each with its factor. -/
def Row.base (WT : ℕ → EReal) (WN : EReal) (m : EReal) : EReal :=
  (∑ t ∈ Finset.range 1024, ee (R.T t) m * WT t) + ee R.w m * WN
/-- The whole row's sum. -/
def Row.tot (W WT : ℕ → EReal) (WN : EReal) (m : EReal) : EReal :=
  R.base WT WN m + ∑ p ∈ Finset.range 131072, ee (R.S p) m * W p
/-- The row's maximum. -/
def Row.mx : EReal := max (max ((Finset.range 131072).sup R.S) ((Finset.range 1024).sup R.T)) R.w

theorem Row.mx_le {z : EReal} : R.mx ≤ z ↔ (∀ p < 131072, R.S p ≤ z) ∧ (∀ t < 1024, R.T t ≤ z) ∧ R.w ≤ z := by
  unfold Row.mx
  rw [max_le_iff, max_le_iff, Finset.sup_le_iff, Finset.sup_le_iff]
  simp only [Finset.mem_range, and_assoc]

theorem Row.eq_mx {x : EReal} (h : ∀ z, x ≤ z ↔ (∀ p < 131072, R.S p ≤ z) ∧ (∀ t < 1024, R.T t ≤ z) ∧ R.w ≤ z) : x = R.mx :=
  eq_of_forall_ge_iff fun z => (h z).trans R.mx_le.symm

theorem Row.base_mul (WT : ℕ → EReal) (WN : EReal) {m m' : EReal} (hT : ∀ t < 1024, R.T t ≤ m) (hw : R.w ≤ m) (h : m ≤ m') :
    R.base WT WN m * ee m m' = R.base WT WN m' := by
  unfold Row.base
  rw [EReal.right_distrib_of_nonneg_of_ne_top ee_nonneg (ee_ne_top h), sum_mul_fin _ _ ee_nonneg (ee_ne_top h)]
  congr 1
  · refine Finset.sum_congr rfl fun t ht => ?_
    rw [mul_right_comm, ee_mul (hT t (Finset.mem_range.mp ht)) h]
  · rw [mul_right_comm, ee_mul hw h]

/-- The sums taken chunk by chunk, each time moved to the new maximum. -/
theorem Row.online (W WT : ℕ → EReal) (WN : EReal) (m l : ℕ → EReal) (hT : ∀ t < 1024, R.T t ≤ m 0) (hw : R.w ≤ m 0)
    (hm : ∀ i, m i ≤ m (i + 1)) (hS : ∀ i, ∀ x < 4096, R.S (4096 * i + x) ≤ m (i + 1)) (h0 : l 0 = R.base WT WN (m 0))
    (hl : ∀ i, l (i + 1) = l i * ee (m i) (m (i + 1)) + ∑ x ∈ Finset.range 4096, ee (R.S (4096 * i + x)) (m (i + 1)) * W (4096 * i + x)) (i : ℕ) :
    l i = R.base WT WN (m i) + ∑ p ∈ Finset.range (4096 * i), ee (R.S p) (m i) * W p := by
  have mono : Monotone m := monotone_nat_of_le_succ hm
  have hS' : ∀ i, ∀ p < 4096 * i, R.S p ≤ m i := by
    intro i p hp
    have := hS (p / 4096) (p % 4096) (Nat.mod_lt _ (by norm_num))
    rw [Nat.div_add_mod] at this
    exact this.trans (mono (by omega))
  induction i with
  | zero => simpa using h0
  | succ i ih =>
    have hn := ee_nonneg (s := m i) (m := m (i + 1))
    have hf := ee_ne_top (hm i)
    rw [hl, ih, EReal.right_distrib_of_nonneg_of_ne_top hn hf, R.base_mul WT WN (fun t ht => (hT t ht).trans (mono (Nat.zero_le i)))
      (hw.trans (mono (Nat.zero_le i))) (hm i), sum_mul_fin _ _ hn hf, Nat.mul_succ, Finset.sum_range_add, ← add_assoc]
    congr 2
    refine Finset.sum_congr rfl fun p hp => ?_
    rw [mul_right_comm, ee_mul (hS' i p (Finset.mem_range.mp hp)) (hm i)]

/-- A sum over `k` runs of `n` positions is that over the runs. -/
theorem sum_tiles (n : ℕ) (f : ℕ → EReal) (k : ℕ) :
    ∑ x ∈ Finset.range (n * k), f x = ∑ t ∈ Finset.range k, ∑ x ∈ Finset.range n, f (n * t + x) := by
  induction k with
  | zero => simp
  | succ k ih => rw [Nat.mul_succ, Finset.sum_range_add, ih, Finset.sum_range_succ]

/-! ## The quotient -/

theorem tot_one_nonneg (m : EReal) : 0 ≤ R.tot 1 1 1 m := by
  unfold Row.tot Row.base
  simp only [Pi.one_apply, mul_one]
  exact add_nonneg (add_nonneg (Finset.sum_nonneg fun _ _ => ee_nonneg) ee_nonneg) (Finset.sum_nonneg fun _ _ => ee_nonneg)

/-- A sum of weights that is zero has every weight zero. -/
theorem tot_one_zero {m : EReal} (h : R.tot 1 1 1 m = 0) (W WT : ℕ → EReal) (WN : EReal) : R.tot W WT WN m = 0 := by
  unfold Row.tot Row.base at h ⊢
  simp only [Pi.one_apply, mul_one] at h
  have n1 : 0 ≤ ∑ t ∈ Finset.range 1024, ee (R.T t) m := Finset.sum_nonneg fun _ _ => ee_nonneg
  have n2 : 0 ≤ ee R.w m := ee_nonneg
  have n3 : 0 ≤ ∑ p ∈ Finset.range 131072, ee (R.S p) m := Finset.sum_nonneg fun _ _ => ee_nonneg
  have h3 := (add_eq_zero_iff_of_nonneg (add_nonneg n1 n2) n3).mp h
  have h12 := (add_eq_zero_iff_of_nonneg n1 n2).mp h3.1
  have z1 := (Finset.sum_eq_zero_iff_of_nonneg fun _ _ => ee_nonneg).mp h12.1
  have z3 := (Finset.sum_eq_zero_iff_of_nonneg fun _ _ => ee_nonneg).mp h3.2
  rw [h12.2, zero_mul, Finset.sum_eq_zero fun t ht => by rw [z1 t ht, zero_mul], Finset.sum_eq_zero fun p hp => by rw [z3 p hp, zero_mul]]
  simp

/-- The four column blocks of a row, all but the row's own divided out of zero, and added. -/
theorem div_blocks {a D : EReal} (hz : D = 0 → a = 0) (n : Fin 4) :
    (((0 + Ideal.div (if n = 0 then a else 0) D) + Ideal.div (if n = 1 then a else 0) D)
      + Ideal.div (if n = 2 then a else 0) D) + Ideal.div (if n = 3 then a else 0) D = Ideal.div a D := by
  by_cases h : D = 0
  · have e0 : Ideal.div 0 D = ⊥ := by simp [Ideal.div, h]
    rw [hz h]
    simp [e0]
  · have e0 : Ideal.div 0 D = 0 := by simp [Ideal.div, h]
    fin_cases n <;> simp [e0]

end Cert.Spec
-- ==== Proof.KernelIdeal.ValueA.lean ====
/-
  The values of a chunk read at an index, on the extended reals.
-/
module

public import proofs.«01_k».proof.Proof.KernelIdeal.Pro
public import proofs.«01_k».proof.Proof.Spec
public import Idealize.ShloMosaic.Lib.Pointwise

@[expose] public section

noncomputable section

namespace Cert.KernelIdeal.Steps

open Facts₀ Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec

theorem expScale_val : (expScale : Ideal .f32) = ((((1 / 8) * (Real.log 2)⁻¹ : ℝ)) : EReal) :=
  IdealRules.named_const.ideal_named_scalar _ _ _ _ rfl

variable (r : Fin 64)

theorem vScore_at (q : Vec Ideal S64x256 .bf16) (k : Vec Ideal S1x256x256 .fp8e4m3) (x : Fin 256) :
    vScore q k (ix2 r x) = ∑ j : Fin 256, q (ix2 r j) * k (ix3 (0 : Fin 1) j x) := by
  pointwise [vScore]

theorem vFoldMax_at (d : FVec Ideal S64x256 .f32) (x : Fin 128) :
    vFoldMax d (ix2 r x) = max (d (ix2 r ⟨x.val, by omega⟩)) (d (ix2 r ⟨128 + x.val, by omega⟩)) := by
  pointwise [vFoldMax]

theorem vFoldAdd_at (d : FVec Ideal S64x256 .f32) (x : Fin 128) :
    vFoldAdd d (ix2 r x) = d (ix2 r ⟨x.val, by omega⟩) + d (ix2 r ⟨128 + x.val, by omega⟩) := by
  pointwise [vFoldAdd]

theorem vRowMax_at (d : FVec Ideal S64x128 .f32) (x : Fin 128) :
    vRowMax d (ix2 r x) = (Finset.univ : Finset (Fin 128)).fold max (Ideal.ofBits .f32 0xFF800000#32) fun k => d (ix2 r k) := by
  pointwise [vRowMax]

theorem vWide_at (d : FVec Ideal S64x128 .f32) (x : Fin 256) :
    vWide d (ix2 r x) = d (ix2 r ⟨x.val % 128, by omega⟩) := by
  pointwise [vWide]
  have := x.isLt
  split_ifs <;> congr 3 <;> omega

theorem vE_at (s m : FVec Ideal S64x256 .f32) (x : Fin 256) : vE s m (ix2 r x) = ee (s (ix2 r x)) (m (ix2 r x)) := by
  rw [← exp2_eq, ← expScale_val]
  rfl

theorem vAl_at (s m : FVec Ideal S64x128 .f32) (x : Fin 128) : vAl s m (ix2 r x) = ee (s (ix2 r x)) (m (ix2 r x)) := by
  rw [← exp2_eq, ← expScale_val]
  rfl

/-- The row's head. -/
abbrev hd (r : Fin 64) : Fin 4 := ⟨r.val / 8 % 4, by omega⟩

theorem vHeads_at (t : FVec Ideal S4x256 .f32) (x : Fin 256) : vHeads t (ix2 r x) = t (ix2 (hd r) x) := by
  pointwise [vHeads, vHead]
  have := r.isLt
  split_ifs <;> congr 2 <;> apply Fin.ext <;> simp <;> omega

theorem vPV_at (e : FVec Ideal S64x256 .f32) (sc : Vec Ideal S1x4x256 .f32) (v : Vec Ideal S1x256x256 .fp8e4m3) (y : Fin 256) :
    vPV e sc v (ix2 r y) = ∑ x : Fin 256, (e (ix2 r x) * sc (ix3 (0 : Fin 1) (hd r) x)) * v (ix3 (0 : Fin 1) y x) := by
  pointwise [vPV]
  refine Finset.sum_congr rfl fun x _ => ?_
  rw [vHeads_at]
  pointwise

theorem negInf : Ideal.ofBits .f32 0xFF800000#32 = (⊥ : EReal) := by
  simp [Ideal.ofBits, Ideal.ieee]

/-! ## The chunks, row by row -/

section Chunks

variable (XK XV : Vec Ideal S256x131072 .fp8e4m3) (XVs : Vec Ideal S4x131072 .f32) (Qv : Vec Ideal S64x256 .bf16)
  (M0 L0 : FVec Ideal S64x128 .f32) (A0 : FVec Ideal S64x256 .f32)

abbrev col (p : ℕ) : Fin 131072 := ⟨p % 131072, Nat.mod_lt _ (by norm_num)⟩
/-- The score of position `p` in row `r`. -/
def sK (p : ℕ) : EReal := ∑ j : Fin 256, Qv (ix2 r j) * XK (ix2 j (col p))
/-- What position `p` brings to column `y`. -/
def wK (y : Fin 256) (p : ℕ) : EReal := XVs (ix2 (hd r) (col p)) * XV (ix2 y (col p))

theorem sc_at (n t : ℕ) (x : Fin 256) : sc XK Qv n t (ix2 r x) = sK r XK Qv (4096 * n + 256 * t + x.val) := vScore_at r _ _ x

theorem foldMax_le (n t : ℕ) (x : Fin 128) (z : EReal) : vFoldMax (sc XK Qv n t) (ix2 r x) ≤ z ↔
    sK r XK Qv (4096 * n + 256 * t + x.val) ≤ z ∧ sK r XK Qv (4096 * n + 256 * t + (128 + x.val)) ≤ z := by
  rw [vFoldMax_at, max_le_iff, sc_at, sc_at]

theorem cmFold_le (n : ℕ) (x : Fin 128) (z : EReal) : ∀ (k t : ℕ) (cm : FVec Ideal S64x128 .f32), cmFold XK Qv n k t cm (ix2 r x) ≤ z ↔
    cm (ix2 r x) ≤ z ∧ ∀ u < k, sK r XK Qv (4096 * n + 256 * (t + u) + x.val) ≤ z ∧ sK r XK Qv (4096 * n + 256 * (t + u) + (128 + x.val)) ≤ z := by
  intro k
  induction k with
  | zero => intro t cm; simp [cmFold]
  | succ k ih =>
    intro t cm
    rw [cmFold, ih]
    show max (cm (ix2 r x)) (vFoldMax (sc XK Qv n t) (ix2 r x)) ≤ z ∧ _ ↔ _
    rw [max_le_iff, foldMax_le, and_assoc]
    refine and_congr_right fun _ => ⟨fun h u hu => ?_, fun h => ⟨h 0 (Nat.succ_pos k), fun u hu => ?_⟩⟩
    · cases u with
      | zero => exact h.1
      | succ u => have := h.2 u (by omega); rwa [show t + 1 + u = t + (u + 1) by omega] at this
    · have := h (u + 1) (by omega); rwa [show t + (u + 1) = t + 1 + u by omega] at this

theorem CM_le (n : ℕ) (x : Fin 128) (z : EReal) : CM XK Qv n (ix2 r x) ≤ z ↔
    ∀ t < 16, sK r XK Qv (4096 * n + 256 * t + x.val) ≤ z ∧ sK r XK Qv (4096 * n + 256 * t + (128 + x.val)) ≤ z := by
  rw [CM, cmFold_le, foldMax_le]
  refine ⟨fun h t ht => ?_, fun h => ⟨h 0 (by norm_num), fun u hu => h (1 + u) (by omega)⟩⟩
  cases t with
  | zero => exact h.1
  | succ t => have := h.2 t (by omega); rwa [show 1 + t = t + 1 by omega] at this

theorem rowMax_le (n : ℕ) (x : Fin 128) (z : EReal) : vRowMax (CM XK Qv n) (ix2 r x) ≤ z ↔
    ∀ y < 4096, sK r XK Qv (4096 * n + y) ≤ z := by
  rw [vRowMax_at, negInf, Finset.fold_max_le]
  refine ⟨fun h y hy => ?_, fun h => ⟨bot_le, fun x _ => (CM_le r XK Qv n x z).mpr fun t ht =>
    ⟨by rw [add_assoc]; exact h _ (by omega), by rw [add_assoc]; exact h _ (by omega)⟩⟩⟩
  have hx := (CM_le r XK Qv n ⟨y % 256 % 128, by omega⟩ z).mp (h.2 _ (Finset.mem_univ _)) (y / 256) (by omega)
  by_cases hy' : y % 256 < 128
  · have e : 4096 * n + y = 4096 * n + 256 * (y / 256) + y % 256 % 128 := by omega
    rw [e]; exact hx.1
  · have e : 4096 * n + y = 4096 * n + 256 * (y / 256) + (128 + y % 256 % 128) := by omega
    rw [e]; exact hx.2

/-- The maximum of row `r` before chunk `i`. -/
def mrow (i : ℕ) : EReal := Mv XK Qv M0 i (ix2 r (0 : Fin 128))

theorem Mv_succ (i : ℕ) (x : Fin 128) : Mv XK Qv M0 (i + 1) (ix2 r x) = max (Mv XK Qv M0 i (ix2 r x)) (vRowMax (CM XK Qv i) (ix2 r x)) := rfl

theorem Mv_at (hM : ∀ x : Fin 128, M0 (ix2 r x) = M0 (ix2 r (0 : Fin 128))) (i : ℕ) (x : Fin 128) : Mv XK Qv M0 i (ix2 r x) = mrow r XK Qv M0 i := by
  induction i with
  | zero => exact hM x
  | succ i ih =>
    refine eq_of_forall_ge_iff fun z => ?_
    rw [Mv_succ, mrow, Mv_succ, max_le_iff, max_le_iff, rowMax_le, rowMax_le, ih, mrow]

theorem mrow_le (i : ℕ) (z : EReal) : mrow r XK Qv M0 (i + 1) ≤ z ↔ mrow r XK Qv M0 i ≤ z ∧ ∀ y < 4096, sK r XK Qv (4096 * i + y) ≤ z := by
  rw [mrow, Mv_succ, max_le_iff, rowMax_le]; rfl

theorem mrow_le_all (i : ℕ) (z : EReal) : mrow r XK Qv M0 i ≤ z ↔ M0 (ix2 r (0 : Fin 128)) ≤ z ∧ ∀ p < 4096 * i, sK r XK Qv p ≤ z := by
  induction i with
  | zero => simp [mrow, Mv]
  | succ i ih =>
    rw [mrow_le, ih, and_assoc]
    refine and_congr_right fun _ => ⟨fun h p hp => ?_, fun h => ⟨fun p hp => h p (by omega), fun y hy => h _ (by omega)⟩⟩
    by_cases hp' : p < 4096 * i
    · exact h.1 p hp'
    · have := h.2 (p - 4096 * i) (by omega); rwa [Nat.add_sub_cancel' (by omega)] at this

theorem wFold_l (mw : FVec Ideal S64x256 .f32) (n : ℕ) (x : Fin 128) : ∀ (k t : ℕ) (l : FVec Ideal S64x128 .f32) (o0 o1 : FVec Ideal S64x256 .f32),
    (wFold XK XV XVs Qv mw n k t l o0 o1).1 (ix2 r x) = l (ix2 r x) + ∑ u ∈ Finset.range (2 * k), tl XK Qv mw n (t + u) (ix2 r x) := by
  intro k
  induction k with
  | zero => intro t l o0 o1; simp [wFold]
  | succ k ih =>
    intro t l o0 o1
    rw [wFold, ih, show 2 * (k + 1) = 2 + 2 * k by omega, Finset.sum_range_add, Finset.sum_range_succ, Finset.sum_range_one]
    show (l (ix2 r x) + tl XK Qv mw n t (ix2 r x)) + tl XK Qv mw n (t + 1) (ix2 r x) + _ = _
    simp only [add_assoc, Nat.add_zero]

theorem wFold_o (mw : FVec Ideal S64x256 .f32) (n : ℕ) (y : Fin 256) : ∀ (k t : ℕ) (l : FVec Ideal S64x128 .f32) (o0 o1 : FVec Ideal S64x256 .f32),
    (wFold XK XV XVs Qv mw n k t l o0 o1).2.1 (ix2 r y) + (wFold XK XV XVs Qv mw n k t l o0 o1).2.2 (ix2 r y)
      = (o0 (ix2 r y) + o1 (ix2 r y) : EReal) + ∑ u ∈ Finset.range (2 * k), tO XK XV XVs Qv mw n (t + u) (ix2 r y) := by
  intro k
  induction k with
  | zero => intro t l o0 o1; simp [wFold]
  | succ k ih =>
    intro t l o0 o1
    rw [wFold, ih, show 2 * (k + 1) = 2 + 2 * k by omega, Finset.sum_range_add, Finset.sum_range_succ, Finset.sum_range_one]
    show ((o0 (ix2 r y) + tO XK XV XVs Qv mw n t (ix2 r y)) + (o1 (ix2 r y) + tO XK XV XVs Qv mw n (t + 1) (ix2 r y)) : EReal) + _ = _
    simp only [add_assoc, Nat.add_zero]
    rw [add_left_comm (tO XK XV XVs Qv mw n t (ix2 r y) : EReal)]

theorem sum16 (f : ℕ → EReal) : ∑ t ∈ Finset.range 16, f t = f 0 + f 1 + ∑ u ∈ Finset.range (2 * 7), f (2 + u) := by
  rw [show 16 = 2 + 2 * 7 by rfl, Finset.sum_range_add]
  congr 1
  rw [Finset.sum_range_succ, Finset.sum_range_one]

theorem wStep_l (n : ℕ) (m al l : FVec Ideal S64x128 .f32) (acc : FVec Ideal S64x256 .f32) (x : Fin 128) :
    (wStep XK XV XVs Qv n m al l acc).1 (ix2 r x) = (l (ix2 r x) * al (ix2 r x) : EReal) + ∑ t ∈ Finset.range 16, tl XK Qv (vWide m) n t (ix2 r x) := by
  rw [wStep]
  refine (wFold_l r XK XV XVs Qv (vWide m) n x 7 2 (addf (addf (mulf l al) (tl XK Qv (vWide m) n 0)) (tl XK Qv (vWide m) n 1))
    (tO XK XV XVs Qv (vWide m) n 0) (tO XK XV XVs Qv (vWide m) n 1)).trans ?_
  rw [sum16]
  show ((l (ix2 r x) * al (ix2 r x) : EReal) + tl XK Qv (vWide m) n 0 (ix2 r x)) + tl XK Qv (vWide m) n 1 (ix2 r x) + _ = _
  simp only [add_assoc]

theorem wStep_o (n : ℕ) (m al l : FVec Ideal S64x128 .f32) (acc : FVec Ideal S64x256 .f32) (y : Fin 256) :
    (wStep XK XV XVs Qv n m al l acc).2 (ix2 r y) = (acc (ix2 r y) * vWide al (ix2 r y) : EReal) + ∑ t ∈ Finset.range 16, tO XK XV XVs Qv (vWide m) n t (ix2 r y) := by
  rw [wStep]
  refine (congrArg (acc (ix2 r y) * vWide al (ix2 r y) + · : EReal → EReal) (wFold_o r XK XV XVs Qv (vWide m) n y 7 2 _ _ _)).trans ?_
  rw [sum16]

theorem tl_sum (m : FVec Ideal S64x128 .f32) (M : EReal) (hm : ∀ x : Fin 128, m (ix2 r x) = M) (n t : ℕ) :
    ∑ x : Fin 128, tl XK Qv (vWide m) n t (ix2 r x) = ∑ x ∈ Finset.range 256, ee (sK r XK Qv (4096 * n + 256 * t + x)) M := by
  rw [show 256 = 128 + 128 by rfl, Finset.sum_range_add, Finset.sum_range, Finset.sum_range, ← Finset.sum_add_distrib]
  refine Finset.sum_congr rfl fun x _ => ?_
  rw [tl, vFoldAdd_at, vE_at, vE_at, vWide_at, vWide_at, hm, hm, sc_at, sc_at]

theorem tO_at (m : FVec Ideal S64x128 .f32) (M : EReal) (hm : ∀ x : Fin 128, m (ix2 r x) = M) (n t : ℕ) (y : Fin 256) :
    tO XK XV XVs Qv (vWide m) n t (ix2 r y)
      = ∑ x ∈ Finset.range 256, ee (sK r XK Qv (4096 * n + 256 * t + x)) M * wK r XV XVs y (4096 * n + 256 * t + x) := by
  rw [tO, vPV_at, Finset.sum_range]
  refine Finset.sum_congr rfl fun x _ => ?_
  rw [vE_at, vWide_at, hm, sc_at, mul_assoc]
  rfl

theorem tiles (n : ℕ) (f : ℕ → EReal) : ∑ t ∈ Finset.range 16, ∑ x ∈ Finset.range 256, f (4096 * n + 256 * t + x) = ∑ x ∈ Finset.range 4096, f (4096 * n + x) := by
  rw [show 4096 = 256 * 16 by rfl, sum_tiles 256 (fun x => f (256 * 16 * n + x)) 16]
  simp only [add_assoc]

/-- After all chunks: the row's sum of weights, and the row's weighted values. -/
theorem LA_row (T : ℕ → EReal) (w : EReal) (WT : Fin 256 → ℕ → EReal) (WN : Fin 256 → EReal)
    (hM : ∀ x : Fin 128, M0 (ix2 r x) = M0 (ix2 r (0 : Fin 128)))
    (hz : ∀ z : EReal, M0 (ix2 r (0 : Fin 128)) ≤ z ↔ (∀ t < 1024, T t ≤ z) ∧ w ≤ z)
    (hL : ∑ x : Fin 128, L0 (ix2 r x) = Row.base ⟨sK r XK Qv, T, w⟩ 1 1 (M0 (ix2 r (0 : Fin 128))))
    (hA : ∀ y : Fin 256, A0 (ix2 r y) = Row.base ⟨sK r XK Qv, T, w⟩ (WT y) (WN y) (M0 (ix2 r (0 : Fin 128)))) :
    (∑ x : Fin 128, (LA XK XV XVs Qv M0 L0 A0 32).1 (ix2 r x)) = Row.tot ⟨sK r XK Qv, T, w⟩ 1 1 1 (Row.mx ⟨sK r XK Qv, T, w⟩)
    ∧ ∀ y : Fin 256, (LA XK XV XVs Qv M0 L0 A0 32).2 (ix2 r y)
        = Row.tot ⟨sK r XK Qv, T, w⟩ (wK r XV XVs y) (WT y) (WN y) (Row.mx ⟨sK r XK Qv, T, w⟩) := by
  have hMx : mrow r XK Qv M0 32 = Row.mx ⟨sK r XK Qv, T, w⟩ := Row.eq_mx _ fun z => by
    rw [mrow_le_all, hz, and_comm]
  have hT : ∀ t < 1024, T t ≤ mrow r XK Qv M0 0 := ((hz _).mp le_rfl).1
  have hw : w ≤ mrow r XK Qv M0 0 := ((hz _).mp le_rfl).2
  have hm : ∀ i, mrow r XK Qv M0 i ≤ mrow r XK Qv M0 (i + 1) := fun i => ((mrow_le r XK Qv M0 i _).mp le_rfl).1
  have hS : ∀ i, ∀ x < 4096, sK r XK Qv (4096 * i + x) ≤ mrow r XK Qv M0 (i + 1) := fun i => ((mrow_le r XK Qv M0 i _).mp le_rfl).2
  have hMv := Mv_at r XK Qv M0 hM
  have hal : ∀ i (x : Fin 128), vAl (Mv XK Qv M0 i) (Mv XK Qv M0 (i + 1)) (ix2 r x) = ee (mrow r XK Qv M0 i) (mrow r XK Qv M0 (i + 1)) := fun i x => by
    rw [vAl_at, hMv, hMv]
  constructor
  · have h := Row.online ⟨sK r XK Qv, T, w⟩ 1 1 1 (mrow r XK Qv M0) (fun i => ∑ x : Fin 128, (LA XK XV XVs Qv M0 L0 A0 i).1 (ix2 r x)) hT hw hm hS hL
      (fun i => by
        simp only [LA, wStep_l, hal, Pi.one_apply, mul_one]
        rw [Finset.sum_add_distrib, ← sum_mul_fin _ _ ee_nonneg (ee_ne_top (hm i)), Finset.sum_comm]
        congr 1
        rw [Finset.sum_congr rfl fun t _ => tl_sum r XK Qv _ _ (hMv (i + 1)) i t]
        exact tiles i fun p => ee (sK r XK Qv p) (mrow r XK Qv M0 (i + 1))) 32
    rw [hMx] at h
    exact h
  · intro y
    have h := Row.online ⟨sK r XK Qv, T, w⟩ (wK r XV XVs y) (WT y) (WN y) (mrow r XK Qv M0) (fun i => (LA XK XV XVs Qv M0 L0 A0 i).2 (ix2 r y)) hT hw hm hS (hA y)
      (fun i => by
        simp only [LA]
        rw [wStep_o, vWide_at, hal, Finset.sum_congr rfl fun t _ => tO_at r XK XV XVs Qv _ _ (hMv (i + 1)) i t y]
        congr 1
        exact tiles i fun p => ee (sK r XK Qv p) (mrow r XK Qv M0 (i + 1)) * wK r XV XVs y p) 32
    rw [hMx] at h
    exact h

end Chunks

end Cert.KernelIdeal.Steps
-- ==== Proof.KernelIdeal.ValueB.lean ====
module

public import proofs.«01_k».proof.Proof.KernelIdeal.ValueA

@[expose] public section

noncomputable section

namespace Cert.KernelIdeal.Steps

open Facts₀ Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec Gen

theorem pMask_at (r : Fin 64) (y : Fin 256) : pMask (ix2 r y) = BitVec.ofBool (decide (r.val / 8 % 4 = y.val / 64)) := by
  pointwise [pMask, pMaskArgs, k0_pay217, k0_pay214, k0_pay211, k0_pay212, k0_pay213, k0_pay215, k0_pay216]
  revert r y
  decide +kernel

theorem p218_at (x : Vec Ideal S64x64 .bf16) (r : Fin 64) (y : Fin 256) : k0_pay218 x (ix2 r y) = x (ix2 r ⟨y.val % 64, by omega⟩) := by
  pointwise [k0_pay218]
  split_ifs <;> congr 2 <;> apply Fin.ext <;> simp <;> omega

theorem pick4 {α : Type} (pks : Fin 4 → Fin 64 → α) (y : Fin 256) :
    (if h : y.val < 64 then pks 0 ⟨y.val, h⟩ else if h1 : y.val - 64 < 64 then pks 1 ⟨y.val - 64, h1⟩ else
      if h2 : y.val - 64 - 64 < 64 then pks 2 ⟨y.val - 64 - 64, h2⟩ else pks 3 ⟨y.val - 64 - 64 - 64, by omega⟩) = pks ⟨y.val / 64, by omega⟩ ⟨y.val % 64, by omega⟩ := by
  split_ifs <;> congr 1 <;> apply Fin.ext <;> simp <;> omega

theorem pQ_at (x : Vec Ideal S64x64 .bf16) (pks : Vec Ideal S4x64 .f32) (r : Fin 64) (y : Fin 256) :
    pQ x pks (ix2 r y) = if r.val / 8 % 4 = y.val / 64 then x (ix2 r ⟨y.val % 64, by omega⟩) * pks (ix2 ⟨y.val / 64, by omega⟩ ⟨y.val % 64, by omega⟩) else 0 := by
  have e : pQ x pks (ix2 r y) = Scalar.select (pMask (ix2 r y)) (k0_pay218 x (ix2 r y) * pks (ix2 ⟨y.val / 64, by omega⟩ ⟨y.val % 64, by omega⟩)) 0 := by
    rw [← pick4 (fun a b => pks (ix2 a b))]
    unfold pMask
    pointwise [pQ, pMaskArgs, k0_pay220]
  rw [e, pMask_at, p218_at]
  by_cases h : r.val / 8 % 4 = y.val / 64 <;> simp [h, Scalar.select]

theorem pQf_at (I : ProIn Ideal) (r : Fin 64) (y : Fin 256) :
    pQf I (ix2 r y) = if r.val / 8 % 4 = y.val / 64 then I.x (ix2 r ⟨y.val % 64, by omega⟩) else 0 := by
  have e : pQf I (ix2 r y) = Scalar.select (pMask (ix2 r y)) (k0_pay218 I.x (ix2 r y)) 0 := by
    unfold pMask
    pointwise [pQf, pMaskArgs, k0_pay219]
  rw [e, pMask_at, p218_at]
  by_cases h : r.val / 8 % 4 = y.val / 64 <;> simp [h, Scalar.select]

/-- A sum over the four blocks which only one block enters. -/
theorem sum_block (n : Fin 4) (f : Fin 256 → EReal) :
    (∑ k : Fin 256, if n.val = k.val / 64 then f k else 0) = ∑ d : Fin 64, f ⟨n.val * 64 + d.val, by omega⟩ := by
  rw [← Finset.sum_filter]
  symm
  refine Finset.sum_bij (fun d _ => ⟨n.val * 64 + d.val, by omega⟩) ?_ ?_ ?_ ?_
  · intro d _
    simp
    omega
  · intro a _ b _ h
    simp at h
    exact Fin.ext h
  · intro k hk
    simp at hk
    exact ⟨⟨k.val % 64, by omega⟩, Finset.mem_univ _, Fin.ext (by simp; omega)⟩
  · intro d _
    rfl

/-- A row of the query against a column of 256, which sees its own head. -/
theorem sum_q (I : ProIn Ideal) (r : Fin 64) (f : Fin 256 → EReal) :
    (∑ k : Fin 256, pQf I (ix2 r k) * f k) = ∑ d : Fin 64, I.x (ix2 r d) * f ⟨(hd r).val * 64 + d.val, by have := (hd r).isLt; omega⟩ := by
  have e := sum_block (hd r) (fun k => I.x (ix2 r ⟨k.val % 64, by omega⟩) * f k)
  refine Eq.trans (Finset.sum_congr rfl fun k _ => ?_) (e.trans (Finset.sum_congr rfl fun d _ => ?_))
  · rw [pQf_at]
    show (if r.val / 8 % 4 = k.val / 64 then _ else 0) * f k = _
    simp only [hd]
    split_ifs <;> simp
  · congr 3
    apply Fin.ext
    simp <;> omega

theorem p221_at (I : ProIn Ideal) (r : Fin 64) (x : Fin 128) : p221 I (ix2 r x) =
   ∑ d : Fin 64, I.x (ix2 r d) * (if r.val < 32 then I.kn0 (ix3 0 (hd r) d) else I.kn1 (ix3 0 (hd r) d)) := by
  have e : p221 I (ix2 r x) = ∑ k : Fin 256, pQf I (ix2 r k) * (if r.val < 32 then I.kn0 (ix3 0 ⟨k.val / 64, by omega⟩ ⟨k.val % 64, by omega⟩) else I.kn1 (ix3 0 ⟨k.val / 64, by omega⟩ ⟨k.val % 64, by omega⟩)) := by
    simp only [← pick4 (fun a b => I.kn0 (ix3 0 a b)), ← pick4 (fun a b => I.kn1 (ix3 0 a b))]
    pointwise [p221, k0_pay222, k0_pay221]
    refine Finset.sum_congr rfl fun k _ => ?_
    split_ifs <;> rfl
  rw [e, sum_q]
  refine Finset.sum_congr rfl fun d _ => ?_
  have h1 : (⟨((hd r).val * 64 + d.val) / 64, by have := (hd r).isLt; omega⟩ : Fin 4) = hd r := Fin.ext (by simp; omega)
  have h2 : (⟨((hd r).val * 64 + d.val) % 64, by omega⟩ : Fin 64) = d := Fin.ext (by simp <;> omega)
  simp only [h1, h2]

theorem pickR {α : Type} (f : Fin 4 → α) (r : Fin 32) :
    (if h : r.val < 8 then f 0 else if h1 : r.val - 8 < 8 then f 1 else
      if h2 : r.val - 8 - 8 < 8 then f 2 else f 3) = f ⟨r.val / 8, by omega⟩ := by
  split_ifs <;> congr 1 <;> apply Fin.ext <;> simp <;> omega

theorem wide2 {α : Type} (f : Fin 128 → α) (y : Fin 256) :
    (if h : y.val < 128 then f ⟨y.val, h⟩ else f ⟨y.val - 128, by omega⟩) = f ⟨y.val % 128, by omega⟩ := by
  split_ifs <;> congr 1 <;> apply Fin.ext <;> simp <;> omega

theorem p248_at (I : ProIn Ideal) (r : Fin 32) (x : Fin 1024) : p248 I (ix2 r x) =
    Scalar.select (IntOp.cmpi .slt (BitVec.ofNat 32 x.val) I.len0)
      ((∑ k : Fin 256, pQf I (ix2 ⟨r.val, by omega⟩ k) * I.tk0 (ix3 0 k x)) * I.tks0 (ix3 0 ⟨r.val / 8, by omega⟩ x)) (Ideal.ofBits .f32 0xFF800000#32) := by
  rw [← pickR (fun a => I.tks0 (ix3 0 a x))]
  pointwise [p248, k0_pay224, k0_pay223]

theorem p274_at (I : ProIn Ideal) (r : Fin 32) (x : Fin 1024) : p274 I (ix2 r x) =
    Scalar.select (IntOp.cmpi .slt (BitVec.ofNat 32 x.val) I.len1)
      ((∑ k : Fin 256, pQf I (ix2 ⟨32 + r.val, by omega⟩ k) * I.tk1 (ix3 0 k x)) * I.tks1 (ix3 0 ⟨r.val / 8, by omega⟩ x)) (Ideal.ofBits .f32 0xFF800000#32) := by
  rw [← pickR (fun a => I.tks1 (ix3 0 a x))]
  pointwise [p274, k0_pay227, k0_pay225, k0_pay226, k0_pay223]

theorem lanes_all (P : Fin 1024 → Prop) : (∀ x : Fin 128, ((((((P ⟨x.val, by omega⟩ ∧ P ⟨128 + x.val, by omega⟩) ∧ P ⟨256 + x.val, by omega⟩) ∧ P ⟨384 + x.val, by omega⟩) ∧
    P ⟨512 + x.val, by omega⟩) ∧ P ⟨640 + x.val, by omega⟩) ∧ P ⟨768 + x.val, by omega⟩) ∧ P ⟨896 + x.val, by omega⟩) ↔ ∀ t, P t := by
  refine ⟨fun h t => ?_, fun h x => ⟨⟨⟨⟨⟨⟨⟨h _, h _⟩, h _⟩, h _⟩, h _⟩, h _⟩, h _⟩, h _⟩⟩
  obtain ⟨⟨⟨⟨⟨⟨⟨h0, h1⟩, h2⟩, h3⟩, h4⟩, h5⟩, h6⟩, h7⟩ := h ⟨t.val % 128, by omega⟩
  have hk : t.val / 128 = 0 ∨ t.val / 128 = 1 ∨ t.val / 128 = 2 ∨ t.val / 128 = 3 ∨ t.val / 128 = 4 ∨ t.val / 128 = 5 ∨ t.val / 128 = 6 ∨ t.val / 128 = 7 := by omega
  rcases hk with hk | hk | hk | hk | hk | hk | hk | hk
  · convert h0 using 1; apply Fin.ext; simp; omega
  · convert h1 using 1; apply Fin.ext; simp; omega
  · convert h2 using 1; apply Fin.ext; simp; omega
  · convert h3 using 1; apply Fin.ext; simp; omega
  · convert h4 using 1; apply Fin.ext; simp; omega
  · convert h5 using 1; apply Fin.ext; simp; omega
  · convert h6 using 1; apply Fin.ext; simp; omega
  · convert h7 using 1; apply Fin.ext; simp; omega

theorem sum8 (g : ℕ → EReal) : ∑ k ∈ Finset.range 8, g k = g 0 + g 1 + g 2 + g 3 + g 4 + g 5 + g 6 + g 7 := by
  simp [Finset.sum_range_succ]

theorem lanes_sum (f : ℕ → EReal) : (∑ x : Fin 128, (f x.val + f (128 + x.val) + f (256 + x.val) + f (384 + x.val) + f (512 + x.val) + f (640 + x.val) + f (768 + x.val) + f (896 + x.val)))
    = ∑ t ∈ Finset.range 1024, f t := by
  have e := sum_tiles 128 f 8
  rw [sum8] at e
  rw [show 1024 = 128 * 8 by rfl, e]
  simp only [Finset.sum_range, Finset.sum_add_distrib, Nat.mul_zero, Nat.zero_add, Nat.mul_one]

theorem p228_le (v : FVec Ideal S32x1024 .f32) (r : Fin 32) (x : Fin 128) (z : EReal) : k0_pay228 v (ix2 r x) ≤ z ↔ ∀ t : Fin 1024, v (ix2 r t) ≤ z := by
  rw [← lanes_all (fun t => v (ix2 r t) ≤ z)]
  pointwise [k0_pay228]
  simp only [Finset.fold_max_le, negInf, max_le_iff, bot_le, _root_.true_and, Finset.mem_univ, true_implies]

theorem pM_eq (I : ProIn Ideal) : pM I = k0_pay230 (p221 I) (p274 I) (k0_pay228 (p248 I)) (p304 I) := rfl

theorem pM_lo (I : ProIn Ideal) (r : Fin 32) (x : Fin 128) : pM I (ix2 ⟨r.val, by omega⟩ x) = max (k0_pay228 (p248 I) (ix2 r x)) (p221 I (ix2 ⟨r.val, by omega⟩ x)) := by
  generalize e : k0_pay228 (p248 I) = w
  have hr : r.val < 32 := r.isLt
  simp only [pM, e]
  pointwise [k0_pay230]

theorem pM_hi (I : ProIn Ideal) (r : Fin 32) (x : Fin 128) (z : EReal) :
    pM I (ix2 ⟨32 + r.val, by omega⟩ x) ≤ z ↔ (∀ t : Fin 1024, p274 I (ix2 r t) ≤ z) ∧ p221 I (ix2 ⟨32 + r.val, by omega⟩ x) ≤ z := by
  have hp : p304 I = k0_pay229 (k0_pay225 (pQf I)) (k0_pay226 I.tk1) I.tks1 I.len1 := rfl
  rw [← lanes_all (fun t => p274 I (ix2 r t) ≤ z)]
  generalize e : k0_pay228 (p248 I) = w
  simp only [pM, e]
  have h4 : ∀ k : Fin 128, p304 I (ix2 r k) = max (max (max (max (max (p274 I (ix2 r ⟨k.val, by omega⟩)) (p274 I (ix2 r ⟨128 + k.val, by omega⟩))) (p274 I (ix2 r ⟨256 + k.val, by omega⟩))) (p274 I (ix2 r ⟨384 + k.val, by omega⟩)))
    (p274 I (ix2 r ⟨512 + k.val, by omega⟩))) (p274 I (ix2 r ⟨640 + k.val, by omega⟩)) := fun k => by
    rw [hp, p274]
    generalize k0_pay225 (pQf I) = a
    generalize k0_pay226 I.tk1 = b
    rw [k0_pay229]
    generalize k0_pay227 a b I.tks1 I.len1 = cc
    pointwise
  have h5 : k0_pay230 (p221 I) (p274 I) w (p304 I) (ix2 ⟨32 + r.val, by omega⟩ x) =
      max ((Finset.univ : Finset (Fin 128)).fold max (Ideal.ofBits .f32 0xFF800000#32) fun k => max (max (p304 I (ix2 r k)) (p274 I (ix2 r ⟨768 + k.val, by omega⟩))) (p274 I (ix2 r ⟨896 + k.val, by omega⟩)))
        (p221 I (ix2 ⟨32 + r.val, by omega⟩ x)) := by
    generalize p304 I = d
    generalize p274 I = b
    pointwise [k0_pay230]
  rw [h5]
  simp only [h4, Finset.fold_max_le, negInf, max_le_iff, bot_le, _root_.true_and, Finset.mem_univ, true_implies]

theorem p323_at (I : ProIn Ideal) (r : Fin 64) (x : Fin 128) : p323 I (ix2 r x) = if x.val = 0 then ee (p221 I (ix2 r x)) (pM I (ix2 r x)) else 0 := by
  have e : p323 I (ix2 r x) = Scalar.select (IntOp.cmpi .eq (BitVec.ofNat 32 x.val) 0#32) (FloatOps.exp2 (F := Ideal) (φ := .f32) ((p221 I (ix2 r x) - pM I (ix2 r x)) * expScale)) 0 := by
    rw [p323, pM_eq]
    generalize k0_pay228 (p248 I) = w
    pointwise [k0_pay232, k0_pay231, expScale]
  have e2 : (FloatOps.exp2 (F := Ideal) (φ := .f32) ((p221 I (ix2 r x) - pM I (ix2 r x)) * expScale)) = ee (p221 I (ix2 r x)) (pM I (ix2 r x)) := by
    rw [← exp2_eq, ← expScale_val]; rfl
  rw [e, e2]
  have h : ∀ x : Fin 128, IntOp.cmpi .eq (BitVec.ofNat 32 x.val) 0#32 = BitVec.ofBool (decide (x.val = 0)) := by
    decide +kernel
  rw [h]
  by_cases h : x.val = 0 <;> simp [h, Scalar.select]

theorem p348_at (I : ProIn Ideal) (r : Fin 64) (y : Fin 256) : p348 I (ix2 r y) =
    ee (p221 I (ix2 r ⟨y.val % 128, by omega⟩)) (pM I (ix2 r ⟨y.val % 128, by omega⟩)) *
      (if r.val < 32 then I.vn0 (ix3 0 ⟨y.val / 64, by omega⟩ ⟨y.val % 64, by omega⟩) else I.vn1 (ix3 0 ⟨y.val / 64, by omega⟩ ⟨y.val % 64, by omega⟩)) := by
  simp only [← pick4 (fun a b => I.vn0 (ix3 0 a b)), ← pick4 (fun a b => I.vn1 (ix3 0 a b))]
  have e2 : ∀ x, ee (p221 I (ix2 r x)) (pM I (ix2 r x)) = k0_pay231 (p221 I) (p274 I) (k0_pay228 (p248 I)) (p304 I) (ix2 r x) := fun x => by
    rw [← exp2_eq, ← expScale_val]; rfl
  rw [e2, ← wide2 (fun x => k0_pay231 (p221 I) (p274 I) (k0_pay228 (p248 I)) (p304 I) (ix2 r x))]
  rw [p348]
  generalize k0_pay228 (p248 I) = w
  pointwise [k0_pay233]
  split_ifs <;> rfl

theorem p352_at (I : ProIn Ideal) (r : Fin 32) (x : Fin 1024) : p352 I (ix2 r x) = p248 I (ix2 r x) - pM I (ix2 ⟨r.val, by omega⟩ 0) := by
  rw [p352, pM_eq]
  generalize k0_pay228 (p248 I) = w
  pointwise [k0_pay234]

theorem k239_at (I : ProIn Ideal) (r : Fin 32) (x : Fin 1024) : k0_pay239 (p274 I) (pM I) (ix2 r x) = ee (p274 I (ix2 r x)) (pM I (ix2 ⟨32 + r.val, by omega⟩ 0)) := by
  rw [← exp2_eq, ← expScale_val]
  pointwise [k0_pay239]
  rfl
theorem k236_at (I : ProIn Ideal) (r : Fin 32) (x : Fin 1024) : k0_pay236 (p352 I) k0_pay235 (ix2 r x) = ee (p248 I (ix2 r x)) (pM I (ix2 ⟨r.val, by omega⟩ 0)) := by
  rw [← exp2_eq, ← expScale_val, ← p352_at]
  rfl

theorem pL0_at (I : ProIn Ideal) (r : Fin 32) (x : Fin 128) : pL0 I (ix2 r x) = p323 I (ix2 ⟨r.val, by omega⟩ x) +
   (ee (p248 I (ix2 r ⟨x.val, by omega⟩)) (pM I (ix2 ⟨r.val, by omega⟩ 0)) + ee (p248 I (ix2 r ⟨128 + x.val, by omega⟩)) (pM I (ix2 ⟨r.val, by omega⟩ 0))
   + ee (p248 I (ix2 r ⟨256 + x.val, by omega⟩)) (pM I (ix2 ⟨r.val, by omega⟩ 0)) + ee (p248 I (ix2 r ⟨384 + x.val, by omega⟩)) (pM I (ix2 ⟨r.val, by omega⟩ 0))
   + ee (p248 I (ix2 r ⟨512 + x.val, by omega⟩)) (pM I (ix2 ⟨r.val, by omega⟩ 0)) + ee (p248 I (ix2 r ⟨640 + x.val, by omega⟩)) (pM I (ix2 ⟨r.val, by omega⟩ 0))
   + ee (p248 I (ix2 r ⟨768 + x.val, by omega⟩)) (pM I (ix2 ⟨r.val, by omega⟩ 0)) + ee (p248 I (ix2 r ⟨896 + x.val, by omega⟩)) (pM I (ix2 ⟨r.val, by omega⟩ 0))) := by
  simp only [← k236_at]
  rw [pL0, k0_pay237]
  generalize k0_pay236 (p352 I) k0_pay235 = w
  pointwise

theorem pL1_at (I : ProIn Ideal) (r : Fin 32) (x : Fin 128) : pL1 I (ix2 r x) = p323 I (ix2 ⟨32 + r.val, by omega⟩ x) +
   (ee (p274 I (ix2 r ⟨x.val, by omega⟩)) (pM I (ix2 ⟨32 + r.val, by omega⟩ 0)) + ee (p274 I (ix2 r ⟨128 + x.val, by omega⟩)) (pM I (ix2 ⟨32 + r.val, by omega⟩ 0))
   + ee (p274 I (ix2 r ⟨256 + x.val, by omega⟩)) (pM I (ix2 ⟨32 + r.val, by omega⟩ 0)) + ee (p274 I (ix2 r ⟨384 + x.val, by omega⟩)) (pM I (ix2 ⟨32 + r.val, by omega⟩ 0))
   + ee (p274 I (ix2 r ⟨512 + x.val, by omega⟩)) (pM I (ix2 ⟨32 + r.val, by omega⟩ 0)) + ee (p274 I (ix2 r ⟨640 + x.val, by omega⟩)) (pM I (ix2 ⟨32 + r.val, by omega⟩ 0))
   + ee (p274 I (ix2 r ⟨768 + x.val, by omega⟩)) (pM I (ix2 ⟨32 + r.val, by omega⟩ 0)) + ee (p274 I (ix2 r ⟨896 + x.val, by omega⟩)) (pM I (ix2 ⟨32 + r.val, by omega⟩ 0))) := by
  simp only [← k239_at]
  rw [pL1, k0_pay240]
  generalize k0_pay239 (p274 I) (pM I) = w
  pointwise

theorem pA0_at (I : ProIn Ideal) (a b) (r : Fin 32) (y : Fin 256) : pA0 I a b (ix2 r y) = p348 I (ix2 ⟨r.val, by omega⟩ y) +
    ∑ x : Fin 1024, (ee (p248 I (ix2 r x)) (pM I (ix2 ⟨r.val, by omega⟩ 0)) * a (ix3 0 ⟨r.val / 8, by omega⟩ x)) * b (ix3 0 y x) := by
  simp only [← k236_at, ← fun x => pickR (fun i => a (ix3 0 i x)) r]
  rw [pA0, k0_pay238]
  generalize k0_pay236 (p352 I) k0_pay235 = w
  pointwise

theorem pA1_at (I : ProIn Ideal) (a b) (r : Fin 32) (y : Fin 256) : pA1 I a b (ix2 r y) = p348 I (ix2 ⟨32 + r.val, by omega⟩ y) +
    ∑ x : Fin 1024, (ee (p274 I (ix2 r x)) (pM I (ix2 ⟨32 + r.val, by omega⟩ 0)) * a (ix3 0 ⟨r.val / 8, by omega⟩ x)) * b (ix3 0 y x) := by
  simp only [← k239_at, ← fun x => pickR (fun i => a (ix3 0 i x)) r]
  rw [pA1, k0_pay241]
  generalize k0_pay239 (p274 I) (pM I) = w
  pointwise [k0_pay242]

end Cert.KernelIdeal.Steps
-- ==== Proof.KernelIdeal.ValueC.lean ====
module

public import proofs.«01_k».proof.Proof.KernelIdeal.ValueB

@[expose] public section

noncomputable section

namespace Cert.KernelIdeal.Steps

open Facts₀ Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec Gen

/-! ## One row of the problem, from the kernel's operands -/

section Rows

variable (O : Ops Ideal) (r : Fin 64)

/-- The row's batch. -/
abbrev bt (r : Fin 64) : Fin 2 := ⟨r.val / 32, by omega⟩
/-- Entry `d` of head `n` among the four. -/
abbrev at4 (n : Fin 4) (d : Fin 64) : Fin 256 := ⟨n.val * 64 + d.val, by omega⟩
abbrev tcol (t : ℕ) : Fin 1024 := ⟨t % 1024, Nat.mod_lt _ (by norm_num)⟩

/-- The score of the new token. -/
def nS : EReal := ∑ d : Fin 64, O.x (ix2 r d) * O.kn (ix3 (bt r) (hd r) d)
/-- The score of position `t` of the tail. -/
def tS (t : ℕ) : EReal := Scalar.select (IntOp.cmpi .slt (BitVec.ofNat 32 (tcol t).val) (O.len (ix1 (bt r))))
  ((∑ d : Fin 64, O.x (ix2 r d) * O.tk (ix3 (bt r) (at4 (hd r) d) (tcol t))) * O.tks (ix3 (bt r) (hd r) (tcol t))) (⊥ : EReal)
/-- The score of position `p` of the prefix. -/
def pS (p : ℕ) : EReal := ∑ d : Fin 64, (O.x (ix2 r d) * O.pks (ix2 (hd r) d)) * O.pk (ix2 (at4 (hd r) d) (col p))
/-- What position `t` of the tail and the new token bring to column `y`. -/
def wT (y : Fin 256) (t : ℕ) : EReal := O.tvs (ix3 (bt r) (hd r) (tcol t)) * O.tv (ix3 (bt r) y (tcol t))
def wN (y : Fin 256) : EReal := O.vn (ix3 (bt r) (⟨y.val / 64, by omega⟩ : Fin 4) (⟨y.val % 64, by omega⟩ : Fin 64))

theorem halves {P : Fin 64 → Prop} (h0 : ∀ r : Fin 32, P ⟨r.val, by omega⟩) (h1 : ∀ r : Fin 32, P ⟨32 + r.val, by omega⟩) (r : Fin 64) : P r := by
  by_cases h : r.val < 32
  · exact h0 ⟨r.val, h⟩
  · have := h1 ⟨r.val - 32, by omega⟩
    convert this using 1
    apply Fin.ext
    show r.val = 32 + (r.val - 32)
    omega

theorem join2_lo {n : ℕ} (a b : (⟨2, ![32, n]⟩ : Shape).Idx → EReal) (r : Fin 32) (x : Fin n) : join2 a b (ix2 (⟨r.val, by omega⟩ : Fin 64) x) = a (ix2 r x) := by
  show (if h : r.val < 32 then _ else _) = _
  rw [dif_pos r.isLt]
  rfl
theorem join2_hi {n : ℕ} (a b : (⟨2, ![32, n]⟩ : Shape).Idx → EReal) (r : Fin 32) (x : Fin n) : join2 a b (ix2 (⟨32 + r.val, by omega⟩ : Fin 64) x) = b (ix2 r x) := by
  show (if h : 32 + r.val < 32 then _ else _) = _
  rw [dif_neg (by omega)]
  exact congrArg (fun k : Fin 32 => b (ix2 k x)) (Fin.ext (by show 32 + r.val - 32 = r.val; omega))

theorem bt_lo (r : Fin 32) : bt ⟨r.val, by omega⟩ = 0 := Fin.ext (by show r.val / 32 = 0; omega)
theorem bt_hi (r : Fin 32) : bt ⟨32 + r.val, by omega⟩ = 1 := Fin.ext (by show (32 + r.val) / 32 = 1; omega)
theorem hd_lo (r : Fin 32) : hd ⟨r.val, by omega⟩ = ⟨r.val / 8, by omega⟩ := Fin.ext (by show r.val / 8 % 4 = r.val / 8; omega)
theorem hd_hi (r : Fin 32) : hd ⟨32 + r.val, by omega⟩ = ⟨r.val / 8, by omega⟩ := Fin.ext (by show (32 + r.val) / 8 % 4 = r.val / 8; omega)
theorem tcol_val (t : Fin 1024) : tcol t.val = t := Fin.ext (Nat.mod_eq_of_lt t.isLt)

theorem nS_at (x : Fin 128) : p221 (pIn O) (ix2 r x) = nS O r := by
  rw [p221_at, nS]
  revert r
  refine halves (fun r => ?_) (fun r => ?_)
  · rw [bt_lo]
    refine Finset.sum_congr rfl fun d _ => ?_
    rw [if_pos (show (⟨r.val, by omega⟩ : Fin 64).val < 32 from r.isLt)]
    rfl
  · rw [bt_hi]
    refine Finset.sum_congr rfl fun d _ => ?_
    rw [if_neg (show ¬ (⟨32 + r.val, by omega⟩ : Fin 64).val < 32 by show ¬ 32 + r.val < 32; omega)]
    rfl

theorem tS_lo (r : Fin 32) (t : Fin 1024) : p248 (pIn O) (ix2 r t) = tS O ⟨r.val, by omega⟩ t.val := by
  rw [p248_at, sum_q, tS, bt_lo, tcol_val, negInf, ← hd_lo]
  rfl
theorem tS_hi (r : Fin 32) (t : Fin 1024) : p274 (pIn O) (ix2 r t) = tS O ⟨32 + r.val, by omega⟩ t.val := by
  rw [p274_at, sum_q, tS, bt_hi, tcol_val, negInf, ← hd_hi]
  rfl

theorem kM0_le (x : Fin 128) (z : EReal) : kM0 O (ix2 r x) ≤ z ↔ (∀ t < 1024, tS O r t ≤ z) ∧ nS O r ≤ z := by
  rw [← nS_at O r x, kM0]
  revert r
  refine halves (fun r => ?_) (fun r => ?_)
  · rw [pM_lo, max_le_iff, p228_le]
    simp only [tS_lo]
    exact and_congr_left fun _ => ⟨fun h t ht => h ⟨t, ht⟩, fun h t => h t.val t.isLt⟩
  · rw [pM_hi]
    simp only [tS_hi]
    exact and_congr_left fun _ => ⟨fun h t ht => h ⟨t, ht⟩, fun h t => h t.val t.isLt⟩

theorem kM0_at (x : Fin 128) : kM0 O (ix2 r x) = kM0 O (ix2 r (0 : Fin 128)) :=
  eq_of_forall_ge_iff fun z => (kM0_le O r x z).trans (kM0_le O r 0 z).symm

theorem kL0_at (x : Fin 128) : kL0 O (ix2 r x) = (if x.val = 0 then ee (nS O r) (kM0 O (ix2 r (0 : Fin 128))) else 0) +
    (ee (tS O r x.val) (kM0 O (ix2 r (0 : Fin 128))) + ee (tS O r (128 + x.val)) (kM0 O (ix2 r (0 : Fin 128))) + ee (tS O r (256 + x.val)) (kM0 O (ix2 r (0 : Fin 128)))
    + ee (tS O r (384 + x.val)) (kM0 O (ix2 r (0 : Fin 128))) + ee (tS O r (512 + x.val)) (kM0 O (ix2 r (0 : Fin 128))) + ee (tS O r (640 + x.val)) (kM0 O (ix2 r (0 : Fin 128)))
    + ee (tS O r (768 + x.val)) (kM0 O (ix2 r (0 : Fin 128))) + ee (tS O r (896 + x.val)) (kM0 O (ix2 r (0 : Fin 128)))) := by
  have e : ∀ r, p323 (pIn O) (ix2 r x) = if x.val = 0 then ee (nS O r) (kM0 O (ix2 r (0 : Fin 128))) else 0 := fun r => by
    rw [p323_at, nS_at, ← kM0_at O r x]
    rfl
  rw [kL0, ← e]
  revert r
  refine halves (fun r => ?_) (fun r => ?_)
  · refine (join2_lo _ _ r x).trans ?_
    rw [pL0_at]
    simp only [tS_lo]
    rfl
  · refine (join2_hi _ _ r x).trans ?_
    rw [pL1_at]
    simp only [tS_hi]
    rfl

theorem kA0_at (y : Fin 256) : kA0 O (ix2 r y) = ee (nS O r) (kM0 O (ix2 r (0 : Fin 128))) * wN O r y +
    ∑ t : Fin 1024, ee (tS O r t.val) (kM0 O (ix2 r (0 : Fin 128))) * wT O r y t.val := by
  have e : ∀ r, p348 (pIn O) (ix2 r y) = ee (nS O r) (kM0 O (ix2 r (0 : Fin 128))) *
      (if r.val < 32 then (pIn O).vn0 (ix3 0 ⟨y.val / 64, by omega⟩ ⟨y.val % 64, by omega⟩) else (pIn O).vn1 (ix3 0 ⟨y.val / 64, by omega⟩ ⟨y.val % 64, by omega⟩)) := fun r => by
    rw [p348_at, nS_at, ← kM0_at O r ⟨y.val % 128, by omega⟩]
    rfl
  rw [kA0]
  revert r
  refine halves (fun r => ?_) (fun r => ?_)
  · refine (join2_lo _ _ r y).trans ?_
    rw [pA0_at, e, if_pos (show (⟨r.val, by omega⟩ : Fin 64).val < 32 from r.isLt), wN, bt_lo]
    simp only [tS_lo, mul_assoc, wT, tcol_val, bt_lo, hd_lo]
    rfl
  · refine (join2_hi _ _ r y).trans ?_
    rw [pA1_at, e, if_neg (show ¬ (⟨32 + r.val, by omega⟩ : Fin 64).val < 32 by show ¬ 32 + r.val < 32; omega), wN, bt_hi]
    simp only [tS_hi, mul_assoc, wT, tcol_val, bt_hi, hd_hi]
    rfl

theorem sK_eq : sK r O.pk (kQ O) = pS O r := by
  funext p
  rw [sK, pS, kQ]
  have e := sum_block (hd r) (fun k => (O.x (ix2 r ⟨k.val % 64, by omega⟩) * O.pks (ix2 ⟨k.val / 64, by omega⟩ ⟨k.val % 64, by omega⟩)) * O.pk (ix2 k (col p)))
  refine Eq.trans (Finset.sum_congr rfl fun k _ => ?_) (e.trans (Finset.sum_congr rfl fun d _ => ?_))
  · rw [pQ_at]
    show (if r.val / 8 % 4 = k.val / 64 then _ else 0) * _ = _
    simp only [hd]
    split_ifs <;> simp
  · have h1 : (⟨((hd r).val * 64 + d.val) / 64, by have := (hd r).isLt; omega⟩ : Fin 4) = hd r := Fin.ext (by simp; omega)
    have h2 : (⟨((hd r).val * 64 + d.val) % 64, by omega⟩ : Fin 64) = d := Fin.ext (by simp <;> omega)
    simp only [h1, h2]

theorem kLA_at : (∑ x : Fin 128, (kLA O).1 (ix2 r x)) = Row.tot ⟨pS O r, tS O r, nS O r⟩ 1 1 1 (Row.mx ⟨pS O r, tS O r, nS O r⟩)
    ∧ ∀ y : Fin 256, (kLA O).2 (ix2 r y) = Row.tot ⟨pS O r, tS O r, nS O r⟩ (wK r O.pv O.pvs y) (wT O r y) (wN O r y) (Row.mx ⟨pS O r, tS O r, nS O r⟩) := by
  have h := LA_row r O.pk O.pv O.pvs (kQ O) (kM0 O) (kL0 O) (kA0 O) (tS O r) (nS O r) (wT O r) (wN O r) (kM0_at O r) (kM0_le O r 0)
    (by
      simp only [kL0_at, Row.base, Pi.one_apply, mul_one]
      rw [Finset.sum_add_distrib, lanes_sum (fun t => ee (tS O r t) (kM0 O (ix2 r (0 : Fin 128)))), add_comm]
      congr 1
      rw [Finset.sum_eq_single (0 : Fin 128)]
      · simp
      · intro b _ hb
        rw [if_neg (fun h : b.val = 0 => hb (Fin.ext h))]
      · simp)
    (fun y => by
      rw [kA0_at, Row.base, add_comm, Finset.sum_range])
  rw [sK_eq] at h
  exact h

end Rows

/-! ## The result -/

theorem eOut_at (l : Vec Ideal S64x128 .f32) (acc : Vec Ideal S64x256 .f32) (r : Fin 64) (d : Fin 64)
    (hz : (∑ x : Fin 128, l (ix2 r x)) = (0 : EReal) → acc (ix2 r (at4 (hd r) d)) = (0 : EReal)) :
    eOut l acc (ix2 r d) = Ideal.div (acc (ix2 r (at4 (hd r) d))) (∑ x : Fin 128, l (ix2 r x)) := by
  have e : eOut l acc (ix2 r d) = (((0 + Ideal.div (Scalar.select (pMask (ix2 r ⟨d.val, by omega⟩)) (acc (ix2 r ⟨d.val, by omega⟩)) (0 : EReal)) (∑ x : Fin 128, l (ix2 r x)))
      + Ideal.div (Scalar.select (pMask (ix2 r ⟨64 + d.val, by omega⟩)) (acc (ix2 r ⟨64 + d.val, by omega⟩)) (0 : EReal)) (∑ x : Fin 128, l (ix2 r x)))
      + Ideal.div (Scalar.select (pMask (ix2 r ⟨128 + d.val, by omega⟩)) (acc (ix2 r ⟨128 + d.val, by omega⟩)) (0 : EReal)) (∑ x : Fin 128, l (ix2 r x)))
      + Ideal.div (Scalar.select (pMask (ix2 r ⟨192 + d.val, by omega⟩)) (acc (ix2 r ⟨192 + d.val, by omega⟩)) (0 : EReal)) (∑ x : Fin 128, l (ix2 r x)) := by
    rw [eOut]
    generalize pMask = m
    pointwise [k0_pay455]
    try rfl
  have hs : ∀ (k : Fin 4) (y : Fin 256), y = at4 k d → Scalar.select (pMask (ix2 r y)) (acc (ix2 r y)) (0 : EReal) = if hd r = k then acc (ix2 r (at4 (hd r) d)) else 0 := by
    rintro k y rfl
    rw [pMask_at]
    by_cases h : hd r = k
    · have h' : r.val / 8 % 4 = (at4 k d).val / 64 := by
        rw [← h]; show r.val / 8 % 4 = (r.val / 8 % 4 * 64 + d.val) / 64; omega
      simp [h', h, Scalar.select]
    · have h' : ¬ r.val / 8 % 4 = (at4 k d).val / 64 := by
        intro hh; apply h; apply Fin.ext; show r.val / 8 % 4 = k.val; rw [hh]; show (k.val * 64 + d.val) / 64 = k.val; omega
      simp [h', h, Scalar.select]
  rw [e, hs 0 _ (Fin.ext (by simp)), hs 1 _ (Fin.ext (by simp)), hs 2 _ (Fin.ext (by simp)), hs 3 _ (Fin.ext (by simp))]
  exact div_blocks hz (hd r)

theorem slices64 : ∀ n : Fin 64, S64x64.Slices ![n.val, 0] S1x64 := by decide
/-- Row `k` of the block. -/
def rowAt (v : FVec Ideal S64x64 .f32) (k : Fin 64) : FVec Ideal S1x64 .f32 := extractStridedSlice S1x64 ![k.val, 0] v (slices64 k)
theorem rowAt_at (v : FVec Ideal S64x64 .f32) (k d : Fin 64) : rowAt v k (ix2 (0 : Fin 1) d) = v (ix2 k d) := by
  rw [rowAt]
  refine congrArg v (funext fun a => Fin.ext ?_)
  fin_cases a
  · show k.val + 0 = k.val
    omega
  · show 0 + d.val = d.val
    omega

/-- Thirty-two rows side by side. -/
theorem cat32 (f : Fin 32 → FVec Ideal S1x64 .f32)
    (h : Shape.Concatenates ((List.ofFn fun n : Fin 32 => (⟨S1x64, f n⟩ : (s : Shape) × (s.Idx → Ideal .f32))).map (·.1)) S1x2048 1) (c : Fin 2048) :
    concatenate S1x2048 1 (List.ofFn fun n : Fin 32 => (⟨S1x64, f n⟩ : (s : Shape) × (s.Idx → Ideal .f32))) h (ix2 (0 : Fin 1) c)
      = f ⟨c.val / 64, by omega⟩ (ix2 (0 : Fin 1) (⟨c.val % 64, by omega⟩ : Fin 64)) := by
  refine concatenate_ofFn_apply (t := S1x2048) (s₁ := S1x64) (1 : Fin 2) f h rfl 64 rfl (ix2 (0 : Fin 1) c) ⟨c.val / 64, by omega⟩ rfl (ix2 (0 : Fin 1) (⟨c.val % 64, by omega⟩ : Fin 64)) rfl ?_
  intro b hb
  fin_cases b
  · rfl
  · exact absurd rfl hb

theorem pay2_at (v : FVec Ideal S64x64 .f32) (c : Fin 2048) : k0_pay2 v (ix2 (0 : Fin 1) c) = v (ix2 (⟨32 + c.val / 64, by omega⟩ : Fin 64) (⟨c.val % 64, by omega⟩ : Fin 64)) :=
  (cat32 (fun n => rowAt v ⟨32 + n.val, by omega⟩) Gen.concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x2048_d1 c).trans (rowAt_at v _ _)

theorem pay1_at (l : Vec Ideal S64x128 .f32) (acc : Vec Ideal S64x256 .f32) (c : Fin 2048) :
    k0_pay1 (eRow0 l acc) (ix2 (0 : Fin 1) c) = eOut l acc (ix2 (⟨c.val / 64, by omega⟩ : Fin 64) (⟨c.val % 64, by omega⟩ : Fin 64)) :=
  (cat32 (fun n => rowAt (eOut l acc) ⟨n.val, by omega⟩) Gen.concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x2048_d1 c).trans (rowAt_at (eOut l acc) _ _)

/-- The result of row `r`, column `d`. -/
def rowOut (O : Ops Ideal) (r : Fin 64) (d : Fin 64) : EReal :=
  Ideal.div (Row.tot ⟨pS O r, tS O r, nS O r⟩ (wK r O.pv O.pvs (at4 (hd r) d)) (wT O r (at4 (hd r) d)) (wN O r (at4 (hd r) d)) (Row.mx ⟨pS O r, tS O r, nS O r⟩))
    (Row.tot ⟨pS O r, tS O r, nS O r⟩ 1 1 1 (Row.mx ⟨pS O r, tS O r, nS O r⟩))

theorem eOut_row (O : Ops Ideal) (r d : Fin 64) : eOut (F := Ideal) (kLA O).1 (kLA O).2 (ix2 r d) = rowOut O r d := by
  obtain ⟨h1, h2⟩ := kLA_at O r
  rw [eOut_at (kLA O).1 (kLA O).2 r d (by rw [h1, h2]; exact fun h => tot_one_zero _ h _ _ _), h1, h2, rowOut]

theorem kOut_at (O : Ops Ideal) (b : Fin 2) (c : Fin 2048) :
    kOut O (ix2 b c) = rowOut O ⟨b.val * 32 + c.val / 64, by omega⟩ ⟨c.val % 64, by omega⟩ := by
  rw [← eOut_row]
  rw [kOut]
  show (if b.val = 0 then _ else _) = _
  by_cases hb : b.val = 0
  · rw [if_pos hb]
    refine (pay1_at _ _ c).trans ?_
    congr 2
    apply Fin.ext
    show c.val / 64 = b.val * 32 + c.val / 64
    omega
  · rw [if_neg hb]
    refine (pay2_at _ c).trans ?_
    congr 2
    apply Fin.ext
    show 32 + c.val / 64 = b.val * 32 + c.val / 64
    have := b.isLt
    omega

end Cert.KernelIdeal.Steps
-- ==== Proof.KernelIdeal.Run.lean ====
/-
  The launch: from the buffers as @main hands them over to the kernel's body, and back; the run of the program.
-/
module

public import proofs.«01_k».proof.Proof.KernelIdeal.Pro
public import proofs.«01_k».proof.Proof.Gen.KernelIdeal.Frame
public import Idealize.ShloMosaic.Lib.Pipeline.Routed
public import Idealize.ShloMosaic.Lib.Pipeline.Value

@[expose] public section

noncomputable section

namespace Cert.KernelIdeal.Steps

open Facts₀ Facts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

open Cert.KernelIdeal.Gen (V launch0 scopedRest0_eq bigSep_W0 hostOps0 hostOps0_sub hostOps0_fresh main_chain fin_N0 t0_0)
open Idealize.ShloMosaic.Pipeline (Dat BodyObligation)

variable (c : Dev nD)

/-! ## Whole buffers -/

theorem Any_eq {sp : Space} {s : Shape} {e : EltTy} (m : Memref sig .tc sp s e) (hm : m.IsWhole) :
    (Any c m : sProp 𝕄) = iprop(∃ f, m.view.loc (c : Thread nD τ) ↦[Finset.univ]{fullShare} f) := by
  unfold Any; rw [hm.set_eq_univ]

theorem ofEq {P Q : sProp 𝕄} (h : P = Q) : P ⊢ Q := by rw [h]

theorem mono4 {A B : Fin 4 → sProp 𝕄} (h : ∀ k, A k ⊢ B k) : bigSep Finset.univ A ⊢ bigSep Finset.univ B :=
  bigSep_mono fun k _ => h k

theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-! ## The rings -/

theorem k_lt (k : Fin 4) : (BitVec.ofNat 32 k.val).toNat < 32 := w_lt (by omega)

/-- The slots of the ring. -/
def setK (k : Fin 4) : Finset S4x256x4096.Idx := (Rect.unit (s := S4x256x4096) (slotOff (BitVec.ofNat 32 k.val)) S1x256x4096.size (slotOff_inb (k_lt k))).set
theorem mem_setK (k : Fin 4) (y : S4x256x4096.Idx) : y ∈ setK k ↔ (y 0).val = k.val := by
  unfold setK
  rw [Rect.mem_set_unit]
  have e : (Scalar.remsi (BitVec.ofNat 32 k.val) 4#32).toNat = k.val := by
    rw [remsi_toNat (k_lt k), w_toNat (by omega)]; omega
  have h1 : (y 1).val < 256 := (y 1).isLt
  have h2 : (y 2).val < 4096 := (y 2).isLt
  constructor
  · intro H
    have a0 : (Scalar.remsi (BitVec.ofNat 32 k.val) 4#32).toNat ≤ (y 0).val ∧ (y 0).val < (Scalar.remsi (BitVec.ofNat 32 k.val) 4#32).toNat + 1 := H 0
    omega
  · intro H i
    match i with
    | 0 => show (Scalar.remsi (BitVec.ofNat 32 k.val) 4#32).toNat ≤ (y 0).val ∧ (y 0).val < (Scalar.remsi (BitVec.ofNat 32 k.val) 4#32).toNat + 1; omega
    | 1 => show 0 ≤ (y 1).val ∧ (y 1).val < 0 + 256; omega
    | 2 => show 0 ≤ (y 2).val ∧ (y 2).val < 0 + 4096; omega
theorem disjK : ∀ b b' : Fin 4, b ≠ b' → Disjoint (setK b) (setK b') := by
  intro b b' hne; rw [Finset.disjoint_left]; intro y hy hy'; rw [mem_setK] at hy hy'; exact hne (Fin.ext (hy.symm.trans hy'))
theorem coverK : (Finset.univ : Finset (Fin 4)).biUnion setK = Finset.univ := by
  ext y; simp only [Finset.mem_biUnion, Finset.mem_univ, true_and, iff_true]; exact ⟨⟨(y 0).val, (y 0).isLt⟩, by rw [mem_setK]⟩
theorem slotSetK (k : Fin 4) : (slotK (BitVec.ofNat 32 k.val) (k_lt k) : Memref sig .tc .vmem _ _).view.set = setK k :=
  (View.set_reshape _ _).trans (View.set_slice_whole _ _)
theorem slotPK (k : Fin 4) (f) : ((slotK (BitVec.ofNat 32 k.val) (k_lt k)).view.loc (c : Thread nD τ) ↦[(slotK (BitVec.ofNat 32 k.val) (k_lt k)).view.set]{fullShare} f : sProp 𝕄)
    = (((c : Thread nD τ).loc cc0_scratch9) ↦[setK k]{fullShare} f : sProp 𝕄) :=
  congrArg (fun S => (_ ↦[S]{fullShare} f : sProp 𝕄)) (slotSetK k)
theorem splitK : (iprop(∃ f : Buf (Elt F) ((c : Thread nD τ).loc cc0_scratch9), ((c : Thread nD τ).loc cc0_scratch9) ↦{fullShare} f) : sProp 𝕄)
    ⊢ bigSep Finset.univ (fun k : Fin 4 => Any c (slotK (BitVec.ofNat 32 k.val) (k_lt k))) := by
  iintro ⟨%f, H⟩
  ihave H := (ofEq (Ring.pointsTo_blocks (Ix := Unit) (Name := ℕ) (U := UU nD τ) (Lvl := ℕ) (q := fullShare) (ℓ := (c : Thread nD τ).loc cc0_scratch9) setK disjK coverK f)) $$ H
  iapply (mono4 fun k => (show (((c : Thread nD τ).loc cc0_scratch9) ↦[setK k]{fullShare} f : sProp 𝕄) ⊢ Any c (slotK (BitVec.ofNat 32 k.val) (k_lt k)) from by
    unfold Any
    iintro H; iexists f; iapply (ofEq (slotPK c k f).symm); iexact H))
  iexact H
theorem joinK (f0 : Buf (Elt F) ((c : Thread nD τ).loc cc0_scratch9)) : bigSep Finset.univ (fun k : Fin 4 => Any c (slotK (BitVec.ofNat 32 k.val) (k_lt k)))
    ⊢ (iprop(∃ f : Buf (Elt F) ((c : Thread nD τ).loc cc0_scratch9), ((c : Thread nD τ).loc cc0_scratch9) ↦{fullShare} f) : sProp 𝕄) := by
  iintro H
  iapply (Ring.pointsTo_blocks_join_exists (ℓ := (c : Thread nD τ).loc cc0_scratch9) setK disjK coverK f0)
  iapply (mono4 fun k => (show Any c (slotK (BitVec.ofNat 32 k.val) (k_lt k)) ⊢ (iprop(∃ f, ((c : Thread nD τ).loc cc0_scratch9) ↦[setK k]{fullShare} f) : sProp 𝕄) from by
    unfold Any
    iintro ⟨%f, H⟩; iexists f; iapply (ofEq (slotPK c k f)); iexact H))
  iexact H
theorem ringInK (XK : Vec F S256x131072 .fp8e4m3) :
    (iprop((∃ f : Buf (Elt F) ((c : Thread nD τ).loc cc0_scratch9), ((c : Thread nD τ).loc cc0_scratch9) ↦{fullShare} f)
      ∗ (aPK.view.loc (c : Thread nD τ) ↦[Finset.univ]{fullShare} XK)
      ∗ semVal ((c : Thread nD τ), SemLoc.dma (semK (BitVec.ofNat 32 (0 % 4)) (m_lt 0)).sem) 0
      ∗ semVal ((c : Thread nD τ), SemLoc.dma (semK (BitVec.ofNat 32 (1 % 4)) (m_lt 1)).sem) 0
      ∗ semVal ((c : Thread nD τ), SemLoc.dma (semK (BitVec.ofNat 32 (2 % 4)) (m_lt 2)).sem) 0
      ∗ semVal ((c : Thread nD τ), SemLoc.dma (semK (BitVec.ofNat 32 (3 % 4)) (m_lt 3)).sem) 0) : sProp 𝕄)
    ⊢ iprop((IdleK c XK 0 ∗ IdleK c XK 1 ∗ IdleK c XK 2 ∗ IdleK c XK 3) ∗ (aPK.view.loc (c : Thread nD τ) ↦[Finset.univ]{Transfers.shareDrop fullShare 4} XK)) := by
  iintro ⟨HB, HX, S0, S1, S2, S3⟩
  ihave HB := (splitK c) $$ HB
  ihave HB := (ofEq (bigSep_fin4 _)) $$ HB
  icases HB with ⟨B0, B1, B2, B3⟩
  ihave HX := (Transfers.pointsTo_toks_split fullShare 4) $$ HX
  icases HX with ⟨HX, HT⟩
  ihave HT := (ofEq (bigSep_fin4 _)) $$ HT
  icases HT with ⟨T0, T1, T2, T3⟩
  unfold IdleK
  isplitr [HX]
  · isplitl [B0 S0 T0]
    · isplitl [B0]; · iexact B0
      isplitl [S0]; · iexact S0
      iexact T0
    isplitl [B1 S1 T1]
    · isplitl [B1]; · iexact B1
      isplitl [S1]; · iexact S1
      iexact T1
    isplitl [B2 S2 T2]
    · isplitl [B2]; · iexact B2
      isplitl [S2]; · iexact S2
      iexact T2
    isplitl [B3]; · iexact B3
    isplitl [S3]; · iexact S3
    iexact T3
  iexact HX
theorem ringOutK (XK : Vec F S256x131072 .fp8e4m3) (f0 : Buf (Elt F) ((c : Thread nD τ).loc cc0_scratch9)) :
    iprop((IdleK c XK 0 ∗ IdleK c XK 1 ∗ IdleK c XK 2 ∗ IdleK c XK 3) ∗ (aPK.view.loc (c : Thread nD τ) ↦[Finset.univ]{Transfers.shareDrop fullShare 4} XK))
    ⊢ (iprop((∃ f : Buf (Elt F) ((c : Thread nD τ).loc cc0_scratch9), ((c : Thread nD τ).loc cc0_scratch9) ↦{fullShare} f)
      ∗ (aPK.view.loc (c : Thread nD τ) ↦[Finset.univ]{fullShare} XK)
      ∗ semVal ((c : Thread nD τ), SemLoc.dma (semK (BitVec.ofNat 32 (0 % 4)) (m_lt 0)).sem) 0
      ∗ semVal ((c : Thread nD τ), SemLoc.dma (semK (BitVec.ofNat 32 (1 % 4)) (m_lt 1)).sem) 0
      ∗ semVal ((c : Thread nD τ), SemLoc.dma (semK (BitVec.ofNat 32 (2 % 4)) (m_lt 2)).sem) 0
      ∗ semVal ((c : Thread nD τ), SemLoc.dma (semK (BitVec.ofNat 32 (3 % 4)) (m_lt 3)).sem) 0) : sProp 𝕄) := by
  unfold IdleK
  iintro ⟨⟨⟨B0, S0, T0⟩, ⟨B1, S1, T1⟩, ⟨B2, S2, T2⟩, ⟨B3, S3, T3⟩⟩, HX⟩
  isplitl [B0 B1 B2 B3]
  · iapply (joinK c f0)
    iapply (ofEq (bigSep_fin4 _).symm)
    isplitl [B0]; · iexact B0
    isplitl [B1]; · iexact B1
    isplitl [B2]; · iexact B2
    iexact B3
  isplitl [HX T0 T1 T2 T3]
  · iapply (Transfers.pointsTo_toks_join fullShare 4)
    isplitl [HX]; · iexact HX
    iapply (ofEq (bigSep_fin4 _).symm)
    isplitl [T0]; · iexact T0
    isplitl [T1]; · iexact T1
    isplitl [T2]; · iexact T2
    iexact T3
  isplitl [S0]; · iexact S0
  isplitl [S1]; · iexact S1
  isplitl [S2]; · iexact S2
  iexact S3

/-- The slots of the ring. -/
def setV (k : Fin 4) : Finset S4x256x4096.Idx := (Rect.unit (s := S4x256x4096) (slotOff (BitVec.ofNat 32 k.val)) S1x256x4096.size (slotOff_inb (k_lt k))).set
theorem mem_setV (k : Fin 4) (y : S4x256x4096.Idx) : y ∈ setV k ↔ (y 0).val = k.val := by
  unfold setV
  rw [Rect.mem_set_unit]
  have e : (Scalar.remsi (BitVec.ofNat 32 k.val) 4#32).toNat = k.val := by
    rw [remsi_toNat (k_lt k), w_toNat (by omega)]; omega
  have h1 : (y 1).val < 256 := (y 1).isLt
  have h2 : (y 2).val < 4096 := (y 2).isLt
  constructor
  · intro H
    have a0 : (Scalar.remsi (BitVec.ofNat 32 k.val) 4#32).toNat ≤ (y 0).val ∧ (y 0).val < (Scalar.remsi (BitVec.ofNat 32 k.val) 4#32).toNat + 1 := H 0
    omega
  · intro H i
    match i with
    | 0 => show (Scalar.remsi (BitVec.ofNat 32 k.val) 4#32).toNat ≤ (y 0).val ∧ (y 0).val < (Scalar.remsi (BitVec.ofNat 32 k.val) 4#32).toNat + 1; omega
    | 1 => show 0 ≤ (y 1).val ∧ (y 1).val < 0 + 256; omega
    | 2 => show 0 ≤ (y 2).val ∧ (y 2).val < 0 + 4096; omega
theorem disjV : ∀ b b' : Fin 4, b ≠ b' → Disjoint (setV b) (setV b') := by
  intro b b' hne; rw [Finset.disjoint_left]; intro y hy hy'; rw [mem_setV] at hy hy'; exact hne (Fin.ext (hy.symm.trans hy'))
theorem coverV : (Finset.univ : Finset (Fin 4)).biUnion setV = Finset.univ := by
  ext y; simp only [Finset.mem_biUnion, Finset.mem_univ, true_and, iff_true]; exact ⟨⟨(y 0).val, (y 0).isLt⟩, by rw [mem_setV]⟩
theorem slotSetV (k : Fin 4) : (slotV (BitVec.ofNat 32 k.val) (k_lt k) : Memref sig .tc .vmem _ _).view.set = setV k :=
  (View.set_reshape _ _).trans (View.set_slice_whole _ _)
theorem slotPV (k : Fin 4) (f) : ((slotV (BitVec.ofNat 32 k.val) (k_lt k)).view.loc (c : Thread nD τ) ↦[(slotV (BitVec.ofNat 32 k.val) (k_lt k)).view.set]{fullShare} f : sProp 𝕄)
    = (((c : Thread nD τ).loc cc0_scratch10) ↦[setV k]{fullShare} f : sProp 𝕄) :=
  congrArg (fun S => (_ ↦[S]{fullShare} f : sProp 𝕄)) (slotSetV k)
theorem splitV : (iprop(∃ f : Buf (Elt F) ((c : Thread nD τ).loc cc0_scratch10), ((c : Thread nD τ).loc cc0_scratch10) ↦{fullShare} f) : sProp 𝕄)
    ⊢ bigSep Finset.univ (fun k : Fin 4 => Any c (slotV (BitVec.ofNat 32 k.val) (k_lt k))) := by
  iintro ⟨%f, H⟩
  ihave H := (ofEq (Ring.pointsTo_blocks (Ix := Unit) (Name := ℕ) (U := UU nD τ) (Lvl := ℕ) (q := fullShare) (ℓ := (c : Thread nD τ).loc cc0_scratch10) setV disjV coverV f)) $$ H
  iapply (mono4 fun k => (show (((c : Thread nD τ).loc cc0_scratch10) ↦[setV k]{fullShare} f : sProp 𝕄) ⊢ Any c (slotV (BitVec.ofNat 32 k.val) (k_lt k)) from by
    unfold Any
    iintro H; iexists f; iapply (ofEq (slotPV c k f).symm); iexact H))
  iexact H
theorem joinV (f0 : Buf (Elt F) ((c : Thread nD τ).loc cc0_scratch10)) : bigSep Finset.univ (fun k : Fin 4 => Any c (slotV (BitVec.ofNat 32 k.val) (k_lt k)))
    ⊢ (iprop(∃ f : Buf (Elt F) ((c : Thread nD τ).loc cc0_scratch10), ((c : Thread nD τ).loc cc0_scratch10) ↦{fullShare} f) : sProp 𝕄) := by
  iintro H
  iapply (Ring.pointsTo_blocks_join_exists (ℓ := (c : Thread nD τ).loc cc0_scratch10) setV disjV coverV f0)
  iapply (mono4 fun k => (show Any c (slotV (BitVec.ofNat 32 k.val) (k_lt k)) ⊢ (iprop(∃ f, ((c : Thread nD τ).loc cc0_scratch10) ↦[setV k]{fullShare} f) : sProp 𝕄) from by
    unfold Any
    iintro ⟨%f, H⟩; iexists f; iapply (ofEq (slotPV c k f)); iexact H))
  iexact H
theorem ringInV (XV : Vec F S256x131072 .fp8e4m3) :
    (iprop((∃ f : Buf (Elt F) ((c : Thread nD τ).loc cc0_scratch10), ((c : Thread nD τ).loc cc0_scratch10) ↦{fullShare} f)
      ∗ (aPV.view.loc (c : Thread nD τ) ↦[Finset.univ]{fullShare} XV)
      ∗ semVal ((c : Thread nD τ), SemLoc.dma (semV (BitVec.ofNat 32 (0 % 4)) (m_lt 0)).sem) 0
      ∗ semVal ((c : Thread nD τ), SemLoc.dma (semV (BitVec.ofNat 32 (1 % 4)) (m_lt 1)).sem) 0
      ∗ semVal ((c : Thread nD τ), SemLoc.dma (semV (BitVec.ofNat 32 (2 % 4)) (m_lt 2)).sem) 0
      ∗ semVal ((c : Thread nD τ), SemLoc.dma (semV (BitVec.ofNat 32 (3 % 4)) (m_lt 3)).sem) 0) : sProp 𝕄)
    ⊢ iprop((IdleV c XV 0 ∗ IdleV c XV 1 ∗ IdleV c XV 2 ∗ IdleV c XV 3) ∗ (aPV.view.loc (c : Thread nD τ) ↦[Finset.univ]{Transfers.shareDrop fullShare 4} XV)) := by
  iintro ⟨HB, HX, S0, S1, S2, S3⟩
  ihave HB := (splitV c) $$ HB
  ihave HB := (ofEq (bigSep_fin4 _)) $$ HB
  icases HB with ⟨B0, B1, B2, B3⟩
  ihave HX := (Transfers.pointsTo_toks_split fullShare 4) $$ HX
  icases HX with ⟨HX, HT⟩
  ihave HT := (ofEq (bigSep_fin4 _)) $$ HT
  icases HT with ⟨T0, T1, T2, T3⟩
  unfold IdleV
  isplitr [HX]
  · isplitl [B0 S0 T0]
    · isplitl [B0]; · iexact B0
      isplitl [S0]; · iexact S0
      iexact T0
    isplitl [B1 S1 T1]
    · isplitl [B1]; · iexact B1
      isplitl [S1]; · iexact S1
      iexact T1
    isplitl [B2 S2 T2]
    · isplitl [B2]; · iexact B2
      isplitl [S2]; · iexact S2
      iexact T2
    isplitl [B3]; · iexact B3
    isplitl [S3]; · iexact S3
    iexact T3
  iexact HX
theorem ringOutV (XV : Vec F S256x131072 .fp8e4m3) (f0 : Buf (Elt F) ((c : Thread nD τ).loc cc0_scratch10)) :
    iprop((IdleV c XV 0 ∗ IdleV c XV 1 ∗ IdleV c XV 2 ∗ IdleV c XV 3) ∗ (aPV.view.loc (c : Thread nD τ) ↦[Finset.univ]{Transfers.shareDrop fullShare 4} XV))
    ⊢ (iprop((∃ f : Buf (Elt F) ((c : Thread nD τ).loc cc0_scratch10), ((c : Thread nD τ).loc cc0_scratch10) ↦{fullShare} f)
      ∗ (aPV.view.loc (c : Thread nD τ) ↦[Finset.univ]{fullShare} XV)
      ∗ semVal ((c : Thread nD τ), SemLoc.dma (semV (BitVec.ofNat 32 (0 % 4)) (m_lt 0)).sem) 0
      ∗ semVal ((c : Thread nD τ), SemLoc.dma (semV (BitVec.ofNat 32 (1 % 4)) (m_lt 1)).sem) 0
      ∗ semVal ((c : Thread nD τ), SemLoc.dma (semV (BitVec.ofNat 32 (2 % 4)) (m_lt 2)).sem) 0
      ∗ semVal ((c : Thread nD τ), SemLoc.dma (semV (BitVec.ofNat 32 (3 % 4)) (m_lt 3)).sem) 0) : sProp 𝕄) := by
  unfold IdleV
  iintro ⟨⟨⟨B0, S0, T0⟩, ⟨B1, S1, T1⟩, ⟨B2, S2, T2⟩, ⟨B3, S3, T3⟩⟩, HX⟩
  isplitl [B0 B1 B2 B3]
  · iapply (joinV c f0)
    iapply (ofEq (bigSep_fin4 _).symm)
    isplitl [B0]; · iexact B0
    isplitl [B1]; · iexact B1
    isplitl [B2]; · iexact B2
    iexact B3
  isplitl [HX T0 T1 T2 T3]
  · iapply (Transfers.pointsTo_toks_join fullShare 4)
    isplitl [HX]; · iexact HX
    iapply (ofEq (bigSep_fin4 _).symm)
    isplitl [T0]; · iexact T0
    isplitl [T1]; · iexact T1
    isplitl [T2]; · iexact T2
    iexact T3
  isplitl [S0]; · iexact S0
  isplitl [S1]; · iexact S1
  isplitl [S2]; · iexact S2
  iexact S3

/-- The slots of the ring. -/
def setVs (k : Fin 4) : Finset S4x4x4096.Idx := (Rect.unit (s := S4x4x4096) (slotOff (BitVec.ofNat 32 k.val)) S1x4x4096.size (slotOff_inb4 (k_lt k))).set
theorem mem_setVs (k : Fin 4) (y : S4x4x4096.Idx) : y ∈ setVs k ↔ (y 0).val = k.val := by
  unfold setVs
  rw [Rect.mem_set_unit]
  have e : (Scalar.remsi (BitVec.ofNat 32 k.val) 4#32).toNat = k.val := by
    rw [remsi_toNat (k_lt k), w_toNat (by omega)]; omega
  have h1 : (y 1).val < 4 := (y 1).isLt
  have h2 : (y 2).val < 4096 := (y 2).isLt
  constructor
  · intro H
    have a0 : (Scalar.remsi (BitVec.ofNat 32 k.val) 4#32).toNat ≤ (y 0).val ∧ (y 0).val < (Scalar.remsi (BitVec.ofNat 32 k.val) 4#32).toNat + 1 := H 0
    omega
  · intro H i
    match i with
    | 0 => show (Scalar.remsi (BitVec.ofNat 32 k.val) 4#32).toNat ≤ (y 0).val ∧ (y 0).val < (Scalar.remsi (BitVec.ofNat 32 k.val) 4#32).toNat + 1; omega
    | 1 => show 0 ≤ (y 1).val ∧ (y 1).val < 0 + 4; omega
    | 2 => show 0 ≤ (y 2).val ∧ (y 2).val < 0 + 4096; omega
theorem disjVs : ∀ b b' : Fin 4, b ≠ b' → Disjoint (setVs b) (setVs b') := by
  intro b b' hne; rw [Finset.disjoint_left]; intro y hy hy'; rw [mem_setVs] at hy hy'; exact hne (Fin.ext (hy.symm.trans hy'))
theorem coverVs : (Finset.univ : Finset (Fin 4)).biUnion setVs = Finset.univ := by
  ext y; simp only [Finset.mem_biUnion, Finset.mem_univ, true_and, iff_true]; exact ⟨⟨(y 0).val, (y 0).isLt⟩, by rw [mem_setVs]⟩
theorem slotSetVs (k : Fin 4) : (slotVs (BitVec.ofNat 32 k.val) (k_lt k) : Memref sig .tc .vmem _ _).view.set = setVs k :=
  (View.set_reshape _ _).trans (View.set_slice_whole _ _)
theorem slotPVs (k : Fin 4) (f) : ((slotVs (BitVec.ofNat 32 k.val) (k_lt k)).view.loc (c : Thread nD τ) ↦[(slotVs (BitVec.ofNat 32 k.val) (k_lt k)).view.set]{fullShare} f : sProp 𝕄)
    = (((c : Thread nD τ).loc cc0_scratch11) ↦[setVs k]{fullShare} f : sProp 𝕄) :=
  congrArg (fun S => (_ ↦[S]{fullShare} f : sProp 𝕄)) (slotSetVs k)
theorem splitVs : (iprop(∃ f : Buf (Elt F) ((c : Thread nD τ).loc cc0_scratch11), ((c : Thread nD τ).loc cc0_scratch11) ↦{fullShare} f) : sProp 𝕄)
    ⊢ bigSep Finset.univ (fun k : Fin 4 => Any c (slotVs (BitVec.ofNat 32 k.val) (k_lt k))) := by
  iintro ⟨%f, H⟩
  ihave H := (ofEq (Ring.pointsTo_blocks (Ix := Unit) (Name := ℕ) (U := UU nD τ) (Lvl := ℕ) (q := fullShare) (ℓ := (c : Thread nD τ).loc cc0_scratch11) setVs disjVs coverVs f)) $$ H
  iapply (mono4 fun k => (show (((c : Thread nD τ).loc cc0_scratch11) ↦[setVs k]{fullShare} f : sProp 𝕄) ⊢ Any c (slotVs (BitVec.ofNat 32 k.val) (k_lt k)) from by
    unfold Any
    iintro H; iexists f; iapply (ofEq (slotPVs c k f).symm); iexact H))
  iexact H
theorem joinVs (f0 : Buf (Elt F) ((c : Thread nD τ).loc cc0_scratch11)) : bigSep Finset.univ (fun k : Fin 4 => Any c (slotVs (BitVec.ofNat 32 k.val) (k_lt k)))
    ⊢ (iprop(∃ f : Buf (Elt F) ((c : Thread nD τ).loc cc0_scratch11), ((c : Thread nD τ).loc cc0_scratch11) ↦{fullShare} f) : sProp 𝕄) := by
  iintro H
  iapply (Ring.pointsTo_blocks_join_exists (ℓ := (c : Thread nD τ).loc cc0_scratch11) setVs disjVs coverVs f0)
  iapply (mono4 fun k => (show Any c (slotVs (BitVec.ofNat 32 k.val) (k_lt k)) ⊢ (iprop(∃ f, ((c : Thread nD τ).loc cc0_scratch11) ↦[setVs k]{fullShare} f) : sProp 𝕄) from by
    unfold Any
    iintro ⟨%f, H⟩; iexists f; iapply (ofEq (slotPVs c k f)); iexact H))
  iexact H
theorem ringInVs (XVs : Vec F S4x131072 .f32) :
    (iprop((∃ f : Buf (Elt F) ((c : Thread nD τ).loc cc0_scratch11), ((c : Thread nD τ).loc cc0_scratch11) ↦{fullShare} f)
      ∗ (aPVs.view.loc (c : Thread nD τ) ↦[Finset.univ]{fullShare} XVs)
      ∗ semVal ((c : Thread nD τ), SemLoc.dma (semVs (BitVec.ofNat 32 (0 % 4)) (m_lt 0)).sem) 0
      ∗ semVal ((c : Thread nD τ), SemLoc.dma (semVs (BitVec.ofNat 32 (1 % 4)) (m_lt 1)).sem) 0
      ∗ semVal ((c : Thread nD τ), SemLoc.dma (semVs (BitVec.ofNat 32 (2 % 4)) (m_lt 2)).sem) 0
      ∗ semVal ((c : Thread nD τ), SemLoc.dma (semVs (BitVec.ofNat 32 (3 % 4)) (m_lt 3)).sem) 0) : sProp 𝕄)
    ⊢ iprop((IdleVs c XVs 0 ∗ IdleVs c XVs 1 ∗ IdleVs c XVs 2 ∗ IdleVs c XVs 3) ∗ (aPVs.view.loc (c : Thread nD τ) ↦[Finset.univ]{Transfers.shareDrop fullShare 4} XVs)) := by
  iintro ⟨HB, HX, S0, S1, S2, S3⟩
  ihave HB := (splitVs c) $$ HB
  ihave HB := (ofEq (bigSep_fin4 _)) $$ HB
  icases HB with ⟨B0, B1, B2, B3⟩
  ihave HX := (Transfers.pointsTo_toks_split fullShare 4) $$ HX
  icases HX with ⟨HX, HT⟩
  ihave HT := (ofEq (bigSep_fin4 _)) $$ HT
  icases HT with ⟨T0, T1, T2, T3⟩
  unfold IdleVs
  isplitr [HX]
  · isplitl [B0 S0 T0]
    · isplitl [B0]; · iexact B0
      isplitl [S0]; · iexact S0
      iexact T0
    isplitl [B1 S1 T1]
    · isplitl [B1]; · iexact B1
      isplitl [S1]; · iexact S1
      iexact T1
    isplitl [B2 S2 T2]
    · isplitl [B2]; · iexact B2
      isplitl [S2]; · iexact S2
      iexact T2
    isplitl [B3]; · iexact B3
    isplitl [S3]; · iexact S3
    iexact T3
  iexact HX
theorem ringOutVs (XVs : Vec F S4x131072 .f32) (f0 : Buf (Elt F) ((c : Thread nD τ).loc cc0_scratch11)) :
    iprop((IdleVs c XVs 0 ∗ IdleVs c XVs 1 ∗ IdleVs c XVs 2 ∗ IdleVs c XVs 3) ∗ (aPVs.view.loc (c : Thread nD τ) ↦[Finset.univ]{Transfers.shareDrop fullShare 4} XVs))
    ⊢ (iprop((∃ f : Buf (Elt F) ((c : Thread nD τ).loc cc0_scratch11), ((c : Thread nD τ).loc cc0_scratch11) ↦{fullShare} f)
      ∗ (aPVs.view.loc (c : Thread nD τ) ↦[Finset.univ]{fullShare} XVs)
      ∗ semVal ((c : Thread nD τ), SemLoc.dma (semVs (BitVec.ofNat 32 (0 % 4)) (m_lt 0)).sem) 0
      ∗ semVal ((c : Thread nD τ), SemLoc.dma (semVs (BitVec.ofNat 32 (1 % 4)) (m_lt 1)).sem) 0
      ∗ semVal ((c : Thread nD τ), SemLoc.dma (semVs (BitVec.ofNat 32 (2 % 4)) (m_lt 2)).sem) 0
      ∗ semVal ((c : Thread nD τ), SemLoc.dma (semVs (BitVec.ofNat 32 (3 % 4)) (m_lt 3)).sem) 0) : sProp 𝕄) := by
  unfold IdleVs
  iintro ⟨⟨⟨B0, S0, T0⟩, ⟨B1, S1, T1⟩, ⟨B2, S2, T2⟩, ⟨B3, S3, T3⟩⟩, HX⟩
  isplitl [B0 B1 B2 B3]
  · iapply (joinVs c f0)
    iapply (ofEq (bigSep_fin4 _).symm)
    isplitl [B0]; · iexact B0
    isplitl [B1]; · iexact B1
    isplitl [B2]; · iexact B2
    iexact B3
  isplitl [HX T0 T1 T2 T3]
  · iapply (Transfers.pointsTo_toks_join fullShare 4)
    isplitl [HX]; · iexact HX
    iapply (ofEq (bigSep_fin4 _).symm)
    isplitl [T0]; · iexact T0
    isplitl [T1]; · iexact T1
    isplitl [T2]; · iexact T2
    iexact T3
  isplitl [S0]; · iexact S0
  isplitl [S1]; · iexact S1
  isplitl [S2]; · iexact S2
  iexact S3

/-! ## The kernel's cells and operands -/

def osem : Fin 21 → SemLoc sig := ![
  SemLoc.dma (sem9 0 inb_S9_S1_0),
  SemLoc.dma (sem9 1 inb_S9_S1_1),
  SemLoc.dma (sem9 2 inb_S9_S1_2),
  SemLoc.dma (sem9 3 inb_S9_S1_3),
  SemLoc.dma (sem9 4 inb_S9_S1_4),
  SemLoc.dma (sem9 5 inb_S9_S1_5),
  SemLoc.dma (sem9 6 inb_S9_S1_6),
  SemLoc.dma (sem9 7 inb_S9_S1_7),
  SemLoc.dma (sem9 8 inb_S9_S1_8),
  SemLoc.dma (semK (BitVec.ofNat 32 (0 % 4)) (m_lt 0)).sem,
  SemLoc.dma (semK (BitVec.ofNat 32 (1 % 4)) (m_lt 1)).sem,
  SemLoc.dma (semK (BitVec.ofNat 32 (2 % 4)) (m_lt 2)).sem,
  SemLoc.dma (semK (BitVec.ofNat 32 (3 % 4)) (m_lt 3)).sem,
  SemLoc.dma (semV (BitVec.ofNat 32 (0 % 4)) (m_lt 0)).sem,
  SemLoc.dma (semV (BitVec.ofNat 32 (1 % 4)) (m_lt 1)).sem,
  SemLoc.dma (semV (BitVec.ofNat 32 (2 % 4)) (m_lt 2)).sem,
  SemLoc.dma (semV (BitVec.ofNat 32 (3 % 4)) (m_lt 3)).sem,
  SemLoc.dma (semVs (BitVec.ofNat 32 (0 % 4)) (m_lt 0)).sem,
  SemLoc.dma (semVs (BitVec.ofNat 32 (1 % 4)) (m_lt 1)).sem,
  SemLoc.dma (semVs (BitVec.ofNat 32 (2 % 4)) (m_lt 2)).sem,
  SemLoc.dma (semVs (BitVec.ofNat 32 (3 % 4)) (m_lt 3)).sem]
theorem ownSemFacts : Pipeline.OwnSemFacts spec0 osem := by decide

theorem ownSems_eq : (Pipeline.ownSems0 (Ix := Unit) (Name := ℕ) (U := UU nD τ) (Lvl := ℕ) (Val := Elt F) (τ := τ) osem c : sProp 𝕄)
    = iprop(semVal ((c : Thread nD τ), SemLoc.dma (sem9 0 inb_S9_S1_0)) 0 ∗ semVal ((c : Thread nD τ), SemLoc.dma (sem9 1 inb_S9_S1_1)) 0 ∗ semVal ((c : Thread nD τ), SemLoc.dma (sem9 2 inb_S9_S1_2)) 0 ∗ semVal ((c : Thread nD τ), SemLoc.dma (sem9 3 inb_S9_S1_3)) 0 ∗ semVal ((c : Thread nD τ), SemLoc.dma (sem9 4 inb_S9_S1_4)) 0 ∗ semVal ((c : Thread nD τ), SemLoc.dma (sem9 5 inb_S9_S1_5)) 0 ∗ semVal ((c : Thread nD τ), SemLoc.dma (sem9 6 inb_S9_S1_6)) 0 ∗ semVal ((c : Thread nD τ), SemLoc.dma (sem9 7 inb_S9_S1_7)) 0 ∗ semVal ((c : Thread nD τ), SemLoc.dma (sem9 8 inb_S9_S1_8)) 0 ∗ semVal ((c : Thread nD τ), SemLoc.dma (semK (BitVec.ofNat 32 (0 % 4)) (m_lt 0)).sem) 0 ∗ semVal ((c : Thread nD τ), SemLoc.dma (semK (BitVec.ofNat 32 (1 % 4)) (m_lt 1)).sem) 0 ∗ semVal ((c : Thread nD τ), SemLoc.dma (semK (BitVec.ofNat 32 (2 % 4)) (m_lt 2)).sem) 0 ∗ semVal ((c : Thread nD τ), SemLoc.dma (semK (BitVec.ofNat 32 (3 % 4)) (m_lt 3)).sem) 0 ∗ semVal ((c : Thread nD τ), SemLoc.dma (semV (BitVec.ofNat 32 (0 % 4)) (m_lt 0)).sem) 0 ∗ semVal ((c : Thread nD τ), SemLoc.dma (semV (BitVec.ofNat 32 (1 % 4)) (m_lt 1)).sem) 0 ∗ semVal ((c : Thread nD τ), SemLoc.dma (semV (BitVec.ofNat 32 (2 % 4)) (m_lt 2)).sem) 0 ∗ semVal ((c : Thread nD τ), SemLoc.dma (semV (BitVec.ofNat 32 (3 % 4)) (m_lt 3)).sem) 0 ∗ semVal ((c : Thread nD τ), SemLoc.dma (semVs (BitVec.ofNat 32 (0 % 4)) (m_lt 0)).sem) 0 ∗ semVal ((c : Thread nD τ), SemLoc.dma (semVs (BitVec.ofNat 32 (1 % 4)) (m_lt 1)).sem) 0 ∗ semVal ((c : Thread nD τ), SemLoc.dma (semVs (BitVec.ofNat 32 (2 % 4)) (m_lt 2)).sem) 0 ∗ semVal ((c : Thread nD τ), SemLoc.dma (semVs (BitVec.ofNat 32 (3 % 4)) (m_lt 3)).sem) 0) :=
  Pipeline.ownSems0_eq_of_list c osem [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] (by decide) (by decide)

/-- The operands left where they are. -/
def RR : Finset (Ref sig .tc) := [main_v0, main_v1, main_v2, main_v4, main_arg4, main_v6, main_v7, main_v9, main_v10, main_v12, main_v13, main_arg11].toFinset
theorem RR_sub : RR ⊆ Pipeline.restRefs sig spec0 := by decide
theorem routed_eq (Wt : (b : Ref sig .tc) → Buf (Elt F) ((c : Thread nD τ).loc b)) : (Pipeline.routed RR c Wt : sProp 𝕄)
    = iprop((((c : Thread nD τ).loc main_v0) ↦{fullShare} Wt main_v0) ∗ (((c : Thread nD τ).loc main_v1) ↦{fullShare} Wt main_v1) ∗ (((c : Thread nD τ).loc main_v2) ↦{fullShare} Wt main_v2) ∗ (((c : Thread nD τ).loc main_v4) ↦{fullShare} Wt main_v4) ∗ (((c : Thread nD τ).loc main_arg4) ↦{fullShare} Wt main_arg4) ∗ (((c : Thread nD τ).loc main_v6) ↦{fullShare} Wt main_v6) ∗ (((c : Thread nD τ).loc main_v7) ↦{fullShare} Wt main_v7) ∗ (((c : Thread nD τ).loc main_v9) ↦{fullShare} Wt main_v9) ∗ (((c : Thread nD τ).loc main_v10) ↦{fullShare} Wt main_v10) ∗ (((c : Thread nD τ).loc main_v12) ↦{fullShare} Wt main_v12) ∗ (((c : Thread nD τ).loc main_v13) ↦{fullShare} Wt main_v13) ∗ (((c : Thread nD τ).loc main_arg11) ↦{fullShare} Wt main_arg11)) := by
  unfold Pipeline.routed RR
  exact bigSep_eq_bigSepL [main_v0, main_v1, main_v2, main_v4, main_arg4, main_v6, main_v7, main_v9, main_v10, main_v12, main_v13, main_arg11] (by decide) _

variable (m : (ℓ : Loc nD τ sig) → Buf (Elt F) ℓ) (ρ : Dev nD → PrngReg)

/-- The operands as the kernel finds them. -/
def ops : Ops F := ⟨V m c main_v0, V m c main_v1, V m c main_v2, V m c main_v4, V m c main_arg4, V m c main_v6, V m c main_v7, V m c main_v9, V m c main_v10, V m c main_v12, V m c main_v13, V m c main_arg11⟩
/-- What is left over while the body runs. -/
def Rem (O : Ops F) : sProp 𝕄 :=
  iprop((aPK.view.loc (c : Thread nD τ) ↦[Finset.univ]{Transfers.shareDrop fullShare 4} O.pk)
    ∗ (aPV.view.loc (c : Thread nD τ) ↦[Finset.univ]{Transfers.shareDrop fullShare 4} O.pv)
    ∗ (aPVs.view.loc (c : Thread nD τ) ↦[Finset.univ]{Transfers.shareDrop fullShare 4} O.pvs)
    ∗ ∃ r, prngReg c r)
def Φ (O : Ops F) : sProp 𝕄 := iprop(Res c O ∗ Rem c O)

theorem Φ_in : Pipeline.Ends spec0 osem RR c (V m c) ⊢ Φ c (ops c m) := by
  unfold Pipeline.Ends
  rw [ownSems_eq, routed_eq, scopedRest0_eq]
  iintro ⟨⟨R0, R1, R2, R3, R4, R5, R6, R7, R8, R9, R10, R11⟩, ⟨S0, S1, S2, S3, S4, S5, S6, S7, S8, S9, S10, S11, S12, S13, S14, S15, S16, S17, S18, S19, S20⟩, ⟨B0, B1, B2, B3, B4, B5, B6, B7, B9, B10, B11, B12, B13, B14, B15, B16, B17, B18, B8⟩, HP⟩
  ihave GK := (ringInK c (ops c m).pk) $$ [B9 R3 S9 S10 S11 S12]
  · isplitl [B9]; · iexact B9
    isplitl [R3]; · iexact R3
    isplitl [S9]; · iexact S9
    isplitl [S10]; · iexact S10
    isplitl [S11]; · iexact S11
    iexact S12
  icases GK with ⟨GK, DK⟩
  ihave GV := (ringInV c (ops c m).pv) $$ [B10 R5 S13 S14 S15 S16]
  · isplitl [B10]; · iexact B10
    isplitl [R5]; · iexact R5
    isplitl [S13]; · iexact S13
    isplitl [S14]; · iexact S14
    isplitl [S15]; · iexact S15
    iexact S16
  icases GV with ⟨GV, DV⟩
  ihave GW := (ringInVs c (ops c m).pvs) $$ [B11 R6 S17 S18 S19 S20]
  · isplitl [B11]; · iexact B11
    isplitl [R6]; · iexact R6
    isplitl [S17]; · iexact S17
    isplitl [S18]; · iexact S18
    isplitl [S19]; · iexact S19
    iexact S20
  icases GW with ⟨GW, DW⟩
  icases GK with ⟨K0, K1, K2, K3⟩
  icases GV with ⟨V0, V1, V2, V3⟩
  icases GW with ⟨W0, W1, W2, W3⟩
  unfold Φ Res Rem
  isplitr [DK DV DW HP]
  · isplitl [R0 B0 S0 R4 B3 S1 R1 B1 S2 R2 B2 S3 R11 B8 S4 R7 B4 S5 R8 B5 S6 R9 B6 S7 R10 B7 S8]
    · unfold Sms Sm
      isplitl [R0 B0 S0]
      · isplitl [R0]; · iexact R0
        isplitl [B0]; · iapply (ofEq (Any_eq c bX (Memref.isWhole_whole _)).symm); iexact B0
        iexact S0
      isplitl [R4 B3 S1]
      · isplitl [R4]; · iexact R4
        isplitl [B3]; · iapply (ofEq (Any_eq c bPKs (Memref.isWhole_whole _)).symm); iexact B3
        iexact S1
      isplitl [R1 B1 S2]
      · isplitl [R1]; · iexact R1
        isplitl [B1]; · iapply (ofEq (Any_eq c bKn (Memref.isWhole_whole _)).symm); iexact B1
        iexact S2
      isplitl [R2 B2 S3]
      · isplitl [R2]; · iexact R2
        isplitl [B2]; · iapply (ofEq (Any_eq c bVn (Memref.isWhole_whole _)).symm); iexact B2
        iexact S3
      isplitl [R11 B8 S4]
      · isplitl [R11]; · iexact R11
        isplitl [B8]; · iapply (ofEq (Any_eq c bLen (Memref.isWhole_whole _)).symm); iexact B8
        iexact S4
      isplitl [R7 B4 S5]
      · isplitl [R7]; · iexact R7
        isplitl [B4]; · iapply (ofEq (Any_eq c bTK (Memref.isWhole_whole _)).symm); iexact B4
        iexact S5
      isplitl [R8 B5 S6]
      · isplitl [R8]; · iexact R8
        isplitl [B5]; · iapply (ofEq (Any_eq c bTKs (Memref.isWhole_whole _)).symm); iexact B5
        iexact S6
      isplitl [R9 B6 S7]
      · isplitl [R9]; · iexact R9
        isplitl [B6]; · iapply (ofEq (Any_eq c bTV (Memref.isWhole_whole _)).symm); iexact B6
        iexact S7
      isplitl [R10]; · iexact R10
      isplitl [B7]; · iapply (ofEq (Any_eq c bTVs (Memref.isWhole_whole _)).symm); iexact B7
      iexact S8
    isplitl [K0 K1 K2 K3 V0 V1 V2 V3 W0 W1 W2 W3]
    · unfold Idles
      isplitl [K0]; · iexact K0
      isplitl [K1]; · iexact K1
      isplitl [K2]; · iexact K2
      isplitl [K3]; · iexact K3
      isplitl [V0]; · iexact V0
      isplitl [V1]; · iexact V1
      isplitl [V2]; · iexact V2
      isplitl [V3]; · iexact V3
      isplitl [W0]; · iexact W0
      isplitl [W1]; · iexact W1
      isplitl [W2]; · iexact W2
      iexact W3
    isplitl [B14]; · iapply (ofEq (Any_eq c bQ (Memref.isWhole_whole _)).symm); iexact B14
    isplitl [B15]; · iapply (ofEq (Any_eq c bM (Memref.isWhole_whole _)).symm); iexact B15
    isplitl [B16]; · iapply (ofEq (Any_eq c bAl (Memref.isWhole_whole _)).symm); iexact B16
    isplitl [B17]; · iapply (ofEq (Any_eq c bL (Memref.isWhole_whole _)).symm); iexact B17
    isplitl [B18]; · iapply (ofEq (Any_eq c bAcc (Memref.isWhole_whole _)).symm); iexact B18
    isplitl [B12]; · iapply (ofEq (Any_eq c bA (Memref.isWhole_whole _)).symm); iexact B12
    iapply (ofEq (Any_eq c bB (Memref.isWhole_whole _)).symm); iexact B13
  isplitl [DK]; · iexact DK
  isplitl [DV]; · iexact DV
  isplitl [DW]; · iexact DW
  iexact HP

theorem Φ_out : Φ c (ops c m) ⊢ Pipeline.Ends spec0 osem RR c (V m c) := by
  unfold Pipeline.Ends
  rw [ownSems_eq, routed_eq, scopedRest0_eq]
  unfold Φ Res Rem Sms Sm Idles
  iintro ⟨⟨⟨⟨R0, B0, S0⟩, ⟨R4, B3, S1⟩, ⟨R1, B1, S2⟩, ⟨R2, B2, S3⟩, ⟨R11, B8, S4⟩, ⟨R7, B4, S5⟩, ⟨R8, B5, S6⟩, ⟨R9, B6, S7⟩, ⟨R10, B7, S8⟩⟩, ⟨K0, K1, K2, K3, V0, V1, V2, V3, W0, W1, W2, W3⟩, B14, B15, B16, B17, B18, B12, B13⟩, DK, DV, DW, HP⟩
  ihave GK := (ringOutK c (ops c m).pk (fun _ => default)) $$ [K0 K1 K2 K3 DK]
  · isplitr [DK]
    · isplitl [K0]; · iexact K0
      isplitl [K1]; · iexact K1
      isplitl [K2]; · iexact K2
      iexact K3
    iexact DK
  icases GK with ⟨B9, R3, S9, S10, S11, S12⟩
  ihave GV := (ringOutV c (ops c m).pv (fun _ => default)) $$ [V0 V1 V2 V3 DV]
  · isplitr [DV]
    · isplitl [V0]; · iexact V0
      isplitl [V1]; · iexact V1
      isplitl [V2]; · iexact V2
      iexact V3
    iexact DV
  icases GV with ⟨B10, R5, S13, S14, S15, S16⟩
  ihave GW := (ringOutVs c (ops c m).pvs (fun _ => default)) $$ [W0 W1 W2 W3 DW]
  · isplitr [DW]
    · isplitl [W0]; · iexact W0
      isplitl [W1]; · iexact W1
      isplitl [W2]; · iexact W2
      iexact W3
    iexact DW
  icases GW with ⟨B11, R6, S17, S18, S19, S20⟩
  ihave B0 := (ofEq (Any_eq c bX (Memref.isWhole_whole _))) $$ B0
  ihave B1 := (ofEq (Any_eq c bKn (Memref.isWhole_whole _))) $$ B1
  ihave B2 := (ofEq (Any_eq c bVn (Memref.isWhole_whole _))) $$ B2
  ihave B3 := (ofEq (Any_eq c bPKs (Memref.isWhole_whole _))) $$ B3
  ihave B4 := (ofEq (Any_eq c bTK (Memref.isWhole_whole _))) $$ B4
  ihave B5 := (ofEq (Any_eq c bTKs (Memref.isWhole_whole _))) $$ B5
  ihave B6 := (ofEq (Any_eq c bTV (Memref.isWhole_whole _))) $$ B6
  ihave B7 := (ofEq (Any_eq c bTVs (Memref.isWhole_whole _))) $$ B7
  ihave B8 := (ofEq (Any_eq c bLen (Memref.isWhole_whole _))) $$ B8
  ihave B12 := (ofEq (Any_eq c bA (Memref.isWhole_whole _))) $$ B12
  ihave B13 := (ofEq (Any_eq c bB (Memref.isWhole_whole _))) $$ B13
  ihave B14 := (ofEq (Any_eq c bQ (Memref.isWhole_whole _))) $$ B14
  ihave B15 := (ofEq (Any_eq c bM (Memref.isWhole_whole _))) $$ B15
  ihave B16 := (ofEq (Any_eq c bAl (Memref.isWhole_whole _))) $$ B16
  ihave B17 := (ofEq (Any_eq c bL (Memref.isWhole_whole _))) $$ B17
  ihave B18 := (ofEq (Any_eq c bAcc (Memref.isWhole_whole _))) $$ B18
  isplitl [R0 R1 R2 R3 R4 R5 R6 R7 R8 R9 R10 R11]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [S0 S1 S2 S3 S4 S5 S6 S7 S8 S9 S10 S11 S12 S13 S14 S15 S16 S17 S18 S19 S20]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    iexact S20
  isplitl [B0 B1 B2 B3 B4 B5 B6 B7 B9 B10 B11 B12 B13 B14 B15 B16 B17 B18 B8]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    iexact B8
  iexact HP

/-! ## The pipeline -/

def dats (_ : Fin 1) (c : Dev nD) : Dat τ (Elt F) Unit ℕ (UU nD τ) ℕ cfg0 c where
  A w := V m c (Pipeline.arrRef spec0 w)
  after w t := match w with
    | ⟨0, _⟩ => kOut (ops c m)
  Φ _ := Φ c (ops c m)
  q _ := fullShare
  owed _ := 0

theorem after_w0 (t : Fin cfg0.N) : (dats m 0 c).after 0 t = kOut (ops c m) := by dsimp only [dats]

theorem defs_tc : (defs₀ (F := F)) .tc cfg0.body
    = fun a => cc0_cascade_decode (Memref.whole main_v0) (Memref.isWhole_whole _) (Memref.whole main_v1) (Memref.isWhole_whole _) (Memref.whole main_v2) (Memref.isWhole_whole _) (Memref.whole main_v4) (Memref.isWhole_whole _) (Memref.whole main_arg4) (Memref.isWhole_whole _) (Memref.whole main_v6) (Memref.isWhole_whole _) (Memref.whole main_v7) (Memref.isWhole_whole _) (Memref.whole main_v9) (Memref.isWhole_whole _) (Memref.whole main_v10) (Memref.isWhole_whole _) (Memref.whole main_v12) (Memref.isWhole_whole _) (Memref.whole main_v13) (Memref.isWhole_whole _) (Memref.whole main_arg11) (Memref.isWhole_whole _) (win0_0.stage (a.2 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 := rfl
theorem prog_eq (t : Fin cfg0.N) : (defs₀ (F := F)) .tc cfg0.body (cfg0.bodyArgs t (cfg0.slots t))
    = kBody (win0_0.stage (cfg0.slots t 0)) (hstage0_0 0) :=
  (congrFun defs_tc _).trans (body_eq (win0_0.stage (cfg0.slots t 0)) (hstage0_0 0))

theorem W_body' (O : Ops F) (o : Memref sig .tc .vmem S2x2048 .bf16) (ho : o.IsWhole) (Q : PUnit → sProp 𝕄) :
    iprop(Res c O ∗ Any c o ∗ Owes c)
      ⊢ iprop((iprop(Res c O ∗ owns (c : Thread nD τ) o fullShare (kOut O) ∗ Owes c) -∗ Q ⟨⟩)
        -∗ wp frame (wpE (defs₀ (F := F)) 𝒱₀ (c : Thread nD τ) none) Set.univ (kBody o ho) Q) := W_body c O o ho Q

set_option backward.isDefEq.respectTransparency.types false in
theorem body_obligation : BodyObligation (dats (F := F) m 0 c) (defs₀ (F := F)) 𝒱₀ () Set.univ := fun t => by
  rw [bigSep_W0, bigSep_W0]
  dsimp only
  simp only [after_w0]
  rw [show (dats m 0 c).Φ t.castSucc = Φ c (ops c m) from rfl, show (dats m 0 c).Φ t.succ = Φ c (ops c m) from rfl]
  unfold Dat.owesAt Pipeline.owesWithin
  rw [show (dats m 0 c).owed t.castSucc = 0 from rfl, show (dats m 0 c).owed t.succ = 0 from rfl]
  unfold Φ
  iintro ⟨⟨HR, HM⟩, ⟨%Wt, -, HW⟩, ⟨%d0, Ho⟩⟩
  ihave Ho := (Any_of_owns c (win0_0.stage (cfg0.slots t 0)) _) $$ Ho
  sl_rw [prog_eq t]
  iapply (W_body' c (ops c m) (win0_0.stage (cfg0.slots t 0)) (hstage0_0 0)) $$ [HR Ho HW]
  · isplitl [HR]; · iexact HR
    isplitl [Ho]; · iexact Ho
    unfold Owes; iexists Wt; iexact HW
  unfold Owes
  iintro ⟨HR, Ho, ⟨%W', HW⟩⟩
  isplitl [HR HM]
  · isplitl [HR]; · iexact HR
    iexact HM
  isplitl [HW]
  · iexists W'; isplitr; · ipureintro; exact fun _ _ => Or.inl trivial
    iexact HW
  iexact Ho

theorem run_main : θ_run defs (onTc (τ := τ) (main (F := F))) (s₀ m ρ)
    (fun r => Pipeline.RoutedPost cfgs (dats m) 0 RR (V m) (V m) r ∧ r.2.sem = fun _ => 0) :=
  Pipeline.θ_run_frame_routed (Q' := _) cfgs (dats m) (0 : Fin 1) launch0 ownSemFacts defs₀ 𝒱₀ m ρ main
    (hbody := fun c => (body_obligation c m).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := RR) (hR := RR_sub) (Y := V m)
    (hin := fun c => Φ_in c m) (hout := fun c => Φ_out c m)

/-! ## The frame -/

theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c => ⟨((h.1 c).2.2 main_arg0 (by decide)).trans (Gen.V_main_arg0 m c),
      ((h.1 c).2.2 main_arg1 (by decide)).trans (Gen.V_main_arg1 m c),
      ((h.1 c).2.2 main_arg2 (by decide)).trans (Gen.V_main_arg2 m c),
      ((h.1 c).2.2 main_arg3 (by decide)).trans (Gen.V_main_arg3 m c),
      ((h.1 c).2.1 main_arg4 (by decide)).trans (Gen.V_main_arg4 m c),
      ((h.1 c).2.2 main_arg5 (by decide)).trans (Gen.V_main_arg5 m c),
      ((h.1 c).2.2 main_arg6 (by decide)).trans (Gen.V_main_arg6 m c),
      ((h.1 c).2.2 main_arg7 (by decide)).trans (Gen.V_main_arg7 m c),
      ((h.1 c).2.2 main_arg8 (by decide)).trans (Gen.V_main_arg8 m c),
      ((h.1 c).2.2 main_arg9 (by decide)).trans (Gen.V_main_arg9 m c),
      ((h.1 c).2.2 main_arg10 (by decide)).trans (Gen.V_main_arg10 m c),
      ((h.1 c).2.1 main_arg11 (by decide)).trans (Gen.V_main_arg11 m c)⟩, h.2⟩) (run_main m ρ)

/-- The result, as the library computes it. -/
theorem out_run : θ_run defs (onTc (τ := τ) (main (F := F))) ⟨m, fun _ => 0, ρ⟩ (fun r => ∀ c : Dev nD,
    r.2.mem ((c.tc : Thread nD τ).loc main_v14) = (dats m 0 c).arrAt 0 cfg0.N) :=
  (θ_run defs _ _).mono (fun _ h => fun c => (h.1 c).1 0) (run_main m ρ)

end Cert.KernelIdeal.Steps

end
-- ==== Proof.Attn.lean ====
/-
  The attention of the problem, on the extended reals: what batch `b`, head `h` and column `d` of the result is, from the
  arguments read at their indices. Both programs are read as this.
-/
module

public import proofs.«01_k».proof.Proof.Spec

@[expose] public section

noncomputable section

namespace Cert.Spec
open Idealize.ShloMosaic

/-- The arguments, read at indices: the query, the new key and value, the prefix's keys and values with their scales,
    the tail's with theirs, and the tails' lengths. -/
structure Args where
  x : Fin 2 → Fin 32 → Fin 64 → EReal
  kn : Fin 2 → Fin 4 → Fin 64 → EReal
  vn : Fin 2 → Fin 4 → Fin 64 → EReal
  pk : Fin 131072 → Fin 4 → Fin 64 → EReal
  pks : Fin 4 → Fin 64 → EReal
  pv : Fin 131072 → Fin 4 → Fin 64 → EReal
  pvs : Fin 131072 → Fin 4 → EReal
  tk : Fin 2 → Fin 1024 → Fin 4 → Fin 64 → EReal
  tks : Fin 2 → Fin 1024 → Fin 4 → EReal
  tv : Fin 2 → Fin 1024 → Fin 4 → Fin 64 → EReal
  tvs : Fin 2 → Fin 1024 → Fin 4 → EReal
  len : Fin 2 → BitVec 32

variable (A : Args) (b : Fin 2) (h : Fin 32) (d : Fin 64)

/-- The key and value head of query head `h`. -/
abbrev kvh (h : Fin 32) : Fin 4 := ⟨h.val / 8, by omega⟩
abbrev pcol (p : ℕ) : Fin 131072 := ⟨p % 131072, Nat.mod_lt _ (by norm_num)⟩
abbrev tpos (t : ℕ) : Fin 1024 := ⟨t % 1024, Nat.mod_lt _ (by norm_num)⟩

/-- The row's scores, not yet scaled. -/
def Args.row : Row where
  S p := ∑ k : Fin 64, (A.x b h k * A.pks (kvh h) k) * A.pk (pcol p) (kvh h) k
  T t := Scalar.select (IntOp.cmpi .slt (BitVec.ofNat 32 (tpos t).val) (A.len b))
    ((∑ k : Fin 64, A.x b h k * A.tk b (tpos t) (kvh h) k) * A.tks b (tpos t) (kvh h)) (⊥ : EReal)
  w := ∑ k : Fin 64, A.x b h k * A.kn b (kvh h) k

/-- The result: the weighted values over the weights, both against the row's maximum. -/
def Args.out : EReal :=
  Ideal.div ((A.row b h).tot (fun p => A.pvs (pcol p) (kvh h) * A.pv (pcol p) (kvh h) d)
      (fun t => A.tvs b (tpos t) (kvh h) * A.tv b (tpos t) (kvh h) d) (A.vn b (kvh h) d) (A.row b h).mx)
    ((A.row b h).tot 1 1 1 (A.row b h).mx)

/-- The result at batch `b` and column `k` of the heads side by side. -/
def Args.cell (k : Fin 2048) : EReal := A.out b ⟨k.val / 64, by omega⟩ ⟨k.val % 64, by omega⟩
/-- The result as an array. -/
def Args.arr : (⟨2, ![2, 2048]⟩ : Shape).Idx → EReal := fun i => A.cell (i 0) (i 1)

end Cert.Spec

end
-- ==== Proof.KernelIdeal.ValueD.lean ====
module

public import proofs.«01_k».proof.Proof.KernelIdeal.ValueC
public import proofs.«01_k».proof.Proof.KernelIdeal.Run

public import proofs.«01_k».proof.Proof.Attn
public import Idealize.ShloMosaic.Lib.StableHlo.ReadAt
public import Idealize.ShloMosaic.Lib.Pipeline.ValueKit.Geometry

@[expose] public section

noncomputable section

namespace Cert.KernelIdeal.Steps

open Facts₀ Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Spec Gen

variable (m : ∀ l : Loc nD τ sig, Buf (Elt Ideal) l) (c : Dev nD)

/-! ## The operands, from the arguments -/

theorem x_at (r d : Fin 64) : (ops c m).x (ix2 r d) = m ((c.tc : Thread nD τ).loc main_arg0) (ix4 (bt r) (0 : Fin 1) (⟨r.val % 32, by omega⟩ : Fin 32) d) := by
  show Gen.V m c main_v0 (ix2 r d) = _
  unfold Gen.V Gen.hostOps0
  after_reads_at

theorem kn_at (b : Fin 2) (n : Fin 4) (d : Fin 64) : (ops c m).kn (ix3 b n d) = m ((c.tc : Thread nD τ).loc main_arg1) (ix4 b (0 : Fin 1) n d) := by
  show Gen.V m c main_v1 (ix3 b n d) = _
  unfold Gen.V Gen.hostOps0
  after_reads_at

theorem vn_at (b : Fin 2) (n : Fin 4) (d : Fin 64) : (ops c m).vn (ix3 b n d) = m ((c.tc : Thread nD τ).loc main_arg2) (ix4 b (0 : Fin 1) n d) := by
  show Gen.V m c main_v2 (ix3 b n d) = _
  unfold Gen.V Gen.hostOps0
  after_reads_at

theorem pk_at (n : Fin 4) (d : Fin 64) (p : Fin 131072) : (ops c m).pk (ix2 (at4 n d) p) = m ((c.tc : Thread nD τ).loc main_arg3) (ix3 p n d) := by
  show Gen.V m c main_v4 (ix2 (at4 n d) p) = _
  unfold Gen.V Gen.hostOps0
  after_reads_at
  exact congrArg₂ (fun a e => m ((c.tc : Thread nD τ).loc main_arg3) (ix3 p a e)) (Fin.ext (by show (n.val * 64 + d.val) / 64 = n.val; omega)) (Fin.ext (by show (n.val * 64 + d.val) % 64 = d.val; omega))

theorem pv_at (n : Fin 4) (d : Fin 64) (p : Fin 131072) : (ops c m).pv (ix2 (at4 n d) p) = m ((c.tc : Thread nD τ).loc main_arg5) (ix3 p n d) := by
  show Gen.V m c main_v6 (ix2 (at4 n d) p) = _
  unfold Gen.V Gen.hostOps0
  after_reads_at
  exact congrArg₂ (fun a e => m ((c.tc : Thread nD τ).loc main_arg5) (ix3 p a e)) (Fin.ext (by show (n.val * 64 + d.val) / 64 = n.val; omega)) (Fin.ext (by show (n.val * 64 + d.val) % 64 = d.val; omega))

theorem tk_at (b : Fin 2) (n : Fin 4) (d : Fin 64) (t : Fin 1024) : (ops c m).tk (ix3 b (at4 n d) t) = m ((c.tc : Thread nD τ).loc main_arg7) (ix4 b t n d) := by
  show Gen.V m c main_v9 (ix3 b (at4 n d) t) = _
  unfold Gen.V Gen.hostOps0
  after_reads_at
  exact congrArg₂ (fun a e => m ((c.tc : Thread nD τ).loc main_arg7) (ix4 b t a e)) (Fin.ext (by show (n.val * 64 + d.val) / 64 = n.val; omega)) (Fin.ext (by show (n.val * 64 + d.val) % 64 = d.val; omega))

theorem tv_at (b : Fin 2) (n : Fin 4) (d : Fin 64) (t : Fin 1024) : (ops c m).tv (ix3 b (at4 n d) t) = m ((c.tc : Thread nD τ).loc main_arg9) (ix4 b t n d) := by
  show Gen.V m c main_v12 (ix3 b (at4 n d) t) = _
  unfold Gen.V Gen.hostOps0
  after_reads_at
  exact congrArg₂ (fun a e => m ((c.tc : Thread nD τ).loc main_arg9) (ix4 b t a e)) (Fin.ext (by show (n.val * 64 + d.val) / 64 = n.val; omega)) (Fin.ext (by show (n.val * 64 + d.val) % 64 = d.val; omega))

theorem tks_at (b : Fin 2) (n : Fin 4) (t : Fin 1024) : (ops c m).tks (ix3 b n t) = m ((c.tc : Thread nD τ).loc main_arg8) (ix3 b t n) := by
  show Gen.V m c main_v10 (ix3 b n t) = _
  unfold Gen.V Gen.hostOps0
  after_reads_at

theorem tvs_at (b : Fin 2) (n : Fin 4) (t : Fin 1024) : (ops c m).tvs (ix3 b n t) = m ((c.tc : Thread nD τ).loc main_arg10) (ix3 b t n) := by
  show Gen.V m c main_v13 (ix3 b n t) = _
  unfold Gen.V Gen.hostOps0
  after_reads_at

theorem pvs_at (n : Fin 4) (p : Fin 131072) : (ops c m).pvs (ix2 n p) = m ((c.tc : Thread nD τ).loc main_arg6) (ix2 p n) := by
  show Gen.V m c main_v7 (ix2 n p) = _
  unfold Gen.V Gen.hostOps0
  after_reads_at

theorem pks_at : (ops c m).pks = m ((c.tc : Thread nD τ).loc main_arg4) := Gen.V_main_arg4 m c
theorem len_at : (ops c m).len = m ((c.tc : Thread nD τ).loc main_arg11) := Gen.V_main_arg11 m c

theorem out_arr : (dats m 0 c).arrAt 0 cfg0.N = kOut (ops c m) := by
  refine (dats m 0 c).arrAt_eq_of_after_last 0 t0_0 (by decide +kernel) _ fun j => ?_
  blk_simp
  rw [after_w0]

/-! ## The result, from the arguments -/

/-- The arguments, read at indices. -/
def arg : Args where
  x b h d := m ((c.tc : Thread nD τ).loc main_arg0) (ix4 b (0 : Fin 1) h d)
  kn b n d := m ((c.tc : Thread nD τ).loc main_arg1) (ix4 b (0 : Fin 1) n d)
  vn b n d := m ((c.tc : Thread nD τ).loc main_arg2) (ix4 b (0 : Fin 1) n d)
  pk p n d := m ((c.tc : Thread nD τ).loc main_arg3) (ix3 p n d)
  pks n d := m ((c.tc : Thread nD τ).loc main_arg4) (ix2 n d)
  pv p n d := m ((c.tc : Thread nD τ).loc main_arg5) (ix3 p n d)
  pvs p n := m ((c.tc : Thread nD τ).loc main_arg6) (ix2 p n)
  tk b t n d := m ((c.tc : Thread nD τ).loc main_arg7) (ix4 b t n d)
  tks b t n := m ((c.tc : Thread nD τ).loc main_arg8) (ix3 b t n)
  tv b t n d := m ((c.tc : Thread nD τ).loc main_arg9) (ix4 b t n d)
  tvs b t n := m ((c.tc : Thread nD τ).loc main_arg10) (ix3 b t n)
  len b := m ((c.tc : Thread nD τ).loc main_arg11) (ix1 b)

abbrev rh (r : Fin 64) : Fin 32 := ⟨r.val % 32, by omega⟩
theorem hd_eq (r : Fin 64) : hd r = kvh (rh r) := Fin.ext (by show r.val / 8 % 4 = r.val % 32 / 8; omega)

theorem row_eq (r : Fin 64) : (⟨pS (ops c m) r, tS (ops c m) r, nS (ops c m) r⟩ : Row) = (arg m c).row (bt r) (rh r) := by
  have hS : pS (ops c m) r = ((arg m c).row (bt r) (rh r)).S := by
    funext p
    unfold pS Args.row
    dsimp only
    refine Finset.sum_congr rfl fun k _ => ?_
    rw [x_at, pks_at, pk_at, hd_eq]
    rfl
  have hT : tS (ops c m) r = ((arg m c).row (bt r) (rh r)).T := by
    funext t
    unfold tS Args.row
    dsimp only
    rw [len_at, tks_at, hd_eq]
    simp only [x_at, tk_at]
    rfl
  have hw : nS (ops c m) r = ((arg m c).row (bt r) (rh r)).w := by
    unfold nS Args.row
    dsimp only
    refine Finset.sum_congr rfl fun k _ => ?_
    rw [x_at, kn_at, hd_eq]
    rfl
  rw [hS, hT, hw]

theorem rowOut_eq (r d : Fin 64) : rowOut (ops c m) r d = (arg m c).out (bt r) (rh r) d := by
  unfold rowOut Args.out
  rw [row_eq]
  have hK : wK r (ops c m).pv (ops c m).pvs (at4 (hd r) d) = fun p => (arg m c).pvs (Spec.pcol p) (kvh (rh r)) * (arg m c).pv (Spec.pcol p) (kvh (rh r)) d := by
    funext p
    unfold wK
    rw [pvs_at, pv_at, hd_eq]; rfl
  have hT : wT (ops c m) r (at4 (hd r) d) = fun t => (arg m c).tvs (bt r) (tpos t) (kvh (rh r)) * (arg m c).tv (bt r) (tpos t) (kvh (rh r)) d := by
    funext t
    unfold wT
    rw [tvs_at, tv_at, hd_eq]; rfl
  have hN : wN (ops c m) r (at4 (hd r) d) = (arg m c).vn (bt r) (kvh (rh r)) d := by
    unfold wN
    rw [vn_at]
    rw [show (⟨(at4 (hd r) d).val / 64, by omega⟩ : Fin 4) = kvh (rh r) from Fin.ext (by show (r.val / 8 % 4 * 64 + d.val) / 64 = r.val % 32 / 8; omega),
      show (⟨(at4 (hd r) d).val % 64, by omega⟩ : Fin 64) = d from Fin.ext (by show (r.val / 8 % 4 * 64 + d.val) % 64 = d.val; omega)]
    rfl
  rw [hK, hT, hN]

theorem out_at (b : Fin 2) (k : Fin 2048) :
    kOut (ops c m) (ix2 b k) = (arg m c).out b ⟨k.val / 64, by omega⟩ ⟨k.val % 64, by omega⟩ := by
  rw [kOut_at, rowOut_eq]
  congr 1
  · exact Fin.ext (by show (b.val * 32 + k.val / 64) / 32 = b.val; omega)
  · exact Fin.ext (by show (b.val * 32 + k.val / 64) % 32 = k.val / 64; omega)

theorem out_eq : (dats m 0 c).arrAt 0 cfg0.N = (arg m c).arr := by
  rw [out_arr]
  funext i
  have e : i = ix2 (i 0 : Fin 2) (i 1 : Fin 2048) := by
    funext a
    match a with
    | ⟨0, _⟩ => rfl
    | ⟨1, _⟩ => rfl
  rw [e]
  exact out_at m c _ _

/-- The run: the result is the attention at the arguments, and the arguments are unchanged. -/
theorem run_arr (ρ : Dev nD → PrngReg) : θ_run defs (onTc (τ := τ) (main (F := Ideal))) ⟨m, fun _ => 0, ρ⟩ (fun r => ∀ c : Dev nD,
    r.2.mem ((c.tc : Thread nD τ).loc main_v14) = (arg m c).arr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h.1 c).1 0).trans (out_eq m c),
      ((h.1 c).2.2 main_arg0 (by decide)).trans (Gen.V_main_arg0 m c),
      ((h.1 c).2.2 main_arg1 (by decide)).trans (Gen.V_main_arg1 m c),
      ((h.1 c).2.2 main_arg2 (by decide)).trans (Gen.V_main_arg2 m c),
      ((h.1 c).2.2 main_arg3 (by decide)).trans (Gen.V_main_arg3 m c),
      ((h.1 c).2.1 main_arg4 (by decide)).trans (Gen.V_main_arg4 m c),
      ((h.1 c).2.2 main_arg5 (by decide)).trans (Gen.V_main_arg5 m c),
      ((h.1 c).2.2 main_arg6 (by decide)).trans (Gen.V_main_arg6 m c),
      ((h.1 c).2.2 main_arg7 (by decide)).trans (Gen.V_main_arg7 m c),
      ((h.1 c).2.2 main_arg8 (by decide)).trans (Gen.V_main_arg8 m c),
      ((h.1 c).2.2 main_arg9 (by decide)).trans (Gen.V_main_arg9 m c),
      ((h.1 c).2.2 main_arg10 (by decide)).trans (Gen.V_main_arg10 m c),
      ((h.1 c).2.1 main_arg11 (by decide)).trans (Gen.V_main_arg11 m c)⟩) (run_main m ρ)

end Cert.KernelIdeal.Steps

end
-- ==== Proof.RefValue.lean ====
/-
  The reference, read at an index: its result is the attention of `Attn.lean`, at the extended reals.
-/
module

public import proofs.«01_k».proof.Proof.Gen.ReferenceIdeal.Read
public import proofs.«01_k».proof.Proof.Attn
public import Idealize.ShloMosaic.Lib.Pointwise

@[expose] public section

noncomputable section

namespace Cert.ReferenceIdeal.Val

open Idealize.ShloMosaic Cert.ReferenceIdeal.Read Cert.Spec

variable (x0 : (⟨S2x1x32x64, .bf16⟩ : BufTy).Contents (Elt Ideal)) (x1 x2 : (⟨S2x1x4x64, .bf16⟩ : BufTy).Contents (Elt Ideal)) (x4 : (⟨S4x64, .f32⟩ : BufTy).Contents (Elt Ideal))
  (x6 : (⟨S131072x4, .f32⟩ : BufTy).Contents (Elt Ideal)) (x8 x10 : (⟨S2x1024x4, .f32⟩ : BufTy).Contents (Elt Ideal)) (x11 : (⟨S2, .i32⟩ : BufTy).Contents (Elt Ideal))
  (r0 r1 : (⟨S131072x4x64, .bf16⟩ : BufTy).Contents (Elt Ideal)) (r2 r3 : (⟨S2x1024x4x64, .bf16⟩ : BufTy).Contents (Elt Ideal))

/-- The arguments, with the casts of the caches in their place. -/
def arg : Args where
  x b h d := x0 (ix4 b (0 : Fin 1) h d)
  kn b n d := x1 (ix4 b (0 : Fin 1) n d)
  vn b n d := x2 (ix4 b (0 : Fin 1) n d)
  pk p n d := r0 (ix3 p n d)
  pks n d := x4 (ix2 n d)
  pv p n d := r1 (ix3 p n d)
  pvs p n := x6 (ix2 p n)
  tk b t n d := r2 (ix4 b t n d)
  tks b t n := x8 (ix3 b t n)
  tv b t n d := r3 (ix4 b t n d)
  tvs b t n := x10 (ix3 b t n)
  len b := x11 (ix1 b)

abbrev qb (q : Fin 16) : Fin 2 := ⟨q.val / 8, by omega⟩
abbrev qh (n : Fin 4) (q : Fin 16) : Fin 32 := ⟨n.val * 8 + q.val % 8, by omega⟩

/-- The scores of the row that the reference keeps at head `n`, place `q`. -/
def rowR (n : Fin 4) (q : Fin 16) : Row where
  S p := ∑ k : Fin 64, (x0 (ix4 (qb q) (0 : Fin 1) (qh n q) k) * x4 (ix2 n k)) * r0 (ix3 (Spec.pcol p) n k)
  T t := Scalar.select (IntOp.cmpi .slt (BitVec.ofNat 32 (Spec.tpos t).val) (x11 (ix1 (qb q))))
    ((∑ k : Fin 64, x0 (ix4 (qb q) (0 : Fin 1) (qh n q) k) * r2 (ix4 (qb q) (Spec.tpos t) n k)) * x8 (ix3 (qb q) (Spec.tpos t) n)) (⊥ : EReal)
  w := ∑ k : Fin 64, x0 (ix4 (qb q) (0 : Fin 1) (qh n q) k) * x1 (ix4 (qb q) (0 : Fin 1) n k)

theorem pcol_val (p : Fin 131072) : Spec.pcol p.val = p := Fin.ext (Nat.mod_eq_of_lt p.isLt)
theorem tpos_val (t : Fin 1024) : Spec.tpos t.val = t := Fin.ext (Nat.mod_eq_of_lt t.isLt)

theorem ofBits_c8 : Ideal.ofBits .f32 0x3E000000#32 = c8 := by
  unfold c8
  simp [Ideal.ofBits, Ideal.ieee]
  rw [← EReal.coe_mul]
  norm_num
theorem ofBits_bot : Ideal.ofBits .f32 0xFF800000#32 = (⊥ : EReal) := by
  simp [Ideal.ofBits, Ideal.ieee]
theorem bot_id : id (constant (F := Ideal) S_ .f32 0xFF800000#32) ix0 = (⊥ : EReal) := ofBits_bot
theorem select_c8 (b : BitVec 1) (x : EReal) : Scalar.select b (x * c8) (⊥ : EReal) = Scalar.select b x (⊥ : EReal) * c8 := by
  unfold Scalar.select
  split
  · rfl
  · exact bot_c8.symm

theorem v2_at (n : Fin 4) (b : Fin 2) (u : Fin 1) (g : Fin 8) (d : Fin 64) :
    val_main_v2 (F := Ideal) x0 (ix5 n b u g d) = x0 (ix4 b (0 : Fin 1) (⟨n.val * 8 + g.val, by omega⟩ : Fin 32) d) := by
  pointwise [val_main_v2, val_main_v1]
theorem v3_at (n : Fin 4) (q : Fin 16) (d : Fin 64) :
    val_main_v3 (F := Ideal) x0 (ix3 n q d) = x0 (ix4 (qb q) (0 : Fin 1) (qh n q) d) := by
  pointwise [val_main_v3]
  rw [v2_at]

/-! ## The scores -/

theorem v10_at (n : Fin 4) (q : Fin 16) (p : Fin 131072) :
    val_main_v10 (F := Ideal) x0 x4 r0 (ix3 n q p) = (rowR x0 x1 x4 x8 x11 r0 r2 n q).S p.val * c8 := by
  unfold rowR
  dsimp only
  rw [pcol_val]
  pointwise [val_main_v10, val_main_v9, val_main_cst, val_main_v8, val_main_v7, val_main_v6, val_main_v5, val_main_v4, v3_at, ofBits_c8]

theorem v26_at (n : Fin 4) (q : Fin 16) (t : Fin 1024) : val_main_v26 (F := Ideal) x0 x8 x11 r2 (ix3 n q t) = (rowR x0 x1 x4 x8 x11 r0 r2 n q).T t.val * c8 := by
  unfold rowR
  dsimp only
  rw [tpos_val, ← select_c8]
  pointwise [val_main_v26, val_main_v25, val_main_call0_v1, val_main_call0_v2, val_main_call0_v0, val_main_cst_1, val_main_v24, val_main_v23, val_main_v22, val_main_v21, val_main_v20, val_main_v19, val_main_v18, val_main_v17, val_main_v16, val_main_cst_0, val_main_v15, val_main_v14, val_main_v13, val_main_v12, val_main_v11, v2_at, ofBits_c8]
  rw [bot_id, show (t.val % 1024) = t.val from Nat.mod_eq_of_lt t.isLt]

theorem v37_at (n : Fin 4) (q : Fin 16) (u : Fin 1) : val_main_v37 (F := Ideal) x0 x1 (ix3 n q u) = (rowR x0 x1 x4 x8 x11 r0 r2 n q).w * c8 := by
  unfold rowR
  dsimp only
  pointwise [val_main_v37, val_main_v36, val_main_call1_v1, val_main_call1_v2, val_main_call1_v0, val_main_cst_3, val_main_v35, val_main_v34, val_main_v33, val_main_v32, val_main_v31, val_main_v30, val_main_v29, val_main_v28, val_main_cst_2, val_main_v27, v2_at, ofBits_c8]
  rw [show IntOp.cmpi CmpIPredicate.sge 0#32 0#32 = 1#1 from by decide]
  rfl

/-! ## The maximum -/

theorem mono_c8 : Monotone (fun s : EReal => s * c8) := fun a b h => mul_le_mul_of_nonneg_right h (by unfold c8; exact_mod_cast (by norm_num : (0 : ℝ) ≤ 1 / 8))
theorem fold_sup (n : ℕ) (f : ℕ → EReal) : Finset.fold max (⊥ : EReal) (fun x : Fin n => f x.val * c8) Finset.univ = (Finset.range n).sup f * c8 := by
  have h1 : Finset.fold max (⊥ : EReal) (fun x : Fin n => f x.val * c8) Finset.univ = Finset.univ.sup (fun x : Fin n => f x.val * c8) := rfl
  rw [h1, Finset.comp_sup_eq_sup_comp (fun s : EReal => s * c8) (fun a b => mono_c8.map_max) bot_c8]
  refine eq_of_forall_ge_iff fun z => ?_
  rw [Finset.sup_le_iff, Finset.sup_le_iff]
  exact ⟨fun h p hp => h ⟨p, Finset.mem_range.mp hp⟩ (Finset.mem_univ _), fun h x _ => h x.val (Finset.mem_range.mpr x.isLt)⟩
theorem fold_one (f : Fin 1 → EReal) : Finset.fold max (⊥ : EReal) f Finset.univ = f 0 := by
  have h1 : Finset.fold max (⊥ : EReal) f Finset.univ = Finset.univ.sup f := rfl
  rw [h1, Finset.univ_unique, Finset.sup_singleton]
  rfl

theorem v38_at (n : Fin 4) (q : Fin 16) : val_main_v38 (F := Ideal) x0 x4 r0 (ix2 n q) = (Finset.range 131072).sup (rowR x0 x1 x4 x8 x11 r0 r2 n q).S * c8 := by
  rw [← fold_sup]
  simp only [← v10_at]
  generalize hw : val_main_v10 (F := Ideal) x0 x4 r0 = w
  pointwise [val_main_v38, hw, val_main_cst_4]
  rw [ofBits_bot]
theorem v40_at (n : Fin 4) (q : Fin 16) : val_main_v40 (F := Ideal) x0 x8 x11 r2 (ix2 n q) = (Finset.range 1024).sup (rowR x0 x1 x4 x8 x11 r0 r2 n q).T * c8 := by
  rw [← fold_sup]
  simp only [← v26_at]
  generalize hw : val_main_v26 (F := Ideal) x0 x8 x11 r2 = w
  pointwise [val_main_v40, hw, val_main_cst_5]
  rw [ofBits_bot]
theorem v43_at (n : Fin 4) (q : Fin 16) : val_main_v43 (F := Ideal) x0 x1 (ix2 n q) = (rowR x0 x1 x4 x8 x11 r0 r2 n q).w * c8 := by
  rw [← v37_at (u := 0), ← fold_one (fun u => val_main_v37 (F := Ideal) x0 x1 (ix3 n q u))]
  generalize hw : val_main_v37 (F := Ideal) x0 x1 = w
  pointwise [val_main_v43, hw, val_main_cst_6]
  rw [ofBits_bot]
theorem v45_at (n : Fin 4) (q : Fin 16) (u : Fin 1) : val_main_v45 (F := Ideal) x0 x1 x4 x8 x11 r0 r2 (ix3 n q u) = (rowR x0 x1 x4 x8 x11 r0 r2 n q).mx * c8 := by
  unfold Row.mx
  rw [mono_c8.map_max, mono_c8.map_max]
  dsimp only
  rw [← v38_at, ← v40_at, ← v43_at]
  rw [val_main_v45_apply, val_main_v44_apply, val_main_v42_apply, val_main_v41_apply, val_main_v39_apply]
  have e1 : idx_main_v39 (ix3 n q u) = ix2 n q := by
    funext a
    match a with
    | ⟨0, _⟩ => rfl
    | ⟨1, _⟩ => rfl
  have e2 : idx_main_v41 (ix3 n q u) = ix2 n q := e1
  have e3 : idx_main_v44 (ix3 n q u) = ix2 n q := e1
  rw [e1, e2, e3]
  generalize val_main_v38 (F := Ideal) x0 x4 r0 (ix2 n q) = a
  generalize val_main_v40 (F := Ideal) x0 x8 x11 r2 (ix2 n q) = b
  generalize val_main_v43 (F := Ideal) x0 x1 (ix2 n q) = c
  rfl

/-! ## The weights -/

theorem v48_at (n : Fin 4) (q : Fin 16) (p : Fin 131072) : val_main_v48 (F := Ideal) x0 x1 x4 x8 x11 r0 r2 (ix3 n q p) = ee ((rowR x0 x1 x4 x8 x11 r0 r2 n q).S p.val) (rowR x0 x1 x4 x8 x11 r0 r2 n q).mx := by
  unfold ee
  rw [← v10_at, ← v45_at (u := 0)]
  pointwise [val_main_v48, val_main_v47, val_main_v46]
theorem v51_at (n : Fin 4) (q : Fin 16) (t : Fin 1024) : val_main_v51 (F := Ideal) x0 x1 x4 x8 x11 r0 r2 (ix3 n q t) = ee ((rowR x0 x1 x4 x8 x11 r0 r2 n q).T t.val) (rowR x0 x1 x4 x8 x11 r0 r2 n q).mx := by
  unfold ee
  rw [← v26_at, ← v45_at (u := 0)]
  pointwise [val_main_v51, val_main_v50, val_main_v49]
theorem v53_at (n : Fin 4) (q : Fin 16) (u : Fin 1) : val_main_v53 (F := Ideal) x0 x1 x4 x8 x11 r0 r2 (ix3 n q u) = ee (rowR x0 x1 x4 x8 x11 r0 r2 n q).w (rowR x0 x1 x4 x8 x11 r0 r2 n q).mx := by
  unfold ee
  rw [← v37_at (u := u), ← v45_at (u := u)]
  pointwise [val_main_v53, val_main_v52]

/-! ## The sums -/

theorem re3 (a b c : EReal) : a + b + c = b + c + a := by rw [add_comm a b, add_right_comm]
theorem v61_at (n : Fin 4) (q : Fin 16) (u : Fin 1) : val_main_v61 (F := Ideal) x0 x1 x4 x8 x11 r0 r2 (ix3 n q u) = (rowR x0 x1 x4 x8 x11 r0 r2 n q).tot 1 1 1 (rowR x0 x1 x4 x8 x11 r0 r2 n q).mx := by
  unfold Row.tot Row.base
  pointwise [val_main_v61, val_main_v60, val_main_v59, val_main_cst_9, val_main_v58, val_main_v57, val_main_v56, val_main_cst_8, val_main_v55, val_main_v54, val_main_cst_7, v48_at, v51_at, v53_at]
  simp only [Pi.one_apply, mul_one, Finset.sum_range, Finset.sum_const, Finset.card_univ, Fintype.card_fin, one_smul]
  exact re3 _ _ _

theorem v67_at (n : Fin 4) (q : Fin 16) (d : Fin 64) : val_main_v67 (F := Ideal) x0 x1 x4 x6 x8 x11 r0 r1 r2 (ix3 n q d)
    = ∑ p : Fin 131072, ee ((rowR x0 x1 x4 x8 x11 r0 r2 n q).S p.val) (rowR x0 x1 x4 x8 x11 r0 r2 n q).mx * x6 (ix2 p n) * r1 (ix3 p n d) := by
  simp only [← v48_at]
  generalize hw : val_main_v48 (F := Ideal) x0 x1 x4 x8 x11 r0 r2 = w
  pointwise [val_main_v67, val_main_v66, val_main_v65, hw, val_main_v64, val_main_v63, val_main_v62]
theorem q_eq (b : Fin 2) (g : Fin 8) : b.val * 8 + g.val < 16 := by omega
abbrev qq (b : Fin 2) (g : Fin 8) : Fin 16 := ⟨b.val * 8 + g.val, q_eq b g⟩
theorem v74_at (n : Fin 4) (b : Fin 2) (u : Fin 1) (g : Fin 8) (d : Fin 64) : val_main_v74 (F := Ideal) x0 x1 x4 x8 x10 x11 r0 r2 r3 (ix5 n b u g d)
    = ∑ t : Fin 1024, ee ((rowR x0 x1 x4 x8 x11 r0 r2 n (qq b g)).T t.val) (rowR x0 x1 x4 x8 x11 r0 r2 n (qq b g)).mx * x10 (ix3 b t n) * r3 (ix4 b t n d) := by
  simp only [← v51_at]
  generalize hw : val_main_v51 (F := Ideal) x0 x1 x4 x8 x11 r0 r2 = w
  pointwise [val_main_v74, val_main_v73, val_main_v72, val_main_v70, hw, val_main_v71, val_main_v69, val_main_v68]
theorem v77_at (n : Fin 4) (b : Fin 2) (u : Fin 1) (g : Fin 8) (d : Fin 64) : val_main_v77 (F := Ideal) x0 x1 x2 x4 x8 x11 r0 r2 (ix5 n b u g d)
    = ee (rowR x0 x1 x4 x8 x11 r0 r2 n (qq b g)).w (rowR x0 x1 x4 x8 x11 r0 r2 n (qq b g)).mx * x2 (ix4 b (0 : Fin 1) n d) := by
  rw [← v53_at (u := 0)]
  generalize hw : val_main_v53 (F := Ideal) x0 x1 x4 x8 x11 r0 r2 = w
  pointwise [val_main_v77, val_main_v76, val_main_v75, hw]
  rw [Finset.univ_unique, Finset.sum_singleton]
  rfl
theorem v80_at (n : Fin 4) (b : Fin 2) (u : Fin 1) (g : Fin 8) (d : Fin 64) : val_main_v80 (F := Ideal) x0 x1 x2 x4 x6 x8 x10 x11 r0 r1 r2 r3 (ix5 n b u g d)
    = (rowR x0 x1 x4 x8 x11 r0 r2 n (qq b g)).tot (fun p => x6 (ix2 (Spec.pcol p) n) * r1 (ix3 (Spec.pcol p) n d))
      (fun t => x10 (ix3 b (Spec.tpos t) n) * r3 (ix4 b (Spec.tpos t) n d)) (x2 (ix4 b (0 : Fin 1) n d)) (rowR x0 x1 x4 x8 x11 r0 r2 n (qq b g)).mx := by
  unfold Row.tot Row.base
  rw [Finset.sum_range, Finset.sum_range]
  simp only [pcol_val, tpos_val, ← mul_assoc]
  rw [← v67_at, ← v74_at (u := u), ← v77_at (u := u)]
  generalize h1 : val_main_v67 (F := Ideal) x0 x1 x4 x6 x8 x11 r0 r1 r2 = w1
  generalize h2 : val_main_v74 (F := Ideal) x0 x1 x4 x8 x10 x11 r0 r2 r3 = w2
  generalize h3 : val_main_v77 (F := Ideal) x0 x1 x2 x4 x8 x11 r0 r2 = w3
  rw [← re3]
  pointwise [val_main_v80, val_main_v79, val_main_v78, h1, h2, h3]

/-! ## The result -/

theorem row_eq (n : Fin 4) (q : Fin 16) : rowR x0 x1 x4 x8 x11 r0 r2 n q = (arg x0 x1 x2 x4 x6 x8 x10 x11 r0 r1 r2 r3).row (qb q) (qh n q) := by
  have hn : kvh (qh n q) = n := Fin.ext (by show (n.val * 8 + q.val % 8) / 8 = n.val; omega)
  unfold rowR Args.row
  rw [hn]
  rfl

theorem v86_at (b : Fin 2) (k : Fin 2048) : val_main_v86 (F := Ideal) x0 x1 x2 x4 x6 x8 x10 x11 r0 r1 r2 r3 (ix2 b k)
    = (arg x0 x1 x2 x4 x6 x8 x10 x11 r0 r1 r2 r3).out b ⟨k.val / 64, by omega⟩ ⟨k.val % 64, by omega⟩ := by
  have hn : kvh ⟨k.val / 64, by omega⟩ = (⟨k.val / 512, by omega⟩ : Fin 4) := Fin.ext (by show k.val / 64 / 8 = k.val / 512; omega)
  have hr : rowR x0 x1 x4 x8 x11 r0 r2 ⟨k.val / 512, by omega⟩ (qq b ⟨k.val / 64 % 8, by omega⟩) = (arg x0 x1 x2 x4 x6 x8 x10 x11 r0 r1 r2 r3).row b ⟨k.val / 64, by omega⟩ := by
    rw [row_eq x0 x1 x2 x4 x6 x8 x10 x11 r0 r1 r2 r3]
    congr 1
    · exact Fin.ext (by show (b.val * 8 + k.val / 64 % 8) / 8 = b.val; omega)
    · exact Fin.ext (by show k.val / 512 * 8 + (b.val * 8 + k.val / 64 % 8) % 8 = k.val / 64; omega)
  unfold Args.out
  rw [← hr, hn]
  rw [← v61_at (u := 0)]
  refine Eq.trans ?_ (congrArg (fun z => Ideal.div z _) (v80_at x0 x1 x2 x4 x6 x8 x10 x11 r0 r1 r2 r3 ⟨k.val / 512, by omega⟩ b 0 ⟨k.val / 64 % 8, by omega⟩ ⟨k.val % 64, by omega⟩))
  generalize h1 : val_main_v80 (F := Ideal) x0 x1 x2 x4 x6 x8 x10 x11 r0 r1 r2 r3 = w1
  generalize h2 : val_main_v61 (F := Ideal) x0 x1 x4 x8 x11 r0 r2 = w2
  pointwise [val_main_v86, val_main_v85, val_main_v84, val_main_v83, h1, val_main_v82, val_main_v81, h2]

end Cert.ReferenceIdeal.Val

end
-- ==== Proof.RefRun.lean ====
/-
  The reference's run: its result, read at an index, is the attention of `Attn.lean` at the arguments. The casts of the
  caches, one kernel call, leave each element as it is at the extended reals.
-/
module

public import proofs.«01_k».proof.Proof.Gen.ReferenceIdeal.Run
public import proofs.«01_k».proof.Proof.Gen.ReferenceIdeal.Read
public import proofs.«01_k».proof.Proof.RefValue
public import Idealize.ShloMosaic.Lib.Pipeline.ValueKit

@[expose] public section

noncomputable section

namespace Cert.ReferenceIdeal.Val

open Cert.ReferenceIdeal.Gen Idealize.ShloMosaic Idealize.ShloMosaic.TcCoe Idealize.SL.Sem Idealize.ShloMosaic.Pipeline Cert.Spec

variable (m : (ℓ : Loc nD τ sig) → Buf (Elt Ideal) ℓ) (ρ : Dev nD → PrngReg)

theorem idx : ∀ t : Fin cfg0.N, (win0_0.index t = ![0, 0, 0] ∧ win0_1.index t = ![0, 0, 0] ∧ win0_2.index t = ![0, 0, 0, 0] ∧ win0_3.index t = ![0, 0, 0, 0]) :=
  (by decide +kernel : ∀ t : Fin grid0.N, _)

theorem iblk0 (c : Dev nD) : iblk m c 0 t0_0 = m ((c : Thread nD τ).loc main_arg3) := by
  blk_ext! [iblk, Gen.V, idx t0_0]
theorem reg0 (c : Dev nD) : Value.reg_main_v0_0 m c = (fun i => m ((c : Thread nD τ).loc main_arg3) i : S131072x4x64.Idx → EReal) := by
  unfold Value.reg_main_v0_0
  refine (Gen.dats m 0 c).arrAt_eq_of_after_last 4 t0_0 (by decide +kernel) _ fun j => ?_
  blk_simp
  rw [after0_4]
  unfold out0_4
  frame_out
  rw [iblk0]
  rfl

theorem iblk1 (c : Dev nD) : iblk m c 1 t0_0 = m ((c : Thread nD τ).loc main_arg5) := by
  blk_ext! [iblk, Gen.V, idx t0_0]
theorem reg1 (c : Dev nD) : Value.reg_main_v0_1 m c = (fun i => m ((c : Thread nD τ).loc main_arg5) i : S131072x4x64.Idx → EReal) := by
  unfold Value.reg_main_v0_1
  refine (Gen.dats m 0 c).arrAt_eq_of_after_last 5 t0_0 (by decide +kernel) _ fun j => ?_
  blk_simp
  rw [after0_5]
  unfold out0_5
  frame_out
  rw [iblk1]
  rfl

theorem iblk2 (c : Dev nD) : iblk m c 2 t0_0 = m ((c : Thread nD τ).loc main_arg7) := by
  blk_ext! [iblk, Gen.V, idx t0_0]
theorem reg2 (c : Dev nD) : Value.reg_main_v0_2 m c = (fun i => m ((c : Thread nD τ).loc main_arg7) i : S2x1024x4x64.Idx → EReal) := by
  unfold Value.reg_main_v0_2
  refine (Gen.dats m 0 c).arrAt_eq_of_after_last 6 t0_0 (by decide +kernel) _ fun j => ?_
  blk_simp
  rw [after0_6]
  unfold out0_6
  frame_out
  rw [iblk2]
  rfl

theorem iblk3 (c : Dev nD) : iblk m c 3 t0_0 = m ((c : Thread nD τ).loc main_arg9) := by
  blk_ext! [iblk, Gen.V, idx t0_0]
theorem reg3 (c : Dev nD) : Value.reg_main_v0_3 m c = (fun i => m ((c : Thread nD τ).loc main_arg9) i : S2x1024x4x64.Idx → EReal) := by
  unfold Value.reg_main_v0_3
  refine (Gen.dats m 0 c).arrAt_eq_of_after_last 7 t0_0 (by decide +kernel) _ fun j => ?_
  blk_simp
  rw [after0_7]
  unfold out0_7
  frame_out
  rw [iblk3]
  rfl

/-- The arguments, read at indices. -/
def argm (c : Dev nD) : Args := arg (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg11))
  (fun i => m ((c : Thread nD τ).loc main_arg3) i : S131072x4x64.Idx → EReal) (fun i => m ((c : Thread nD τ).loc main_arg5) i : S131072x4x64.Idx → EReal) (fun i => m ((c : Thread nD τ).loc main_arg7) i : S2x1024x4x64.Idx → EReal) (fun i => m ((c : Thread nD τ).loc main_arg9) i : S2x1024x4x64.Idx → EReal)

theorem arr_eq (f g : (⟨2, ![2, 2048]⟩ : Shape).Idx → EReal) (h : ∀ (b : Fin 2) (k : Fin 2048), f (ix2 b k) = g (ix2 b k)) : f = g := by
  funext i
  have e : i = ix2 (i 0 : Fin 2) (i 1 : Fin 2048) := by
    funext a
    match a with
    | ⟨0, _⟩ => rfl
    | ⟨1, _⟩ => rfl
  rw [e]
  exact h _ _

theorem fin_eq (c : Dev nD) : Read.val_main_v86 (F := Ideal) (Value.exitV m c (Proc.devRef .tc main_arg0)) (Value.exitV m c (Proc.devRef .tc main_arg1)) (Value.exitV m c (Proc.devRef .tc main_arg2)) (Value.exitV m c (Proc.devRef .tc main_arg4)) (Value.exitV m c (Proc.devRef .tc main_arg6)) (Value.exitV m c (Proc.devRef .tc main_arg8)) (Value.exitV m c (Proc.devRef .tc main_arg10)) (Value.exitV m c (Proc.devRef .tc main_arg11))
    (Value.exitV m c (Proc.devRef .tc main_v0_0)) (Value.exitV m c (Proc.devRef .tc main_v0_1)) (Value.exitV m c (Proc.devRef .tc main_v0_2)) (Value.exitV m c (Proc.devRef .tc main_v0_3)) = (argm m c).arr := by
  rw [Value.exit_main_arg0, Value.exit_main_arg1, Value.exit_main_arg2, Value.exit_main_arg4, Value.exit_main_arg6, Value.exit_main_arg8, Value.exit_main_arg10, Value.exit_main_arg11, Value.exit_main_v0_0, Value.exit_main_v0_1, Value.exit_main_v0_2, Value.exit_main_v0_3, reg0, reg1, reg2, reg3]
  exact arr_eq _ _ fun b k => v86_at _ _ _ _ _ _ _ _ _ _ _ _ b k

theorem run_arr : θ_run defs (onTc (τ := τ) (main (F := Ideal))) ⟨m, fun _ => 0, ρ⟩ fun r => ∀ c : Dev nD,
    r.2.mem ((c.tc : Thread nD τ).loc main_v86) = (argm m c).arr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans ((Read.val_main_v86_eq (Value.exitV m c)).trans (fin_eq m c)), (h c).2⟩) (Value.run m ρ)

end Cert.ReferenceIdeal.Val

end
-- ==== Proof.DivFirst.lean ====
/-
  The order of the softmax's division: where a row's denominator is not zero, dividing the weighted sums by it is the same
  as dividing each weight first; and where a row's maximum is a real number its denominator is not zero.
-/
module

public import proofs.«01_k».proof.Proof.Attn

@[expose] public section

noncomputable section

namespace Cert.Spec
open Idealize.ShloMosaic

theorem inv_nonneg_fin {y : EReal} (h : 0 ≤ y) : 0 ≤ y⁻¹ ∧ y⁻¹ ≠ ⊤ := by
  induction y with
  | bot => simp
  | top => simp
  | coe a =>
    rw [← EReal.coe_inv]
    exact ⟨EReal.coe_nonneg.mpr (inv_nonneg.mpr (EReal.coe_nonneg.mp h)), EReal.coe_ne_top _⟩

theorem sum_swap (n : ℕ) (f g : ℕ → EReal) (c : EReal) :
    (∑ i ∈ Finset.range n, f i * g i * c) = ∑ i ∈ Finset.range n, f i * c * g i :=
  Finset.sum_congr rfl fun _ _ => mul_right_comm _ _ _

variable (R : Row)

/-- The weighted sums over the denominator are the sums of the weights, each divided first. -/
theorem Row.div_first (W WT : ℕ → EReal) (WN m : EReal) (h : R.tot 1 1 1 m ≠ 0) :
    Ideal.div (R.tot W WT WN m) (R.tot 1 1 1 m)
      = ((∑ t ∈ Finset.range 1024, Ideal.div (ee (R.T t) m) (R.tot 1 1 1 m) * WT t) + Ideal.div (ee R.w m) (R.tot 1 1 1 m) * WN)
        + ∑ p ∈ Finset.range 131072, Ideal.div (ee (R.S p) m) (R.tot 1 1 1 m) * W p := by
  have hn := tot_one_nonneg R m
  generalize R.tot 1 1 1 m = L at h hn
  obtain ⟨h0, ht⟩ := inv_nonneg_fin hn
  simp only [Ideal.div, if_neg h]
  unfold Row.tot Row.base
  rw [EReal.right_distrib_of_nonneg_of_ne_top h0 ht, EReal.right_distrib_of_nonneg_of_ne_top h0 ht,
    sum_mul_fin _ _ h0 ht, sum_mul_fin _ _ h0 ht, mul_right_comm]
  exact congrArg₂ (· + ·) (congrArg (· + _) (sum_swap _ _ _ _)) (sum_swap _ _ _ _)

theorem ee_self {m : EReal} (h1 : m ≠ ⊤) (h2 : m ≠ ⊥) : ee m m = 1 := by
  induction m with
  | bot => exact absurd rfl h2
  | top => exact absurd rfl h1
  | coe a =>
    rw [ee_coe, sub_self, Real.exp_zero]
    rfl

/-- A row whose maximum is a real number has a weight of one, so its denominator is not zero. -/
theorem Row.tot_ne_zero (h1 : R.mx ≠ ⊤) (h2 : R.mx ≠ ⊥) : R.tot 1 1 1 R.mx ≠ 0 := by
  intro h
  have e1 := ee_self h1 h2
  have z : ∀ x : EReal, x = R.mx → ee x R.mx = 0 → False := fun x hx hz => by
    rw [hx, e1] at hz
    exact one_ne_zero hz
  unfold Row.tot Row.base at h
  simp only [Pi.one_apply, mul_one] at h
  have n1 : 0 ≤ ∑ t ∈ Finset.range 1024, ee (R.T t) R.mx := Finset.sum_nonneg fun _ _ => ee_nonneg
  have n2 : 0 ≤ ee R.w R.mx := ee_nonneg
  have n3 : 0 ≤ ∑ p ∈ Finset.range 131072, ee (R.S p) R.mx := Finset.sum_nonneg fun _ _ => ee_nonneg
  have h3 := (add_eq_zero_iff_of_nonneg (add_nonneg n1 n2) n3).mp h
  have h12 := (add_eq_zero_iff_of_nonneg n1 n2).mp h3.1
  have a1 := (Finset.sum_eq_zero_iff_of_nonneg fun _ _ => ee_nonneg).mp h12.1
  have a3 := (Finset.sum_eq_zero_iff_of_nonneg fun _ _ => ee_nonneg).mp h3.2
  obtain ⟨p, hp, ep⟩ := Finset.exists_mem_eq_sup (Finset.range 131072) ⟨0, by simp⟩ R.S
  obtain ⟨t, ht, et⟩ := Finset.exists_mem_eq_sup (Finset.range 1024) ⟨0, by simp⟩ R.T
  have hm : R.mx = max (max (R.S p) (R.T t)) R.w := by
    unfold Row.mx
    rw [ep, et]
  rcases max_choice (max (R.S p) (R.T t)) R.w with e | e
  · rcases max_choice (R.S p) (R.T t) with e' | e'
    · exact z (R.S p) (hm.trans (e.trans e')).symm (a3 p hp)
    · exact z (R.T t) (hm.trans (e.trans e')).symm (a1 t ht)
  · exact z R.w (hm.trans e).symm h12.2

/-- The result where the row's maximum is a real number: each weight divided by the denominator, scaled, and summed. -/
theorem Args.out_div_first (A : Args) (b : Fin 2) (h : Fin 32) (d : Fin 64) (h1 : (A.row b h).mx ≠ ⊤) (h2 : (A.row b h).mx ≠ ⊥) :
    A.out b h d
      = ((∑ t ∈ Finset.range 1024, Ideal.div (ee ((A.row b h).T t) (A.row b h).mx) ((A.row b h).tot 1 1 1 (A.row b h).mx)
            * (A.tvs b (tpos t) (kvh h) * A.tv b (tpos t) (kvh h) d))
          + Ideal.div (ee (A.row b h).w (A.row b h).mx) ((A.row b h).tot 1 1 1 (A.row b h).mx) * A.vn b (kvh h) d)
        + ∑ p ∈ Finset.range 131072, Ideal.div (ee ((A.row b h).S p) (A.row b h).mx) ((A.row b h).tot 1 1 1 (A.row b h).mx)
            * (A.pvs (pcol p) (kvh h) * A.pv (pcol p) (kvh h) d) :=
  Row.div_first _ _ _ _ _ (Row.tot_ne_zero _ h1 h2)

end Cert.Spec

end
-- ==== Proof.lean ====
module

public import proofs.«01_k».proof.Defs
public import proofs.«01_k».proof.Proof.Kernel.Run
public import proofs.«01_k».proof.Proof.KernelIdeal.ValueD
public import proofs.«01_k».proof.Proof.RefRun
public import proofs.«01_k».proof.Proof.DivFirst
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem preserves : Cert.preserves_Kernel_KernelIdeal :=
  IdealRules.named_const.statement Cert.KernelIdeal.κ "exp_scale" .f32 0x3E38AA3B#32 (((1 / 8) * (Real.log 2)⁻¹ : ℝ) : EReal) rfl

/-- Arguments that agree are read as the same. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Val.argm m' c = Cert.KernelIdeal.Steps.arg m c := by
  unfold Cert.ReferenceIdeal.Val.argm Cert.ReferenceIdeal.Val.arg Cert.KernelIdeal.Steps.arg
  rw [h0, h1, h2, h3, h4, h5, h6, h7, h8, h9, h10, h11]

theorem algebraic : Cert.algebraic_KernelIdeal_ReferenceIdeal := by
  intro m g m' g' _ hagree
  refine ⟨_, Cert.KernelIdeal.Steps.run_arr m g, ?_⟩
  refine (θ_run Cert.ReferenceIdeal.defs _ _).mono (fun _ h c => ⟨(h c).1.trans ?_, (h c).2⟩) (Cert.ReferenceIdeal.Val.run_arr m' g')
  obtain ⟨h0, h1, h2, h3, h4, h5, h6, h7, h8, h9, h10, h11⟩ := hagree c
  rw [args_eq m m' c h0 h1 h2 h3 h4 h5 h6 h7 h8 h9 h10 h11]

theorem claim : Cert.Claim :=
  ⟨Cert.Kernel.Gen.facts, Cert.KernelIdeal.Gen.facts, Cert.ReferenceIdeal.Gen.facts,
    fun m g _ => Cert.Kernel.Steps.frame_run m g,
    fun m g _ => Cert.KernelIdeal.Steps.frame_run m g,
    fun m g _ => Cert.ReferenceIdeal.Gen.frame m g,
    preserves,
    algebraic⟩

end Cert.Proof

end
